-- ==== Defs.lean ====
def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_ProjGla (m : (ℓ : Loc Cert.ProjGla.nD Cert.ProjGla.τ Cert.ProjGla.sig) → Buf (Elt Bits) ℓ) : Prop :=
  True

def Pre_ProjGlaIdeal (m : (ℓ : Loc Cert.ProjGlaIdeal.nD Cert.ProjGlaIdeal.τ Cert.ProjGlaIdeal.sig) → Buf (Elt Ideal) ℓ) : Prop :=
  True

def Pre_ProjGlaRefIdeal (m : (ℓ : Loc Cert.ProjGlaRefIdeal.nD Cert.ProjGlaRefIdeal.τ Cert.ProjGlaRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_SwaQ (m : (ℓ : Loc Cert.SwaQ.nD Cert.SwaQ.τ Cert.SwaQ.sig) → Buf (Elt Bits) ℓ) : Prop :=
  True

def Pre_SwaQIdeal (m : (ℓ : Loc Cert.SwaQIdeal.nD Cert.SwaQIdeal.τ Cert.SwaQIdeal.sig) → Buf (Elt Ideal) ℓ) : Prop :=
  True

def Pre_SwaQRefIdeal (m : (ℓ : Loc Cert.SwaQRefIdeal.nD Cert.SwaQRefIdeal.τ Cert.SwaQRefIdeal.sig) → Buf (Elt Ideal) ℓ) : Prop :=
  True

def Pre_SwaKv (m : (ℓ : Loc Cert.SwaKv.nD Cert.SwaKv.τ Cert.SwaKv.sig) → Buf (Elt Bits) ℓ) : Prop :=
  True

def Pre_SwaKvIdeal (m : (ℓ : Loc Cert.SwaKvIdeal.nD Cert.SwaKvIdeal.τ Cert.SwaKvIdeal.sig) → Buf (Elt Ideal) ℓ) : Prop :=
  True

def Pre_SwaKvRefIdeal (m : (ℓ : Loc Cert.SwaKvRefIdeal.nD Cert.SwaKvRefIdeal.τ Cert.SwaKvRefIdeal.sig) → Buf (Elt Ideal) ℓ) : Prop :=
  True

def Pre_GlaS (m : (ℓ : Loc Cert.GlaS.nD Cert.GlaS.τ Cert.GlaS.sig) → Buf (Elt Bits) ℓ) : Prop :=
  True

def Pre_GlaSIdeal (m : (ℓ : Loc Cert.GlaSIdeal.nD Cert.GlaSIdeal.τ Cert.GlaSIdeal.sig) → Buf (Elt Ideal) ℓ) : Prop :=
  True

def Pre_GlaSRefIdeal (m : (ℓ : Loc Cert.GlaSRefIdeal.nD Cert.GlaSRefIdeal.τ Cert.GlaSRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_LowRank (m : (ℓ : Loc Cert.LowRank.nD Cert.LowRank.τ Cert.LowRank.sig) → Buf (Elt Bits) ℓ) : Prop :=
  True

def Pre_LowRankIdeal (m : (ℓ : Loc Cert.LowRankIdeal.nD Cert.LowRankIdeal.τ Cert.LowRankIdeal.sig) → Buf (Elt Ideal) ℓ) : Prop :=
  True

def Pre_LowRankRefIdeal (m : (ℓ : Loc Cert.LowRankRefIdeal.nD Cert.LowRankRefIdeal.τ Cert.LowRankRefIdeal.sig) → Buf (Elt Ideal) ℓ) : Prop :=
  True

def Pre_SwaS (m : (ℓ : Loc Cert.SwaS.nD Cert.SwaS.τ Cert.SwaS.sig) → Buf (Elt Bits) ℓ) : Prop :=
  True

def Pre_SwaSIdeal (m : (ℓ : Loc Cert.SwaSIdeal.nD Cert.SwaSIdeal.τ Cert.SwaSIdeal.sig) → Buf (Elt Ideal) ℓ) : Prop :=
  True

def Pre_SwaP (m : (ℓ : Loc Cert.SwaP.nD Cert.SwaP.τ Cert.SwaP.sig) → Buf (Elt Bits) ℓ) : Prop :=
  True

def Pre_SwaPIdeal (m : (ℓ : Loc Cert.SwaPIdeal.nD Cert.SwaPIdeal.τ Cert.SwaPIdeal.sig) → Buf (Elt Ideal) ℓ) : Prop :=
  True

def Pre_GlaP (m : (ℓ : Loc Cert.GlaP.nD Cert.GlaP.τ Cert.GlaP.sig) → Buf (Elt Bits) ℓ) : Prop :=
  True

def Pre_GlaPIdeal (m : (ℓ : Loc Cert.GlaPIdeal.nD Cert.GlaPIdeal.τ Cert.GlaPIdeal.sig) → Buf (Elt Ideal) ℓ) : Prop :=
  True

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_ProjGla [hProjGla : Cert.ProjGla.Facts] : Prop :=
  ∀ (m : (ℓ : Loc Cert.ProjGla.nD Cert.ProjGla.τ Cert.ProjGla.sig) → Buf (Elt Bits) ℓ) (g : Dev Cert.ProjGla.nD → PrngReg), Pre_ProjGla m →
    θ_run (Cert.ProjGla.defs (F := Bits)) (onTc (τ := Cert.ProjGla.τ) (Cert.ProjGla.main (F := Bits))) ⟨m, fun _ => 0, g⟩ (fun r => (∀ c : Dev Cert.ProjGla.nD,
      r.2.mem ((c.tc : Thread Cert.ProjGla.nD Cert.ProjGla.τ).loc Cert.ProjGla.main_arg0) = m ((c.tc : Thread Cert.ProjGla.nD Cert.ProjGla.τ).loc Cert.ProjGla.main_arg0)
      ∧ r.2.mem ((c.tc : Thread Cert.ProjGla.nD Cert.ProjGla.τ).loc Cert.ProjGla.main_arg1) = m ((c.tc : Thread Cert.ProjGla.nD Cert.ProjGla.τ).loc Cert.ProjGla.main_arg1))
      ∧ r.2.sem = fun _ => 0)

def quiescent_ProjGlaIdeal [hProjGlaIdeal : Cert.ProjGlaIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg), Pre_ProjGlaIdeal m →
    θ_run (Cert.ProjGlaIdeal.defs (F := Ideal)) (onTc (τ := Cert.ProjGlaIdeal.τ) (Cert.ProjGlaIdeal.main (F := Ideal))) ⟨m, fun _ => 0, g⟩ (fun r => (∀ c : Dev Cert.ProjGlaIdeal.nD,
      r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
      ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ r.2.sem = fun _ => 0)

def quiescent_ProjGlaRefIdeal [hProjGlaRefIdeal : Cert.ProjGlaRefIdeal.Facts] : Prop :=
  ∀ (m : (ℓ : Loc Cert.ProjGlaRefIdeal.nD Cert.ProjGlaRefIdeal.τ Cert.ProjGlaRefIdeal.sig) → Buf (Elt Ideal) ℓ) (g : Dev Cert.ProjGlaRefIdeal.nD → PrngReg), Pre_ProjGlaRefIdeal m →
    θ_run (Cert.ProjGlaRefIdeal.defs (F := Ideal)) (onTc (τ := Cert.ProjGlaRefIdeal.τ) (Cert.ProjGlaRefIdeal.main (F := Ideal))) ⟨m, fun _ => 0, g⟩ (fun r => (∀ c : Dev Cert.ProjGlaRefIdeal.nD,
      r.2.mem ((c.tc : Thread Cert.ProjGlaRefIdeal.nD Cert.ProjGlaRefIdeal.τ).loc Cert.ProjGlaRefIdeal.main_arg0) = m ((c.tc : Thread Cert.ProjGlaRefIdeal.nD Cert.ProjGlaRefIdeal.τ).loc Cert.ProjGlaRefIdeal.main_arg0)
      ∧ r.2.mem ((c.tc : Thread Cert.ProjGlaRefIdeal.nD Cert.ProjGlaRefIdeal.τ).loc Cert.ProjGlaRefIdeal.main_arg1) = m ((c.tc : Thread Cert.ProjGlaRefIdeal.nD Cert.ProjGlaRefIdeal.τ).loc Cert.ProjGlaRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1)
      ∧ r.2.mem ((c.tc : Thread Cert.MemQ.nD Cert.MemQ.τ).loc Cert.MemQ.main_arg2) = m ((c.tc : Thread Cert.MemQ.nD Cert.MemQ.τ).loc Cert.MemQ.main_arg2))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
      ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1)
      ∧ r.2.mem ((c.tc : Thread Cert.MemQRefIdeal.nD Cert.MemQRefIdeal.τ).loc Cert.MemQRefIdeal.main_arg2) = m ((c.tc : Thread Cert.MemQRefIdeal.nD Cert.MemQRefIdeal.τ).loc Cert.MemQRefIdeal.main_arg2))
      ∧ r.2.sem = fun _ => 0)

def quiescent_SwaQ [hSwaQ : Cert.SwaQ.Facts] : Prop :=
  ∀ (m : (ℓ : Loc Cert.SwaQ.nD Cert.SwaQ.τ Cert.SwaQ.sig) → Buf (Elt Bits) ℓ) (g : Dev Cert.SwaQ.nD → PrngReg), Pre_SwaQ m →
    θ_run (Cert.SwaQ.defs (F := Bits)) (onTc (τ := Cert.SwaQ.τ) (Cert.SwaQ.main (F := Bits))) ⟨m, fun _ => 0, g⟩ (fun r => (∀ c : Dev Cert.SwaQ.nD,
      r.2.mem ((c.tc : Thread Cert.SwaQ.nD Cert.SwaQ.τ).loc Cert.SwaQ.main_arg0) = m ((c.tc : Thread Cert.SwaQ.nD Cert.SwaQ.τ).loc Cert.SwaQ.main_arg0)
      ∧ r.2.mem ((c.tc : Thread Cert.SwaQ.nD Cert.SwaQ.τ).loc Cert.SwaQ.main_arg1) = m ((c.tc : Thread Cert.SwaQ.nD Cert.SwaQ.τ).loc Cert.SwaQ.main_arg1)
      ∧ r.2.mem ((c.tc : Thread Cert.SwaQ.nD Cert.SwaQ.τ).loc Cert.SwaQ.main_arg2) = m ((c.tc : Thread Cert.SwaQ.nD Cert.SwaQ.τ).loc Cert.SwaQ.main_arg2))
      ∧ r.2.sem = fun _ => 0)

def quiescent_SwaQIdeal [hSwaQIdeal : Cert.SwaQIdeal.Facts] : Prop :=
  ∀ (m : (ℓ : Loc Cert.SwaQIdeal.nD Cert.SwaQIdeal.τ Cert.SwaQIdeal.sig) → Buf (Elt Ideal) ℓ) (g : Dev Cert.SwaQIdeal.nD → PrngReg), Pre_SwaQIdeal m →
    θ_run (Cert.SwaQIdeal.defs (F := Ideal)) (onTc (τ := Cert.SwaQIdeal.τ) (Cert.SwaQIdeal.main (F := Ideal))) ⟨m, fun _ => 0, g⟩ (fun r => (∀ c : Dev Cert.SwaQIdeal.nD,
      r.2.mem ((c.tc : Thread Cert.SwaQIdeal.nD Cert.SwaQIdeal.τ).loc Cert.SwaQIdeal.main_arg0) = m ((c.tc : Thread Cert.SwaQIdeal.nD Cert.SwaQIdeal.τ).loc Cert.SwaQIdeal.main_arg0)
      ∧ r.2.mem ((c.tc : Thread Cert.SwaQIdeal.nD Cert.SwaQIdeal.τ).loc Cert.SwaQIdeal.main_arg1) = m ((c.tc : Thread Cert.SwaQIdeal.nD Cert.SwaQIdeal.τ).loc Cert.SwaQIdeal.main_arg1)
      ∧ r.2.mem ((c.tc : Thread Cert.SwaQIdeal.nD Cert.SwaQIdeal.τ).loc Cert.SwaQIdeal.main_arg2) = m ((c.tc : Thread Cert.SwaQIdeal.nD Cert.SwaQIdeal.τ).loc Cert.SwaQIdeal.main_arg2))
      ∧ r.2.sem = fun _ => 0)

def quiescent_SwaQRefIdeal [hSwaQRefIdeal : Cert.SwaQRefIdeal.Facts] : Prop :=
  ∀ (m : (ℓ : Loc Cert.SwaQRefIdeal.nD Cert.SwaQRefIdeal.τ Cert.SwaQRefIdeal.sig) → Buf (Elt Ideal) ℓ) (g : Dev Cert.SwaQRefIdeal.nD → PrngReg), Pre_SwaQRefIdeal m →
    θ_run (Cert.SwaQRefIdeal.defs (F := Ideal)) (onTc (τ := Cert.SwaQRefIdeal.τ) (Cert.SwaQRefIdeal.main (F := Ideal))) ⟨m, fun _ => 0, g⟩ (fun r => (∀ c : Dev Cert.SwaQRefIdeal.nD,
      r.2.mem ((c.tc : Thread Cert.SwaQRefIdeal.nD Cert.SwaQRefIdeal.τ).loc Cert.SwaQRefIdeal.main_arg0) = m ((c.tc : Thread Cert.SwaQRefIdeal.nD Cert.SwaQRefIdeal.τ).loc Cert.SwaQRefIdeal.main_arg0)
      ∧ r.2.mem ((c.tc : Thread Cert.SwaQRefIdeal.nD Cert.SwaQRefIdeal.τ).loc Cert.SwaQRefIdeal.main_arg1) = m ((c.tc : Thread Cert.SwaQRefIdeal.nD Cert.SwaQRefIdeal.τ).loc Cert.SwaQRefIdeal.main_arg1)
      ∧ r.2.mem ((c.tc : Thread Cert.SwaQRefIdeal.nD Cert.SwaQRefIdeal.τ).loc Cert.SwaQRefIdeal.main_arg2) = m ((c.tc : Thread Cert.SwaQRefIdeal.nD Cert.SwaQRefIdeal.τ).loc Cert.SwaQRefIdeal.main_arg2))
      ∧ r.2.sem = fun _ => 0)

def quiescent_SwaKv [hSwaKv : Cert.SwaKv.Facts] : Prop :=
  ∀ (m : (ℓ : Loc Cert.SwaKv.nD Cert.SwaKv.τ Cert.SwaKv.sig) → Buf (Elt Bits) ℓ) (g : Dev Cert.SwaKv.nD → PrngReg), Pre_SwaKv m →
    θ_run (Cert.SwaKv.defs (F := Bits)) (onTc (τ := Cert.SwaKv.τ) (Cert.SwaKv.main (F := Bits))) ⟨m, fun _ => 0, g⟩ (fun r => (∀ c : Dev Cert.SwaKv.nD,
      r.2.mem ((c.tc : Thread Cert.SwaKv.nD Cert.SwaKv.τ).loc Cert.SwaKv.main_arg0) = m ((c.tc : Thread Cert.SwaKv.nD Cert.SwaKv.τ).loc Cert.SwaKv.main_arg0)
      ∧ r.2.mem ((c.tc : Thread Cert.SwaKv.nD Cert.SwaKv.τ).loc Cert.SwaKv.main_arg1) = m ((c.tc : Thread Cert.SwaKv.nD Cert.SwaKv.τ).loc Cert.SwaKv.main_arg1)
      ∧ r.2.mem ((c.tc : Thread Cert.SwaKv.nD Cert.SwaKv.τ).loc Cert.SwaKv.main_arg2) = m ((c.tc : Thread Cert.SwaKv.nD Cert.SwaKv.τ).loc Cert.SwaKv.main_arg2)
      ∧ r.2.mem ((c.tc : Thread Cert.SwaKv.nD Cert.SwaKv.τ).loc Cert.SwaKv.main_arg3) = m ((c.tc : Thread Cert.SwaKv.nD Cert.SwaKv.τ).loc Cert.SwaKv.main_arg3)
      ∧ r.2.mem ((c.tc : Thread Cert.SwaKv.nD Cert.SwaKv.τ).loc Cert.SwaKv.main_arg4) = m ((c.tc : Thread Cert.SwaKv.nD Cert.SwaKv.τ).loc Cert.SwaKv.main_arg4))
      ∧ r.2.sem = fun _ => 0)

def quiescent_SwaKvIdeal [hSwaKvIdeal : Cert.SwaKvIdeal.Facts] : Prop :=
  ∀ (m : (ℓ : Loc Cert.SwaKvIdeal.nD Cert.SwaKvIdeal.τ Cert.SwaKvIdeal.sig) → Buf (Elt Ideal) ℓ) (g : Dev Cert.SwaKvIdeal.nD → PrngReg), Pre_SwaKvIdeal m →
    θ_run (Cert.SwaKvIdeal.defs (F := Ideal)) (onTc (τ := Cert.SwaKvIdeal.τ) (Cert.SwaKvIdeal.main (F := Ideal))) ⟨m, fun _ => 0, g⟩ (fun r => (∀ c : Dev Cert.SwaKvIdeal.nD,
      r.2.mem ((c.tc : Thread Cert.SwaKvIdeal.nD Cert.SwaKvIdeal.τ).loc Cert.SwaKvIdeal.main_arg0) = m ((c.tc : Thread Cert.SwaKvIdeal.nD Cert.SwaKvIdeal.τ).loc Cert.SwaKvIdeal.main_arg0)
      ∧ r.2.mem ((c.tc : Thread Cert.SwaKvIdeal.nD Cert.SwaKvIdeal.τ).loc Cert.SwaKvIdeal.main_arg1) = m ((c.tc : Thread Cert.SwaKvIdeal.nD Cert.SwaKvIdeal.τ).loc Cert.SwaKvIdeal.main_arg1)
      ∧ r.2.mem ((c.tc : Thread Cert.SwaKvIdeal.nD Cert.SwaKvIdeal.τ).loc Cert.SwaKvIdeal.main_arg2) = m ((c.tc : Thread Cert.SwaKvIdeal.nD Cert.SwaKvIdeal.τ).loc Cert.SwaKvIdeal.main_arg2)
      ∧ r.2.mem ((c.tc : Thread Cert.SwaKvIdeal.nD Cert.SwaKvIdeal.τ).loc Cert.SwaKvIdeal.main_arg3) = m ((c.tc : Thread Cert.SwaKvIdeal.nD Cert.SwaKvIdeal.τ).loc Cert.SwaKvIdeal.main_arg3)
      ∧ r.2.mem ((c.tc : Thread Cert.SwaKvIdeal.nD Cert.SwaKvIdeal.τ).loc Cert.SwaKvIdeal.main_arg4) = m ((c.tc : Thread Cert.SwaKvIdeal.nD Cert.SwaKvIdeal.τ).loc Cert.SwaKvIdeal.main_arg4))
      ∧ r.2.sem = fun _ => 0)

def quiescent_SwaKvRefIdeal [hSwaKvRefIdeal : Cert.SwaKvRefIdeal.Facts] : Prop :=
  ∀ (m : (ℓ : Loc Cert.SwaKvRefIdeal.nD Cert.SwaKvRefIdeal.τ Cert.SwaKvRefIdeal.sig) → Buf (Elt Ideal) ℓ) (g : Dev Cert.SwaKvRefIdeal.nD → PrngReg), Pre_SwaKvRefIdeal m →
    θ_run (Cert.SwaKvRefIdeal.defs (F := Ideal)) (onTc (τ := Cert.SwaKvRefIdeal.τ) (Cert.SwaKvRefIdeal.main (F := Ideal))) ⟨m, fun _ => 0, g⟩ (fun r => (∀ c : Dev Cert.SwaKvRefIdeal.nD,
      r.2.mem ((c.tc : Thread Cert.SwaKvRefIdeal.nD Cert.SwaKvRefIdeal.τ).loc Cert.SwaKvRefIdeal.main_arg0) = m ((c.tc : Thread Cert.SwaKvRefIdeal.nD Cert.SwaKvRefIdeal.τ).loc Cert.SwaKvRefIdeal.main_arg0)
      ∧ r.2.mem ((c.tc : Thread Cert.SwaKvRefIdeal.nD Cert.SwaKvRefIdeal.τ).loc Cert.SwaKvRefIdeal.main_arg1) = m ((c.tc : Thread Cert.SwaKvRefIdeal.nD Cert.SwaKvRefIdeal.τ).loc Cert.SwaKvRefIdeal.main_arg1)
      ∧ r.2.mem ((c.tc : Thread Cert.SwaKvRefIdeal.nD Cert.SwaKvRefIdeal.τ).loc Cert.SwaKvRefIdeal.main_arg2) = m ((c.tc : Thread Cert.SwaKvRefIdeal.nD Cert.SwaKvRefIdeal.τ).loc Cert.SwaKvRefIdeal.main_arg2)
      ∧ r.2.mem ((c.tc : Thread Cert.SwaKvRefIdeal.nD Cert.SwaKvRefIdeal.τ).loc Cert.SwaKvRefIdeal.main_arg3) = m ((c.tc : Thread Cert.SwaKvRefIdeal.nD Cert.SwaKvRefIdeal.τ).loc Cert.SwaKvRefIdeal.main_arg3)
      ∧ r.2.mem ((c.tc : Thread Cert.SwaKvRefIdeal.nD Cert.SwaKvRefIdeal.τ).loc Cert.SwaKvRefIdeal.main_arg4) = m ((c.tc : Thread Cert.SwaKvRefIdeal.nD Cert.SwaKvRefIdeal.τ).loc Cert.SwaKvRefIdeal.main_arg4))
      ∧ r.2.sem = fun _ => 0)

def quiescent_GlaS [hGlaS : Cert.GlaS.Facts] : Prop :=
  ∀ (m : (ℓ : Loc Cert.GlaS.nD Cert.GlaS.τ Cert.GlaS.sig) → Buf (Elt Bits) ℓ) (g : Dev Cert.GlaS.nD → PrngReg), Pre_GlaS m →
    θ_run (Cert.GlaS.defs (F := Bits)) (onTc (τ := Cert.GlaS.τ) (Cert.GlaS.main (F := Bits))) ⟨m, fun _ => 0, g⟩ (fun r => (∀ c : Dev Cert.GlaS.nD,
      r.2.mem ((c.tc : Thread Cert.GlaS.nD Cert.GlaS.τ).loc Cert.GlaS.main_arg0) = m ((c.tc : Thread Cert.GlaS.nD Cert.GlaS.τ).loc Cert.GlaS.main_arg0)
      ∧ r.2.mem ((c.tc : Thread Cert.GlaS.nD Cert.GlaS.τ).loc Cert.GlaS.main_arg1) = m ((c.tc : Thread Cert.GlaS.nD Cert.GlaS.τ).loc Cert.GlaS.main_arg1)
      ∧ r.2.mem ((c.tc : Thread Cert.GlaS.nD Cert.GlaS.τ).loc Cert.GlaS.main_arg2) = m ((c.tc : Thread Cert.GlaS.nD Cert.GlaS.τ).loc Cert.GlaS.main_arg2)
      ∧ r.2.mem ((c.tc : Thread Cert.GlaS.nD Cert.GlaS.τ).loc Cert.GlaS.main_arg3) = m ((c.tc : Thread Cert.GlaS.nD Cert.GlaS.τ).loc Cert.GlaS.main_arg3)
      ∧ r.2.mem ((c.tc : Thread Cert.GlaS.nD Cert.GlaS.τ).loc Cert.GlaS.main_arg4) = m ((c.tc : Thread Cert.GlaS.nD Cert.GlaS.τ).loc Cert.GlaS.main_arg4)
      ∧ r.2.mem ((c.tc : Thread Cert.GlaS.nD Cert.GlaS.τ).loc Cert.GlaS.main_arg5) = m ((c.tc : Thread Cert.GlaS.nD Cert.GlaS.τ).loc Cert.GlaS.main_arg5))
      ∧ r.2.sem = fun _ => 0)

def quiescent_GlaSIdeal [hGlaSIdeal : Cert.GlaSIdeal.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
      ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
      ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5))
      ∧ r.2.sem = fun _ => 0)

def quiescent_GlaSRefIdeal [hGlaSRefIdeal : Cert.GlaSRefIdeal.Facts] : Prop :=
  ∀ (m : (ℓ : Loc Cert.GlaSRefIdeal.nD Cert.GlaSRefIdeal.τ Cert.GlaSRefIdeal.sig) → Buf (Elt Ideal) ℓ) (g : Dev Cert.GlaSRefIdeal.nD → PrngReg), Pre_GlaSRefIdeal m →
    θ_run (Cert.GlaSRefIdeal.defs (F := Ideal)) (onTc (τ := Cert.GlaSRefIdeal.τ) (Cert.GlaSRefIdeal.main (F := Ideal))) ⟨m, fun _ => 0, g⟩ (fun r => (∀ c : Dev Cert.GlaSRefIdeal.nD,
      r.2.mem ((c.tc : Thread Cert.GlaSRefIdeal.nD Cert.GlaSRefIdeal.τ).loc Cert.GlaSRefIdeal.main_arg0) = m ((c.tc : Thread Cert.GlaSRefIdeal.nD Cert.GlaSRefIdeal.τ).loc Cert.GlaSRefIdeal.main_arg0)
      ∧ r.2.mem ((c.tc : Thread Cert.GlaSRefIdeal.nD Cert.GlaSRefIdeal.τ).loc Cert.GlaSRefIdeal.main_arg1) = m ((c.tc : Thread Cert.GlaSRefIdeal.nD Cert.GlaSRefIdeal.τ).loc Cert.GlaSRefIdeal.main_arg1)
      ∧ r.2.mem ((c.tc : Thread Cert.GlaSRefIdeal.nD Cert.GlaSRefIdeal.τ).loc Cert.GlaSRefIdeal.main_arg2) = m ((c.tc : Thread Cert.GlaSRefIdeal.nD Cert.GlaSRefIdeal.τ).loc Cert.GlaSRefIdeal.main_arg2)
      ∧ r.2.mem ((c.tc : Thread Cert.GlaSRefIdeal.nD Cert.GlaSRefIdeal.τ).loc Cert.GlaSRefIdeal.main_arg3) = m ((c.tc : Thread Cert.GlaSRefIdeal.nD Cert.GlaSRefIdeal.τ).loc Cert.GlaSRefIdeal.main_arg3)
      ∧ r.2.mem ((c.tc : Thread Cert.GlaSRefIdeal.nD Cert.GlaSRefIdeal.τ).loc Cert.GlaSRefIdeal.main_arg4) = m ((c.tc : Thread Cert.GlaSRefIdeal.nD Cert.GlaSRefIdeal.τ).loc Cert.GlaSRefIdeal.main_arg4)
      ∧ r.2.mem ((c.tc : Thread Cert.GlaSRefIdeal.nD Cert.GlaSRefIdeal.τ).loc Cert.GlaSRefIdeal.main_arg5) = m ((c.tc : Thread Cert.GlaSRefIdeal.nD Cert.GlaSRefIdeal.τ).loc Cert.GlaSRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2))
      ∧ r.2.sem = fun _ => 0)

def quiescent_LowRank [hLowRank : Cert.LowRank.Facts] : Prop :=
  ∀ (m : (ℓ : Loc Cert.LowRank.nD Cert.LowRank.τ Cert.LowRank.sig) → Buf (Elt Bits) ℓ) (g : Dev Cert.LowRank.nD → PrngReg), Pre_LowRank m →
    θ_run (Cert.LowRank.defs (F := Bits)) (onTc (τ := Cert.LowRank.τ) (Cert.LowRank.main (F := Bits))) ⟨m, fun _ => 0, g⟩ (fun r => (∀ c : Dev Cert.LowRank.nD,
      r.2.mem ((c.tc : Thread Cert.LowRank.nD Cert.LowRank.τ).loc Cert.LowRank.main_arg0) = m ((c.tc : Thread Cert.LowRank.nD Cert.LowRank.τ).loc Cert.LowRank.main_arg0)
      ∧ r.2.mem ((c.tc : Thread Cert.LowRank.nD Cert.LowRank.τ).loc Cert.LowRank.main_arg1) = m ((c.tc : Thread Cert.LowRank.nD Cert.LowRank.τ).loc Cert.LowRank.main_arg1))
      ∧ r.2.sem = fun _ => 0)

def quiescent_LowRankIdeal [hLowRankIdeal : Cert.LowRankIdeal.Facts] : Prop :=
  ∀ (m : (ℓ : Loc Cert.LowRankIdeal.nD Cert.LowRankIdeal.τ Cert.LowRankIdeal.sig) → Buf (Elt Ideal) ℓ) (g : Dev Cert.LowRankIdeal.nD → PrngReg), Pre_LowRankIdeal m →
    θ_run (Cert.LowRankIdeal.defs (F := Ideal)) (onTc (τ := Cert.LowRankIdeal.τ) (Cert.LowRankIdeal.main (F := Ideal))) ⟨m, fun _ => 0, g⟩ (fun r => (∀ c : Dev Cert.LowRankIdeal.nD,
      r.2.mem ((c.tc : Thread Cert.LowRankIdeal.nD Cert.LowRankIdeal.τ).loc Cert.LowRankIdeal.main_arg0) = m ((c.tc : Thread Cert.LowRankIdeal.nD Cert.LowRankIdeal.τ).loc Cert.LowRankIdeal.main_arg0)
      ∧ r.2.mem ((c.tc : Thread Cert.LowRankIdeal.nD Cert.LowRankIdeal.τ).loc Cert.LowRankIdeal.main_arg1) = m ((c.tc : Thread Cert.LowRankIdeal.nD Cert.LowRankIdeal.τ).loc Cert.LowRankIdeal.main_arg1))
      ∧ r.2.sem = fun _ => 0)

def quiescent_LowRankRefIdeal [hLowRankRefIdeal : Cert.LowRankRefIdeal.Facts] : Prop :=
  ∀ (m : (ℓ : Loc Cert.LowRankRefIdeal.nD Cert.LowRankRefIdeal.τ Cert.LowRankRefIdeal.sig) → Buf (Elt Ideal) ℓ) (g : Dev Cert.LowRankRefIdeal.nD → PrngReg), Pre_LowRankRefIdeal m →
    θ_run (Cert.LowRankRefIdeal.defs (F := Ideal)) (onTc (τ := Cert.LowRankRefIdeal.τ) (Cert.LowRankRefIdeal.main (F := Ideal))) ⟨m, fun _ => 0, g⟩ (fun r => (∀ c : Dev Cert.LowRankRefIdeal.nD,
      r.2.mem ((c.tc : Thread Cert.LowRankRefIdeal.nD Cert.LowRankRefIdeal.τ).loc Cert.LowRankRefIdeal.main_arg0) = m ((c.tc : Thread Cert.LowRankRefIdeal.nD Cert.LowRankRefIdeal.τ).loc Cert.LowRankRefIdeal.main_arg0)
      ∧ r.2.mem ((c.tc : Thread Cert.LowRankRefIdeal.nD Cert.LowRankRefIdeal.τ).loc Cert.LowRankRefIdeal.main_arg1) = m ((c.tc : Thread Cert.LowRankRefIdeal.nD Cert.LowRankRefIdeal.τ).loc Cert.LowRankRefIdeal.main_arg1))
      ∧ r.2.sem = fun _ => 0)

def quiescent_SwaS [hSwaS : Cert.SwaS.Facts] : Prop :=
  ∀ (m : (ℓ : Loc Cert.SwaS.nD Cert.SwaS.τ Cert.SwaS.sig) → Buf (Elt Bits) ℓ) (g : Dev Cert.SwaS.nD → PrngReg), Pre_SwaS m →
    θ_run (Cert.SwaS.defs (F := Bits)) (onTc (τ := Cert.SwaS.τ) (Cert.SwaS.main (F := Bits))) ⟨m, fun _ => 0, g⟩ (fun r => (∀ c : Dev Cert.SwaS.nD,
      r.2.mem ((c.tc : Thread Cert.SwaS.nD Cert.SwaS.τ).loc Cert.SwaS.main_arg0) = m ((c.tc : Thread Cert.SwaS.nD Cert.SwaS.τ).loc Cert.SwaS.main_arg0)
      ∧ r.2.mem ((c.tc : Thread Cert.SwaS.nD Cert.SwaS.τ).loc Cert.SwaS.main_arg1) = m ((c.tc : Thread Cert.SwaS.nD Cert.SwaS.τ).loc Cert.SwaS.main_arg1)
      ∧ r.2.mem ((c.tc : Thread Cert.SwaS.nD Cert.SwaS.τ).loc Cert.SwaS.main_arg2) = m ((c.tc : Thread Cert.SwaS.nD Cert.SwaS.τ).loc Cert.SwaS.main_arg2)
      ∧ r.2.mem ((c.tc : Thread Cert.SwaS.nD Cert.SwaS.τ).loc Cert.SwaS.main_arg3) = m ((c.tc : Thread Cert.SwaS.nD Cert.SwaS.τ).loc Cert.SwaS.main_arg3)
      ∧ r.2.mem ((c.tc : Thread Cert.SwaS.nD Cert.SwaS.τ).loc Cert.SwaS.main_arg4) = m ((c.tc : Thread Cert.SwaS.nD Cert.SwaS.τ).loc Cert.SwaS.main_arg4))
      ∧ r.2.sem = fun _ => 0)

def quiescent_SwaSIdeal [hSwaSIdeal : Cert.SwaSIdeal.Facts] : Prop :=
  ∀ (m : (ℓ : Loc Cert.SwaSIdeal.nD Cert.SwaSIdeal.τ Cert.SwaSIdeal.sig) → Buf (Elt Ideal) ℓ) (g : Dev Cert.SwaSIdeal.nD → PrngReg), Pre_SwaSIdeal m →
    θ_run (Cert.SwaSIdeal.defs (F := Ideal)) (onTc (τ := Cert.SwaSIdeal.τ) (Cert.SwaSIdeal.main (F := Ideal))) ⟨m, fun _ => 0, g⟩ (fun r => (∀ c : Dev Cert.SwaSIdeal.nD,
      r.2.mem ((c.tc : Thread Cert.SwaSIdeal.nD Cert.SwaSIdeal.τ).loc Cert.SwaSIdeal.main_arg0) = m ((c.tc : Thread Cert.SwaSIdeal.nD Cert.SwaSIdeal.τ).loc Cert.SwaSIdeal.main_arg0)
      ∧ r.2.mem ((c.tc : Thread Cert.SwaSIdeal.nD Cert.SwaSIdeal.τ).loc Cert.SwaSIdeal.main_arg1) = m ((c.tc : Thread Cert.SwaSIdeal.nD Cert.SwaSIdeal.τ).loc Cert.SwaSIdeal.main_arg1)
      ∧ r.2.mem ((c.tc : Thread Cert.SwaSIdeal.nD Cert.SwaSIdeal.τ).loc Cert.SwaSIdeal.main_arg2) = m ((c.tc : Thread Cert.SwaSIdeal.nD Cert.SwaSIdeal.τ).loc Cert.SwaSIdeal.main_arg2)
      ∧ r.2.mem ((c.tc : Thread Cert.SwaSIdeal.nD Cert.SwaSIdeal.τ).loc Cert.SwaSIdeal.main_arg3) = m ((c.tc : Thread Cert.SwaSIdeal.nD Cert.SwaSIdeal.τ).loc Cert.SwaSIdeal.main_arg3)
      ∧ r.2.mem ((c.tc : Thread Cert.SwaSIdeal.nD Cert.SwaSIdeal.τ).loc Cert.SwaSIdeal.main_arg4) = m ((c.tc : Thread Cert.SwaSIdeal.nD Cert.SwaSIdeal.τ).loc Cert.SwaSIdeal.main_arg4))
      ∧ r.2.sem = fun _ => 0)

def quiescent_SwaP [hSwaP : Cert.SwaP.Facts] : Prop :=
  ∀ (m : (ℓ : Loc Cert.SwaP.nD Cert.SwaP.τ Cert.SwaP.sig) → Buf (Elt Bits) ℓ) (g : Dev Cert.SwaP.nD → PrngReg), Pre_SwaP m →
    θ_run (Cert.SwaP.defs (F := Bits)) (onTc (τ := Cert.SwaP.τ) (Cert.SwaP.main (F := Bits))) ⟨m, fun _ => 0, g⟩ (fun r => (∀ c : Dev Cert.SwaP.nD,
      r.2.mem ((c.tc : Thread Cert.SwaP.nD Cert.SwaP.τ).loc Cert.SwaP.main_arg0) = m ((c.tc : Thread Cert.SwaP.nD Cert.SwaP.τ).loc Cert.SwaP.main_arg0)
      ∧ r.2.mem ((c.tc : Thread Cert.SwaP.nD Cert.SwaP.τ).loc Cert.SwaP.main_arg1) = m ((c.tc : Thread Cert.SwaP.nD Cert.SwaP.τ).loc Cert.SwaP.main_arg1)
      ∧ r.2.mem ((c.tc : Thread Cert.SwaP.nD Cert.SwaP.τ).loc Cert.SwaP.main_arg2) = m ((c.tc : Thread Cert.SwaP.nD Cert.SwaP.τ).loc Cert.SwaP.main_arg2))
      ∧ r.2.sem = fun _ => 0)

def quiescent_SwaPIdeal [hSwaPIdeal : Cert.SwaPIdeal.Facts] : Prop :=
  ∀ (m : (ℓ : Loc Cert.SwaPIdeal.nD Cert.SwaPIdeal.τ Cert.SwaPIdeal.sig) → Buf (Elt Ideal) ℓ) (g : Dev Cert.SwaPIdeal.nD → PrngReg), Pre_SwaPIdeal m →
    θ_run (Cert.SwaPIdeal.defs (F := Ideal)) (onTc (τ := Cert.SwaPIdeal.τ) (Cert.SwaPIdeal.main (F := Ideal))) ⟨m, fun _ => 0, g⟩ (fun r => (∀ c : Dev Cert.SwaPIdeal.nD,
      r.2.mem ((c.tc : Thread Cert.SwaPIdeal.nD Cert.SwaPIdeal.τ).loc Cert.SwaPIdeal.main_arg0) = m ((c.tc : Thread Cert.SwaPIdeal.nD Cert.SwaPIdeal.τ).loc Cert.SwaPIdeal.main_arg0)
      ∧ r.2.mem ((c.tc : Thread Cert.SwaPIdeal.nD Cert.SwaPIdeal.τ).loc Cert.SwaPIdeal.main_arg1) = m ((c.tc : Thread Cert.SwaPIdeal.nD Cert.SwaPIdeal.τ).loc Cert.SwaPIdeal.main_arg1)
      ∧ r.2.mem ((c.tc : Thread Cert.SwaPIdeal.nD Cert.SwaPIdeal.τ).loc Cert.SwaPIdeal.main_arg2) = m ((c.tc : Thread Cert.SwaPIdeal.nD Cert.SwaPIdeal.τ).loc Cert.SwaPIdeal.main_arg2))
      ∧ r.2.sem = fun _ => 0)

def quiescent_GlaP [hGlaP : Cert.GlaP.Facts] : Prop :=
  ∀ (m : (ℓ : Loc Cert.GlaP.nD Cert.GlaP.τ Cert.GlaP.sig) → Buf (Elt Bits) ℓ) (g : Dev Cert.GlaP.nD → PrngReg), Pre_GlaP m →
    θ_run (Cert.GlaP.defs (F := Bits)) (onTc (τ := Cert.GlaP.τ) (Cert.GlaP.main (F := Bits))) ⟨m, fun _ => 0, g⟩ (fun r => (∀ c : Dev Cert.GlaP.nD,
      r.2.mem ((c.tc : Thread Cert.GlaP.nD Cert.GlaP.τ).loc Cert.GlaP.main_arg0) = m ((c.tc : Thread Cert.GlaP.nD Cert.GlaP.τ).loc Cert.GlaP.main_arg0)
      ∧ r.2.mem ((c.tc : Thread Cert.GlaP.nD Cert.GlaP.τ).loc Cert.GlaP.main_arg1) = m ((c.tc : Thread Cert.GlaP.nD Cert.GlaP.τ).loc Cert.GlaP.main_arg1)
      ∧ r.2.mem ((c.tc : Thread Cert.GlaP.nD Cert.GlaP.τ).loc Cert.GlaP.main_arg2) = m ((c.tc : Thread Cert.GlaP.nD Cert.GlaP.τ).loc Cert.GlaP.main_arg2)
      ∧ r.2.mem ((c.tc : Thread Cert.GlaP.nD Cert.GlaP.τ).loc Cert.GlaP.main_arg3) = m ((c.tc : Thread Cert.GlaP.nD Cert.GlaP.τ).loc Cert.GlaP.main_arg3)
      ∧ r.2.mem ((c.tc : Thread Cert.GlaP.nD Cert.GlaP.τ).loc Cert.GlaP.main_arg4) = m ((c.tc : Thread Cert.GlaP.nD Cert.GlaP.τ).loc Cert.GlaP.main_arg4))
      ∧ r.2.sem = fun _ => 0)

def quiescent_GlaPIdeal [hGlaPIdeal : Cert.GlaPIdeal.Facts] : Prop :=
  ∀ (m : (ℓ : Loc Cert.GlaPIdeal.nD Cert.GlaPIdeal.τ Cert.GlaPIdeal.sig) → Buf (Elt Ideal) ℓ) (g : Dev Cert.GlaPIdeal.nD → PrngReg), Pre_GlaPIdeal m →
    θ_run (Cert.GlaPIdeal.defs (F := Ideal)) (onTc (τ := Cert.GlaPIdeal.τ) (Cert.GlaPIdeal.main (F := Ideal))) ⟨m, fun _ => 0, g⟩ (fun r => (∀ c : Dev Cert.GlaPIdeal.nD,
      r.2.mem ((c.tc : Thread Cert.GlaPIdeal.nD Cert.GlaPIdeal.τ).loc Cert.GlaPIdeal.main_arg0) = m ((c.tc : Thread Cert.GlaPIdeal.nD Cert.GlaPIdeal.τ).loc Cert.GlaPIdeal.main_arg0)
      ∧ r.2.mem ((c.tc : Thread Cert.GlaPIdeal.nD Cert.GlaPIdeal.τ).loc Cert.GlaPIdeal.main_arg1) = m ((c.tc : Thread Cert.GlaPIdeal.nD Cert.GlaPIdeal.τ).loc Cert.GlaPIdeal.main_arg1)
      ∧ r.2.mem ((c.tc : Thread Cert.GlaPIdeal.nD Cert.GlaPIdeal.τ).loc Cert.GlaPIdeal.main_arg2) = m ((c.tc : Thread Cert.GlaPIdeal.nD Cert.GlaPIdeal.τ).loc Cert.GlaPIdeal.main_arg2)
      ∧ r.2.mem ((c.tc : Thread Cert.GlaPIdeal.nD Cert.GlaPIdeal.τ).loc Cert.GlaPIdeal.main_arg3) = m ((c.tc : Thread Cert.GlaPIdeal.nD Cert.GlaPIdeal.τ).loc Cert.GlaPIdeal.main_arg3)
      ∧ r.2.mem ((c.tc : Thread Cert.GlaPIdeal.nD Cert.GlaPIdeal.τ).loc Cert.GlaPIdeal.main_arg4) = m ((c.tc : Thread Cert.GlaPIdeal.nD Cert.GlaPIdeal.τ).loc Cert.GlaPIdeal.main_arg4))
      ∧ r.2.sem = fun _ => 0)

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_ProjGla_ProjGlaIdeal : Prop :=
  True

def algebraic_ProjGlaIdeal_ProjGlaRefIdeal [hProjGlaIdeal : Cert.ProjGlaIdeal.Facts] [hProjGlaRefIdeal : Cert.ProjGlaRefIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg)
    (m' : (ℓ : Loc Cert.ProjGlaRefIdeal.nD Cert.ProjGlaRefIdeal.τ Cert.ProjGlaRefIdeal.sig) → Buf (Elt Ideal) ℓ) (g' : Dev Cert.ProjGlaRefIdeal.nD → PrngReg), Pre_ProjGlaIdeal m →
    (∀ c : Dev Cert.ProjGlaIdeal.nD,
      m' ((c.tc : Thread Cert.ProjGlaRefIdeal.nD Cert.ProjGlaRefIdeal.τ).loc Cert.ProjGlaRefIdeal.main_arg0) = m ((c.tc : Thread Cert.ProjGlaIdeal.nD Cert.ProjGlaIdeal.τ).loc Cert.ProjGlaIdeal.main_arg0)
      ∧ m' ((c.tc : Thread Cert.ProjGlaRefIdeal.nD Cert.ProjGlaRefIdeal.τ).loc Cert.ProjGlaRefIdeal.main_arg1) = m ((c.tc : Thread Cert.ProjGlaIdeal.nD Cert.ProjGlaIdeal.τ).loc Cert.ProjGlaIdeal.main_arg1)) →
    ∃ (v0 : (c : Dev Cert.ProjGlaIdeal.nD) → Buf (Elt Ideal) ((c.tc : Thread Cert.ProjGlaIdeal.nD Cert.ProjGlaIdeal.τ).loc Cert.ProjGlaIdeal.main_v1)),
      θ_run (Cert.ProjGlaIdeal.defs (F := Ideal)) (onTc (τ := Cert.ProjGlaIdeal.τ) (Cert.ProjGlaIdeal.main (F := Ideal))) ⟨m, fun _ => 0, g⟩ (fun r => ∀ c : Dev Cert.ProjGlaIdeal.nD,
          r.2.mem ((c.tc : Thread Cert.ProjGlaIdeal.nD Cert.ProjGlaIdeal.τ).loc Cert.ProjGlaIdeal.main_v1) = v0 c
          ∧ r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
          ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ θ_run (Cert.ProjGlaRefIdeal.defs (F := Ideal)) (onTc (τ := Cert.ProjGlaRefIdeal.τ) (Cert.ProjGlaRefIdeal.main (F := Ideal))) ⟨m', fun _ => 0, g'⟩ (fun r => ∀ c : Dev Cert.ProjGlaRefIdeal.nD,
          r.2.mem ((c.tc : Thread Cert.ProjGlaRefIdeal.nD Cert.ProjGlaRefIdeal.τ).loc Cert.ProjGlaRefIdeal.main_v2) = v0 c
          ∧ r.2.mem ((c.tc : Thread Cert.ProjGlaRefIdeal.nD Cert.ProjGlaRefIdeal.τ).loc Cert.ProjGlaRefIdeal.main_arg0) = m' ((c.tc : Thread Cert.ProjGlaRefIdeal.nD Cert.ProjGlaRefIdeal.τ).loc Cert.ProjGlaRefIdeal.main_arg0)
          ∧ r.2.mem ((c.tc : Thread Cert.ProjGlaRefIdeal.nD Cert.ProjGlaRefIdeal.τ).loc Cert.ProjGlaRefIdeal.main_arg1) = m' ((c.tc : Thread Cert.ProjGlaRefIdeal.nD Cert.ProjGlaRefIdeal.τ).loc Cert.ProjGlaRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v35) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)
      ∧ m' ((c.tc : Thread Cert.MemQRefIdeal.nD Cert.MemQRefIdeal.τ).loc Cert.MemQRefIdeal.main_arg2) = m ((c.tc : Thread Cert.MemQIdeal.nD Cert.MemQIdeal.τ).loc Cert.MemQIdeal.main_arg2)) →
    ∃ (v0 : (c : Dev Cert.MemQIdeal.nD) → Buf (Elt Ideal) ((c.tc : Thread Cert.MemQIdeal.nD Cert.MemQIdeal.τ).loc Cert.MemQIdeal.main_v2)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v2) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
          ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v18) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1)
          ∧ r.2.mem ((c.tc : Thread Cert.MemQRefIdeal.nD Cert.MemQRefIdeal.τ).loc Cert.MemQRefIdeal.main_arg2) = m' ((c.tc : Thread Cert.MemQRefIdeal.nD Cert.MemQRefIdeal.τ).loc Cert.MemQRefIdeal.main_arg2))

def preserves_SwaQ_SwaQIdeal : Prop :=
  True

def algebraic_SwaQIdeal_SwaQRefIdeal [hSwaQIdeal : Cert.SwaQIdeal.Facts] [hSwaQRefIdeal : Cert.SwaQRefIdeal.Facts] : Prop :=
  ∀ (m : (ℓ : Loc Cert.SwaQIdeal.nD Cert.SwaQIdeal.τ Cert.SwaQIdeal.sig) → Buf (Elt Ideal) ℓ) (g : Dev Cert.SwaQIdeal.nD → PrngReg)
    (m' : (ℓ : Loc Cert.SwaQRefIdeal.nD Cert.SwaQRefIdeal.τ Cert.SwaQRefIdeal.sig) → Buf (Elt Ideal) ℓ) (g' : Dev Cert.SwaQRefIdeal.nD → PrngReg), Pre_SwaQIdeal m →
    (∀ c : Dev Cert.SwaQIdeal.nD,
      m' ((c.tc : Thread Cert.SwaQRefIdeal.nD Cert.SwaQRefIdeal.τ).loc Cert.SwaQRefIdeal.main_arg0) = m ((c.tc : Thread Cert.SwaQIdeal.nD Cert.SwaQIdeal.τ).loc Cert.SwaQIdeal.main_arg0)
      ∧ m' ((c.tc : Thread Cert.SwaQRefIdeal.nD Cert.SwaQRefIdeal.τ).loc Cert.SwaQRefIdeal.main_arg1) = m ((c.tc : Thread Cert.SwaQIdeal.nD Cert.SwaQIdeal.τ).loc Cert.SwaQIdeal.main_arg1)
      ∧ m' ((c.tc : Thread Cert.SwaQRefIdeal.nD Cert.SwaQRefIdeal.τ).loc Cert.SwaQRefIdeal.main_arg2) = m ((c.tc : Thread Cert.SwaQIdeal.nD Cert.SwaQIdeal.τ).loc Cert.SwaQIdeal.main_arg2)) →
    ∃ (v0 : (c : Dev Cert.SwaQIdeal.nD) → Buf (Elt Ideal) ((c.tc : Thread Cert.SwaQIdeal.nD Cert.SwaQIdeal.τ).loc Cert.SwaQIdeal.main_v60)),
      θ_run (Cert.SwaQIdeal.defs (F := Ideal)) (onTc (τ := Cert.SwaQIdeal.τ) (Cert.SwaQIdeal.main (F := Ideal))) ⟨m, fun _ => 0, g⟩ (fun r => ∀ c : Dev Cert.SwaQIdeal.nD,
          r.2.mem ((c.tc : Thread Cert.SwaQIdeal.nD Cert.SwaQIdeal.τ).loc Cert.SwaQIdeal.main_v60) = v0 c
          ∧ r.2.mem ((c.tc : Thread Cert.SwaQIdeal.nD Cert.SwaQIdeal.τ).loc Cert.SwaQIdeal.main_arg0) = m ((c.tc : Thread Cert.SwaQIdeal.nD Cert.SwaQIdeal.τ).loc Cert.SwaQIdeal.main_arg0)
          ∧ r.2.mem ((c.tc : Thread Cert.SwaQIdeal.nD Cert.SwaQIdeal.τ).loc Cert.SwaQIdeal.main_arg1) = m ((c.tc : Thread Cert.SwaQIdeal.nD Cert.SwaQIdeal.τ).loc Cert.SwaQIdeal.main_arg1)
          ∧ r.2.mem ((c.tc : Thread Cert.SwaQIdeal.nD Cert.SwaQIdeal.τ).loc Cert.SwaQIdeal.main_arg2) = m ((c.tc : Thread Cert.SwaQIdeal.nD Cert.SwaQIdeal.τ).loc Cert.SwaQIdeal.main_arg2))
      ∧ θ_run (Cert.SwaQRefIdeal.defs (F := Ideal)) (onTc (τ := Cert.SwaQRefIdeal.τ) (Cert.SwaQRefIdeal.main (F := Ideal))) ⟨m', fun _ => 0, g'⟩ (fun r => ∀ c : Dev Cert.SwaQRefIdeal.nD,
          r.2.mem ((c.tc : Thread Cert.SwaQRefIdeal.nD Cert.SwaQRefIdeal.τ).loc Cert.SwaQRefIdeal.main_v125) = v0 c
          ∧ r.2.mem ((c.tc : Thread Cert.SwaQRefIdeal.nD Cert.SwaQRefIdeal.τ).loc Cert.SwaQRefIdeal.main_arg0) = m' ((c.tc : Thread Cert.SwaQRefIdeal.nD Cert.SwaQRefIdeal.τ).loc Cert.SwaQRefIdeal.main_arg0)
          ∧ r.2.mem ((c.tc : Thread Cert.SwaQRefIdeal.nD Cert.SwaQRefIdeal.τ).loc Cert.SwaQRefIdeal.main_arg1) = m' ((c.tc : Thread Cert.SwaQRefIdeal.nD Cert.SwaQRefIdeal.τ).loc Cert.SwaQRefIdeal.main_arg1)
          ∧ r.2.mem ((c.tc : Thread Cert.SwaQRefIdeal.nD Cert.SwaQRefIdeal.τ).loc Cert.SwaQRefIdeal.main_arg2) = m' ((c.tc : Thread Cert.SwaQRefIdeal.nD Cert.SwaQRefIdeal.τ).loc Cert.SwaQRefIdeal.main_arg2))

def preserves_SwaKv_SwaKvIdeal : Prop :=
  True

def algebraic_SwaKvIdeal_SwaKvRefIdeal [hSwaKvIdeal : Cert.SwaKvIdeal.Facts] [hSwaKvRefIdeal : Cert.SwaKvRefIdeal.Facts] : Prop :=
  ∀ (m : (ℓ : Loc Cert.SwaKvIdeal.nD Cert.SwaKvIdeal.τ Cert.SwaKvIdeal.sig) → Buf (Elt Ideal) ℓ) (g : Dev Cert.SwaKvIdeal.nD → PrngReg)
    (m' : (ℓ : Loc Cert.SwaKvRefIdeal.nD Cert.SwaKvRefIdeal.τ Cert.SwaKvRefIdeal.sig) → Buf (Elt Ideal) ℓ) (g' : Dev Cert.SwaKvRefIdeal.nD → PrngReg), Pre_SwaKvIdeal m →
    (∀ c : Dev Cert.SwaKvIdeal.nD,
      m' ((c.tc : Thread Cert.SwaKvRefIdeal.nD Cert.SwaKvRefIdeal.τ).loc Cert.SwaKvRefIdeal.main_arg0) = m ((c.tc : Thread Cert.SwaKvIdeal.nD Cert.SwaKvIdeal.τ).loc Cert.SwaKvIdeal.main_arg0)
      ∧ m' ((c.tc : Thread Cert.SwaKvRefIdeal.nD Cert.SwaKvRefIdeal.τ).loc Cert.SwaKvRefIdeal.main_arg1) = m ((c.tc : Thread Cert.SwaKvIdeal.nD Cert.SwaKvIdeal.τ).loc Cert.SwaKvIdeal.main_arg1)
      ∧ m' ((c.tc : Thread Cert.SwaKvRefIdeal.nD Cert.SwaKvRefIdeal.τ).loc Cert.SwaKvRefIdeal.main_arg2) = m ((c.tc : Thread Cert.SwaKvIdeal.nD Cert.SwaKvIdeal.τ).loc Cert.SwaKvIdeal.main_arg2)
      ∧ m' ((c.tc : Thread Cert.SwaKvRefIdeal.nD Cert.SwaKvRefIdeal.τ).loc Cert.SwaKvRefIdeal.main_arg3) = m ((c.tc : Thread Cert.SwaKvIdeal.nD Cert.SwaKvIdeal.τ).loc Cert.SwaKvIdeal.main_arg3)
      ∧ m' ((c.tc : Thread Cert.SwaKvRefIdeal.nD Cert.SwaKvRefIdeal.τ).loc Cert.SwaKvRefIdeal.main_arg4) = m ((c.tc : Thread Cert.SwaKvIdeal.nD Cert.SwaKvIdeal.τ).loc Cert.SwaKvIdeal.main_arg4)) →
    ∃ (v0 : (c : Dev Cert.SwaKvIdeal.nD) → Buf (Elt Ideal) ((c.tc : Thread Cert.SwaKvIdeal.nD Cert.SwaKvIdeal.τ).loc Cert.SwaKvIdeal.main_v79)) (v1 : (c : Dev Cert.SwaKvIdeal.nD) → Buf (Elt Ideal) ((c.tc : Thread Cert.SwaKvIdeal.nD Cert.SwaKvIdeal.τ).loc Cert.SwaKvIdeal.main_v82)) (v2 : (c : Dev Cert.SwaKvIdeal.nD) → Buf (Elt Ideal) ((c.tc : Thread Cert.SwaKvIdeal.nD Cert.SwaKvIdeal.τ).loc Cert.SwaKvIdeal.main_v83)) (v3 : (c : Dev Cert.SwaKvIdeal.nD) → Buf (Elt Ideal) ((c.tc : Thread Cert.SwaKvIdeal.nD Cert.SwaKvIdeal.τ).loc Cert.SwaKvIdeal.main_v84)),
      θ_run (Cert.SwaKvIdeal.defs (F := Ideal)) (onTc (τ := Cert.SwaKvIdeal.τ) (Cert.SwaKvIdeal.main (F := Ideal))) ⟨m, fun _ => 0, g⟩ (fun r => ∀ c : Dev Cert.SwaKvIdeal.nD,
          r.2.mem ((c.tc : Thread Cert.SwaKvIdeal.nD Cert.SwaKvIdeal.τ).loc Cert.SwaKvIdeal.main_v79) = v0 c
          ∧ r.2.mem ((c.tc : Thread Cert.SwaKvIdeal.nD Cert.SwaKvIdeal.τ).loc Cert.SwaKvIdeal.main_v82) = v1 c
          ∧ r.2.mem ((c.tc : Thread Cert.SwaKvIdeal.nD Cert.SwaKvIdeal.τ).loc Cert.SwaKvIdeal.main_v83) = v2 c
          ∧ r.2.mem ((c.tc : Thread Cert.SwaKvIdeal.nD Cert.SwaKvIdeal.τ).loc Cert.SwaKvIdeal.main_v84) = v3 c
          ∧ r.2.mem ((c.tc : Thread Cert.SwaKvIdeal.nD Cert.SwaKvIdeal.τ).loc Cert.SwaKvIdeal.main_arg0) = m ((c.tc : Thread Cert.SwaKvIdeal.nD Cert.SwaKvIdeal.τ).loc Cert.SwaKvIdeal.main_arg0)
          ∧ r.2.mem ((c.tc : Thread Cert.SwaKvIdeal.nD Cert.SwaKvIdeal.τ).loc Cert.SwaKvIdeal.main_arg1) = m ((c.tc : Thread Cert.SwaKvIdeal.nD Cert.SwaKvIdeal.τ).loc Cert.SwaKvIdeal.main_arg1)
          ∧ r.2.mem ((c.tc : Thread Cert.SwaKvIdeal.nD Cert.SwaKvIdeal.τ).loc Cert.SwaKvIdeal.main_arg2) = m ((c.tc : Thread Cert.SwaKvIdeal.nD Cert.SwaKvIdeal.τ).loc Cert.SwaKvIdeal.main_arg2)
          ∧ r.2.mem ((c.tc : Thread Cert.SwaKvIdeal.nD Cert.SwaKvIdeal.τ).loc Cert.SwaKvIdeal.main_arg3) = m ((c.tc : Thread Cert.SwaKvIdeal.nD Cert.SwaKvIdeal.τ).loc Cert.SwaKvIdeal.main_arg3)
          ∧ r.2.mem ((c.tc : Thread Cert.SwaKvIdeal.nD Cert.SwaKvIdeal.τ).loc Cert.SwaKvIdeal.main_arg4) = m ((c.tc : Thread Cert.SwaKvIdeal.nD Cert.SwaKvIdeal.τ).loc Cert.SwaKvIdeal.main_arg4))
      ∧ θ_run (Cert.SwaKvRefIdeal.defs (F := Ideal)) (onTc (τ := Cert.SwaKvRefIdeal.τ) (Cert.SwaKvRefIdeal.main (F := Ideal))) ⟨m', fun _ => 0, g'⟩ (fun r => ∀ c : Dev Cert.SwaKvRefIdeal.nD,
          r.2.mem ((c.tc : Thread Cert.SwaKvRefIdeal.nD Cert.SwaKvRefIdeal.τ).loc Cert.SwaKvRefIdeal.main_v131) = v0 c
          ∧ r.2.mem ((c.tc : Thread Cert.SwaKvRefIdeal.nD Cert.SwaKvRefIdeal.τ).loc Cert.SwaKvRefIdeal.main_v133) = v1 c
          ∧ r.2.mem ((c.tc : Thread Cert.SwaKvRefIdeal.nD Cert.SwaKvRefIdeal.τ).loc Cert.SwaKvRefIdeal.main_v134) = v2 c
          ∧ r.2.mem ((c.tc : Thread Cert.SwaKvRefIdeal.nD Cert.SwaKvRefIdeal.τ).loc Cert.SwaKvRefIdeal.main_v135) = v3 c
          ∧ r.2.mem ((c.tc : Thread Cert.SwaKvRefIdeal.nD Cert.SwaKvRefIdeal.τ).loc Cert.SwaKvRefIdeal.main_arg0) = m' ((c.tc : Thread Cert.SwaKvRefIdeal.nD Cert.SwaKvRefIdeal.τ).loc Cert.SwaKvRefIdeal.main_arg0)
          ∧ r.2.mem ((c.tc : Thread Cert.SwaKvRefIdeal.nD Cert.SwaKvRefIdeal.τ).loc Cert.SwaKvRefIdeal.main_arg1) = m' ((c.tc : Thread Cert.SwaKvRefIdeal.nD Cert.SwaKvRefIdeal.τ).loc Cert.SwaKvRefIdeal.main_arg1)
          ∧ r.2.mem ((c.tc : Thread Cert.SwaKvRefIdeal.nD Cert.SwaKvRefIdeal.τ).loc Cert.SwaKvRefIdeal.main_arg2) = m' ((c.tc : Thread Cert.SwaKvRefIdeal.nD Cert.SwaKvRefIdeal.τ).loc Cert.SwaKvRefIdeal.main_arg2)
          ∧ r.2.mem ((c.tc : Thread Cert.SwaKvRefIdeal.nD Cert.SwaKvRefIdeal.τ).loc Cert.SwaKvRefIdeal.main_arg3) = m' ((c.tc : Thread Cert.SwaKvRefIdeal.nD Cert.SwaKvRefIdeal.τ).loc Cert.SwaKvRefIdeal.main_arg3)
          ∧ r.2.mem ((c.tc : Thread Cert.SwaKvRefIdeal.nD Cert.SwaKvRefIdeal.τ).loc Cert.SwaKvRefIdeal.main_arg4) = m' ((c.tc : Thread Cert.SwaKvRefIdeal.nD Cert.SwaKvRefIdeal.τ).loc Cert.SwaKvRefIdeal.main_arg4))

def preserves_GlaS_GlaSIdeal : Prop :=
  True

def algebraic_GlaSIdeal_GlaSRefIdeal [hGlaSIdeal : Cert.GlaSIdeal.Facts] [hGlaSRefIdeal : Cert.GlaSRefIdeal.Facts] : Prop :=
  ∀ (m : (ℓ : Loc Cert.GlaSIdeal.nD Cert.GlaSIdeal.τ Cert.GlaSIdeal.sig) → Buf (Elt Ideal) ℓ) (g : Dev Cert.GlaSIdeal.nD → PrngReg)
    (m' : (ℓ : Loc Cert.GlaSRefIdeal.nD Cert.GlaSRefIdeal.τ Cert.GlaSRefIdeal.sig) → Buf (Elt Ideal) ℓ) (g' : Dev Cert.GlaSRefIdeal.nD → PrngReg), Pre_GlaSIdeal m →
    (∀ c : Dev Cert.GlaSIdeal.nD,
      m' ((c.tc : Thread Cert.GlaSRefIdeal.nD Cert.GlaSRefIdeal.τ).loc Cert.GlaSRefIdeal.main_arg0) = m ((c.tc : Thread Cert.GlaSIdeal.nD Cert.GlaSIdeal.τ).loc Cert.GlaSIdeal.main_arg0)
      ∧ m' ((c.tc : Thread Cert.GlaSRefIdeal.nD Cert.GlaSRefIdeal.τ).loc Cert.GlaSRefIdeal.main_arg1) = m ((c.tc : Thread Cert.GlaSIdeal.nD Cert.GlaSIdeal.τ).loc Cert.GlaSIdeal.main_arg1)
      ∧ m' ((c.tc : Thread Cert.GlaSRefIdeal.nD Cert.GlaSRefIdeal.τ).loc Cert.GlaSRefIdeal.main_arg2) = m ((c.tc : Thread Cert.GlaSIdeal.nD Cert.GlaSIdeal.τ).loc Cert.GlaSIdeal.main_arg2)
      ∧ m' ((c.tc : Thread Cert.GlaSRefIdeal.nD Cert.GlaSRefIdeal.τ).loc Cert.GlaSRefIdeal.main_arg3) = m ((c.tc : Thread Cert.GlaSIdeal.nD Cert.GlaSIdeal.τ).loc Cert.GlaSIdeal.main_arg3)
      ∧ m' ((c.tc : Thread Cert.GlaSRefIdeal.nD Cert.GlaSRefIdeal.τ).loc Cert.GlaSRefIdeal.main_arg4) = m ((c.tc : Thread Cert.GlaSIdeal.nD Cert.GlaSIdeal.τ).loc Cert.GlaSIdeal.main_arg4)
      ∧ m' ((c.tc : Thread Cert.GlaSRefIdeal.nD Cert.GlaSRefIdeal.τ).loc Cert.GlaSRefIdeal.main_arg5) = m ((c.tc : Thread Cert.GlaSIdeal.nD Cert.GlaSIdeal.τ).loc Cert.GlaSIdeal.main_arg5)) →
    ∃ (v0 : (c : Dev Cert.GlaSIdeal.nD) → Buf (Elt Ideal) ((c.tc : Thread Cert.GlaSIdeal.nD Cert.GlaSIdeal.τ).loc Cert.GlaSIdeal.main_v8_0)) (v1 : (c : Dev Cert.GlaSIdeal.nD) → Buf (Elt Ideal) ((c.tc : Thread Cert.GlaSIdeal.nD Cert.GlaSIdeal.τ).loc Cert.GlaSIdeal.main_v8_1)),
      θ_run (Cert.GlaSIdeal.defs (F := Ideal)) (onTc (τ := Cert.GlaSIdeal.τ) (Cert.GlaSIdeal.main (F := Ideal))) ⟨m, fun _ => 0, g⟩ (fun r => ∀ c : Dev Cert.GlaSIdeal.nD,
          r.2.mem ((c.tc : Thread Cert.GlaSIdeal.nD Cert.GlaSIdeal.τ).loc Cert.GlaSIdeal.main_v8_0) = v0 c
          ∧ r.2.mem ((c.tc : Thread Cert.GlaSIdeal.nD Cert.GlaSIdeal.τ).loc Cert.GlaSIdeal.main_v8_1) = v1 c
          ∧ r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
          ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
          ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
          ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
          ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
          ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5))
      ∧ θ_run (Cert.GlaSRefIdeal.defs (F := Ideal)) (onTc (τ := Cert.GlaSRefIdeal.τ) (Cert.GlaSRefIdeal.main (F := Ideal))) ⟨m', fun _ => 0, g'⟩ (fun r => ∀ c : Dev Cert.GlaSRefIdeal.nD,
          r.2.mem ((c.tc : Thread Cert.GlaSRefIdeal.nD Cert.GlaSRefIdeal.τ).loc Cert.GlaSRefIdeal.main_v79) = v0 c
          ∧ r.2.mem ((c.tc : Thread Cert.GlaSRefIdeal.nD Cert.GlaSRefIdeal.τ).loc Cert.GlaSRefIdeal.main_v56) = v1 c
          ∧ r.2.mem ((c.tc : Thread Cert.GlaSRefIdeal.nD Cert.GlaSRefIdeal.τ).loc Cert.GlaSRefIdeal.main_arg0) = m' ((c.tc : Thread Cert.GlaSRefIdeal.nD Cert.GlaSRefIdeal.τ).loc Cert.GlaSRefIdeal.main_arg0)
          ∧ r.2.mem ((c.tc : Thread Cert.GlaSRefIdeal.nD Cert.GlaSRefIdeal.τ).loc Cert.GlaSRefIdeal.main_arg1) = m' ((c.tc : Thread Cert.GlaSRefIdeal.nD Cert.GlaSRefIdeal.τ).loc Cert.GlaSRefIdeal.main_arg1)
          ∧ r.2.mem ((c.tc : Thread Cert.GlaSRefIdeal.nD Cert.GlaSRefIdeal.τ).loc Cert.GlaSRefIdeal.main_arg2) = m' ((c.tc : Thread Cert.GlaSRefIdeal.nD Cert.GlaSRefIdeal.τ).loc Cert.GlaSRefIdeal.main_arg2)
          ∧ r.2.mem ((c.tc : Thread Cert.GlaSRefIdeal.nD Cert.GlaSRefIdeal.τ).loc Cert.GlaSRefIdeal.main_arg3) = m' ((c.tc : Thread Cert.GlaSRefIdeal.nD Cert.GlaSRefIdeal.τ).loc Cert.GlaSRefIdeal.main_arg3)
          ∧ r.2.mem ((c.tc : Thread Cert.GlaSRefIdeal.nD Cert.GlaSRefIdeal.τ).loc Cert.GlaSRefIdeal.main_arg4) = m' ((c.tc : Thread Cert.GlaSRefIdeal.nD Cert.GlaSRefIdeal.τ).loc Cert.GlaSRefIdeal.main_arg4)
          ∧ r.2.mem ((c.tc : Thread Cert.GlaSRefIdeal.nD Cert.GlaSRefIdeal.τ).loc Cert.GlaSRefIdeal.main_arg5) = m' ((c.tc : Thread Cert.GlaSRefIdeal.nD Cert.GlaSRefIdeal.τ).loc Cert.GlaSRefIdeal.main_arg5))

def preserves_OutProj_OutProjIdeal : Prop :=
  IdealRules.bf16_pair.BufferStatement Cert.OutProjIdeal.S135168x2x128 Cert.OutProjIdeal.S135168x1x128
  ∧ IdealRules.bf16_pair.BufferStatement Cert.OutProjIdeal.S4096x2x128 Cert.OutProjIdeal.S4096x1x128
  ∧ IdealRules.bf16_pair.HalfStatement Cert.OutProjIdeal.S256x2048
  ∧ IdealRules.bf16_pair.Statement Cert.OutProjIdeal.S256x2x128 Cert.OutProjIdeal.S256x1x128

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v16_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v16_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v10) = v0 c
          ∧ r.2.mem ((c.tc : Thread Cert.CombineRefIdeal.nD Cert.CombineRefIdeal.τ).loc Cert.CombineRefIdeal.main_v11) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v4)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v4) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v17) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2))

def preserves_LowRank_LowRankIdeal : Prop :=
  True

def algebraic_LowRankIdeal_LowRankRefIdeal [hLowRankIdeal : Cert.LowRankIdeal.Facts] [hLowRankRefIdeal : Cert.LowRankRefIdeal.Facts] : Prop :=
  ∀ (m : (ℓ : Loc Cert.LowRankIdeal.nD Cert.LowRankIdeal.τ Cert.LowRankIdeal.sig) → Buf (Elt Ideal) ℓ) (g : Dev Cert.LowRankIdeal.nD → PrngReg)
    (m' : (ℓ : Loc Cert.LowRankRefIdeal.nD Cert.LowRankRefIdeal.τ Cert.LowRankRefIdeal.sig) → Buf (Elt Ideal) ℓ) (g' : Dev Cert.LowRankRefIdeal.nD → PrngReg), Pre_LowRankIdeal m →
    (∀ c : Dev Cert.LowRankIdeal.nD,
      m' ((c.tc : Thread Cert.LowRankRefIdeal.nD Cert.LowRankRefIdeal.τ).loc Cert.LowRankRefIdeal.main_arg0) = m ((c.tc : Thread Cert.LowRankIdeal.nD Cert.LowRankIdeal.τ).loc Cert.LowRankIdeal.main_arg0)
      ∧ m' ((c.tc : Thread Cert.LowRankRefIdeal.nD Cert.LowRankRefIdeal.τ).loc Cert.LowRankRefIdeal.main_arg1) = m ((c.tc : Thread Cert.LowRankIdeal.nD Cert.LowRankIdeal.τ).loc Cert.LowRankIdeal.main_arg1)) →
    ∃ (v0 : (c : Dev Cert.LowRankIdeal.nD) → Buf (Elt Ideal) ((c.tc : Thread Cert.LowRankIdeal.nD Cert.LowRankIdeal.τ).loc Cert.LowRankIdeal.main_v1)),
      θ_run (Cert.LowRankIdeal.defs (F := Ideal)) (onTc (τ := Cert.LowRankIdeal.τ) (Cert.LowRankIdeal.main (F := Ideal))) ⟨m, fun _ => 0, g⟩ (fun r => ∀ c : Dev Cert.LowRankIdeal.nD,
          r.2.mem ((c.tc : Thread Cert.LowRankIdeal.nD Cert.LowRankIdeal.τ).loc Cert.LowRankIdeal.main_v1) = v0 c
          ∧ r.2.mem ((c.tc : Thread Cert.LowRankIdeal.nD Cert.LowRankIdeal.τ).loc Cert.LowRankIdeal.main_arg0) = m ((c.tc : Thread Cert.LowRankIdeal.nD Cert.LowRankIdeal.τ).loc Cert.LowRankIdeal.main_arg0)
          ∧ r.2.mem ((c.tc : Thread Cert.LowRankIdeal.nD Cert.LowRankIdeal.τ).loc Cert.LowRankIdeal.main_arg1) = m ((c.tc : Thread Cert.LowRankIdeal.nD Cert.LowRankIdeal.τ).loc Cert.LowRankIdeal.main_arg1))
      ∧ θ_run (Cert.LowRankRefIdeal.defs (F := Ideal)) (onTc (τ := Cert.LowRankRefIdeal.τ) (Cert.LowRankRefIdeal.main (F := Ideal))) ⟨m', fun _ => 0, g'⟩ (fun r => ∀ c : Dev Cert.LowRankRefIdeal.nD,
          r.2.mem ((c.tc : Thread Cert.LowRankRefIdeal.nD Cert.LowRankRefIdeal.τ).loc Cert.LowRankRefIdeal.main_v3) = v0 c
          ∧ r.2.mem ((c.tc : Thread Cert.LowRankRefIdeal.nD Cert.LowRankRefIdeal.τ).loc Cert.LowRankRefIdeal.main_arg0) = m' ((c.tc : Thread Cert.LowRankRefIdeal.nD Cert.LowRankRefIdeal.τ).loc Cert.LowRankRefIdeal.main_arg0)
          ∧ r.2.mem ((c.tc : Thread Cert.LowRankRefIdeal.nD Cert.LowRankRefIdeal.τ).loc Cert.LowRankRefIdeal.main_arg1) = m' ((c.tc : Thread Cert.LowRankRefIdeal.nD Cert.LowRankRefIdeal.τ).loc Cert.LowRankRefIdeal.main_arg1))

def preserves_SwaS_SwaSIdeal : Prop :=
  True

def preserves_SwaP_SwaPIdeal : Prop :=
  True

def preserves_GlaP_GlaPIdeal : Prop :=
  True

def Claim : Prop :=
  ∃ (hMemAttn : Cert.MemAttn.Facts) (hMemAttnIdeal : Cert.MemAttnIdeal.Facts) (hMemAttnRefIdeal : Cert.MemAttnRefIdeal.Facts) (hProjGla : Cert.ProjGla.Facts) (hProjGlaIdeal : Cert.ProjGlaIdeal.Facts) (hProjGlaRefIdeal : Cert.ProjGlaRefIdeal.Facts) (hGates : Cert.Gates.Facts) (hGatesIdeal : Cert.GatesIdeal.Facts) (hGatesRefIdeal : Cert.GatesRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hMemQ : Cert.MemQ.Facts) (hMemQIdeal : Cert.MemQIdeal.Facts) (hMemQRefIdeal : Cert.MemQRefIdeal.Facts) (hSwaQ : Cert.SwaQ.Facts) (hSwaQIdeal : Cert.SwaQIdeal.Facts) (hSwaQRefIdeal : Cert.SwaQRefIdeal.Facts) (hSwaKv : Cert.SwaKv.Facts) (hSwaKvIdeal : Cert.SwaKvIdeal.Facts) (hSwaKvRefIdeal : Cert.SwaKvRefIdeal.Facts) (hGlaS : Cert.GlaS.Facts) (hGlaSIdeal : Cert.GlaSIdeal.Facts) (hGlaSRefIdeal : Cert.GlaSRefIdeal.Facts) (hOutProj : Cert.OutProj.Facts) (hOutProjIdeal : Cert.OutProjIdeal.Facts) (hOutProjRefIdeal : Cert.OutProjRefIdeal.Facts) (hCombine : Cert.Combine.Facts) (hCombineIdeal : Cert.CombineIdeal.Facts) (hCombineRefIdeal : Cert.CombineRefIdeal.Facts) (hNormMix : Cert.NormMix.Facts) (hNormMixIdeal : Cert.NormMixIdeal.Facts) (hNormMixRefIdeal : Cert.NormMixRefIdeal.Facts) (hLowRank : Cert.LowRank.Facts) (hLowRankIdeal : Cert.LowRankIdeal.Facts) (hLowRankRefIdeal : Cert.LowRankRefIdeal.Facts) (hSwaS : Cert.SwaS.Facts) (hSwaSIdeal : Cert.SwaSIdeal.Facts) (hSwaP : Cert.SwaP.Facts) (hSwaPIdeal : Cert.SwaPIdeal.Facts) (hGlaP : Cert.GlaP.Facts) (hGlaPIdeal : Cert.GlaPIdeal.Facts),
    quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_ProjGla (hProjGla := hProjGla)
    ∧ quiescent_ProjGlaIdeal (hProjGlaIdeal := hProjGlaIdeal)
    ∧ quiescent_ProjGlaRefIdeal (hProjGlaRefIdeal := hProjGlaRefIdeal)
    ∧ quiescent_Gates (hGates := hGates)
    ∧ quiescent_GatesIdeal (hGatesIdeal := hGatesIdeal)
    ∧ quiescent_GatesRefIdeal (hGatesRefIdeal := hGatesRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_SwaQ (hSwaQ := hSwaQ)
    ∧ quiescent_SwaQIdeal (hSwaQIdeal := hSwaQIdeal)
    ∧ quiescent_SwaQRefIdeal (hSwaQRefIdeal := hSwaQRefIdeal)
    ∧ quiescent_SwaKv (hSwaKv := hSwaKv)
    ∧ quiescent_SwaKvIdeal (hSwaKvIdeal := hSwaKvIdeal)
    ∧ quiescent_SwaKvRefIdeal (hSwaKvRefIdeal := hSwaKvRefIdeal)
    ∧ quiescent_GlaS (hGlaS := hGlaS)
    ∧ quiescent_GlaSIdeal (hGlaSIdeal := hGlaSIdeal)
    ∧ quiescent_GlaSRefIdeal (hGlaSRefIdeal := hGlaSRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Combine (hCombine := hCombine)
    ∧ quiescent_CombineIdeal (hCombineIdeal := hCombineIdeal)
    ∧ quiescent_CombineRefIdeal (hCombineRefIdeal := hCombineRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_LowRank (hLowRank := hLowRank)
    ∧ quiescent_LowRankIdeal (hLowRankIdeal := hLowRankIdeal)
    ∧ quiescent_LowRankRefIdeal (hLowRankRefIdeal := hLowRankRefIdeal)
    ∧ quiescent_SwaS (hSwaS := hSwaS)
    ∧ quiescent_SwaSIdeal (hSwaSIdeal := hSwaSIdeal)
    ∧ quiescent_SwaP (hSwaP := hSwaP)
    ∧ quiescent_SwaPIdeal (hSwaPIdeal := hSwaPIdeal)
    ∧ quiescent_GlaP (hGlaP := hGlaP)
    ∧ quiescent_GlaPIdeal (hGlaPIdeal := hGlaPIdeal)
    ∧ preserves_MemAttn_MemAttnIdeal
    ∧ algebraic_MemAttnIdeal_MemAttnRefIdeal (hMemAttnIdeal := hMemAttnIdeal) (hMemAttnRefIdeal := hMemAttnRefIdeal)
    ∧ preserves_ProjGla_ProjGlaIdeal
    ∧ algebraic_ProjGlaIdeal_ProjGlaRefIdeal (hProjGlaIdeal := hProjGlaIdeal) (hProjGlaRefIdeal := hProjGlaRefIdeal)
    ∧ preserves_Gates_GatesIdeal
    ∧ algebraic_GatesIdeal_GatesRefIdeal (hGatesIdeal := hGatesIdeal) (hGatesRefIdeal := hGatesRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_MemQ_MemQIdeal
    ∧ algebraic_MemQIdeal_MemQRefIdeal (hMemQIdeal := hMemQIdeal) (hMemQRefIdeal := hMemQRefIdeal)
    ∧ preserves_SwaQ_SwaQIdeal
    ∧ algebraic_SwaQIdeal_SwaQRefIdeal (hSwaQIdeal := hSwaQIdeal) (hSwaQRefIdeal := hSwaQRefIdeal)
    ∧ preserves_SwaKv_SwaKvIdeal
    ∧ algebraic_SwaKvIdeal_SwaKvRefIdeal (hSwaKvIdeal := hSwaKvIdeal) (hSwaKvRefIdeal := hSwaKvRefIdeal)
    ∧ preserves_GlaS_GlaSIdeal
    ∧ algebraic_GlaSIdeal_GlaSRefIdeal (hGlaSIdeal := hGlaSIdeal) (hGlaSRefIdeal := hGlaSRefIdeal)
    ∧ preserves_OutProj_OutProjIdeal
    ∧ algebraic_OutProjIdeal_OutProjRefIdeal (hOutProjIdeal := hOutProjIdeal) (hOutProjRefIdeal := hOutProjRefIdeal)
    ∧ preserves_Combine_CombineIdeal
    ∧ algebraic_CombineIdeal_CombineRefIdeal (hCombineIdeal := hCombineIdeal) (hCombineRefIdeal := hCombineRefIdeal)
    ∧ preserves_NormMix_NormMixIdeal
    ∧ algebraic_NormMixIdeal_NormMixRefIdeal (hNormMixIdeal := hNormMixIdeal) (hNormMixRefIdeal := hNormMixRefIdeal)
    ∧ preserves_LowRank_LowRankIdeal
    ∧ algebraic_LowRankIdeal_LowRankRefIdeal (hLowRankIdeal := hLowRankIdeal) (hLowRankRefIdeal := hLowRankRefIdeal)
    ∧ preserves_SwaS_SwaSIdeal
    ∧ preserves_SwaP_SwaPIdeal
    ∧ preserves_GlaP_GlaPIdeal
-- ==== MemAttn.lean ====
abbrev S16896x2048 : Shape := ⟨2, ![16896, 2048]⟩
abbrev S512x4096 : Shape := ⟨2, ![512, 4096]⟩
abbrev S16384x2048 : Shape := ⟨2, ![16384, 2048]⟩
abbrev S1024x2048 : Shape := ⟨2, ![1024, 2048]⟩
abbrev S256x4096 : Shape := ⟨2, ![256, 4096]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 7
  | .smem => 0
  | _ => 0

abbrev bufTy : (tb : Table) → Fin (tcTables nBuf tb) → BufTy
  | .hbm, ⟨0, _⟩ => ⟨S16896x2048, .bf16⟩
  | .hbm, ⟨1, _⟩ => ⟨S512x4096, .f32⟩
  | .hbm, ⟨2, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x4096, .f32⟩
  | .local _ .vmem, ⟨3, _⟩ => ⟨S256x4096, .f32⟩
  | .local _ .vmem, ⟨4, _⟩ => ⟨S1024x2048, .bf16⟩
  | .local _ .vmem, ⟨5, _⟩ => ⟨S1024x2048, .bf16⟩
  | .local _ .vmem, ⟨6, _⟩ => ⟨S256x4096, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S16896x2048 : Shape := ⟨2, ![16896, 2048]⟩
abbrev S512x4096 : Shape := ⟨2, ![512, 4096]⟩
abbrev S16384x2048 : Shape := ⟨2, ![16384, 2048]⟩
abbrev S2x8192x4x512 : Shape := ⟨4, ![2, 8192, 4, 512]⟩
abbrev S512x2048 : Shape := ⟨2, ![512, 2048]⟩
abbrev S2x256x4x512 : Shape := ⟨4, ![2, 256, 4, 512]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S512x4096, .f32⟩
  | .hbm, ⟨2, _⟩ => ⟨S16384x2048, .bf16⟩
  | .hbm, ⟨3, _⟩ => ⟨S16384x2048, .f32⟩
  | .hbm, ⟨4, _⟩ => ⟨S2x8192x4x512, .f32⟩
  | .hbm, ⟨5, _⟩ => ⟨S512x2048, .f32⟩
  | .hbm, ⟨6, _⟩ => ⟨S512x2048, .f32⟩
  | .hbm, ⟨7, _⟩ => ⟨S2x256x4x512, .f32⟩
  | .hbm, ⟨8, _⟩ => ⟨S2x256x4x512, .f32⟩
  | .hbm, ⟨9, _⟩ => ⟨S2x4x8192x256, .f32⟩
  | .hbm, ⟨10, _⟩ => ⟨S_, .f32⟩
  | .hbm, ⟨11, _⟩ => ⟨S2x4x8192x256, .f32⟩
  | .hbm, ⟨12, _⟩ => ⟨S2x4x8192x256, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S2x4x8192x1, .f32⟩
  | .hbm, ⟨19, _⟩ => ⟨S2x4x8192x256, .f32⟩
  | .hbm, ⟨20, _⟩ => ⟨S2x4x8192x256, .f32⟩
  | .hbm, ⟨21, _⟩ => ⟨S2x4x8192x256, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x512x8192, .f32⟩
  | .hbm, ⟨28, _⟩ => ⟨S2x8192x4x512, .f32⟩
  | .hbm, ⟨29, _⟩ => ⟨S16384x2048, .f32⟩
  | .hbm, ⟨30, _⟩ => ⟨S16384x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ProjGla.lean ====
abbrev S16896x2048 : Shape := ⟨2, ![16896, 2048]⟩
abbrev S2048x10768 : Shape := ⟨2, ![2048, 10768]⟩
abbrev S10768x2048 : Shape := ⟨2, ![10768, 2048]⟩
abbrev S16896x6144 : Shape := ⟨2, ![16896, 6144]⟩
abbrev S1536x2048 : Shape := ⟨2, ![1536, 2048]⟩
abbrev S1024x2048 : Shape := ⟨2, ![1024, 2048]⟩
abbrev S1536x1024 : Shape := ⟨2, ![1536, 1024]⟩
abbrev S768x2048 : Shape := ⟨2, ![768, 2048]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S10768x2048, .f32⟩
  | .hbm, ⟨3, _⟩ => ⟨S16896x6144, .f32⟩
  | .local _ .vmem, ⟨0, _⟩ => ⟨S1536x2048, .bf16⟩
  | .local _ .vmem, ⟨1, _⟩ => ⟨S1536x2048, .bf16⟩
  | .local _ .vmem, ⟨2, _⟩ => ⟨S1024x2048, .f32⟩
  | .local _ .vmem, ⟨3, _⟩ => ⟨S1024x2048, .f32⟩
  | .local _ .vmem, ⟨4, _⟩ => ⟨S1536x1024, .f32⟩
  | .local _ .vmem, ⟨5, _⟩ => ⟨S1536x1024, .f32⟩
  | .local _ .vmem, ⟨6, _⟩ => ⟨S1024x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 11], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGlaRefIdeal.lean ====
abbrev S16896x2048 : Shape := ⟨2, ![16896, 2048]⟩
abbrev S2048x10768 : Shape := ⟨2, ![2048, 10768]⟩
abbrev S16896x10768 : Shape := ⟨2, ![16896, 10768]⟩
abbrev S16896x6144 : Shape := ⟨2, ![16896, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S16896x2048, .f32⟩
  | .hbm, ⟨3, _⟩ => ⟨S16896x10768, .f32⟩
  | .hbm, ⟨4, _⟩ => ⟨S16896x6144, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S16896x2048 : Shape := ⟨2, ![16896, 2048]⟩
abbrev S2048x6144 : Shape := ⟨2, ![2048, 6144]⟩
abbrev S6144 : Shape := ⟨1, ![6144]⟩
abbrev S1x6144 : Shape := ⟨2, ![1, 6144]⟩
abbrev S16896x6144 : Shape := ⟨2, ![16896, 6144]⟩
abbrev S1536x2048 : Shape := ⟨2, ![1536, 2048]⟩
abbrev S2048x1024 : Shape := ⟨2, ![2048, 1024]⟩
abbrev S1x1024 : Shape := ⟨2, ![1, 1024]⟩
abbrev S1536x1024 : Shape := ⟨2, ![1536, 1024]⟩
abbrev S768x2048 : Shape := ⟨2, ![768, 2048]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16896x2048, .bf16⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S16896x6144, .f32⟩
  | .local _ .vmem, ⟨0, _⟩ => ⟨S1536x2048, .bf16⟩
  | .local _ .vmem, ⟨1, _⟩ => ⟨S1536x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1536x1024, .f32⟩
  | .local _ .vmem, ⟨7, _⟩ => ⟨S1536x1024, .f32⟩
  | .local _ .vmem, ⟨8, _⟩ => ⟨S2048x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S16896x2048 : Shape := ⟨2, ![16896, 2048]⟩
abbrev S2048x6144 : Shape := ⟨2, ![2048, 6144]⟩
abbrev S6144 : Shape := ⟨1, ![6144]⟩
abbrev S16896x6144 : Shape := ⟨2, ![16896, 6144]⟩
abbrev S1x6144 : Shape := ⟨2, ![1, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x6144, .f32⟩
  | .hbm, ⟨2, _⟩ => ⟨S6144, .f32⟩
  | .hbm, ⟨3, _⟩ => ⟨S16896x2048, .f32⟩
  | .hbm, ⟨4, _⟩ => ⟨S16896x6144, .f32⟩
  | .hbm, ⟨5, _⟩ => ⟨S1x6144, .f32⟩
  | .hbm, ⟨6, _⟩ => ⟨S16896x6144, .f32⟩
  | .hbm, ⟨7, _⟩ => ⟨S16896x6144, .f32⟩
  | .hbm, ⟨8, _⟩ => ⟨S16896x6144, .f32⟩
  | .hbm, ⟨9, _⟩ => ⟨S16896x6144, .f32⟩
  | .hbm, ⟨10, _⟩ => ⟨S_, .f32⟩
  | .hbm, ⟨11, _⟩ => ⟨S16896x6144, .f32⟩
  | .hbm, ⟨12, _⟩ => ⟨S16896x6144, .f32⟩
  | .hbm, ⟨13, _⟩ => ⟨S_, .f32⟩
  | .hbm, ⟨14, _⟩ => ⟨S16896x6144, .f32⟩
  | .hbm, ⟨15, _⟩ => ⟨S16896x6144, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== MemKv.lean ====
abbrev S2x256x2048 : Shape := ⟨3, ![2, 256, 2048]⟩
abbrev S1x2048 : Shape := ⟨2, ![1, 2048]⟩
abbrev S1x2048x4096 : Shape := ⟨3, ![1, 2048, 4096]⟩
abbrev S1x512 : Shape := ⟨2, ![1, 512]⟩
abbrev S512x2048 : Shape := ⟨2, ![512, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x4096 : Shape := ⟨2, ![2048, 4096]⟩
abbrev S512 : Shape := ⟨1, ![512]⟩
abbrev S512x4096 : Shape := ⟨2, ![512, 4096]⟩
abbrev S2048x512 : Shape := ⟨2, ![2048, 512]⟩
abbrev S512x512 : Shape := ⟨2, ![512, 512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x4096, .f32⟩
  | .hbm, ⟨3, _⟩ => ⟨S1x512, .f32⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S512x2048, .bf16⟩
  | .hbm, ⟨8, _⟩ => ⟨S2048x4096, .f32⟩
  | .hbm, ⟨9, _⟩ => ⟨S512, .f32⟩
  | .hbm, ⟨10, _⟩ => ⟨S1x512, .f32⟩
  | .hbm, ⟨11, _⟩ => ⟨S512x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S2048x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MemKvRefIdeal.lean ====
abbrev S2x256x2048 : Shape := ⟨3, ![2, 256, 2048]⟩
abbrev S1x2048 : Shape := ⟨2, ![1, 2048]⟩
abbrev S1x2048x4096 : Shape := ⟨3, ![1, 2048, 4096]⟩
abbrev S1x512 : Shape := ⟨2, ![1, 512]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x4096 : Shape := ⟨2, ![2048, 4096]⟩
abbrev S2x256x4096 : Shape := ⟨3, ![2, 256, 4096]⟩
abbrev S2x256x4x512 : Shape := ⟨4, ![2, 256, 4, 512]⟩
abbrev S512 : Shape := ⟨1, ![512]⟩
abbrev S2x256x4 : Shape := ⟨3, ![2, 256, 4]⟩
abbrev S2x256x4x1 : Shape := ⟨4, ![2, 256, 4, 1]⟩
abbrev S1x1x1x512 : Shape := ⟨4, ![1, 1, 1, 512]⟩
abbrev S512x2048 : Shape := ⟨2, ![512, 2048]⟩
abbrev S512x4096 : Shape := ⟨2, ![512, 4096]⟩

abbrev nBuf : Space → Nat
  | .hbm => 46
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x4096, .f32⟩
  | .hbm, ⟨3, _⟩ => ⟨S1x512, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S2048x4096, .f32⟩
  | .hbm, ⟨22, _⟩ => ⟨S2x256x4096, .f32⟩
  | .hbm, ⟨23, _⟩ => ⟨S2x256x2048, .f32⟩
  | .hbm, ⟨24, _⟩ => ⟨S2x256x2048, .f32⟩
  | .hbm, ⟨25, _⟩ => ⟨S2x256x4x512, .f32⟩
  | .hbm, ⟨26, _⟩ => ⟨S512, .f32⟩
  | .hbm, ⟨27, _⟩ => ⟨S2x256x4x512, .f32⟩
  | .hbm, ⟨28, _⟩ => ⟨S_, .f32⟩
  | .hbm, ⟨29, _⟩ => ⟨S2x256x4, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S_, .f32⟩
  | .hbm, ⟨35, _⟩ => ⟨S2x256x4x1, .f32⟩
  | .hbm, ⟨36, _⟩ => ⟨S2x256x4x1, .f32⟩
  | .hbm, ⟨37, _⟩ => ⟨S2x256x4x1, .f32⟩
  | .hbm, ⟨38, _⟩ => ⟨S2x256x4x512, .f32⟩
  | .hbm, ⟨39, _⟩ => ⟨S2x256x4x512, .f32⟩
  | .hbm, ⟨40, _⟩ => ⟨S1x1x1x512, .f32⟩
  | .hbm, ⟨41, _⟩ => ⟨S2x256x4x512, .f32⟩
  | .hbm, ⟨42, _⟩ => ⟨S2x256x4x512, .f32⟩
  | .hbm, ⟨43, _⟩ => ⟨S512x2048, .f32⟩
  | .hbm, ⟨44, _⟩ => ⟨S512x2048, .f32⟩
  | .hbm, ⟨45, _⟩ => ⟨S512x4096, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Merge.lean ====
abbrev S16384x2048 : Shape := ⟨2, ![16384, 2048]⟩
abbrev S512x2048 : Shape := ⟨2, ![512, 2048]⟩
abbrev S3x2048x2048 : Shape := ⟨3, ![3, 2048, 2048]⟩
abbrev S16896x6144 : Shape := ⟨2, ![16896, 6144]⟩
abbrev S16896x2048 : Shape := ⟨2, ![16896, 2048]⟩
abbrev S3x2048x1024 : Shape := ⟨3, ![3, 2048, 1024]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 9
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S16384x2048, .bf16⟩
  | .hbm, ⟨5, _⟩ => ⟨S512x2048, .bf16⟩
  | .hbm, ⟨6, _⟩ => ⟨S3x2048x2048, .bf16⟩
  | .hbm, ⟨7, _⟩ => ⟨S16896x6144, .f32⟩
  | .hbm, ⟨8, _⟩ => ⟨S16896x2048, .bf16⟩
  | .local _ .vmem, ⟨0, _⟩ => ⟨S3x2048x1024, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c32_i32_0 : BitVec 32 := 32#32
  let v3 : BitVec 1 := Scalar.cmpi .sge arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S3x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x2048 : Shape := ⟨2, ![16384, 2048]⟩
abbrev S512x2048 : Shape := ⟨2, ![512, 2048]⟩
abbrev S3x2048x2048 : Shape := ⟨3, ![3, 2048, 2048]⟩
abbrev S16896x6144 : Shape := ⟨2, ![16896, 6144]⟩
abbrev S16896x2048 : Shape := ⟨2, ![16896, 2048]⟩
abbrev S16896x1x2048 : Shape := ⟨3, ![16896, 1, 2048]⟩
abbrev S16896x3x2048 : Shape := ⟨3, ![16896, 3, 2048]⟩
abbrev S3x2048x16896 : Shape := ⟨3, ![3, 2048, 16896]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x2048, .bf16⟩
  | .hbm, ⟨3, _⟩ => ⟨S512x2048, .bf16⟩
  | .hbm, ⟨4, _⟩ => ⟨S16384x2048, .bf16⟩
  | .hbm, ⟨5, _⟩ => ⟨S512x2048, .bf16⟩
  | .hbm, ⟨6, _⟩ => ⟨S3x2048x2048, .bf16⟩
  | .hbm, ⟨7, _⟩ => ⟨S16896x6144, .f32⟩
  | .hbm, ⟨8, _⟩ => ⟨S16896x2048, .bf16⟩
  | .hbm, ⟨9, _⟩ => ⟨S16896x2048, .f32⟩
  | .hbm, ⟨10, _⟩ => ⟨S16896x2048, .bf16⟩
  | .hbm, ⟨11, _⟩ => ⟨S16896x2048, .f32⟩
  | .hbm, ⟨12, _⟩ => ⟨S16896x2048, .bf16⟩
  | .hbm, ⟨13, _⟩ => ⟨S16896x2048, .f32⟩
  | .hbm, ⟨14, _⟩ => ⟨S16896x1x2048, .f32⟩
  | .hbm, ⟨15, _⟩ => ⟨S16896x1x2048, .f32⟩
  | .hbm, ⟨16, _⟩ => ⟨S16896x1x2048, .f32⟩
  | .hbm, ⟨17, _⟩ => ⟨S16896x3x2048, .f32⟩
  | .hbm, ⟨18, _⟩ => ⟨S3x2048x2048, .f32⟩
  | .hbm, ⟨19, _⟩ => ⟨S3x2048x16896, .f32⟩
  | .hbm, ⟨20, _⟩ => ⟨S16896x3x2048, .f32⟩
  | .hbm, ⟨21, _⟩ => ⟨S16896x3x2048, .f32⟩
  | .hbm, ⟨22, _⟩ => ⟨S16896x3x2048, .f32⟩
  | .hbm, ⟨23, _⟩ => ⟨S_, .f32⟩
  | .hbm, ⟨24, _⟩ => ⟨S16896x2048, .f32⟩
  | .hbm, ⟨25, _⟩ => ⟨S16896x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== MemQ.lean ====
abbrev S16896x2048 : Shape := ⟨2, ![16896, 2048]⟩
abbrev S2048x10768 : Shape := ⟨2, ![2048, 10768]⟩
abbrev S512 : Shape := ⟨1, ![512]⟩
abbrev S10768x2048 : Shape := ⟨2, ![10768, 2048]⟩
abbrev S1x512 : Shape := ⟨2, ![1, 512]⟩
abbrev S1536x2048 : Shape := ⟨2, ![1536, 2048]⟩
abbrev S512x2048 : Shape := ⟨2, ![512, 2048]⟩
abbrev S1536x512 : Shape := ⟨2, ![1536, 512]⟩
abbrev S384x2048 : Shape := ⟨2, ![384, 2048]⟩
abbrev S384x512 : Shape := ⟨2, ![384, 512]⟩
abbrev S384 : Shape := ⟨1, ![384]⟩
abbrev S384x1 : Shape := ⟨2, ![384, 1]⟩

abbrev nBuf : Space → Nat
  | .hbm => 6
  | .vmem => 8
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S512, .f32⟩
  | .hbm, ⟨3, _⟩ => ⟨S10768x2048, .f32⟩
  | .hbm, ⟨4, _⟩ => ⟨S1x512, .f32⟩
  | .hbm, ⟨5, _⟩ => ⟨S16896x2048, .bf16⟩
  | .local _ .vmem, ⟨0, _⟩ => ⟨S1536x2048, .bf16⟩
  | .local _ .vmem, ⟨1, _⟩ => ⟨S1536x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1536x512, .bf16⟩
  | .local _ .vmem, ⟨6, _⟩ => ⟨S1536x512, .bf16⟩
  | .local _ .vmem, ⟨7, _⟩ => ⟨S512x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let c8720_i32 : BitVec 32 := 8720#32
  let arg0 : BitVec 32 := BitVec.ofNat 32 (i 0).val
  let c512_i32 : BitVec 32 := 512#32
  let v0 : BitVec 32 := Scalar.muli arg0 c512_i32
  let v1 : BitVec 32 := Scalar.addi c8720_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8720_i32 : BitVec 32 := 8720#32
  let v1 : BitVec 32 := Scalar.addi c8720_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemQRefIdeal.lean ====
abbrev S16896x2048 : Shape := ⟨2, ![16896, 2048]⟩
abbrev S2048x10768 : Shape := ⟨2, ![2048, 10768]⟩
abbrev S512 : Shape := ⟨1, ![512]⟩
abbrev S16896x10768 : Shape := ⟨2, ![16896, 10768]⟩
abbrev S16896x4x512 : Shape := ⟨3, ![16896, 4, 512]⟩
abbrev S_ : Shape := ⟨0, ![]⟩
abbrev S16896x4 : Shape := ⟨2, ![16896, 4]⟩
abbrev S16896x4x1 : Shape := ⟨3, ![16896, 4, 1]⟩
abbrev S1x1x512 : Shape := ⟨3, ![1, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S512, .f32⟩
  | .hbm, ⟨3, _⟩ => ⟨S16896x2048, .f32⟩
  | .hbm, ⟨4, _⟩ => ⟨S16896x10768, .f32⟩
  | .hbm, ⟨5, _⟩ => ⟨S16896x2048, .f32⟩
  | .hbm, ⟨6, _⟩ => ⟨S16896x4x512, .f32⟩
  | .hbm, ⟨7, _⟩ => ⟨S16896x4x512, .f32⟩
  | .hbm, ⟨8, _⟩ => ⟨S_, .f32⟩
  | .hbm, ⟨9, _⟩ => ⟨S16896x4, .f32⟩
  | .hbm, ⟨10, _⟩ => ⟨S16896x4x1, .f32⟩
  | .hbm, ⟨11, _⟩ => ⟨S_, .f32⟩
  | .hbm, ⟨12, _⟩ => ⟨S16896x4x1, .f32⟩
  | .hbm, ⟨13, _⟩ => ⟨S16896x4x1, .f32⟩
  | .hbm, ⟨14, _⟩ => ⟨S_, .f32⟩
  | .hbm, ⟨15, _⟩ => ⟨S16896x4x1, .f32⟩
  | .hbm, ⟨16, _⟩ => ⟨S16896x4x1, .f32⟩
  | .hbm, ⟨17, _⟩ => ⟨S16896x4x1, .f32⟩
  | .hbm, ⟨18, _⟩ => ⟨S16896x4x512, .f32⟩
  | .hbm, ⟨19, _⟩ => ⟨S16896x4x512, .f32⟩
  | .hbm, ⟨20, _⟩ => ⟨S1x1x512, .f32⟩
  | .hbm, ⟨21, _⟩ => ⟨S16896x4x512, .f32⟩
  | .hbm, ⟨22, _⟩ => ⟨S16896x4x512, .f32⟩
  | .hbm, ⟨23, _⟩ => ⟨S16896x2048, .f32⟩
  | .hbm, ⟨24, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== SwaQ.lean ====
abbrev S16896x2048 : Shape := ⟨2, ![16896, 2048]⟩
abbrev S1x2048x10768 : Shape := ⟨3, ![1, 2048, 10768]⟩
abbrev S1x64 : Shape := ⟨2, ![1, 64]⟩
abbrev S64 : Shape := ⟨1, ![64]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S16896 : Shape := ⟨1, ![16896]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S512x1 : Shape := ⟨2, ![512, 1]⟩
abbrev S1x512 : Shape := ⟨2, ![1, 512]⟩
abbrev S512x512 : Shape := ⟨2, ![512, 512]⟩
abbrev S8x64 : Shape := ⟨2, ![8, 64]⟩
abbrev S2048x10768 : Shape := ⟨2, ![2048, 10768]⟩
abbrev S10768x2048 : Shape := ⟨2, ![10768, 2048]⟩
abbrev S1536x2048 : Shape := ⟨2, ![1536, 2048]⟩
abbrev S512x2048 : Shape := ⟨2, ![512, 2048]⟩
abbrev S1536x128 : Shape := ⟨2, ![1536, 128]⟩
abbrev S1536x512 : Shape := ⟨2, ![1536, 512]⟩
abbrev S384x2048 : Shape := ⟨2, ![384, 2048]⟩
abbrev S384x512 : Shape := ⟨2, ![384, 512]⟩
abbrev S384x128 : Shape := ⟨2, ![384, 128]⟩

abbrev nBuf : Space → Nat
  | .hbm => 89
  | .vmem => 15
  | .smem => 0
  | _ => 0

abbrev bufTy : (tb : Table) → Fin (tcTables nBuf tb) → BufTy
  | .hbm, ⟨0, _⟩ => ⟨S16896x2048, .bf16⟩
  | .hbm, ⟨1, _⟩ => ⟨S1x2048x10768, .f32⟩
  | .hbm, ⟨2, _⟩ => ⟨S1x64, .f32⟩
  | .hbm, ⟨3, _⟩ => ⟨S64, .f32⟩
  | .hbm, ⟨4, _⟩ => ⟨S8192, .i32⟩
  | .hbm, ⟨5, _⟩ => ⟨S1x8192, .i32⟩
  | .hbm, ⟨6, _⟩ => ⟨S2x8192, .i32⟩
  | .hbm, ⟨7, _⟩ => ⟨S16384, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S1x32, .i32⟩
  | .hbm, ⟨13, _⟩ => ⟨S16x32, .i32⟩
  | .hbm, ⟨14, _⟩ => ⟨S512, .i32⟩
  | .hbm, ⟨15, _⟩ => ⟨S16896, .i32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S16896, .f32⟩
  | .hbm, ⟨25, _⟩ => ⟨S16896x1, .f32⟩
  | .hbm, ⟨26, _⟩ => ⟨S1x8, .f32⟩
  | .hbm, ⟨27, _⟩ => ⟨S16896x8, .f32⟩
  | .hbm, ⟨28, _⟩ => ⟨S16896x8, .f32⟩
  | .hbm, ⟨29, _⟩ => ⟨S16896x8, .f32⟩
  | .hbm, ⟨30, _⟩ => ⟨S16896x8, .f32⟩
  | .hbm, ⟨31, _⟩ => ⟨S16896x8, .f32⟩
  | .hbm, ⟨32, _⟩ => ⟨S_, .f32⟩
  | .hbm, ⟨33, _⟩ => ⟨S16896x48, .f32⟩
  | .hbm, ⟨34, _⟩ => ⟨S_, .f32⟩
  | .hbm, ⟨35, _⟩ => ⟨S16896x48, .f32⟩
  | .hbm, ⟨36, _⟩ => ⟨S16896x48, .f32⟩
  | .hbm, ⟨37, _⟩ => ⟨S16896x64, .f32⟩
  | .hbm, ⟨38, _⟩ => ⟨S16896x8, .f32⟩
  | .hbm, ⟨39, _⟩ => ⟨S_, .f32⟩
  | .hbm, ⟨40, _⟩ => ⟨S16896x8, .f32⟩
  | .hbm, ⟨41, _⟩ => ⟨S16896x64, .f32⟩
  | .hbm, ⟨42, _⟩ => ⟨S_, .f32⟩
  | .hbm, ⟨43, _⟩ => ⟨S16896x8, .f32⟩
  | .hbm, ⟨44, _⟩ => ⟨S16896x64, .f32⟩
  | .hbm, ⟨45, _⟩ => ⟨S1x16896x1x64, .f32⟩
  | .hbm, ⟨46, _⟩ => ⟨S1x16896x2x64, .f32⟩
  | .hbm, ⟨47, _⟩ => ⟨S16896x128, .f32⟩
  | .hbm, ⟨48, _⟩ => ⟨S1x16896x1x64, .f32⟩
  | .hbm, ⟨49, _⟩ => ⟨S1x16896x2x64, .f32⟩
  | .hbm, ⟨50, _⟩ => ⟨S16896x128, .f32⟩
  | .hbm, ⟨51, _⟩ => ⟨S1x16896x1x64, .f32⟩
  | .hbm, ⟨52, _⟩ => ⟨S1x16896x2x64, .f32⟩
  | .hbm, ⟨53, _⟩ => ⟨S16896x128, .f32⟩
  | .hbm, ⟨54, _⟩ => ⟨S512, .i32⟩
  | .hbm, ⟨55, _⟩ => ⟨S_, .i32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .i32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S512, .i32⟩
  | .hbm, ⟨64, _⟩ => ⟨S512, .i32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S512, .i1⟩
  | .hbm, ⟨69, _⟩ => ⟨S_, .i32⟩
  | .hbm, ⟨70, _⟩ => ⟨S512, .i32⟩
  | .hbm, ⟨71, _⟩ => ⟨S512, .i32⟩
  | .hbm, ⟨72, _⟩ => ⟨S512, .i32⟩
  | .hbm, ⟨73, _⟩ => ⟨S512x1, .i32⟩
  | .hbm, ⟨74, _⟩ => ⟨S1x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S1x64, .f32⟩
  | .hbm, ⟨83, _⟩ => ⟨S8x64, .f32⟩
  | .hbm, ⟨84, _⟩ => ⟨S512, .f32⟩
  | .hbm, ⟨85, _⟩ => ⟨S1x512, .f32⟩
  | .hbm, ⟨86, _⟩ => ⟨S2048x10768, .f32⟩
  | .hbm, ⟨87, _⟩ => ⟨S10768x2048, .f32⟩
  | .hbm, ⟨88, _⟩ => ⟨S16896x2048, .bf16⟩
  | .local _ .vmem, ⟨0, _⟩ => ⟨S1536x2048, .bf16⟩
  | .local _ .vmem, ⟨1, _⟩ => ⟨S1536x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S512x512, .bf16⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x512, .bf16⟩
  | .local _ .vmem, ⟨13, _⟩ => ⟨S1536x512, .bf16⟩
  | .local _ .vmem, ⟨14, _⟩ => ⟨S512x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_c : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_0 : Ref sig .tc := ⟨.hbm, 69, rfl⟩
abbrev main_call0_v12 : Ref sig .tc := ⟨.hbm, 70, rfl⟩
abbrev main_call0_v13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let c6160_i32 : BitVec 32 := 6160#32
  let arg0 : BitVec 32 := BitVec.ofNat 32 (i 0).val
  let c512_i32 : BitVec 32 := 512#32
  let v0 : BitVec 32 := Scalar.muli arg0 c512_i32
  let v1 : BitVec 32 := Scalar.addi c6160_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6160_i32 : BitVec 32 := 6160#32
  let v1 : BitVec 32 := Scalar.addi c6160_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaQRefIdeal.lean ====
abbrev S16896x2048 : Shape := ⟨2, ![16896, 2048]⟩
abbrev S1x2048x10768 : Shape := ⟨3, ![1, 2048, 10768]⟩
abbrev S1x64 : Shape := ⟨2, ![1, 64]⟩
abbrev S16384x2048 : Shape := ⟨2, ![16384, 2048]⟩
abbrev S2x8192x2048 : Shape := ⟨3, ![2, 8192, 2048]⟩
abbrev S8192 : Shape := ⟨1, ![8192]⟩
abbrev S2048x10768 : Shape := ⟨2, ![2048, 10768]⟩
abbrev S2x8192x10768 : Shape := ⟨3, ![2, 8192, 10768]⟩
abbrev S2x8192x32x64 : Shape := ⟨4, ![2, 8192, 32, 64]⟩
abbrev S64 : Shape := ⟨1, ![64]⟩
abbrev S_ : Shape := ⟨0, ![]⟩
abbrev S2x8192x32 : Shape := ⟨3, ![2, 8192, 32]⟩
abbrev S2x8192x32x1 : Shape := ⟨4, ![2, 8192, 32, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x32x16 : Shape := ⟨4, ![2, 8192, 32, 16]⟩
abbrev S2x8192x32x8 : Shape := ⟨4, ![2, 8192, 32, 8]⟩
abbrev S1x8192x1x8 : Shape := ⟨4, ![1, 8192, 1, 8]⟩
abbrev S2x8192x32x48 : Shape := ⟨4, ![2, 8192, 32, 48]⟩
abbrev S512x2048 : Shape := ⟨2, ![512, 2048]⟩
abbrev S16x32x2048 : Shape := ⟨3, ![16, 32, 2048]⟩
abbrev S32 : Shape := ⟨1, ![32]⟩
abbrev S16x32x10768 : Shape := ⟨3, ![16, 32, 10768]⟩
abbrev S16x32x32x64 : Shape := ⟨4, ![16, 32, 32, 64]⟩
abbrev S16x32x32 : Shape := ⟨3, ![16, 32, 32]⟩
abbrev S16x32x32x1 : Shape := ⟨4, ![16, 32, 32, 1]⟩
abbrev S32x1 : Shape := ⟨2, ![32, 1]⟩
abbrev S32x8 : Shape := ⟨2, ![32, 8]⟩
abbrev S32x1x8 : Shape := ⟨3, ![32, 1, 8]⟩
abbrev S16x32x32x16 : Shape := ⟨4, ![16, 32, 32, 16]⟩
abbrev S16x32x32x8 : Shape := ⟨4, ![16, 32, 32, 8]⟩
abbrev S1x32x1x8 : Shape := ⟨4, ![1, 32, 1, 8]⟩
abbrev S16x32x32x48 : Shape := ⟨4, ![16, 32, 32, 48]⟩

abbrev nBuf : Space → Nat
  | .hbm => 142
  | .vmem => 0
  | .smem => 0
  | _ => 0

abbrev hbmTy0_0 (i : Nat) : BufTy := match i % 128 with
  | 0 => ⟨S16896x2048, .bf16⟩
  | 1 => ⟨S1x2048x10768, .f32⟩
  | 2 => ⟨S1x64, .f32⟩
  | 3 => ⟨S16384x2048, .bf16⟩
  | 4 => ⟨S2x8192x2048, .bf16⟩
  | 5 => ⟨S8192, .i32⟩
  | 6 => ⟨S2x8192x2048, .f32⟩
  | 7 => ⟨S2048x10768, .f32⟩
  | 8 => ⟨S2x8192x10768, .f32⟩
  | 9 => ⟨S2x8192x2048, .f32⟩
  | 10 => ⟨S2x8192x32x64, .f32⟩
  | 11 => ⟨S64, .f32⟩
  | 12 => ⟨S2x8192x32x64, .f32⟩
  | 13 => ⟨S_, .f32⟩
  | 14 => ⟨S2x8192x32, .f32⟩
  | 15 => ⟨S2x8192x32x1, .f32⟩
  | 16 => ⟨S_, .f32⟩
  | 17 => ⟨S2x8192x32x1, .f32⟩
  | 18 => ⟨S2x8192x32x1, .f32⟩
  | 19 => ⟨S_, .f32⟩
  | 20 => ⟨S2x8192x32x1, .f32⟩
  | 21 => ⟨S2x8192x32x1, .f32⟩
  | 22 => ⟨S2x8192x32x1, .f32⟩
  | 23 => ⟨S2x8192x32x64, .f32⟩
  | 24 => ⟨S2x8192x32x64, .f32⟩
  | 25 => ⟨S1x1x1x64, .f32⟩
  | 26 => ⟨S2x8192x32x64, .f32⟩
  | 27 => ⟨S2x8192x32x64, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8192, .f32⟩
  | 37 => ⟨S8192x1, .f32⟩
  | 38 => ⟨S1x8, .f32⟩
  | 39 => ⟨S8192x8, .f32⟩
  | 40 => ⟨S8192x8, .f32⟩
  | 41 => ⟨S8192x8, .f32⟩
  | 42 => ⟨S8192x8, .f32⟩
  | 43 => ⟨S8192x1x8, .f32⟩
  | 44 => ⟨S8192x8, .f32⟩
  | 45 => ⟨S8192x1x8, .f32⟩
  | 46 => ⟨S2x8192x32x16, .f32⟩
  | 47 => ⟨S2x8192x32x8, .f32⟩
  | 48 => ⟨S2x8192x32x8, .f32⟩
  | 49 => ⟨S1x8192x1x8, .f32⟩
  | 50 => ⟨S2x8192x32x8, .f32⟩
  | 51 => ⟨S2x8192x32x8, .f32⟩
  | 52 => ⟨S1x8192x1x8, .f32⟩
  | 53 => ⟨S2x8192x32x8, .f32⟩
  | 54 => ⟨S2x8192x32x8, .f32⟩
  | 55 => ⟨S2x8192x32x8, .f32⟩
  | 56 => ⟨S1x8192x1x8, .f32⟩
  | 57 => ⟨S2x8192x32x8, .f32⟩
  | 58 => ⟨S2x8192x32x8, .f32⟩
  | 59 => ⟨S1x8192x1x8, .f32⟩
  | 60 => ⟨S2x8192x32x8, .f32⟩
  | 61 => ⟨S2x8192x32x8, .f32⟩
  | 62 => ⟨S2x8192x32x8, .f32⟩
  | 63 => ⟨S2x8192x32x16, .f32⟩
  | 64 => ⟨S2x8192x32x48, .f32⟩
  | 65 => ⟨S2x8192x32x64, .f32⟩
  | 66 => ⟨S_, .f32⟩
  | 67 => ⟨S2x8192x32x64, .f32⟩
  | 68 => ⟨S2x8192x32x64, .f32⟩
  | 69 => ⟨S16384x2048, .f32⟩
  | 70 => ⟨S512x2048, .bf16⟩
  | 71 => ⟨S16x32x2048, .bf16⟩
  | 72 => ⟨S32, .i32⟩
  | 73 => ⟨S_, .i32⟩
  | 74 => ⟨S32, .i32⟩
  | 75 => ⟨S32, .i32⟩
  | 76 => ⟨S16x32x2048, .f32⟩
  | 77 => ⟨S2048x10768, .f32⟩
  | 78 => ⟨S16x32x10768, .f32⟩
  | 79 => ⟨S16x32x2048, .f32⟩
  | 80 => ⟨S16x32x32x64, .f32⟩
  | 81 => ⟨S64, .f32⟩
  | 82 => ⟨S16x32x32x64, .f32⟩
  | 83 => ⟨S_, .f32⟩
  | 84 => ⟨S16x32x32, .f32⟩
  | 85 => ⟨S16x32x32x1, .f32⟩
  | 86 => ⟨S_, .f32⟩
  | 87 => ⟨S16x32x32x1, .f32⟩
  | 88 => ⟨S16x32x32x1, .f32⟩
  | 89 => ⟨S_, .f32⟩
  | 90 => ⟨S16x32x32x1, .f32⟩
  | 91 => ⟨S16x32x32x1, .f32⟩
  | 92 => ⟨S16x32x32x1, .f32⟩
  | 93 => ⟨S16x32x32x64, .f32⟩
  | 94 => ⟨S16x32x32x64, .f32⟩
  | 95 => ⟨S1x1x1x64, .f32⟩
  | 96 => ⟨S16x32x32x64, .f32⟩
  | 97 => ⟨S16x32x32x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S32, .f32⟩
  | 107 => ⟨S32x1, .f32⟩
  | 108 => ⟨S1x8, .f32⟩
  | 109 => ⟨S32x8, .f32⟩
  | 110 => ⟨S32x8, .f32⟩
  | 111 => ⟨S32x8, .f32⟩
  | 112 => ⟨S32x8, .f32⟩
  | 113 => ⟨S32x1x8, .f32⟩
  | 114 => ⟨S32x8, .f32⟩
  | 115 => ⟨S32x1x8, .f32⟩
  | 116 => ⟨S16x32x32x16, .f32⟩
  | 117 => ⟨S16x32x32x8, .f32⟩
  | 118 => ⟨S16x32x32x8, .f32⟩
  | 119 => ⟨S1x32x1x8, .f32⟩
  | 120 => ⟨S16x32x32x8, .f32⟩
  | 121 => ⟨S16x32x32x8, .f32⟩
  | 122 => ⟨S1x32x1x8, .f32⟩
  | 123 => ⟨S16x32x32x8, .f32⟩
  | 124 => ⟨S16x32x32x8, .f32⟩
  | 125 => ⟨S16x32x32x8, .f32⟩
  | 126 => ⟨S1x32x1x8, .f32⟩
  | 127 => ⟨S16x32x32x8, .f32⟩
  | _ => ⟨S16896x2048, .bf16⟩

abbrev hbmTy0_1 (i : Nat) : BufTy := match i % 128 with
  | 0 => ⟨S16x32x32x8, .f32⟩
  | 1 => ⟨S1x32x1x8, .f32⟩
  | 2 => ⟨S16x32x32x8, .f32⟩
  | 3 => ⟨S16x32x32x8, .f32⟩
  | 4 => ⟨S16x32x32x8, .f32⟩
  | 5 => ⟨S16x32x32x16, .f32⟩
  | 6 => ⟨S16x32x32x48, .f32⟩
  | 7 => ⟨S16x32x32x64, .f32⟩
  | 8 => ⟨S_, .f32⟩
  | 9 => ⟨S16x32x32x64, .f32⟩
  | 10 => ⟨S16x32x32x64, .f32⟩
  | 11 => ⟨S512x2048, .f32⟩
  | 12 => ⟨S16896x2048, .f32⟩
  | 13 => ⟨S16896x2048, .bf16⟩
  | _ => ⟨S16896x2048, .bf16⟩

abbrev hbmTy (i : Nat) : BufTy := match i / 128 with
  | 0 => hbmTy0_0 i
  | 1 => hbmTy0_1 i
  | _ => ⟨S16896x2048, .bf16⟩

abbrev bufTy : (tb : Table) → Fin (tcTables nBuf tb) → BufTy
  | .hbm, ⟨i, _⟩ => hbmTy i
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_cst_7 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_8 : Ref sig .tc := ⟨.hbm, 100, rfl⟩
abbrev main_v87 : Ref sig .tc := ⟨.hbm, 101, rfl⟩
abbrev main_v88 : Ref sig .tc := ⟨.hbm, 102, rfl⟩
abbrev main_cst_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_10 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩

abbrev nD : Nat := 1
abbrev τ : Topo := Topo.v7x

variable {F : FTy → Type} [FloatOps F]
-- ==== SwaKv.lean ====
abbrev S16896x2048 : Shape := ⟨2, ![16896, 2048]⟩
abbrev S1x16x128x4x64 : Shape := ⟨5, ![1, 16, 128, 4, 64]⟩
abbrev S1x2048x10768 : Shape := ⟨3, ![1, 2048, 10768]⟩
abbrev S1x64 : Shape := ⟨2, ![1, 64]⟩
abbrev S64 : Shape := ⟨1, ![64]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S16896 : Shape := ⟨1, ![16896]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S512x1 : Shape := ⟨2, ![512, 1]⟩
abbrev S1x512 : Shape := ⟨2, ![1, 512]⟩
abbrev S512x512 : Shape := ⟨2, ![512, 512]⟩
abbrev S8x64 : Shape := ⟨2, ![8, 64]⟩
abbrev S2048x10768 : Shape := ⟨2, ![2048, 10768]⟩
abbrev S10768x2048 : Shape := ⟨2, ![10768, 2048]⟩
abbrev S16896x512 : Shape := ⟨2, ![16896, 512]⟩
abbrev S1536x2048 : Shape := ⟨2, ![1536, 2048]⟩
abbrev S512x2048 : Shape := ⟨2, ![512, 2048]⟩
abbrev S1536x128 : Shape := ⟨2, ![1536, 128]⟩
abbrev S1536x512 : Shape := ⟨2, ![1536, 512]⟩
abbrev S384x2048 : Shape := ⟨2, ![384, 2048]⟩
abbrev S384x512 : Shape := ⟨2, ![384, 512]⟩
abbrev S384x128 : Shape := ⟨2, ![384, 128]⟩
abbrev S128x512 : Shape := ⟨2, ![128, 512]⟩
abbrev S1x128x512 : Shape := ⟨3, ![1, 128, 512]⟩
abbrev S2x128x512 : Shape := ⟨3, ![2, 128, 512]⟩
abbrev S2x128x2x4x64 : Shape := ⟨5, ![2, 128, 2, 4, 64]⟩
abbrev S16x32x2x4x64 : Shape := ⟨5, ![16, 32, 2, 4, 64]⟩
abbrev S16x128x4x64 : Shape := ⟨4, ![16, 128, 4, 64]⟩
abbrev S16x32x1x4x64 : Shape := ⟨5, ![16, 32, 1, 4, 64]⟩
abbrev S16x32x4x64 : Shape := ⟨4, ![16, 32, 4, 64]⟩
abbrev S16x160x4x64 : Shape := ⟨4, ![16, 160, 4, 64]⟩
abbrev S2x128x1x4x64 : Shape := ⟨5, ![2, 128, 1, 4, 64]⟩
abbrev S2x128x4x64 : Shape := ⟨4, ![2, 128, 4, 64]⟩
abbrev S1x2x128x4x64 : Shape := ⟨5, ![1, 2, 128, 4, 64]⟩

abbrev nBuf : Space → Nat
  | .hbm => 114
  | .vmem => 14
  | .smem => 0
  | _ => 0

abbrev bufTy : (tb : Table) → Fin (tcTables nBuf tb) → BufTy
  | .hbm, ⟨0, _⟩ => ⟨S16896x2048, .bf16⟩
  | .hbm, ⟨1, _⟩ => ⟨S1x16x128x4x64, .f32⟩
  | .hbm, ⟨2, _⟩ => ⟨S1x16x128x4x64, .f32⟩
  | .hbm, ⟨3, _⟩ => ⟨S1x2048x10768, .f32⟩
  | .hbm, ⟨4, _⟩ => ⟨S1x64, .f32⟩
  | .hbm, ⟨5, _⟩ => ⟨S64, .f32⟩
  | .hbm, ⟨6, _⟩ => ⟨S8192, .i32⟩
  | .hbm, ⟨7, _⟩ => ⟨S1x8192, .i32⟩
  | .hbm, ⟨8, _⟩ => ⟨S2x8192, .i32⟩
  | .hbm, ⟨9, _⟩ => ⟨S16384, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S1x32, .i32⟩
  | .hbm, ⟨15, _⟩ => ⟨S16x32, .i32⟩
  | .hbm, ⟨16, _⟩ => ⟨S512, .i32⟩
  | .hbm, ⟨17, _⟩ => ⟨S16896, .i32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S16896, .f32⟩
  | .hbm, ⟨27, _⟩ => ⟨S16896x1, .f32⟩
  | .hbm, ⟨28, _⟩ => ⟨S1x8, .f32⟩
  | .hbm, ⟨29, _⟩ => ⟨S16896x8, .f32⟩
  | .hbm, ⟨30, _⟩ => ⟨S16896x8, .f32⟩
  | .hbm, ⟨31, _⟩ => ⟨S16896x8, .f32⟩
  | .hbm, ⟨32, _⟩ => ⟨S16896x8, .f32⟩
  | .hbm, ⟨33, _⟩ => ⟨S16896x8, .f32⟩
  | .hbm, ⟨34, _⟩ => ⟨S_, .f32⟩
  | .hbm, ⟨35, _⟩ => ⟨S16896x48, .f32⟩
  | .hbm, ⟨36, _⟩ => ⟨S_, .f32⟩
  | .hbm, ⟨37, _⟩ => ⟨S16896x48, .f32⟩
  | .hbm, ⟨38, _⟩ => ⟨S16896x48, .f32⟩
  | .hbm, ⟨39, _⟩ => ⟨S16896x64, .f32⟩
  | .hbm, ⟨40, _⟩ => ⟨S16896x8, .f32⟩
  | .hbm, ⟨41, _⟩ => ⟨S_, .f32⟩
  | .hbm, ⟨42, _⟩ => ⟨S16896x8, .f32⟩
  | .hbm, ⟨43, _⟩ => ⟨S16896x64, .f32⟩
  | .hbm, ⟨44, _⟩ => ⟨S_, .f32⟩
  | .hbm, ⟨45, _⟩ => ⟨S16896x8, .f32⟩
  | .hbm, ⟨46, _⟩ => ⟨S16896x64, .f32⟩
  | .hbm, ⟨47, _⟩ => ⟨S1x16896x1x64, .f32⟩
  | .hbm, ⟨48, _⟩ => ⟨S1x16896x2x64, .f32⟩
  | .hbm, ⟨49, _⟩ => ⟨S16896x128, .f32⟩
  | .hbm, ⟨50, _⟩ => ⟨S1x16896x1x64, .f32⟩
  | .hbm, ⟨51, _⟩ => ⟨S1x16896x2x64, .f32⟩
  | .hbm, ⟨52, _⟩ => ⟨S16896x128, .f32⟩
  | .hbm, ⟨53, _⟩ => ⟨S1x16896x1x64, .f32⟩
  | .hbm, ⟨54, _⟩ => ⟨S1x16896x2x64, .f32⟩
  | .hbm, ⟨55, _⟩ => ⟨S16896x128, .f32⟩
  | .hbm, ⟨56, _⟩ => ⟨S512, .i32⟩
  | .hbm, ⟨57, _⟩ => ⟨S_, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S_, .i32⟩
  | .hbm, ⟨63, _⟩ => ⟨S512, .i32⟩
  | .hbm, ⟨64, _⟩ => ⟨S512, .i1⟩
  | .hbm, ⟨65, _⟩ => ⟨S512, .i32⟩
  | .hbm, ⟨66, _⟩ => ⟨S512, .i32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S1x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S512x512, .bf16⟩
  | .hbm, ⟨81, _⟩ => ⟨S1x64, .f32⟩
  | .hbm, ⟨82, _⟩ => ⟨S8x64, .f32⟩
  | .hbm, ⟨83, _⟩ => ⟨S512, .f32⟩
  | .hbm, ⟨84, _⟩ => ⟨S1x512, .f32⟩
  | .hbm, ⟨85, _⟩ => ⟨S2048x10768, .f32⟩
  | .hbm, ⟨86, _⟩ => ⟨S10768x2048, .f32⟩
  | .hbm, ⟨87, _⟩ => ⟨S16896x512, .f32⟩
  | .hbm, ⟨88, _⟩ => ⟨S128x512, .f32⟩
  | .hbm, ⟨89, _⟩ => ⟨S128x512, .f32⟩
  | .hbm, ⟨90, _⟩ => ⟨S1x128x512, .f32⟩
  | .hbm, ⟨91, _⟩ => ⟨S1x128x512, .f32⟩
  | .hbm, ⟨92, _⟩ => ⟨S2x128x512, .f32⟩
  | .hbm, ⟨93, _⟩ => ⟨S2x128x2x4x64, .f32⟩
  | .hbm, ⟨94, _⟩ => ⟨S512x512, .f32⟩
  | .hbm, ⟨95, _⟩ => ⟨S16x32x2x4x64, .f32⟩
  | .hbm, ⟨96, _⟩ => ⟨S16x128x4x64, .f32⟩
  | .hbm, ⟨97, _⟩ => ⟨S16x32x1x4x64, .f32⟩
  | .hbm, ⟨98, _⟩ => ⟨S16x32x4x64, .f32⟩
  | .hbm, ⟨99, _⟩ => ⟨S16x160x4x64, .f32⟩
  | .hbm, ⟨100, _⟩ => ⟨S16x128x4x64, .f32⟩
  | .hbm, ⟨101, _⟩ => ⟨S16x128x4x64, .f32⟩
  | .hbm, ⟨102, _⟩ => ⟨S16x32x1x4x64, .f32⟩
  | .hbm, ⟨103, _⟩ => ⟨S16x32x4x64, .f32⟩
  | .hbm, ⟨104, _⟩ => ⟨S16x160x4x64, .f32⟩
  | .hbm, ⟨105, _⟩ => ⟨S16x128x4x64, .f32⟩
  | .hbm, ⟨106, _⟩ => ⟨S2x128x1x4x64, .f32⟩
  | .hbm, ⟨107, _⟩ => ⟨S2x128x4x64, .f32⟩
  | .hbm, ⟨108, _⟩ => ⟨S1x2x128x4x64, .f32⟩
  | .hbm, ⟨109, _⟩ => ⟨S2x128x1x4x64, .f32⟩
  | .hbm, ⟨110, _⟩ => ⟨S2x128x4x64, .f32⟩
  | .hbm, ⟨111, _⟩ => ⟨S1x2x128x4x64, .f32⟩
  | .hbm, ⟨112, _⟩ => ⟨S1x16x128x4x64, .f32⟩
  | .hbm, ⟨113, _⟩ => ⟨S1x16x128x4x64, .f32⟩
  | .local _ .vmem, ⟨0, _⟩ => ⟨S1536x2048, .bf16⟩
  | .local _ .vmem, ⟨1, _⟩ => ⟨S1536x2048, .bf16⟩
  | .local _ .vmem, ⟨2, _⟩ => ⟨S512x2048, .f32⟩
  | .local _ .vmem, ⟨3, _⟩ => ⟨S1x512, .f32⟩
  | .local _ .vmem, ⟨4, _⟩ => ⟨S512x512, .bf16⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x512, .f32⟩
  | .local _ .vmem, ⟨12, _⟩ => ⟨S1536x512, .f32⟩
  | .local _ .vmem, ⟨13, _⟩ => ⟨S512x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 11], ![false, false]⟩

def k0_mult1 (i : grid0.Coords) : BitVec 32 :=
  let c8208_i32 : BitVec 32 := 8208#32
  let arg0 : BitVec 32 := BitVec.ofNat 32 (i 0).val
  let c512_i32 : BitVec 32 := 512#32
  let v0 : BitVec 32 := Scalar.muli arg0 c512_i32
  let v1 : BitVec 32 := Scalar.addi c8208_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8208_i32 : BitVec 32 := 8208#32
  let v1 : BitVec 32 := Scalar.addi c8208_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaKvRefIdeal.lean ====
abbrev S16896x2048 : Shape := ⟨2, ![16896, 2048]⟩
abbrev S1x16x128x4x64 : Shape := ⟨5, ![1, 16, 128, 4, 64]⟩
abbrev S1x2048x10768 : Shape := ⟨3, ![1, 2048, 10768]⟩
abbrev S1x64 : Shape := ⟨2, ![1, 64]⟩
abbrev S16384x2048 : Shape := ⟨2, ![16384, 2048]⟩
abbrev S2x8192x2048 : Shape := ⟨3, ![2, 8192, 2048]⟩
abbrev S8192 : Shape := ⟨1, ![8192]⟩
abbrev S2048x10768 : Shape := ⟨2, ![2048, 10768]⟩
abbrev S2x8192x10768 : Shape := ⟨3, ![2, 8192, 10768]⟩
abbrev S2x8192x512 : Shape := ⟨3, ![2, 8192, 512]⟩
abbrev S2x8192x256 : Shape := ⟨3, ![2, 8192, 256]⟩
abbrev S2x8192x4x64 : Shape := ⟨4, ![2, 8192, 4, 64]⟩
abbrev S64 : Shape := ⟨1, ![64]⟩
abbrev S_ : Shape := ⟨0, ![]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x4x16 : Shape := ⟨4, ![2, 8192, 4, 16]⟩
abbrev S2x8192x4x8 : Shape := ⟨4, ![2, 8192, 4, 8]⟩
abbrev S1x8192x1x8 : Shape := ⟨4, ![1, 8192, 1, 8]⟩
abbrev S2x8192x4x48 : Shape := ⟨4, ![2, 8192, 4, 48]⟩
abbrev S512x2048 : Shape := ⟨2, ![512, 2048]⟩
abbrev S16x32x2048 : Shape := ⟨3, ![16, 32, 2048]⟩
abbrev S32 : Shape := ⟨1, ![32]⟩
abbrev S16x32x10768 : Shape := ⟨3, ![16, 32, 10768]⟩
abbrev S16x32x512 : Shape := ⟨3, ![16, 32, 512]⟩
abbrev S16x32x256 : Shape := ⟨3, ![16, 32, 256]⟩
abbrev S16x32x4x64 : Shape := ⟨4, ![16, 32, 4, 64]⟩
abbrev S16x32x4 : Shape := ⟨3, ![16, 32, 4]⟩
abbrev S16x32x4x1 : Shape := ⟨4, ![16, 32, 4, 1]⟩
abbrev S32x1 : Shape := ⟨2, ![32, 1]⟩
abbrev S32x8 : Shape := ⟨2, ![32, 8]⟩
abbrev S32x1x8 : Shape := ⟨3, ![32, 1, 8]⟩
abbrev S16x32x4x16 : Shape := ⟨4, ![16, 32, 4, 16]⟩
abbrev S16x32x4x8 : Shape := ⟨4, ![16, 32, 4, 8]⟩
abbrev S1x32x1x8 : Shape := ⟨4, ![1, 32, 1, 8]⟩
abbrev S16x32x4x48 : Shape := ⟨4, ![16, 32, 4, 48]⟩
abbrev S16x128x4x64 : Shape := ⟨4, ![16, 128, 4, 64]⟩
abbrev S16x160x4x64 : Shape := ⟨4, ![16, 160, 4, 64]⟩
abbrev S2x128x4x64 : Shape := ⟨4, ![2, 128, 4, 64]⟩
abbrev S1x2x128x4x64 : Shape := ⟨5, ![1, 2, 128, 4, 64]⟩

abbrev nBuf : Space → Nat
  | .hbm => 152
  | .vmem => 0
  | .smem => 0
  | _ => 0

abbrev hbmTy0_0 (i : Nat) : BufTy := match i % 128 with
  | 0 => ⟨S16896x2048, .bf16⟩
  | 1 => ⟨S1x16x128x4x64, .f32⟩
  | 2 => ⟨S1x16x128x4x64, .f32⟩
  | 3 => ⟨S1x2048x10768, .f32⟩
  | 4 => ⟨S1x64, .f32⟩
  | 5 => ⟨S16384x2048, .bf16⟩
  | 6 => ⟨S2x8192x2048, .bf16⟩
  | 7 => ⟨S8192, .i32⟩
  | 8 => ⟨S2x8192x2048, .f32⟩
  | 9 => ⟨S2048x10768, .f32⟩
  | 10 => ⟨S2x8192x10768, .f32⟩
  | 11 => ⟨S2x8192x512, .f32⟩
  | 12 => ⟨S2x8192x256, .f32⟩
  | 13 => ⟨S2x8192x256, .f32⟩
  | 14 => ⟨S2x8192x4x64, .f32⟩
  | 15 => ⟨S64, .f32⟩
  | 16 => ⟨S2x8192x4x64, .f32⟩
  | 17 => ⟨S_, .f32⟩
  | 18 => ⟨S2x8192x4, .f32⟩
  | 19 => ⟨S2x8192x4x1, .f32⟩
  | 20 => ⟨S_, .f32⟩
  | 21 => ⟨S2x8192x4x1, .f32⟩
  | 22 => ⟨S2x8192x4x1, .f32⟩
  | 23 => ⟨S_, .f32⟩
  | 24 => ⟨S2x8192x4x1, .f32⟩
  | 25 => ⟨S2x8192x4x1, .f32⟩
  | 26 => ⟨S2x8192x4x1, .f32⟩
  | 27 => ⟨S2x8192x4x64, .f32⟩
  | 28 => ⟨S2x8192x4x64, .f32⟩
  | 29 => ⟨S1x1x1x64, .f32⟩
  | 30 => ⟨S2x8192x4x64, .f32⟩
  | 31 => ⟨S2x8192x4x64, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8192, .f32⟩
  | 41 => ⟨S8192x1, .f32⟩
  | 42 => ⟨S1x8, .f32⟩
  | 43 => ⟨S8192x8, .f32⟩
  | 44 => ⟨S8192x8, .f32⟩
  | 45 => ⟨S8192x8, .f32⟩
  | 46 => ⟨S8192x8, .f32⟩
  | 47 => ⟨S8192x1x8, .f32⟩
  | 48 => ⟨S8192x8, .f32⟩
  | 49 => ⟨S8192x1x8, .f32⟩
  | 50 => ⟨S2x8192x4x16, .f32⟩
  | 51 => ⟨S2x8192x4x8, .f32⟩
  | 52 => ⟨S2x8192x4x8, .f32⟩
  | 53 => ⟨S1x8192x1x8, .f32⟩
  | 54 => ⟨S2x8192x4x8, .f32⟩
  | 55 => ⟨S2x8192x4x8, .f32⟩
  | 56 => ⟨S1x8192x1x8, .f32⟩
  | 57 => ⟨S2x8192x4x8, .f32⟩
  | 58 => ⟨S2x8192x4x8, .f32⟩
  | 59 => ⟨S2x8192x4x8, .f32⟩
  | 60 => ⟨S1x8192x1x8, .f32⟩
  | 61 => ⟨S2x8192x4x8, .f32⟩
  | 62 => ⟨S2x8192x4x8, .f32⟩
  | 63 => ⟨S1x8192x1x8, .f32⟩
  | 64 => ⟨S2x8192x4x8, .f32⟩
  | 65 => ⟨S2x8192x4x8, .f32⟩
  | 66 => ⟨S2x8192x4x8, .f32⟩
  | 67 => ⟨S2x8192x4x16, .f32⟩
  | 68 => ⟨S2x8192x4x48, .f32⟩
  | 69 => ⟨S2x8192x4x64, .f32⟩
  | 70 => ⟨S2x8192x4x64, .f32⟩
  | 71 => ⟨S512x2048, .bf16⟩
  | 72 => ⟨S16x32x2048, .bf16⟩
  | 73 => ⟨S32, .i32⟩
  | 74 => ⟨S_, .i32⟩
  | 75 => ⟨S32, .i32⟩
  | 76 => ⟨S32, .i32⟩
  | 77 => ⟨S16x32x2048, .f32⟩
  | 78 => ⟨S2048x10768, .f32⟩
  | 79 => ⟨S16x32x10768, .f32⟩
  | 80 => ⟨S16x32x512, .f32⟩
  | 81 => ⟨S16x32x256, .f32⟩
  | 82 => ⟨S16x32x256, .f32⟩
  | 83 => ⟨S16x32x4x64, .f32⟩
  | 84 => ⟨S64, .f32⟩
  | 85 => ⟨S16x32x4x64, .f32⟩
  | 86 => ⟨S_, .f32⟩
  | 87 => ⟨S16x32x4, .f32⟩
  | 88 => ⟨S16x32x4x1, .f32⟩
  | 89 => ⟨S_, .f32⟩
  | 90 => ⟨S16x32x4x1, .f32⟩
  | 91 => ⟨S16x32x4x1, .f32⟩
  | 92 => ⟨S_, .f32⟩
  | 93 => ⟨S16x32x4x1, .f32⟩
  | 94 => ⟨S16x32x4x1, .f32⟩
  | 95 => ⟨S16x32x4x1, .f32⟩
  | 96 => ⟨S16x32x4x64, .f32⟩
  | 97 => ⟨S16x32x4x64, .f32⟩
  | 98 => ⟨S1x1x1x64, .f32⟩
  | 99 => ⟨S16x32x4x64, .f32⟩
  | 100 => ⟨S16x32x4x64, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S32, .f32⟩
  | 110 => ⟨S32x1, .f32⟩
  | 111 => ⟨S1x8, .f32⟩
  | 112 => ⟨S32x8, .f32⟩
  | 113 => ⟨S32x8, .f32⟩
  | 114 => ⟨S32x8, .f32⟩
  | 115 => ⟨S32x8, .f32⟩
  | 116 => ⟨S32x1x8, .f32⟩
  | 117 => ⟨S32x8, .f32⟩
  | 118 => ⟨S32x1x8, .f32⟩
  | 119 => ⟨S16x32x4x16, .f32⟩
  | 120 => ⟨S16x32x4x8, .f32⟩
  | 121 => ⟨S16x32x4x8, .f32⟩
  | 122 => ⟨S1x32x1x8, .f32⟩
  | 123 => ⟨S16x32x4x8, .f32⟩
  | 124 => ⟨S16x32x4x8, .f32⟩
  | 125 => ⟨S1x32x1x8, .f32⟩
  | 126 => ⟨S16x32x4x8, .f32⟩
  | 127 => ⟨S16x32x4x8, .f32⟩
  | _ => ⟨S16896x2048, .bf16⟩

abbrev hbmTy0_1 (i : Nat) : BufTy := match i % 128 with
  | 0 => ⟨S16x32x4x8, .f32⟩
  | 1 => ⟨S1x32x1x8, .f32⟩
  | 2 => ⟨S16x32x4x8, .f32⟩
  | 3 => ⟨S16x32x4x8, .f32⟩
  | 4 => ⟨S1x32x1x8, .f32⟩
  | 5 => ⟨S16x32x4x8, .f32⟩
  | 6 => ⟨S16x32x4x8, .f32⟩
  | 7 => ⟨S16x32x4x8, .f32⟩
  | 8 => ⟨S16x32x4x16, .f32⟩
  | 9 => ⟨S16x32x4x48, .f32⟩
  | 10 => ⟨S16x32x4x64, .f32⟩
  | 11 => ⟨S16x32x4x64, .f32⟩
  | 12 => ⟨S16x128x4x64, .f32⟩
  | 13 => ⟨S16x160x4x64, .f32⟩
  | 14 => ⟨S16x128x4x64, .f32⟩
  | 15 => ⟨S16x128x4x64, .f32⟩
  | 16 => ⟨S16x160x4x64, .f32⟩
  | 17 => ⟨S16x128x4x64, .f32⟩
  | 18 => ⟨S2x128x4x64, .f32⟩
  | 19 => ⟨S1x2x128x4x64, .f32⟩
  | 20 => ⟨S2x128x4x64, .f32⟩
  | 21 => ⟨S1x2x128x4x64, .f32⟩
  | 22 => ⟨S1x16x128x4x64, .f32⟩
  | 23 => ⟨S1x16x128x4x64, .f32⟩
  | _ => ⟨S16896x2048, .bf16⟩

abbrev hbmTy (i : Nat) : BufTy := match i / 128 with
  | 0 => hbmTy0_0 i
  | 1 => hbmTy0_1 i
  | _ => ⟨S16896x2048, .bf16⟩

abbrev bufTy : (tb : Table) → Fin (tcTables nBuf tb) → BufTy
  | .hbm, ⟨i, _⟩ => hbmTy i
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_c : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_cst_5 : Ref sig .tc := ⟨.hbm, 89, rfl⟩
abbrev main_v77 : Ref sig .tc := ⟨.hbm, 90, rfl⟩
abbrev main_v78 : Ref sig .tc := ⟨.hbm, 91, rfl⟩
abbrev main_cst_6 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_7 : Ref sig .tc := ⟨.hbm, 103, rfl⟩
abbrev main_v89 : Ref sig .tc := ⟨.hbm, 104, rfl⟩
abbrev main_v90 : Ref sig .tc := ⟨.hbm, 105, rfl⟩
abbrev main_cst_8 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩

abbrev nD : Nat := 1
abbrev τ : Topo := Topo.v7x

variable {F : FTy → Type} [FloatOps F]
-- ==== GlaS.lean ====
abbrev S16896x6144 : Shape := ⟨2, ![16896, 6144]⟩
abbrev S16896x128 : Shape := ⟨2, ![16896, 128]⟩
abbrev S1x16x1024 : Shape := ⟨3, ![1, 16, 1024]⟩
abbrev S1x1024 : Shape := ⟨2, ![1, 1024]⟩
abbrev S1x512 : Shape := ⟨2, ![1, 512]⟩
abbrev S1x16x4x256x512 : Shape := ⟨5, ![1, 16, 4, 256, 512]⟩
abbrev S16x1024 : Shape := ⟨2, ![16, 1024]⟩
abbrev S_ : Shape := ⟨0, ![]⟩
abbrev S128x1024 : Shape := ⟨2, ![128, 1024]⟩
abbrev S1024 : Shape := ⟨1, ![1024]⟩
abbrev S512 : Shape := ⟨1, ![512]⟩
abbrev S16x4x256x512 : Shape := ⟨4, ![16, 4, 256, 512]⟩
abbrev S512x2048 : Shape := ⟨2, ![512, 2048]⟩
abbrev S32x1024 : Shape := ⟨2, ![32, 1024]⟩
abbrev S32x2048 : Shape := ⟨2, ![32, 2048]⟩
abbrev S32x128 : Shape := ⟨2, ![32, 128]⟩
abbrev S1x4x256x512 : Shape := ⟨4, ![1, 4, 256, 512]⟩
abbrev S4x256x512 : Shape := ⟨3, ![4, 256, 512]⟩
abbrev S1x4x256x128 : Shape := ⟨4, ![1, 4, 256, 128]⟩
abbrev S32x32 : Shape := ⟨2, ![32, 32]⟩
abbrev S1x256 : Shape := ⟨2, ![1, 256]⟩
abbrev S128x256 : Shape := ⟨2, ![128, 256]⟩
abbrev S256x128 : Shape := ⟨2, ![256, 128]⟩
abbrev S1x1x256x128 : Shape := ⟨4, ![1, 1, 256, 128]⟩
abbrev S32x256 : Shape := ⟨2, ![32, 256]⟩
abbrev S32x512 : Shape := ⟨2, ![32, 512]⟩
abbrev S1x256x512 : Shape := ⟨3, ![1, 256, 512]⟩
abbrev S256x512 : Shape := ⟨2, ![256, 512]⟩
abbrev S32 : Shape := ⟨1, ![32]⟩
abbrev S32x1 : Shape := ⟨2, ![32, 1]⟩

abbrev nBuf : Space → Nat
  | .hbm => 18
  | .vmem => 24
  | .smem => 0
  | _ => 0

abbrev bufTy : (tb : Table) → Fin (tcTables nBuf tb) → BufTy
  | .hbm, ⟨0, _⟩ => ⟨S16896x6144, .f32⟩
  | .hbm, ⟨1, _⟩ => ⟨S16896x128, .f32⟩
  | .hbm, ⟨2, _⟩ => ⟨S1x16x1024, .f32⟩
  | .hbm, ⟨3, _⟩ => ⟨S1x1024, .f32⟩
  | .hbm, ⟨4, _⟩ => ⟨S1x512, .f32⟩
  | .hbm, ⟨5, _⟩ => ⟨S1x16x4x256x512, .f32⟩
  | .hbm, ⟨6, _⟩ => ⟨S16x1024, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S128x1024, .bf16⟩
  | .hbm, ⟨11, _⟩ => ⟨S1024, .f32⟩
  | .hbm, ⟨12, _⟩ => ⟨S1x1024, .f32⟩
  | .hbm, ⟨13, _⟩ => ⟨S512, .f32⟩
  | .hbm, ⟨14, _⟩ => ⟨S1x512, .f32⟩
  | .hbm, ⟨15, _⟩ => ⟨S16x4x256x512, .f32⟩
  | .hbm, ⟨16, _⟩ => ⟨S512x2048, .bf16⟩
  | .hbm, ⟨17, _⟩ => ⟨S16x4x256x512, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x128, .f32⟩
  | .local _ .vmem, ⟨9, _⟩ => ⟨S32x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S1x4x256x512, .f32⟩
  | .local _ .vmem, ⟨14, _⟩ => ⟨S1x4x256x512, .f32⟩
  | .local _ .vmem, ⟨15, _⟩ => ⟨S32x2048, .bf16⟩
  | .local _ .vmem, ⟨16, _⟩ => ⟨S32x2048, .bf16⟩
  | .local _ .vmem, ⟨17, _⟩ => ⟨S1x4x256x512, .f32⟩
  | .local _ .vmem, ⟨18, _⟩ => ⟨S1x4x256x512, .f32⟩
  | .local _ .vmem, ⟨19, _⟩ => ⟨S4x256x512, .f32⟩
  | .local _ .vmem, ⟨20, _⟩ => ⟨S32x1024, .bf16⟩
  | .local _ .vmem, ⟨21, _⟩ => ⟨S32x1024, .bf16⟩
  | .local _ .vmem, ⟨22, _⟩ => ⟨S32x2048, .f32⟩
  | .local _ .vmem, ⟨23, _⟩ => ⟨S1x4x256x128, .f32⟩
  | _, _ => ⟨S16896x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def k0_mult1 : BitVec 32 :=
  let c0_i32_61 : BitVec 32 := 0#32
  let c32_i32 : BitVec 32 := 32#32
  let v154 : BitVec 32 := Scalar.muli c0_i32_61 c32_i32
  v154
def k0_off1 : Fin 2 → Nat :=
  let c0_i32_61 : BitVec 32 := 0#32
  let c32_i32 : BitVec 32 := 32#32
  let v154 : BitVec 32 := Scalar.muli c0_i32_61 c32_i32
  let v155 : BitVec 32 := v154
  let v158 : Index := Scalar.indexCast v155
  let c0_65 : Index := 0#32
  ![v158.toNat, 0]
def k0_off2 : Fin 2 → Nat :=
  let c0_i32_61 : BitVec 32 := 0#32
  let c32_i32 : BitVec 32 := 32#32
  let v154 : BitVec 32 := Scalar.muli c0_i32_61 c32_i32
  let v155 : BitVec 32 := v154
  let v160 : Index := Scalar.indexCast v155
  let c0_66 : Index := 0#32
  ![v160.toNat, 0]
def k0_off3 : Fin 2 → Nat :=
  let c0_i32_61 : BitVec 32 := 0#32
  let c32_i32 : BitVec 32 := 32#32
  let v154 : BitVec 32 := Scalar.muli c0_i32_61 c32_i32
  let v155 : BitVec 32 := v154
  let v186 : Index := Scalar.indexCast v155
  let c512_81 : Index := 512#32
  ![v186.toNat, 512]
def k0_off4 : Fin 2 → Nat :=
  let c0_i32_61 : BitVec 32 := 0#32
  let c32_i32 : BitVec 32 := 32#32
  let v154 : BitVec 32 := Scalar.muli c0_i32_61 c32_i32
  let v155 : BitVec 32 := v154
  let v188 : Index := Scalar.indexCast v155
  let c256 : Index := 256#32
  ![v188.toNat, 256]
def k0_off5 : Fin 2 → Nat :=
  let c0_i32_61 : BitVec 32 := 0#32
  let c32_i32 : BitVec 32 := 32#32
  let v154 : BitVec 32 := Scalar.muli c0_i32_61 c32_i32
  let v155 : BitVec 32 := v154
  let v214 : Index := Scalar.indexCast v155
  let c1024_96 : Index := 1024#32
  ![v214.toNat, 1024]
def k0_off6 : Fin 2 → Nat :=
  let c0_i32_61 : BitVec 32 := 0#32
  let c32_i32 : BitVec 32 := 32#32
  let v154 : BitVec 32 := Scalar.muli c0_i32_61 c32_i32
  let v155 : BitVec 32 := v154
  let v216 : Index := Scalar.indexCast v155
  let c512_97 : Index := 512#32
  ![v216.toNat, 512]
def k0_off7 : Fin 2 → Nat :=
  let c0_i32_61 : BitVec 32 := 0#32
  let c32_i32 : BitVec 32 := 32#32
  let v154 : BitVec 32 := Scalar.muli c0_i32_61 c32_i32
  let v155 : BitVec 32 := v154
  let v242 : Index := Scalar.indexCast v155
  let c1536_112 : Index := 1536#32
  ![v242.toNat, 1536]
def k0_off8 : Fin 2 → Nat :=
  let c0_i32_61 : BitVec 32 := 0#32
  let c32_i32 : BitVec 32 := 32#32
  let v154 : BitVec 32 := Scalar.muli c0_i32_61 c32_i32
  let v155 : BitVec 32 := v154
  let v244 : Index := Scalar.indexCast v155
  let c768 : Index := 768#32
  ![v244.toNat, 768]
def k0_cond2 (i : grid0.Coords) : BitVec 1 :=
  let arg1 : BitVec 32 := BitVec.ofNat 32 (i 1).val
  let c0_i32_180 : BitVec 32 := 0#32
  let v376 : BitVec 1 := Scalar.cmpi .eq arg1 c0_i32_180
  let v377 : BitVec 32 := Scalar.extui v376
  let c0_i32_181 : BitVec 32 := 0#32
  let v378 : BitVec 1 := Scalar.cmpi .ne v377 c0_i32_181
  v378

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaSRefIdeal.lean ====
abbrev S16896x6144 : Shape := ⟨2, ![16896, 6144]⟩
abbrev S16896x128 : Shape := ⟨2, ![16896, 128]⟩
abbrev S1x16x1024 : Shape := ⟨3, ![1, 16, 1024]⟩
abbrev S1x1024 : Shape := ⟨2, ![1, 1024]⟩
abbrev S1x512 : Shape := ⟨2, ![1, 512]⟩
abbrev S1x16x4x256x512 : Shape := ⟨5, ![1, 16, 4, 256, 512]⟩
abbrev S16x4x256x512 : Shape := ⟨4, ![16, 4, 256, 512]⟩
abbrev S512x1024 : Shape := ⟨2, ![512, 1024]⟩
abbrev S16x32x4x256 : Shape := ⟨4, ![16, 32, 4, 256]⟩
abbrev S_ : Shape := ⟨0, ![]⟩
abbrev S512x2048 : Shape := ⟨2, ![512, 2048]⟩
abbrev S16x32x4x512 : Shape := ⟨4, ![16, 32, 4, 512]⟩
abbrev S512x16 : Shape := ⟨2, ![512, 16]⟩
abbrev S16x1024 : Shape := ⟨2, ![16, 1024]⟩
abbrev S1024 : Shape := ⟨1, ![1024]⟩
abbrev S16x1x32x4x256 : Shape := ⟨5, ![16, 1, 32, 4, 256]⟩
abbrev S1x16x4x32x256 : Shape := ⟨5, ![1, 16, 4, 32, 256]⟩
abbrev S16x1x32x4x512 : Shape := ⟨5, ![16, 1, 32, 4, 512]⟩
abbrev S1x16x4x32x512 : Shape := ⟨5, ![1, 16, 4, 32, 512]⟩
abbrev S16x4x32x256 : Shape := ⟨4, ![16, 4, 32, 256]⟩
abbrev S16x4x32x512 : Shape := ⟨4, ![16, 4, 32, 512]⟩
abbrev S32x32 : Shape := ⟨2, ![32, 32]⟩
abbrev S16x4x1x256 : Shape := ⟨4, ![16, 4, 1, 256]⟩
abbrev S16x4x32x32 : Shape := ⟨4, ![16, 4, 32, 32]⟩
abbrev S16x4x256 : Shape := ⟨3, ![16, 4, 256]⟩
abbrev S16x4x256x1 : Shape := ⟨4, ![16, 4, 256, 1]⟩
abbrev S512 : Shape := ⟨1, ![512]⟩
abbrev S16x32x4 : Shape := ⟨3, ![16, 32, 4]⟩
abbrev S16x32x4x1 : Shape := ⟨4, ![16, 32, 4, 1]⟩
abbrev S1x1x1x512 : Shape := ⟨4, ![1, 1, 1, 512]⟩

abbrev nBuf : Space → Nat
  | .hbm => 129
  | .vmem => 0
  | .smem => 0
  | _ => 0

abbrev hbmTy0_0 (i : Nat) : BufTy := match i % 128 with
  | 0 => ⟨S16896x6144, .f32⟩
  | 1 => ⟨S16896x128, .f32⟩
  | 2 => ⟨S1x16x1024, .f32⟩
  | 3 => ⟨S1x1024, .f32⟩
  | 4 => ⟨S1x512, .f32⟩
  | 5 => ⟨S1x16x4x256x512, .f32⟩
  | 6 => ⟨S16x4x256x512, .f32⟩
  | 7 => ⟨S512x1024, .f32⟩
  | 8 => ⟨S16x32x4x256, .f32⟩
  | 9 => ⟨S_, .f32⟩
  | 10 => ⟨S16x32x4x256, .f32⟩
  | 11 => ⟨S16x32x4x256, .f32⟩
  | 12 => ⟨S512x1024, .f32⟩
  | 13 => ⟨S16x32x4x256, .f32⟩
  | 14 => ⟨S512x2048, .f32⟩
  | 15 => ⟨S16x32x4x512, .f32⟩
  | 16 => ⟨S512x16, .f32⟩
  | 17 => ⟨S16x1024, .f32⟩
  | 18 => ⟨S512x1024, .f32⟩
  | 19 => ⟨S1024, .f32⟩
  | 20 => ⟨S1x1024, .f32⟩
  | 21 => ⟨S512x1024, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S512x1024, .f32⟩
  | 28 => ⟨S512x1024, .f32⟩
  | 29 => ⟨S512x1024, .i1⟩
  | 30 => ⟨S512x1024, .f32⟩
  | 31 => ⟨S512x1024, .f32⟩
  | 32 => ⟨S512x1024, .f32⟩
  | 33 => ⟨S512x1024, .f32⟩
  | 34 => ⟨S512x1024, .f32⟩
  | 35 => ⟨S512x1024, .f32⟩
  | 36 => ⟨S512x1024, .f32⟩
  | 37 => ⟨S512x1024, .f32⟩
  | 38 => ⟨S512x1024, .f32⟩
  | 39 => ⟨S_, .f32⟩
  | 40 => ⟨S512x1024, .f32⟩
  | 41 => ⟨S512x1024, .f32⟩
  | 42 => ⟨S16x32x4x256, .f32⟩
  | 43 => ⟨S16x1x32x4x256, .f32⟩
  | 44 => ⟨S1x16x4x32x256, .f32⟩
  | 45 => ⟨S16x1x32x4x256, .f32⟩
  | 46 => ⟨S1x16x4x32x256, .f32⟩
  | 47 => ⟨S16x1x32x4x512, .f32⟩
  | 48 => ⟨S1x16x4x32x512, .f32⟩
  | 49 => ⟨S16x1x32x4x256, .f32⟩
  | 50 => ⟨S1x16x4x32x256, .f32⟩
  | 51 => ⟨S16x4x32x256, .f32⟩
  | 52 => ⟨S16x4x32x256, .f32⟩
  | 53 => ⟨S16x4x32x512, .f32⟩
  | 54 => ⟨S16x4x32x256, .f32⟩
  | 55 => ⟨S_, .i1⟩
  | 56 => ⟨S32x32, .i1⟩
  | 57 => ⟨S32x32, .i32⟩
  | 58 => ⟨S_, .i32⟩
  | 59 => ⟨S32x32, .i32⟩
  | 60 => ⟨S32x32, .i32⟩
  | 61 => ⟨S32x32, .i32⟩
  | 62 => ⟨S32x32, .i1⟩
  | 63 => ⟨S_, .i1⟩
  | 64 => ⟨S32x32, .i1⟩
  | 65 => ⟨S32x32, .i1⟩
  | 66 => ⟨S_, .f32⟩
  | 67 => ⟨S_, .f32⟩
  | 68 => ⟨S16x4x32x256, .f32⟩
  | 69 => ⟨S16x4x1x256, .f32⟩
  | 70 => ⟨S16x4x32x256, .f32⟩
  | 71 => ⟨S16x4x32x256, .f32⟩
  | 72 => ⟨S16x4x32x256, .f32⟩
  | 73 => ⟨S16x4x32x256, .f32⟩
  | 74 => ⟨S16x4x32x256, .f32⟩
  | 75 => ⟨S16x4x32x256, .f32⟩
  | 76 => ⟨S16x4x32x256, .f32⟩
  | 77 => ⟨S16x4x32x256, .f32⟩
  | 78 => ⟨S16x4x32x256, .f32⟩
  | 79 => ⟨S16x4x32x32, .f32⟩
  | 80 => ⟨S_, .f32⟩
  | 81 => ⟨S_, .f32⟩
  | 82 => ⟨S16x4x32x32, .i1⟩
  | 83 => ⟨S16x4x32x32, .f32⟩
  | 84 => ⟨S16x4x32x32, .f32⟩
  | 85 => ⟨S16x4x32x512, .f32⟩
  | 86 => ⟨S16x4x32x512, .f32⟩
  | 87 => ⟨S16x4x32x512, .f32⟩
  | 88 => ⟨S16x4x1x256, .f32⟩
  | 89 => ⟨S16x4x256, .f32⟩
  | 90 => ⟨S16x4x256x1, .f32⟩
  | 91 => ⟨S16x4x256x512, .f32⟩
  | 92 => ⟨S16x4x256x512, .f32⟩
  | 93 => ⟨S16x4x256x512, .f32⟩
  | 94 => ⟨S16x4x256x512, .f32⟩
  | 95 => ⟨S1x16x4x32x512, .f32⟩
  | 96 => ⟨S16x1x32x4x512, .f32⟩
  | 97 => ⟨S16x32x4x512, .f32⟩
  | 98 => ⟨S512x2048, .f32⟩
  | 99 => ⟨S16x32x4x512, .f32⟩
  | 100 => ⟨S512, .f32⟩
  | 101 => ⟨S16x32x4x512, .f32⟩
  | 102 => ⟨S_, .f32⟩
  | 103 => ⟨S16x32x4, .f32⟩
  | 104 => ⟨S16x32x4x1, .f32⟩
  | 105 => ⟨S_, .f32⟩
  | 106 => ⟨S16x32x4x1, .f32⟩
  | 107 => ⟨S16x32x4x1, .f32⟩
  | 108 => ⟨S_, .f32⟩
  | 109 => ⟨S16x32x4x1, .f32⟩
  | 110 => ⟨S16x32x4x1, .f32⟩
  | 111 => ⟨S16x32x4x1, .f32⟩
  | 112 => ⟨S16x32x4x512, .f32⟩
  | 113 => ⟨S16x32x4x512, .f32⟩
  | 114 => ⟨S1x1x1x512, .f32⟩
  | 115 => ⟨S16x32x4x512, .f32⟩
  | 116 => ⟨S16x32x4x512, .f32⟩
  | 117 => ⟨S16x32x4x512, .f32⟩
  | 118 => ⟨S16x32x4x512, .f32⟩
  | 119 => ⟨S_, .f32⟩
  | 120 => ⟨S16x32x4x512, .f32⟩
  | 121 => ⟨S16x32x4x512, .f32⟩
  | 122 => ⟨S_, .f32⟩
  | 123 => ⟨S16x32x4x512, .f32⟩
  | 124 => ⟨S16x32x4x512, .f32⟩
  | 125 => ⟨S16x32x4x512, .f32⟩
  | 126 => ⟨S16x32x4x512, .f32⟩
  | 127 => ⟨S512x2048, .f32⟩
  | _ => ⟨S16896x6144, .f32⟩

abbrev hbmTy0_1 (i : Nat) : BufTy := match i % 128 with
  | 0 => ⟨S512x2048, .bf16⟩
  | _ => ⟨S16896x6144, .f32⟩

abbrev hbmTy (i : Nat) : BufTy := match i / 128 with
  | 0 => hbmTy0_0 i
  | 1 => hbmTy0_1 i
  | _ => ⟨S16896x6144, .f32⟩

abbrev bufTy : (tb : Table) → Fin (tcTables nBuf tb) → BufTy
  | .hbm, ⟨i, _⟩ => hbmTy i
  | _, _ => ⟨S16896x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_0 : Ref sig .tc := ⟨.hbm, 63, rfl⟩
abbrev main_call1_v5 : Ref sig .tc := ⟨.hbm, 64, rfl⟩
abbrev main_v33 : Ref sig .tc := ⟨.hbm, 65, rfl⟩
abbrev main_call2_call0_cst : Ref sig .tc := ⟨.hbm, 66, rfl⟩
abbrev main_call2_call0_v0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_1 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_2 : Ref sig .tc := ⟨.hbm, 102, rfl⟩
abbrev main_v64 : Ref sig .tc := ⟨.hbm, 103, rfl⟩
abbrev main_v65 : Ref sig .tc := ⟨.hbm, 104, rfl⟩
abbrev main_cst_3 : Ref sig .tc := ⟨.hbm, 105, rfl⟩
abbrev main_v66 : Ref sig .tc := ⟨.hbm, 106, rfl⟩
abbrev main_v67 : Ref sig .tc := ⟨.hbm, 107, rfl⟩
abbrev main_cst_4 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩

abbrev nD : Nat := 1
abbrev τ : Topo := Topo.v7x

variable {F : FTy → Type} [FloatOps F]
-- ==== OutProj.lean ====
abbrev S16896x2048 : Shape := ⟨2, ![16896, 2048]⟩
abbrev S2x8192x2048 : Shape := ⟨3, ![2, 8192, 2048]⟩
abbrev S16x32x2048 : Shape := ⟨3, ![16, 32, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x2048 : Shape := ⟨2, ![2048, 2048]⟩
abbrev S2048x8 : Shape := ⟨2, ![2048, 8]⟩
abbrev S2048x64 : Shape := ⟨2, ![2048, 64]⟩
abbrev S2048x72 : Shape := ⟨2, ![2048, 72]⟩
abbrev S_ : Shape := ⟨0, ![]⟩
abbrev S2048x128 : Shape := ⟨2, ![2048, 128]⟩
abbrev S8 : Shape := ⟨1, ![8]⟩
abbrev S64 : Shape := ⟨1, ![64]⟩
abbrev S72 : Shape := ⟨1, ![72]⟩
abbrev S128 : Shape := ⟨1, ![128]⟩
abbrev S1x128 : Shape := ⟨2, ![1, 128]⟩
abbrev S16384x2048 : Shape := ⟨2, ![16384, 2048]⟩
abbrev S512x2048 : Shape := ⟨2, ![512, 2048]⟩
abbrev S2048 : Shape := ⟨1, ![2048]⟩
abbrev S135168x128 : Shape := ⟨2, ![135168, 128]⟩
abbrev S16896x128 : Shape := ⟨2, ![16896, 128]⟩
abbrev S4096x128 : Shape := ⟨2, ![4096, 128]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩

abbrev nBuf : Space → Nat
  | .hbm => 33
  | .vmem => 18
  | .smem => 0
  | _ => 0

abbrev bufTy : (tb : Table) → Fin (tcTables nBuf tb) → BufTy
  | .hbm, ⟨0, _⟩ => ⟨S16896x2048, .bf16⟩
  | .hbm, ⟨1, _⟩ => ⟨S2x8192x2048, .f32⟩
  | .hbm, ⟨2, _⟩ => ⟨S16x32x2048, .f32⟩
  | .hbm, ⟨3, _⟩ => ⟨S1x2048x2048, .f32⟩
  | .hbm, ⟨4, _⟩ => ⟨S1x2048, .f32⟩
  | .hbm, ⟨5, _⟩ => ⟨S1x2048x8, .f32⟩
  | .hbm, ⟨6, _⟩ => ⟨S1x8, .f32⟩
  | .hbm, ⟨7, _⟩ => ⟨S1x2048x64, .f32⟩
  | .hbm, ⟨8, _⟩ => ⟨S1x64, .f32⟩
  | .hbm, ⟨9, _⟩ => ⟨S2048x2048, .f32⟩
  | .hbm, ⟨10, _⟩ => ⟨S2048x2048, .bf16⟩
  | .hbm, ⟨11, _⟩ => ⟨S2048x8, .f32⟩
  | .hbm, ⟨12, _⟩ => ⟨S2048x64, .f32⟩
  | .hbm, ⟨13, _⟩ => ⟨S2048x72, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S8, .f32⟩
  | .hbm, ⟨19, _⟩ => ⟨S64, .f32⟩
  | .hbm, ⟨20, _⟩ => ⟨S72, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S16384x2048, .f32⟩
  | .hbm, ⟨26, _⟩ => ⟨S512x2048, .f32⟩
  | .hbm, ⟨27, _⟩ => ⟨S2048, .f32⟩
  | .hbm, ⟨28, _⟩ => ⟨S1x2048, .f32⟩
  | .hbm, ⟨29, _⟩ => ⟨S16896x2048, .f32⟩
  | .hbm, ⟨30, _⟩ => ⟨S135168x128, .i32⟩
  | .hbm, ⟨31, _⟩ => ⟨S16896x128, .i32⟩
  | .hbm, ⟨32, _⟩ => ⟨S16896x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S4096x128, .i32⟩
  | .local _ .vmem, ⟨13, _⟩ => ⟨S4096x128, .i32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjIdeal.lean ====
abbrev S16896x2048 : Shape := ⟨2, ![16896, 2048]⟩
abbrev S2x8192x2048 : Shape := ⟨3, ![2, 8192, 2048]⟩
abbrev S16x32x2048 : Shape := ⟨3, ![16, 32, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x2048 : Shape := ⟨2, ![2048, 2048]⟩
abbrev S2048x8 : Shape := ⟨2, ![2048, 8]⟩
abbrev S2048x64 : Shape := ⟨2, ![2048, 64]⟩
abbrev S2048x72 : Shape := ⟨2, ![2048, 72]⟩
abbrev S_ : Shape := ⟨0, ![]⟩
abbrev S2048x128 : Shape := ⟨2, ![2048, 128]⟩
abbrev S8 : Shape := ⟨1, ![8]⟩
abbrev S64 : Shape := ⟨1, ![64]⟩
abbrev S72 : Shape := ⟨1, ![72]⟩
abbrev S128 : Shape := ⟨1, ![128]⟩
abbrev S1x128 : Shape := ⟨2, ![1, 128]⟩
abbrev S16384x2048 : Shape := ⟨2, ![16384, 2048]⟩
abbrev S512x2048 : Shape := ⟨2, ![512, 2048]⟩
abbrev S2048 : Shape := ⟨1, ![2048]⟩
abbrev S135168x2x128 : Shape := ⟨3, ![135168, 2, 128]⟩
abbrev S16896x128 : Shape := ⟨2, ![16896, 128]⟩
abbrev S135168x1x128 : Shape := ⟨3, ![135168, 1, 128]⟩
abbrev S135168x128 : Shape := ⟨2, ![135168, 128]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S256x2x128 : Shape := ⟨3, ![256, 2, 128]⟩
abbrev S256x1x128 : Shape := ⟨3, ![256, 1, 128]⟩

abbrev nBuf : Space → Nat
  | .hbm => 33
  | .vmem => 18
  | .smem => 0
  | _ => 0

abbrev bufTy : (tb : Table) → Fin (tcTables nBuf tb) → BufTy
  | .hbm, ⟨0, _⟩ => ⟨S16896x2048, .bf16⟩
  | .hbm, ⟨1, _⟩ => ⟨S2x8192x2048, .f32⟩
  | .hbm, ⟨2, _⟩ => ⟨S16x32x2048, .f32⟩
  | .hbm, ⟨3, _⟩ => ⟨S1x2048x2048, .f32⟩
  | .hbm, ⟨4, _⟩ => ⟨S1x2048, .f32⟩
  | .hbm, ⟨5, _⟩ => ⟨S1x2048x8, .f32⟩
  | .hbm, ⟨6, _⟩ => ⟨S1x8, .f32⟩
  | .hbm, ⟨7, _⟩ => ⟨S1x2048x64, .f32⟩
  | .hbm, ⟨8, _⟩ => ⟨S1x64, .f32⟩
  | .hbm, ⟨9, _⟩ => ⟨S2048x2048, .f32⟩
  | .hbm, ⟨10, _⟩ => ⟨S2048x2048, .bf16⟩
  | .hbm, ⟨11, _⟩ => ⟨S2048x8, .f32⟩
  | .hbm, ⟨12, _⟩ => ⟨S2048x64, .f32⟩
  | .hbm, ⟨13, _⟩ => ⟨S2048x72, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S8, .f32⟩
  | .hbm, ⟨19, _⟩ => ⟨S64, .f32⟩
  | .hbm, ⟨20, _⟩ => ⟨S72, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S16384x2048, .f32⟩
  | .hbm, ⟨26, _⟩ => ⟨S512x2048, .f32⟩
  | .hbm, ⟨27, _⟩ => ⟨S2048, .f32⟩
  | .hbm, ⟨28, _⟩ => ⟨S1x2048, .f32⟩
  | .hbm, ⟨29, _⟩ => ⟨S16896x2048, .f32⟩
  | .hbm, ⟨30, _⟩ => ⟨S135168x2x128, .bf16⟩
  | .hbm, ⟨31, _⟩ => ⟨S16896x128, .i32⟩
  | .hbm, ⟨32, _⟩ => ⟨S16896x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S4096x2x128, .bf16⟩
  | .local _ .vmem, ⟨13, _⟩ => ⟨S4096x2x128, .bf16⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S16896x2048 : Shape := ⟨2, ![16896, 2048]⟩
abbrev S2x8192x2048 : Shape := ⟨3, ![2, 8192, 2048]⟩
abbrev S16x32x2048 : Shape := ⟨3, ![16, 32, 2048]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S16384x2048 : Shape := ⟨2, ![16384, 2048]⟩
abbrev S512x2048 : Shape := ⟨2, ![512, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x8192x2048, .f32⟩
  | .hbm, ⟨2, _⟩ => ⟨S16x32x2048, .f32⟩
  | .hbm, ⟨3, _⟩ => ⟨S1x2048x2048, .f32⟩
  | .hbm, ⟨4, _⟩ => ⟨S1x2048, .f32⟩
  | .hbm, ⟨5, _⟩ => ⟨S1x2048x8, .f32⟩
  | .hbm, ⟨6, _⟩ => ⟨S1x8, .f32⟩
  | .hbm, ⟨7, _⟩ => ⟨S1x2048x64, .f32⟩
  | .hbm, ⟨8, _⟩ => ⟨S1x64, .f32⟩
  | .hbm, ⟨9, _⟩ => ⟨S16384x2048, .f32⟩
  | .hbm, ⟨10, _⟩ => ⟨S512x2048, .f32⟩
  | .hbm, ⟨11, _⟩ => ⟨S16896x2048, .f32⟩
  | .hbm, ⟨12, _⟩ => ⟨S16896x2048, .f32⟩
  | .hbm, ⟨13, _⟩ => ⟨S2048x2048, .f32⟩
  | .hbm, ⟨14, _⟩ => ⟨S16896x2048, .f32⟩
  | .hbm, ⟨15, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Combine.lean ====
abbrev S16896x2048 : Shape := ⟨2, ![16896, 2048]⟩
abbrev S548864x128 : Shape := ⟨2, ![548864, 128]⟩
abbrev S16896x128 : Shape := ⟨2, ![16896, 128]⟩
abbrev S16384x2048 : Shape := ⟨2, ![16384, 2048]⟩
abbrev S512x2048 : Shape := ⟨2, ![512, 2048]⟩
abbrev S8192x128 : Shape := ⟨2, ![8192, 128]⟩
abbrev S512x128 : Shape := ⟨2, ![512, 128]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S16896x2048, .f32⟩
  | .hbm, ⟨1, _⟩ => ⟨S548864x128, .f32⟩
  | .hbm, ⟨2, _⟩ => ⟨S16896x128, .f32⟩
  | .hbm, ⟨3, _⟩ => ⟨S16384x2048, .f32⟩
  | .hbm, ⟨4, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c32_i32_1 : BitVec 32 := 32#32
  let v6 : BitVec 1 := Scalar.cmpi .sge arg0 c32_i32_1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S16896x2048 : Shape := ⟨2, ![16896, 2048]⟩
abbrev S548864x128 : Shape := ⟨2, ![548864, 128]⟩
abbrev S16896x128 : Shape := ⟨2, ![16896, 128]⟩
abbrev S34304x2048 : Shape := ⟨2, ![34304, 2048]⟩
abbrev S33792x2048 : Shape := ⟨2, ![33792, 2048]⟩
abbrev S2x16896x2048 : Shape := ⟨3, ![2, 16896, 2048]⟩
abbrev S16896x2 : Shape := ⟨2, ![16896, 2]⟩
abbrev S2x16896 : Shape := ⟨2, ![2, 16896]⟩
abbrev S2x16896x1 : Shape := ⟨3, ![2, 16896, 1]⟩
abbrev S_ : Shape := ⟨0, ![]⟩
abbrev S16384x2048 : Shape := ⟨2, ![16384, 2048]⟩
abbrev S512x2048 : Shape := ⟨2, ![512, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S548864x128, .f32⟩
  | .hbm, ⟨2, _⟩ => ⟨S16896x128, .f32⟩
  | .hbm, ⟨3, _⟩ => ⟨S34304x2048, .f32⟩
  | .hbm, ⟨4, _⟩ => ⟨S33792x2048, .f32⟩
  | .hbm, ⟨5, _⟩ => ⟨S2x16896x2048, .f32⟩
  | .hbm, ⟨6, _⟩ => ⟨S16896x2, .f32⟩
  | .hbm, ⟨7, _⟩ => ⟨S2x16896, .f32⟩
  | .hbm, ⟨8, _⟩ => ⟨S2x16896x1, .f32⟩
  | .hbm, ⟨9, _⟩ => ⟨S2x16896x2048, .f32⟩
  | .hbm, ⟨10, _⟩ => ⟨S2x16896x2048, .f32⟩
  | .hbm, ⟨11, _⟩ => ⟨S_, .f32⟩
  | .hbm, ⟨12, _⟩ => ⟨S16896x2048, .f32⟩
  | .hbm, ⟨13, _⟩ => ⟨S16896x2048, .f32⟩
  | .hbm, ⟨14, _⟩ => ⟨S16384x2048, .f32⟩
  | .hbm, ⟨15, _⟩ => ⟨S512x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== NormMix.lean ====
abbrev S2x8192x2048 : Shape := ⟨3, ![2, 8192, 2048]⟩
abbrev S16x32x2048 : Shape := ⟨3, ![16, 32, 2048]⟩
abbrev S1x2048 : Shape := ⟨2, ![1, 2048]⟩
abbrev S16384x2048 : Shape := ⟨2, ![16384, 2048]⟩
abbrev S512x2048 : Shape := ⟨2, ![512, 2048]⟩
abbrev S2048 : Shape := ⟨1, ![2048]⟩
abbrev S16896x2048 : Shape := ⟨2, ![16896, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S16x32x2048, .f32⟩
  | .hbm, ⟨2, _⟩ => ⟨S1x2048, .f32⟩
  | .hbm, ⟨3, _⟩ => ⟨S16384x2048, .f32⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S16896x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMixRefIdeal.lean ====
abbrev S2x8192x2048 : Shape := ⟨3, ![2, 8192, 2048]⟩
abbrev S16x32x2048 : Shape := ⟨3, ![16, 32, 2048]⟩
abbrev S1x2048 : Shape := ⟨2, ![1, 2048]⟩
abbrev S16384x2048 : Shape := ⟨2, ![16384, 2048]⟩
abbrev S512x2048 : Shape := ⟨2, ![512, 2048]⟩
abbrev S16896x2048 : Shape := ⟨2, ![16896, 2048]⟩
abbrev S2048 : Shape := ⟨1, ![2048]⟩
abbrev S_ : Shape := ⟨0, ![]⟩
abbrev S16896 : Shape := ⟨1, ![16896]⟩
abbrev S16896x1 : Shape := ⟨2, ![16896, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16x32x2048, .f32⟩
  | .hbm, ⟨2, _⟩ => ⟨S1x2048, .f32⟩
  | .hbm, ⟨3, _⟩ => ⟨S16384x2048, .f32⟩
  | .hbm, ⟨4, _⟩ => ⟨S512x2048, .f32⟩
  | .hbm, ⟨5, _⟩ => ⟨S16896x2048, .f32⟩
  | .hbm, ⟨6, _⟩ => ⟨S2048, .f32⟩
  | .hbm, ⟨7, _⟩ => ⟨S16896x2048, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x2048, .f32⟩
  | .hbm, ⟨19, _⟩ => ⟨S16896x2048, .f32⟩
  | .hbm, ⟨20, _⟩ => ⟨S1x2048, .f32⟩
  | .hbm, ⟨21, _⟩ => ⟨S16896x2048, .f32⟩
  | .hbm, ⟨22, _⟩ => ⟨S16896x2048, .f32⟩
  | .hbm, ⟨23, _⟩ => ⟨S16896x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== LowRank.lean ====
abbrev S16896x2048 : Shape := ⟨2, ![16896, 2048]⟩
abbrev S2048x10768 : Shape := ⟨2, ![2048, 10768]⟩
abbrev S10768x2048 : Shape := ⟨2, ![10768, 2048]⟩
abbrev S16896x128 : Shape := ⟨2, ![16896, 128]⟩
abbrev S1536x2048 : Shape := ⟨2, ![1536, 2048]⟩
abbrev S128x2048 : Shape := ⟨2, ![128, 2048]⟩
abbrev S1536x128 : Shape := ⟨2, ![1536, 128]⟩

abbrev nBuf : Space → Nat
  | .hbm => 4
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S10768x2048, .f32⟩
  | .hbm, ⟨3, _⟩ => ⟨S16896x128, .f32⟩
  | .local _ .vmem, ⟨0, _⟩ => ⟨S1536x2048, .bf16⟩
  | .local _ .vmem, ⟨1, _⟩ => ⟨S1536x2048, .bf16⟩
  | .local _ .vmem, ⟨2, _⟩ => ⟨S128x2048, .f32⟩
  | .local _ .vmem, ⟨3, _⟩ => ⟨S1536x128, .f32⟩
  | .local _ .vmem, ⟨4, _⟩ => ⟨S1536x128, .f32⟩
  | .local _ .vmem, ⟨5, _⟩ => ⟨S128x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def k0_mult1 (i : grid0.Coords) : BitVec 32 :=
  let c6144_i32 : BitVec 32 := 6144#32
  let arg0 : BitVec 32 := BitVec.ofNat 32 (i 0).val
  let c128_i32 : BitVec 32 := 128#32
  let v0 : BitVec 32 := Scalar.muli arg0 c128_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c6144_i32 : BitVec 32 := 6144#32
  let v1 : BitVec 32 := Scalar.addi c6144_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LowRankRefIdeal.lean ====
abbrev S16896x2048 : Shape := ⟨2, ![16896, 2048]⟩
abbrev S2048x10768 : Shape := ⟨2, ![2048, 10768]⟩
abbrev S16896x10768 : Shape := ⟨2, ![16896, 10768]⟩
abbrev S16896x16 : Shape := ⟨2, ![16896, 16]⟩
abbrev S_ : Shape := ⟨0, ![]⟩
abbrev S16896x128 : Shape := ⟨2, ![16896, 128]⟩

abbrev nBuf : Space → Nat
  | .hbm => 8
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x10768, .f32⟩
  | .hbm, ⟨2, _⟩ => ⟨S16896x2048, .f32⟩
  | .hbm, ⟨3, _⟩ => ⟨S16896x10768, .f32⟩
  | .hbm, ⟨4, _⟩ => ⟨S16896x16, .f32⟩
  | .hbm, ⟨5, _⟩ => ⟨S_, .i32⟩
  | .hbm, ⟨6, _⟩ => ⟨S_, .f32⟩
  | .hbm, ⟨7, _⟩ => ⟨S16896x128, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SwaS.lean ====
abbrev S1x32 : Shape := ⟨2, ![1, 32]⟩
abbrev S16896x2048 : Shape := ⟨2, ![16896, 2048]⟩
abbrev S1x16x128x4x64 : Shape := ⟨5, ![1, 16, 128, 4, 64]⟩
abbrev S16896x512 : Shape := ⟨2, ![16896, 512]⟩
abbrev S16x128x4x64 : Shape := ⟨4, ![16, 128, 4, 64]⟩
abbrev S2048x256 : Shape := ⟨2, ![2048, 256]⟩
abbrev S32 : Shape := ⟨1, ![32]⟩
abbrev S512x2048 : Shape := ⟨2, ![512, 2048]⟩
abbrev S32x2048 : Shape := ⟨2, ![32, 2048]⟩
abbrev S128x256 : Shape := ⟨2, ![128, 256]⟩
abbrev S32x256 : Shape := ⟨2, ![32, 256]⟩
abbrev S32x160 : Shape := ⟨2, ![32, 160]⟩
abbrev S160x256 : Shape := ⟨2, ![160, 256]⟩
abbrev S160x128 : Shape := ⟨2, ![160, 128]⟩
abbrev S32x128 : Shape := ⟨2, ![32, 128]⟩
abbrev S1 : Shape := ⟨1, ![1]⟩
abbrev S32x1 : Shape := ⟨2, ![32, 1]⟩

abbrev nBuf : Space → Nat
  | .hbm => 11
  | .vmem => 13
  | .smem => 1
  | _ => 0

abbrev bufTy : (tb : Table) → Fin (tcTables nBuf tb) → BufTy
  | .hbm, ⟨0, _⟩ => ⟨S1x32, .f32⟩
  | .hbm, ⟨1, _⟩ => ⟨S16896x2048, .bf16⟩
  | .hbm, ⟨2, _⟩ => ⟨S1x16x128x4x64, .f32⟩
  | .hbm, ⟨3, _⟩ => ⟨S1x16x128x4x64, .f32⟩
  | .hbm, ⟨4, _⟩ => ⟨S16896x512, .f32⟩
  | .hbm, ⟨5, _⟩ => ⟨S16x128x4x64, .f32⟩
  | .hbm, ⟨6, _⟩ => ⟨S2048x256, .f32⟩
  | .hbm, ⟨7, _⟩ => ⟨S16x128x4x64, .f32⟩
  | .hbm, ⟨8, _⟩ => ⟨S2048x256, .f32⟩
  | .hbm, ⟨9, _⟩ => ⟨S32, .f32⟩
  | .hbm, ⟨10, _⟩ => ⟨S512x2048, .bf16⟩
  | .local _ .vmem, ⟨0, _⟩ => ⟨S32x2048, .bf16⟩
  | .local _ .vmem, ⟨1, _⟩ => ⟨S32x2048, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x2048, .bf16⟩
  | .local _ .vmem, ⟨11, _⟩ => ⟨S32x2048, .bf16⟩
  | .local _ .vmem, ⟨12, _⟩ => ⟨S32x160, .f32⟩
  | .local _ .smem, ⟨0, _⟩ => ⟨S32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaP.lean ====
abbrev S1x32 : Shape := ⟨2, ![1, 32]⟩
abbrev S16896x2048 : Shape := ⟨2, ![16896, 2048]⟩
abbrev S16896x512 : Shape := ⟨2, ![16896, 512]⟩
abbrev S32 : Shape := ⟨1, ![32]⟩
abbrev S16384x2048 : Shape := ⟨2, ![16384, 2048]⟩
abbrev S128x2048 : Shape := ⟨2, ![128, 2048]⟩
abbrev S128x256 : Shape := ⟨2, ![128, 256]⟩
abbrev S256x256 : Shape := ⟨2, ![256, 256]⟩
abbrev S256x128 : Shape := ⟨2, ![256, 128]⟩
abbrev S128x128 : Shape := ⟨2, ![128, 128]⟩
abbrev S1 : Shape := ⟨1, ![1]⟩
abbrev S128 : Shape := ⟨1, ![128]⟩
abbrev S128x1 : Shape := ⟨2, ![128, 1]⟩

abbrev nBuf : Space → Nat
  | .hbm => 5
  | .vmem => 13
  | .smem => 1
  | _ => 0

abbrev bufTy : (tb : Table) → Fin (tcTables nBuf tb) → BufTy
  | .hbm, ⟨0, _⟩ => ⟨S1x32, .f32⟩
  | .hbm, ⟨1, _⟩ => ⟨S16896x2048, .bf16⟩
  | .hbm, ⟨2, _⟩ => ⟨S16896x512, .f32⟩
  | .hbm, ⟨3, _⟩ => ⟨S32, .f32⟩
  | .hbm, ⟨4, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x2048, .bf16⟩
  | .local _ .vmem, ⟨11, _⟩ => ⟨S128x2048, .bf16⟩
  | .local _ .vmem, ⟨12, _⟩ => ⟨S128x256, .f32⟩
  | .local _ .smem, ⟨0, _⟩ => ⟨S32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c1_i32_1 : BitVec 32 := 1#32
  let c0_i32_2 : BitVec 32 := 0#32
  ![v4.toNat, c1_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GlaP.lean ====
abbrev S16896x6144 : Shape := ⟨2, ![16896, 6144]⟩
abbrev S16896x128 : Shape := ⟨2, ![16896, 128]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S_ : Shape := ⟨0, ![]⟩
abbrev S128x1024 : Shape := ⟨2, ![128, 1024]⟩
abbrev S1024 : Shape := ⟨1, ![1024]⟩
abbrev S512 : Shape := ⟨1, ![512]⟩
abbrev S16384x2048 : Shape := ⟨2, ![16384, 2048]⟩
abbrev S2x4x256x512 : Shape := ⟨4, ![2, 4, 256, 512]⟩
abbrev S256x1024 : Shape := ⟨2, ![256, 1024]⟩
abbrev S256x2048 : Shape := ⟨2, ![256, 2048]⟩
abbrev S256x128 : Shape := ⟨2, ![256, 128]⟩
abbrev S1x4x256x512 : Shape := ⟨4, ![1, 4, 256, 512]⟩
abbrev S4x256x512 : Shape := ⟨3, ![4, 256, 512]⟩
abbrev S4x4x256x128 : Shape := ⟨4, ![4, 4, 256, 128]⟩
abbrev S64x64 : Shape := ⟨2, ![64, 64]⟩
abbrev S64x1024 : Shape := ⟨2, ![64, 1024]⟩
abbrev S1x256 : Shape := ⟨2, ![1, 256]⟩
abbrev S128x256 : Shape := ⟨2, ![128, 256]⟩
abbrev S1x1x256x128 : Shape := ⟨4, ![1, 1, 256, 128]⟩
abbrev S256x256 : Shape := ⟨2, ![256, 256]⟩
abbrev S256x512 : Shape := ⟨2, ![256, 512]⟩
abbrev S1x256x512 : Shape := ⟨3, ![1, 256, 512]⟩
abbrev S64x512 : Shape := ⟨2, ![64, 512]⟩
abbrev S64x256 : Shape := ⟨2, ![64, 256]⟩
abbrev S256 : Shape := ⟨1, ![256]⟩
abbrev S256x1 : Shape := ⟨2, ![256, 1]⟩

abbrev nBuf : Space → Nat
  | .hbm => 16
  | .vmem => 22
  | .smem => 0
  | _ => 0

abbrev bufTy : (tb : Table) → Fin (tcTables nBuf tb) → BufTy
  | .hbm, ⟨0, _⟩ => ⟨S16896x6144, .f32⟩
  | .hbm, ⟨1, _⟩ => ⟨S16896x128, .f32⟩
  | .hbm, ⟨2, _⟩ => ⟨S1x16x1024, .f32⟩
  | .hbm, ⟨3, _⟩ => ⟨S1x1024, .f32⟩
  | .hbm, ⟨4, _⟩ => ⟨S1x512, .f32⟩
  | .hbm, ⟨5, _⟩ => ⟨S16x1024, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S128x1024, .bf16⟩
  | .hbm, ⟨10, _⟩ => ⟨S1024, .f32⟩
  | .hbm, ⟨11, _⟩ => ⟨S1x1024, .f32⟩
  | .hbm, ⟨12, _⟩ => ⟨S512, .f32⟩
  | .hbm, ⟨13, _⟩ => ⟨S1x512, .f32⟩
  | .hbm, ⟨14, _⟩ => ⟨S16384x2048, .bf16⟩
  | .hbm, ⟨15, _⟩ => ⟨S2x4x256x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S256x2048, .bf16⟩
  | .local _ .vmem, ⟨14, _⟩ => ⟨S256x2048, .bf16⟩
  | .local _ .vmem, ⟨15, _⟩ => ⟨S1x4x256x512, .f32⟩
  | .local _ .vmem, ⟨16, _⟩ => ⟨S1x4x256x512, .f32⟩
  | .local _ .vmem, ⟨17, _⟩ => ⟨S4x256x512, .f32⟩
  | .local _ .vmem, ⟨18, _⟩ => ⟨S256x1024, .bf16⟩
  | .local _ .vmem, ⟨19, _⟩ => ⟨S256x1024, .bf16⟩
  | .local _ .vmem, ⟨20, _⟩ => ⟨S256x2048, .f32⟩
  | .local _ .vmem, ⟨21, _⟩ => ⟨S4x4x256x128, .f32⟩
  | _, _ => ⟨S16896x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_118 : BitVec 32 := 0#32
  let c4_i32 : BitVec 32 := 4#32
  let v288 : BitVec 32 := Scalar.addi c0_i32_118 c4_i32
  let c1_i32 : BitVec 32 := 1#32
  ⟨c0_i32_118, v288, c1_i32⟩
def k0_mult1 (k0_t1 : Fin k0_t1_loop.trips) : BitVec 32 :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  v400
def k0_off1 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v404 : Index := Scalar.indexCast v401
  let c0_180 : Index := 0#32
  ![v404.toNat, 0]
def k0_off2 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v406 : Index := Scalar.indexCast v401
  let c0_181 : Index := 0#32
  ![v406.toNat, 0]
def k0_off3 (k0_t1 : Fin k0_t1_loop.trips) : Fin 4 → Nat :=
  let c0_i32_118 : BitVec 32 := 0#32
  let c1_i32 : BitVec 32 := 1#32
  let arg17 : BitVec 32 := Scf.iv c0_i32_118 c1_i32 k0_t1
  let v415 : Index := Scalar.indexCast arg17
  let c0_184 : Index := 0#32
  let c0_185 : Index := 0#32
  let c0_186 : Index := 0#32
  ![v415.toNat, 0, 0, 0]
def k0_off4 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v432 : Index := Scalar.indexCast v401
  let c512_196 : Index := 512#32
  ![v432.toNat, 512]
def k0_off5 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v434 : Index := Scalar.indexCast v401
  let c256 : Index := 256#32
  ![v434.toNat, 256]
def k0_off6 (k0_t1 : Fin k0_t1_loop.trips) : Fin 4 → Nat :=
  let c0_i32_118 : BitVec 32 := 0#32
  let c1_i32 : BitVec 32 := 1#32
  let arg17 : BitVec 32 := Scf.iv c0_i32_118 c1_i32 k0_t1
  let v443 : Index := Scalar.indexCast arg17
  let c1_199 : Index := 1#32
  let c0_200 : Index := 0#32
  let c0_201 : Index := 0#32
  ![v443.toNat, 1, 0, 0]
def k0_off7 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v460 : Index := Scalar.indexCast v401
  let c1024_211 : Index := 1024#32
  ![v460.toNat, 1024]
def k0_off8 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v462 : Index := Scalar.indexCast v401
  let c512_212 : Index := 512#32
  ![v462.toNat, 512]
def k0_off9 (k0_t1 : Fin k0_t1_loop.trips) : Fin 4 → Nat :=
  let c0_i32_118 : BitVec 32 := 0#32
  let c1_i32 : BitVec 32 := 1#32
  let arg17 : BitVec 32 := Scf.iv c0_i32_118 c1_i32 k0_t1
  let v471 : Index := Scalar.indexCast arg17
  let c2_215 : Index := 2#32
  let c0_216 : Index := 0#32
  let c0_217 : Index := 0#32
  ![v471.toNat, 2, 0, 0]
def k0_off10 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v488 : Index := Scalar.indexCast v401
  let c1536_227 : Index := 1536#32
  ![v488.toNat, 1536]
def k0_off11 (k0_t1 : Fin k0_t1_loop.trips) : Fin 2 → Nat :=
  let c0_i32_118 : BitVec 32 := 0#32
  let c1_i32 : BitVec 32 := 1#32
  let arg17 : BitVec 32 := Scf.iv c0_i32_118 c1_i32 k0_t1
  let c64_i32 : BitVec 32 := 64#32
  let v400 : BitVec 32 := Scalar.muli arg17 c64_i32
  let v401 : BitVec 32 := v400
  let v490 : Index := Scalar.indexCast v401
  let c768 : Index := 768#32
  ![v490.toNat, 768]
def k0_off12 (k0_t1 : Fin k0_t1_loop.trips) : Fin 4 → Nat :=
  let c0_i32_118 : BitVec 32 := 0#32
  let c1_i32 : BitVec 32 := 1#32
  let arg17 : BitVec 32 := Scf.iv c0_i32_118 c1_i32 k0_t1
  let v499 : Index := Scalar.indexCast arg17
  let c3_230 : Index := 3#32
  let c0_231 : Index := 0#32
  let c0_232 : Index := 0#32
  ![v499.toNat, 3, 0, 0]
def k0_cond2 (i : grid0.Coords) : BitVec 1 :=
  let arg1 : BitVec 32 := BitVec.ofNat 32 (i 1).val
  let c31_i32 : BitVec 32 := 31#32
  let v397 : BitVec 1 := Scalar.cmpi .eq arg1 c31_i32
  let v398 : BitVec 32 := Scalar.extui v397
  let c0_i32_176 : BitVec 32 := 0#32
  let v399 : BitVec 1 := Scalar.cmpi .ne v398 c0_i32_176
  v399

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Proof.MemAttnSpec.lean ====
/- Memory attention as plain sums over the extended reals: what both programs are shown to compute. -/
module

public import Idealize.ShloMosaic.Lib.Pointwise
public import Idealize.ShloMosaic.PureOps.Ideal

@[expose] public section

set_option maxRecDepth 16384

noncomputable section

open Idealize.ShloMosaic Idealize.ShloMosaic.TcCoe Idealize.SL.Sem

/-! ## The attention of one row, over the extended reals -/

namespace Cert.MemAttnSpec

/-- A query and a key's score: their product, scaled by the stored `512^(-1/2)`. -/
def score (q k : Fin 512 → EReal) : EReal := (∑ d : Fin 512, q d * k d) * Ideal.ofBits .f32 0x3D3504F3#32

/-- The greatest of a row of scores. -/
def top (s : Fin 256 → EReal) : EReal := Finset.univ.fold max (Ideal.ofBits .f32 0xFF800000#32) s

/-- The exponential of a score below the row's greatest. -/
def rel (s : Fin 256 → EReal) (j : Fin 256) : EReal := Ideal.exp (s j - top s)

/-- The softmax weight of entry `j`. -/
def weight (s : Fin 256 → EReal) (j : Fin 256) : EReal := Ideal.div (rel s j) (∑ l : Fin 256, rel s l)

/-- One entry of the attention's result: the weights of the row's scores against one column of values. -/
def mix (q : Fin 512 → EReal) (k : Fin 256 → Fin 512 → EReal) (v : Fin 256 → EReal) : EReal :=
  ∑ j : Fin 256, weight (fun l => score q (k l)) j * v j

/-- The whole result: row `t` belongs to batch entry `t / 8192`, column `e` to head `e / 512`. -/
def attn (x : (⟨2, ![16896, 2048]⟩ : Shape).Idx → EReal) (w : (⟨2, ![512, 4096]⟩ : Shape).Idx → EReal) :
    (⟨2, ![16384, 2048]⟩ : Shape).Idx → EReal := fun i =>
  have h0 : (i 0).val < 16384 := (i 0).isLt
  have h1 : (i 1).val < 2048 := (i 1).isLt
  mix (fun d => x (ix2 ⟨(i 0).val, by omega⟩ ⟨(i 1).val / 512 * 512 + d.val, by omega⟩))
    (fun j d => w (ix2 ⟨(i 0).val / 8192 * 256 + j.val, by omega⟩ ⟨(i 1).val / 512 * 512 + d.val, by omega⟩))
    (fun j => w (ix2 ⟨(i 0).val / 8192 * 256 + j.val, by omega⟩ ⟨2048 + (i 1).val, by omega⟩))

end Cert.MemAttnSpec

end
-- ==== Proof.MemAttnBlock.lean ====
/- Memory attention, the kernel's side: what one grid point leaves in its output block, as plain sums. -/
module

public import proofs.«01_k».proof.Proof.Gen.MemAttnIdeal.Value
public import proofs.«01_k».proof.Proof.MemAttnSpec
public import Idealize.ShloMosaic.Lib.Tactic

@[expose] public section

set_option maxRecDepth 16384

noncomputable section

open Idealize.ShloMosaic Idealize.ShloMosaic.TcCoe

namespace Cert.MemAttnIdeal.Blk

open Cert.MemAttnIdeal Cert.MemAttnIdeal.Gen Cert.MemAttnSpec

theorem hz : (![0, 0] : Fin 2 → Nat) = fun _ => 0 := funext fun a => by fin_cases a <;> rfl

/-- One head's result from its queries, keys and values. -/
def head (q : Vec Ideal S1024x512 .bf16) (k v : Vec Ideal S256x512 .bf16) : Vec Ideal S1024x512 .bf16 :=
  k0_pay11 (k0_pay7 q k) v

theorem head_apply (q : Vec Ideal S1024x512 .bf16) (k v : Vec Ideal S256x512 .bf16) (r : Fin 1024) (e : Fin 512) :
    head q k v (ix2 r e) = mix (fun d => q (ix2 r d)) (fun j d => k (ix2 j d)) (fun j => v (ix2 j e)) := by
  unfold head mix weight rel top score
  pointwise [k0_pay11, k0_pay7]

/-- What a point leaves in its output block: at row `r` and column `e`, the attention of the row's queries of the
    column's head with the head's keys, over the values of that column. -/
def block (x : Vec Ideal S1024x2048 .bf16) (w : Vec Ideal S256x4096 .bf16) : Vec Ideal S1024x2048 .bf16 := fun y =>
  mix (fun d => x (ix2 (n0 := 1024) (n1 := 2048) (y 0) ⟨(y 1).val / 512 * 512 + d.val, by have : (y 1).val < 2048 := (y 1).isLt; omega⟩))
    (fun j d => w (ix2 (n0 := 256) (n1 := 4096) j ⟨(y 1).val / 512 * 512 + d.val, by have : (y 1).val < 2048 := (y 1).isLt; omega⟩))
    (fun j => w (ix2 (n0 := 256) (n1 := 4096) j ⟨2048 + (y 1).val, by have : (y 1).val < 2048 := (y 1).isLt; omega⟩))

/-- A head's result is the block's column group `h`, when its operands are the group's queries, keys and values. -/
theorem head_block (x : Vec Ideal S1024x2048 .bf16) (w : Vec Ideal S256x4096 .bf16) (h : Fin 4)
    (q : Vec Ideal S1024x512 .bf16) (k v : Vec Ideal S256x512 .bf16)
    (hq : ∀ r d, q (ix2 r d) = x (ix2 (n0 := 1024) (n1 := 2048) r ⟨h.val * 512 + d.val, by omega⟩))
    (hk : ∀ j d, k (ix2 j d) = w (ix2 (n0 := 256) (n1 := 4096) j ⟨h.val * 512 + d.val, by omega⟩))
    (hv : ∀ j d, v (ix2 j d) = w (ix2 (n0 := 256) (n1 := 4096) j ⟨2048 + h.val * 512 + d.val, by omega⟩))
    (j : S1024x512.Idx) (y : S1024x2048.Idx) (h0 : (y 0).val = (j 0).val) (h1 : (y 1).val = h.val * 512 + (j 1).val) :
    head q k v j = block x w y := by
  idx_vars j
  idx_vars y
  have e0 : y0 = j0 := Fin.ext h0
  have e1 : y1.val = h.val * 512 + j1.val := h1
  subst e0
  have hj : j1.val < 512 := j1.isLt
  have eg : y1.val / 512 = h.val := by omega
  rw [head_apply]
  unfold block
  congr 1
  · funext d; rw [hq]; congr 2; exact Fin.ext (by show _ = y1.val / 512 * 512 + d.val; rw [eg])
  · funext l d; rw [hk]; congr 2; exact Fin.ext (by show _ = y1.val / 512 * 512 + d.val; rw [eg])
  · funext l; rw [hv]; congr 2; exact Fin.ext (by show 2048 + h.val * 512 + j1.val = 2048 + y1.val; omega)

theorem out_B (c : Dev nD) (i : grid0.Coords) (a2 : Memref sig .tc .vmem S1024x2048 .bf16) (h2 : a2.IsWhole) (a3 : Memref sig .tc .vmem S256x4096 .f32) (h3 : a3.IsWhole) (a4 : Memref sig .tc .vmem S1024x2048 .bf16) (h4 : a4.IsWhole) (a5 : Memref sig .tc .vmem S256x4096 .bf16) (h5 : a5.IsWhole) (hc : ¬cond0_0 i)
    (x0 : Vec Ideal S1024x2048 .bf16) (x1 : Vec Ideal S256x4096 .f32) (xs : Vec Ideal S256x4096 .bf16) :
    out0_B_2 c i a2 h2 a3 h3 a4 h4 a5 h5 hc x0 x1 xs = block x0 xs := by
  funext y
  unfold out0_B_2
  rw [View.read_writes_eq_canon _ _ _ (cover0_B_2 c i a2 h2 a3 h3 a4 h4 a5 h5 hc x0 x1 xs)]
  refine View.canon_apply_of_pieces (block x0 xs) _ (fun p hp j => ?_) y (cover0_B_2 c i a2 h2 a3 h3 a4 h4 a5 h5 hc x0 x1 xs y)
  unfold kernelRun0_B at hp
  dsimp only at hp
  simp only [List.mem_cons, List.mem_nil_iff, or_false] at hp
  rcases hp with rfl | rfl | rfl | rfl
  all_goals
    dsimp only
    sl_unfold_words
    simp only [View.readAt_eq_ld, h2.read_unread, h5.read_unread]
  · exact head_block x0 xs 3 _ _ _ (fun _ _ => by pointwise) (fun _ _ => by pointwise) (fun _ _ => by pointwise) j _ (by show 0 + 1 * (j 0).val = (j 0).val; omega) (by show 1536 + 1 * (j 1).val = 3 * 512 + (j 1).val; omega)
  · exact head_block x0 xs 2 _ _ _ (fun _ _ => by pointwise) (fun _ _ => by pointwise) (fun _ _ => by pointwise) j _ (by show 0 + 1 * (j 0).val = (j 0).val; omega) (by show 1024 + 1 * (j 1).val = 2 * 512 + (j 1).val; omega)
  · exact head_block x0 xs 1 _ _ _ (fun _ _ => by pointwise) (fun _ _ => by pointwise) (fun _ _ => by pointwise) j _ (by show 0 + 1 * (j 0).val = (j 0).val; omega) (by show 512 + 1 * (j 1).val = 1 * 512 + (j 1).val; omega)
  · exact head_block x0 xs 0 _ _ _ (fun _ _ => by pointwise) (fun _ _ => by pointwise) (fun _ _ => by pointwise) j _ (by show 0 + 1 * (j 0).val = (j 0).val; omega) (by show 0 + 1 * (j 1).val = 0 * 512 + (j 1).val; omega)

theorem pay3_eq (x : Vec Ideal S256x4096 .f32) : k0_pay3 x = (x : S256x4096.Idx → EReal) := by
  unfold k0_pay3
  simp only [shapeCast_self]
  rfl

/-- The cast block of keys and values, which the first point of a batch entry stores, read back through a rectangle. -/
theorem kept (v : View sig .tc .vmem S256x4096 .bf16) (x1 : Vec Ideal S256x4096 .f32) (r : Rect S256x4096) :
    v.readCov (Val := Elt Ideal) [⟨Rect.unit ![0, 0] ![256, 4096] inb_S256x4096_S256x4096_0_0,
      k0_pay3 (View.ld x1 (Rect.unit ![0, 0] ![256, 4096] inb_S256x4096_S256x4096_0_0))⟩] r.toLoadRect
      = View.ld (Val := Elt Ideal) (e' := .bf16) x1 r := by
  rw [View.readCov_eq_canon_ld _ _ _ (fun y => ⟨_, List.mem_singleton_self _, View.mem_set_unit_zero hz inb_S256x4096_S256x4096_0_0 y⟩),
    View.canon_unit_zero hz, View.ld_unit_zero (S := S256x4096) hz, pay3_eq]

theorem sout_A (c : Dev nD) (i : grid0.Coords) (a2 : Memref sig .tc .vmem S1024x2048 .bf16) (h2 : a2.IsWhole) (a3 : Memref sig .tc .vmem S256x4096 .f32) (h3 : a3.IsWhole) (a4 : Memref sig .tc .vmem S1024x2048 .bf16) (h4 : a4.IsWhole) (a5 : Memref sig .tc .vmem S256x4096 .bf16) (h5 : a5.IsWhole) (hc : cond0_0 i)
    (x0 : Vec Ideal S1024x2048 .bf16) (x1 : Vec Ideal S256x4096 .f32) :
    sout0_A_0 c i a2 h2 a3 h3 a4 h4 a5 h5 hc x0 x1 = (x1 : S256x4096.Idx → EReal) := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S256x4096) hz, pay3_eq]

theorem out_A (c : Dev nD) (i : grid0.Coords) (a2 : Memref sig .tc .vmem S1024x2048 .bf16) (h2 : a2.IsWhole) (a3 : Memref sig .tc .vmem S256x4096 .f32) (h3 : a3.IsWhole) (a4 : Memref sig .tc .vmem S1024x2048 .bf16) (h4 : a4.IsWhole) (a5 : Memref sig .tc .vmem S256x4096 .bf16) (h5 : a5.IsWhole) (hc : cond0_0 i)
    (x0 : Vec Ideal S1024x2048 .bf16) (x1 : Vec Ideal S256x4096 .f32) :
    out0_A_2 c i a2 h2 a3 h3 a4 h4 a5 h5 hc x0 x1 = block x0 x1 := by
  funext y
  unfold out0_A_2
  rw [View.read_writes_eq_canon _ _ _ (cover0_A_2 c i a2 h2 a3 h3 a4 h4 a5 h5 hc x0 x1)]
  refine View.canon_apply_of_pieces (block x0 x1) _ (fun p hp j => ?_) y (cover0_A_2 c i a2 h2 a3 h3 a4 h4 a5 h5 hc x0 x1 y)
  unfold kernelRun0_A at hp
  dsimp only at hp
  simp only [List.mem_cons, List.mem_nil_iff, or_false] at hp
  rcases hp with rfl | rfl | rfl | rfl
  all_goals
    dsimp only
    sl_unfold_words
    simp only [View.readAt_eq_ld, h2.read_unread, h3.read_unread]
    simp only [kept]
  · exact head_block x0 x1 3 _ _ _ (fun _ _ => by pointwise) (fun _ _ => by pointwise) (fun _ _ => by pointwise) j _ (by show 0 + 1 * (j 0).val = (j 0).val; omega) (by show 1536 + 1 * (j 1).val = 3 * 512 + (j 1).val; omega)
  · exact head_block x0 x1 2 _ _ _ (fun _ _ => by pointwise) (fun _ _ => by pointwise) (fun _ _ => by pointwise) j _ (by show 0 + 1 * (j 0).val = (j 0).val; omega) (by show 1024 + 1 * (j 1).val = 2 * 512 + (j 1).val; omega)
  · exact head_block x0 x1 1 _ _ _ (fun _ _ => by pointwise) (fun _ _ => by pointwise) (fun _ _ => by pointwise) j _ (by show 0 + 1 * (j 0).val = (j 0).val; omega) (by show 512 + 1 * (j 1).val = 1 * 512 + (j 1).val; omega)
  · exact head_block x0 x1 0 _ _ _ (fun _ _ => by pointwise) (fun _ _ => by pointwise) (fun _ _ => by pointwise) j _ (by show 0 + 1 * (j 0).val = (j 0).val; omega) (by show 0 + 1 * (j 1).val = 0 * 512 + (j 1).val; omega)

end Cert.MemAttnIdeal.Blk

end
-- ==== Proof.MemAttnValue.lean ====
/- Memory attention, the kernel's side: the result array after the run. -/
module

public import proofs.«01_k».proof.Proof.MemAttnBlock

@[expose] public section

set_option maxRecDepth 16384

noncomputable section

open Idealize.ShloMosaic Idealize.ShloMosaic.TcCoe Idealize.SL.Sem
open Idealize.ShloMosaic.Pipeline (Dat)

namespace Cert.MemAttnIdeal.Final

open Cert.MemAttnIdeal Cert.MemAttnIdeal.Gen Cert.MemAttnIdeal.Blk Cert.MemAttnSpec

variable (m : (ℓ : Loc nD τ sig) → Buf (Elt Ideal) ℓ) (ρ : Dev nD → PrngReg)

/-- The index maps over the grid: point `t` takes row block `t` of the queries and the keys and values of entry `t / 8`. -/
theorem idx_in : ∀ t : Fin cfg0.N, win0_0.index t (0 : Fin 2) = t.val ∧ win0_0.index t (1 : Fin 2) = 0
    ∧ win0_1.index t (0 : Fin 2) = t.val / 8 ∧ win0_1.index t (1 : Fin 2) = 0
    ∧ win0_2.index t (0 : Fin 2) = t.val ∧ win0_2.index t (1 : Fin 2) = 0 :=
  (by decide +kernel : ∀ t : Fin grid0.N, _)

theorem x_apply (c : Dev nD) (t : Fin cfg0.N) (r : Fin 1024) (e : Fin 2048) (i : S16896x2048.Idx)
    (h0 : (i 0).val = t.val * 1024 + r.val) (h1 : (i 1).val = e.val) :
    X0_0 m c t (ix2 r e) = m ((c : Thread nD τ).loc main_arg0) i := by
  unfold X0_0 Pipeline.Window.fill
  rw [dif_pos (moved0_0 t _)]
  unfold iblk
  rw [View.read_apply]
  show V m c main_arg0 _ = _
  unfold V
  congr 1
  obtain ⟨e0, e1, -⟩ := idx_in t
  funext a
  apply Fin.ext
  match a with
  | ⟨0, _⟩ => show win0_0.index t (0 : Fin 2) * 1024 + 1 * r.val = (i 0).val; rw [e0]; omega
  | ⟨1, _⟩ => show win0_0.index t (1 : Fin 2) * 2048 + 1 * e.val = (i 1).val; rw [e1]; omega

theorem w_apply (c : Dev nD) (t : Fin cfg0.N) (j : Fin 256) (e : Fin 4096) (i : S512x4096.Idx)
    (h0 : (i 0).val = t.val / 8 * 256 + j.val) (h1 : (i 1).val = e.val) :
    iblk m c 1 t (ix2 j e) = m ((c : Thread nD τ).loc main_arg1) i := by
  unfold iblk
  rw [View.read_apply]
  show V m c main_arg1 _ = _
  unfold V
  congr 1
  obtain ⟨-, -, e0, e1, -⟩ := idx_in t
  funext a
  apply Fin.ext
  match a with
  | ⟨0, _⟩ => show win0_1.index t (0 : Fin 2) * 256 + 1 * j.val = (i 0).val; rw [e0]; omega
  | ⟨1, _⟩ => show win0_1.index t (1 : Fin 2) * 4096 + 1 * e.val = (i 1).val; rw [e1]; omega

/-- Points of one batch entry see one block of keys and values. -/
theorem w_step (c : Dev nD) (t t' : Fin cfg0.N) (h : t.val / 8 = t'.val / 8) :
    (iblk m c 1 t : S256x4096.Idx → EReal) = iblk m c 1 t' := by
  have hN : cfg0.N = 16 := N_0
  have ht := t.isLt
  funext y
  idx_vars y
  have hy : y0.val < 256 := y0.isLt
  have h4 : y1.val < 4096 := y1.isLt
  rw [w_apply m c t y0 y1 (ix2 ⟨t.val / 8 * 256 + y0.val, by omega⟩ ⟨y1.val, h4⟩) rfl rfl,
    w_apply m c t' y0 y1 (ix2 ⟨t.val / 8 * 256 + y0.val, by omega⟩ ⟨y1.val, h4⟩) (by show t.val / 8 * 256 + y0.val = _; rw [h]) rfl]

/-- After any point the scratch holds the keys and values of the point's batch entry. -/
theorem scratch_eq (c : Dev nD) : ∀ (n : ℕ) (h : n < cfg0.N),
    ((outsAt0 m c n h).2 : S256x4096.Idx → EReal) = iblk m c 1 ⟨n, h⟩
  | 0, h => by
    rw [outsAt0_A m c ⟨0, h⟩ rfl]
    dsimp only
    rw [sout_A]
  | n + 1, h => by
    by_cases h0 : (n + 1) % 8 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 8 = (n + 1) / 8; omega)

/-- So every point leaves the attention of its rows in its output block. -/
theorem outs_eq (c : Dev nD) (t : Fin cfg0.N) :
    (outsAt0 m c t.val t.isLt).1 = block (X0_0 m c t) (iblk m c 1 t) := by
  by_cases h0 : t.val % 8 = 0
  · rw [outsAt0_A m c t h0]
    dsimp only
    rw [out_A]
  · rw [outsAt0_B m c t h0]
    dsimp only
    rw [out_B]
    congr 1
    have hN : cfg0.N = 16 := N_0
    have ht := t.isLt
    exact (scratch_eq m c (t.val - 1) (by omega)).trans (w_step m c _ _ (by show (t.val - 1) / 8 = t.val / 8; omega))

/-- The result as a function of the two arguments. -/
abbrev result (c : Dev nD) : Buf (Elt Ideal) ((c : Thread nD τ).loc main_v0) :=
  attn (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  rw [Value.flushed2, outs_eq]
  have hN : cfg0.N = 16 := N_0
  have ht := t.isLt
  obtain ⟨-, -, -, -, e0, e1⟩ := idx_in t
  funext y
  have hy0 : (y 0).val < 1024 := (y 0).isLt
  have hy1 : (y 1).val < 2048 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 2048 + 1 * (y 1).val := rfl
  rw [e0] at hb0
  rw [e1] at hb1
  rw [View.read_apply]
  show block (X0_0 m c t) (iblk m c 1 t) ((cfg0.win 2).xinj (grid0.coords t) y) = attn _ _ (((cfg0.win 2).blk t).view.emb y)
  unfold block attn
  congr 1
  · funext d
    exact x_apply m c t _ _ _ (by show (((cfg0.win 2).blk t).view.emb y 0).val = t.val * 1024 + (y 0).val; omega)
      (by show (((cfg0.win 2).blk t).view.emb y 1).val / 512 * 512 + d.val = (y 1).val / 512 * 512 + d.val; omega)
  · funext j d
    exact w_apply m c t _ _ _ (by show (((cfg0.win 2).blk t).view.emb y 0).val / 8192 * 256 + j.val = t.val / 8 * 256 + j.val; omega)
      (by show (((cfg0.win 2).blk t).view.emb y 1).val / 512 * 512 + d.val = (y 1).val / 512 * 512 + d.val; omega)
  · funext j
    exact w_apply m c t _ _ _ (by show (((cfg0.win 2).blk t).view.emb y 0).val / 8192 * 256 + j.val = t.val / 8 * 256 + j.val; omega)
      (by show 2048 + (((cfg0.win 2).blk t).view.emb y 1).val = 2048 + (y 1).val; omega)

theorem final (c : Dev nD) : (dats m 0 c).arrAt 2 cfg0.N = result m c :=
  (dats m 0 c).arrAt_eq_of_cover 2 _ (fun t hf => flushed_eq m c t hf) (fun i => (Value.covered_iff2 i).2 (by
    have h0 : (i 0).val < 16384 := (i 0).isLt; have h1 : (i 1).val < 2048 := (i 1).isLt; omega))

/-- The run: the result array at the attention of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (final m c),
      Value.kept_main_arg0 m r h c, Value.kept_main_arg1 m r h c⟩)
    (run_main m ρ)

end Cert.MemAttnIdeal.Final

end
-- ==== Proof.MemAttnRefValue.lean ====
/- Memory attention, the reference's side: its result at an index. -/
module

public import proofs.«01_k».proof.Proof.MemAttnSpec
public import proofs.«01_k».proof.Proof.Gen.MemAttnRefIdeal.Read
public import proofs.«01_k».proof.Proof.Gen.MemAttnRefIdeal.Run

@[expose] public section

set_option maxRecDepth 16384

noncomputable section

open Idealize.ShloMosaic Idealize.ShloMosaic.TcCoe Idealize.SL.Sem

namespace Cert.MemAttnRefIdeal.Final

open Cert.MemAttnRefIdeal Cert.MemAttnRefIdeal.Gen Cert.MemAttnRefIdeal.Read Cert.MemAttnSpec

variable (x : (⟨S16896x2048, .bf16⟩ : BufTy).Contents (Elt Ideal)) (w : (⟨S512x4096, .f32⟩ : BufTy).Contents (Elt Ideal))

theorem neg_inf : Ideal.ofBits .f32 0xFF800000#32 = ⊥ := by
  simp [Ideal.ofBits, Ideal.ieee, -EReal.coe_mul]

/-- The scores of query row `(b, t)` in head `h`. -/
def row (b : Fin 2) (h : Fin 4) (t : Fin 8192) : Fin 256 → EReal := fun j =>
  score (fun d => x (ix2 (n0 := 16896) (n1 := 2048) ⟨b.val * 8192 + t.val, by omega⟩ ⟨h.val * 512 + d.val, by omega⟩))
    (fun d => w (ix2 (n0 := 512) (n1 := 4096) ⟨b.val * 256 + j.val, by omega⟩ ⟨h.val * 512 + d.val, by omega⟩))

theorem v9_eq (b : Fin 2) (h : Fin 4) (t : Fin 8192) (j : Fin 256) :
    val_main_v9 x w (ix4 b h t j) = row x w b h t j := by
  unfold row score
  pointwise [val_main_v9, val_main_v8, val_main_cst, val_main_v7, val_main_v5, val_main_v3, val_main_v2, val_main_v1, val_main_v0]

/-- The running maximum from the bottom value over a row. -/
theorem v10_eq (b : Fin 2) (h : Fin 4) (t : Fin 8192) :
    val_main_v10 x w (ix3 b h t) = top (row x w b h t) := by
  unfold val_main_v10 top
  have hd : S2x4x8192x256.Reduces [3] S2x4x8192 := by decide
  rw [Host.reduce_eq_fold_single _ _ _ reducesTo_S2x4x8192x256_S2x4x8192_d3 hd h_S_ (ix3 b h t)]
  have hr : (val_main_v9 x w ∘ hd.lift (ix3 b h t)) = row x w b h t := by
    funext j
    refine Eq.trans ?_ (v9_eq x w b h t j)
    show val_main_v9 x w _ = val_main_v9 x w _
    refine congrArg (val_main_v9 x w) ?_
    funext a
    match a with
    | ⟨0, _⟩ => rfl
    | ⟨1, _⟩ => rfl
    | ⟨2, _⟩ => rfl
    | ⟨3, _⟩ => rfl
  rw [hr]
  rfl

theorem v12_eq (b : Fin 2) (h : Fin 4) (t : Fin 8192) :
    val_main_v12 x w (ix3 b h t) = top (row x w b h t) := by
  rw [val_main_v12_apply, v10_eq, val_main_v11_apply, val_main_cst_1_apply]
  show max (Ideal.ofBits .f32 0xFF800000#32) (top _) = _
  rw [neg_inf]
  exact bot_sup_eq _

theorem v16_eq (b : Fin 2) (h : Fin 4) (t : Fin 8192) (j : Fin 256) :
    val_main_v16 x w (ix4 b h t j) = rel (row x w b h t) j := by
  unfold rel
  pointwise [val_main_v16, val_main_v15, val_main_v14, val_main_v13, v12_eq, v9_eq]

theorem v20_eq (b : Fin 2) (h : Fin 4) (t : Fin 8192) (j : Fin 256) :
    val_main_v20 x w (ix4 b h t j) = weight (row x w b h t) j := by
  unfold weight
  pointwise [val_main_v20, val_main_v19, val_main_v18, val_main_v17, val_main_cst_2, v16_eq]

theorem v24_eq : val_main_v24 x w = attn x w := by
  funext i
  idx_vars i
  unfold attn mix
  pointwise [val_main_v24, val_main_v23, val_main_v22, val_main_v21, val_main_v6, val_main_v4, v20_eq]
  have hr : row x w ⟨i0.val / 8192, by omega⟩ ⟨i1.val / 512, by omega⟩ ⟨i0.val % 8192, by omega⟩ = fun l =>
      score (fun d => x (ix2 (n0 := 16896) (n1 := 2048) ⟨i0.val, by omega⟩ ⟨i1.val / 512 * 512 + d.val, by omega⟩))
        (fun d => w (ix2 (n0 := 512) (n1 := 4096) ⟨i0.val / 8192 * 256 + l.val, by omega⟩ ⟨i1.val / 512 * 512 + d.val, by omega⟩)) := by
    funext l
    unfold row
    have e : i0.val / 8192 * 8192 + i0.val % 8192 = i0.val := by omega
    simp only [e]
  refine Finset.sum_congr rfl fun j _ => ?_
  rw [hr, mul_comm]

end Cert.MemAttnRefIdeal.Final

end
-- ==== Proof.Scalars.lean ====
/- Facts about the exact elementary functions on the extended reals, used by several calls. -/
module

public import Idealize.ShloMosaic.PureOps.Ideal

@[expose] public section

set_option maxRecDepth 16384

noncomputable section

open Idealize.ShloMosaic Idealize.ShloMosaic.TcCoe Idealize.SL.Sem

namespace Cert.Scalars

/-- The logistic function, as the reference writes it. -/
def sigmoid (x : EReal) : EReal := Ideal.div 1 (1 + Ideal.exp (-x))

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem neg_inf : Ideal.ofBits .f32 0xFF800000#32 = ⊥ := by
  simp [Ideal.ofBits, Ideal.ieee, -EReal.coe_mul]

theorem sigmoid_coe (r : ℝ) : sigmoid (r : EReal) = ((1 / (1 + Real.exp (-r)) : ℝ) : EReal) := by
  have h : (1 + Real.exp (-r)) ≠ 0 := by positivity
  unfold sigmoid
  rw [← EReal.coe_neg, Ideal.exp_coe, ← EReal.coe_one, ← EReal.coe_add]
  unfold Ideal.div
  rw [if_neg (by exact_mod_cast h), ← EReal.coe_inv, ← EReal.coe_mul, one_div, one_mul]

/-- Half the hyperbolic tangent of half the argument, plus a half, is the logistic function. -/
theorem half_tanh (x : EReal) :
    ((1 / 2 : ℝ) : EReal) * Ideal.tanh (((1 / 2 : ℝ) : EReal) * x) + ((1 / 2 : ℝ) : EReal) = sigmoid x := by
  induction x with
  | bot =>
    rw [EReal.coe_mul_bot_of_pos (by norm_num), Ideal.tanh_bot]
    have e : (1 : EReal) + ⊤ = ⊤ := by rw [← EReal.coe_one]; exact EReal.coe_add_top 1
    unfold sigmoid Ideal.div
    rw [EReal.neg_bot, Ideal.exp_top, e, if_neg EReal.top_ne_zero, EReal.inv_top, mul_zero, mul_neg, mul_one]
    exact_mod_cast (by norm_num : -(1 / 2 : ℝ) + 1 / 2 = 0)
  | top =>
    rw [EReal.coe_mul_top_of_pos (by norm_num), Ideal.tanh_top]
    unfold sigmoid Ideal.div
    simp
    exact_mod_cast (by norm_num : (2 : ℝ)⁻¹ + 2⁻¹ = 1)
  | coe r =>
    rw [sigmoid_coe, ← EReal.coe_mul, Ideal.tanh_coe, ← EReal.coe_mul, ← EReal.coe_add]
    congr 1
    have e1 : Real.exp (1 / 2 * r) * Real.exp (1 / 2 * r) = Real.exp r := by rw [← Real.exp_add]; ring_nf
    have p := Real.exp_pos (1 / 2 * r)
    rw [Real.tanh_eq_sinh_div_cosh, Real.sinh_eq, Real.cosh_eq, Real.exp_neg, Real.exp_neg, ← e1]
    have q : Real.exp (1 / 2 * r) * Real.exp (1 / 2 * r) + 1 ≠ 0 := by positivity
    field_simp
    ring

end Cert.Scalars

end
-- ==== Proof.ProjGlaBlock.lean ====
/- The projection to the recurrence's queries, keys, values and output gate: what the kernel's body leaves in its block, as plain sums. -/
module

public import proofs.«01_k».proof.Proof.Scalars
public import proofs.«01_k».proof.Proof.Gen.ProjGlaIdeal.Value
public import Idealize.ShloMosaic.Lib.Pointwise

@[expose] public section

set_option maxRecDepth 16384

noncomputable section

open Idealize.ShloMosaic Idealize.ShloMosaic.TcCoe Idealize.SL.Sem

namespace Cert.ProjGlaIdeal.Blk

open Cert.ProjGlaIdeal Cert.ProjGlaIdeal.Gen

theorem hz : (![0, 0] : Fin 2 → Nat) = fun _ => 0 := funext fun a => by fin_cases a <;> rfl

/-- The block a point leaves, from its rows and its columns' weights. -/
def block (x : Vec Ideal S1536x2048 .bf16) (w : S1024x2048.Idx → EReal) : Vec Ideal S1536x1024 .f32 := fun y =>
  ∑ k : Fin 2048, x (ix2 (n0 := 1536) (n1 := 2048) (y 0) k) * w (ix2 (n0 := 1024) (n1 := 2048) (y 1) k)

theorem pay2_apply (q : Vec Ideal S768x2048 .bf16) (w : Vec Ideal S1024x2048 .bf16) (r : Fin 768) (e : Fin 1024) :
    k0_pay2 q w (ix2 r e) = ∑ k : Fin 2048, q (ix2 r k) * w (ix2 (n0 := 1024) (n1 := 2048) e k) := by
  pointwise [k0_pay2]

/-- The rows from `o` on of the block, stored in one piece. -/
theorem half_lo (x : Vec Ideal S1536x2048 .bf16) (w : Vec Ideal S1024x2048 .bf16) (o : ℕ) (ho : o + 768 ≤ 1536)
    (q : Vec Ideal S768x2048 .bf16) (hq : ∀ r d, q (ix2 r d) = x (ix2 (n0 := 1536) (n1 := 2048) ⟨o + r.val, by omega⟩ d))
    (j : S768x1024.Idx) (y : S1536x1024.Idx) (h0 : (y 0).val = o + (j 0).val) (h1 : (y 1).val = (j 1).val) :
    k0_pay2 q w j = block x w y := by
  idx_vars j
  idx_vars y
  have hj : j0.val < 768 := j0.isLt
  have e1 : y1 = j1 := Fin.ext h1
  subst e1
  have e0 : (⟨o + j0.val, by omega⟩ : Fin 1536) = y0 := Fin.ext h0.symm
  rw [pay2_apply]
  unfold block
  simp only [hq, e0]
  rfl

theorem half_hi (x : Vec Ideal S1536x2048 .bf16) (w : Vec Ideal S1024x2048 .bf16) (o : ℕ) (ho : o + 768 ≤ 1536)
    (q : Vec Ideal S768x2048 .bf16) (hq : ∀ r d, q (ix2 r d) = x (ix2 (n0 := 1536) (n1 := 2048) ⟨o + r.val, by omega⟩ d))
    (j : S768x1024.Idx) (y : S1536x1024.Idx) (h0 : (y 0).val = o + (j 0).val) (h1 : (y 1).val = (j 1).val) :
    k0_pay3 q w j = block x w y := by
  rw [show k0_pay3 q w j = k0_pay2 q w j from rfl]
  exact half_lo x w o ho q hq j y h0 h1

theorem pay1_eq (x : Vec Ideal S1024x2048 .f32) : k0_pay1 x = (x : S1024x2048.Idx → EReal) := by
  unfold k0_pay1
  simp only [shapeCast_self]
  rfl

/-- The weights a column block's first point casts and stores, read back through a rectangle. -/
theorem kept (v : View sig .tc .vmem S1024x2048 .bf16) (x1 : Vec Ideal S1024x2048 .f32) (r : Rect S1024x2048) :
    v.readCov (Val := Elt Ideal) [⟨Rect.unit ![0, 0] ![1024, 2048] inb_S1024x2048_S1024x2048_0_0,
      k0_pay1 x1⟩] r.toLoadRect
      = View.ld (Val := Elt Ideal) (e' := .bf16) x1 r := by
  rw [View.readCov_eq_canon_ld _ _ _ (fun y => ⟨_, List.mem_singleton_self _, View.mem_set_unit_zero hz inb_S1024x2048_S1024x2048_0_0 y⟩),
    View.canon_unit_zero hz, pay1_eq]

theorem sout_A (c : Dev nD) (i : grid0.Coords) (a2 : Memref sig .tc .vmem S1536x2048 .bf16) (h2 : a2.IsWhole) (a3 : Memref sig .tc .vmem S1024x2048 .f32) (h3 : a3.IsWhole) (a4 : Memref sig .tc .vmem S1536x1024 .f32) (h4 : a4.IsWhole) (a5 : Memref sig .tc .vmem S1024x2048 .bf16) (h5 : a5.IsWhole) (hc : cond0_0 i)
    (x0 : Vec Ideal S1536x2048 .bf16) (x1 : Vec Ideal S1024x2048 .f32) :
    sout0_A_0 c i a2 h2 a3 h3 a4 h4 a5 h5 hc x0 x1 = (x1 : S1024x2048.Idx → EReal) := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S1024x2048) hz, pay1_eq]

theorem out_A (c : Dev nD) (i : grid0.Coords) (a2 : Memref sig .tc .vmem S1536x2048 .bf16) (h2 : a2.IsWhole) (a3 : Memref sig .tc .vmem S1024x2048 .f32) (h3 : a3.IsWhole) (a4 : Memref sig .tc .vmem S1536x1024 .f32) (h4 : a4.IsWhole) (a5 : Memref sig .tc .vmem S1024x2048 .bf16) (h5 : a5.IsWhole) (hc : cond0_0 i)
    (x0 : Vec Ideal S1536x2048 .bf16) (x1 : Vec Ideal S1024x2048 .f32) :
    out0_A_2 c i a2 h2 a3 h3 a4 h4 a5 h5 hc x0 x1 = block x0 x1 := by
  funext y
  unfold out0_A_2
  rw [View.read_writes_eq_canon _ _ _ (cover0_A_2 c i a2 h2 a3 h3 a4 h4 a5 h5 hc x0 x1)]
  refine View.canon_apply_of_pieces (block x0 x1) _ (fun p hp j => ?_) y (cover0_A_2 c i a2 h2 a3 h3 a4 h4 a5 h5 hc x0 x1 y)
  unfold kernelRun0_A at hp
  dsimp only at hp
  simp only [List.mem_cons, List.mem_nil_iff, or_false] at hp
  rcases hp with rfl | rfl
  all_goals
    dsimp only
    sl_unfold_words
    simp only [View.readAt_eq_ld, h2.read_unread, h3.read_unread]
    simp only [kept, View.ld_unit_zero (S := S1024x2048) hz]
  · exact half_hi x0 x1 768 (by omega) _ (fun _ _ => by pointwise) j _ (by show 768 + 1 * (j 0).val = 768 + (j 0).val; omega) (by show 0 + 1 * (j 1).val = (j 1).val; omega)
  · exact half_lo x0 x1 0 (by omega) _ (fun _ _ => by pointwise) j _ (by show 0 + 1 * (j 0).val = 0 + (j 0).val; omega) (by show 0 + 1 * (j 1).val = (j 1).val; omega)

theorem out_B (c : Dev nD) (i : grid0.Coords) (a2 : Memref sig .tc .vmem S1536x2048 .bf16) (h2 : a2.IsWhole) (a3 : Memref sig .tc .vmem S1024x2048 .f32) (h3 : a3.IsWhole) (a4 : Memref sig .tc .vmem S1536x1024 .f32) (h4 : a4.IsWhole) (a5 : Memref sig .tc .vmem S1024x2048 .bf16) (h5 : a5.IsWhole) (hc : ¬cond0_0 i)
    (x0 : Vec Ideal S1536x2048 .bf16) (x1 : Vec Ideal S1024x2048 .f32) (xs : Vec Ideal S1024x2048 .bf16) :
    out0_B_2 c i a2 h2 a3 h3 a4 h4 a5 h5 hc x0 x1 xs = block x0 xs := by
  funext y
  unfold out0_B_2
  rw [View.read_writes_eq_canon _ _ _ (cover0_B_2 c i a2 h2 a3 h3 a4 h4 a5 h5 hc x0 x1 xs)]
  refine View.canon_apply_of_pieces (block x0 xs) _ (fun p hp j => ?_) y (cover0_B_2 c i a2 h2 a3 h3 a4 h4 a5 h5 hc x0 x1 xs y)
  unfold kernelRun0_B at hp
  dsimp only at hp
  simp only [List.mem_cons, List.mem_nil_iff, or_false] at hp
  rcases hp with rfl | rfl
  all_goals
    dsimp only
    sl_unfold_words
    simp only [View.readAt_eq_ld, h2.read_unread, h3.read_unread, h5.read_unread, View.ld_unit_zero (S := S1024x2048) hz]
  · exact half_hi x0 xs 768 (by omega) _ (fun _ _ => by pointwise) j _ (by show 768 + 1 * (j 0).val = 768 + (j 0).val; omega) (by show 0 + 1 * (j 1).val = (j 1).val; omega)
  · exact half_lo x0 xs 0 (by omega) _ (fun _ _ => by pointwise) j _ (by show 0 + 1 * (j 0).val = 0 + (j 0).val; omega) (by show 0 + 1 * (j 1).val = (j 1).val; omega)

end Cert.ProjGlaIdeal.Blk

end
-- ==== Proof.ProjGlaSpec.lean ====
/- The projection to the recurrence's queries, keys, values and output gate, whole, over the extended reals: what both programs are shown to compute. -/
module

public import proofs.«01_k».proof.Proof.Scalars
public import Idealize.ShloMosaic.Lib.Pointwise

@[expose] public section

set_option maxRecDepth 16384

noncomputable section

open Idealize.ShloMosaic Idealize.ShloMosaic.TcCoe Idealize.SL.Sem

namespace Cert.ProjGlaSpec

/-- The result at row `i 0` and column `i 1`. -/
def whole (x : (⟨2, ![16896, 2048]⟩ : Shape).Idx → EReal) (w : (⟨2, ![2048, 10768]⟩ : Shape).Idx → EReal) :
    (⟨2, ![16896, 6144]⟩ : Shape).Idx → EReal := fun i =>
  ∑ k : Fin 2048, x (ix2 (n0 := 16896) (n1 := 2048) (i 0) k) * w (ix2 (n0 := 2048) (n1 := 10768) k ⟨(i 1).val, by have h1 : (i 1).val < 6144 := (i 1).isLt; omega⟩)

end Cert.ProjGlaSpec

end
-- ==== Proof.ProjGlaValue.lean ====
/- The projection to the recurrence's queries, keys, values and output gate, the kernel's side: the result array after the run. -/
module

public import proofs.«01_k».proof.Proof.ProjGlaBlock
public import proofs.«01_k».proof.Proof.ProjGlaSpec

@[expose] public section

set_option maxRecDepth 16384

noncomputable section

open Idealize.ShloMosaic Idealize.ShloMosaic.TcCoe Idealize.SL.Sem
open Idealize.ShloMosaic.Pipeline (Dat)

namespace Cert.ProjGlaIdeal.Final

open Cert.ProjGlaIdeal Cert.ProjGlaIdeal.Gen Cert.ProjGlaIdeal.Blk Cert.ProjGlaSpec

variable (m : (ℓ : Loc nD τ sig) → Buf (Elt Ideal) ℓ) (ρ : Dev nD → PrngReg)

/-- The index maps over the grid: point `t` takes row block `t % 11` and column block `t / 11`. -/
theorem idx_in : ∀ t : Fin cfg0.N, win0_0.index t (0 : Fin 2) = t.val % 11 ∧ win0_0.index t (1 : Fin 2) = 0
    ∧ win0_1.index t (0 : Fin 2) = t.val / 11 * 1024 ∧ win0_1.index t (1 : Fin 2) = 0
    ∧ win0_2.index t (0 : Fin 2) = t.val % 11 ∧ win0_2.index t (1 : Fin 2) = t.val / 11 :=
  (by decide +kernel : ∀ t : Fin grid0.N, _)

/-- The transposed weights, as the region finds them. -/
theorem V_main_v0 (c : Dev nD) : V m c main_v0
    = (transpose S10768x2048 [1, 0] (m ((c : Thread nD τ).loc main_arg1) : Vec Ideal S2048x10768 .f32) transposes_S2048x10768_S10768x2048_1_0 : Vec Ideal S10768x2048 .f32) := by
  show StableHlo.after hostOps0 _ (Proc.devRef .tc main_v0) = _
  after_results

theorem x_apply (c : Dev nD) (t : Fin cfg0.N) (r : Fin 1536) (e : Fin 2048) (i : S16896x2048.Idx)
    (h0 : (i 0).val = t.val % 11 * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  obtain ⟨e0, e1, -⟩ := idx_in t
  funext a
  apply Fin.ext
  match a with
  | ⟨0, _⟩ => show win0_0.index t (0 : Fin 2) * 1536 + 1 * r.val = (i 0).val; rw [e0]; omega
  | ⟨1, _⟩ => show win0_0.index t (1 : Fin 2) * 2048 + 1 * e.val = (i 1).val; rw [e1]; omega

theorem w_apply (c : Dev nD) (t : Fin cfg0.N) (e : Fin 1024) (k : Fin 2048) (i : S2048x10768.Idx)
    (h0 : (i 0).val = k.val) (h1 : (i 1).val = t.val / 11 * 1024 + e.val) :
    iblk m c 1 t (ix2 e k) = m ((c : Thread nD τ).loc main_arg1) i := by
  unfold iblk
  rw [View.read_apply]
  show V m c main_v0 _ = _
  rw [V_main_v0]
  have hN : cfg0.N = 66 := N_0
  have ht := t.isLt
  obtain ⟨-, -, e0, e1, -⟩ := idx_in t
  idx_vars i
  have g0 : i0 = k := Fin.ext h0
  have g1 : i1.val = t.val / 11 * 1024 + e.val := h1
  have hi : ((cfg0.win 1).blk t).view.emb (ix2 e k) = ix2 (n0 := 10768) (n1 := 2048) i1 i0 := by
    funext a
    apply Fin.ext
    match a with
    | ⟨0, _⟩ => show win0_1.index t (0 : Fin 2) + 1 * e.val = i1.val; rw [e0]; omega
    | ⟨1, _⟩ => show win0_1.index t (1 : Fin 2) + 1 * k.val = i0.val; rw [e1, g0]; omega
  rw [hi]
  pointwise

/-- Points of one column block see one block of weights. -/
theorem w_step (c : Dev nD) (t t' : Fin cfg0.N) (h : t.val / 11 = t'.val / 11) :
    (iblk m c 1 t : S1024x2048.Idx → EReal) = iblk m c 1 t' := by
  have hN : cfg0.N = 66 := N_0
  have ht := t.isLt
  funext y
  idx_vars y
  have hy : y0.val < 1024 := y0.isLt
  have h4 : y1.val < 2048 := y1.isLt
  rw [w_apply m c t y0 y1 (ix2 ⟨y1.val, h4⟩ ⟨t.val / 11 * 1024 + y0.val, by omega⟩) rfl rfl,
    w_apply m c t' y0 y1 (ix2 ⟨y1.val, h4⟩ ⟨t.val / 11 * 1024 + y0.val, by omega⟩) rfl (by show t.val / 11 * 1024 + y0.val = _; rw [h])]

/-- After any point the scratch holds the weights of the point's column block. -/
theorem scratch_eq (c : Dev nD) : ∀ (n : ℕ) (h : n < cfg0.N),
    ((outsAt0 m c n h).2 : S1024x2048.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 11 = (n + 1) / 11; omega)

/-- So every point leaves the product of its rows and columns in its output block. -/
theorem outs_eq (c : Dev nD) (t : Fin cfg0.N) :
    (outsAt0 m c t.val t.isLt).1 = block (iblk m c 0 t) (iblk m c 1 t) := by
  by_cases h0 : t.val % 11 = 0
  · rw [outsAt0_A m c t h0]
    dsimp only
    rw [out_A]
  · rw [outsAt0_B m c t h0]
    dsimp only
    rw [out_B]
    have hN : cfg0.N = 66 := N_0
    have ht := t.isLt
    have e : ((outsAt0 m c (t.val - 1) (Nat.lt_of_le_of_lt (Nat.sub_le _ _) t.isLt)).2 : S1024x2048.Idx → EReal) = iblk m c 1 t :=
      (scratch_eq m c (t.val - 1) (by omega)).trans (w_step m c _ _ (by show (t.val - 1) / 11 = t.val / 11; omega))
    rw [e]

/-- The result as a function of the arguments. -/
abbrev result (c : Dev nD) : Buf (Elt Ideal) ((c : Thread nD τ).loc main_v1) :=
  whole (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  rw [Value.flushed2, outs_eq]
  have hN : cfg0.N = 66 := N_0
  have ht := t.isLt
  obtain ⟨-, -, -, -, e0, e1⟩ := idx_in t
  funext y
  have hy0 : (y 0).val < 1536 := (y 0).isLt
  have hy1 : (y 1).val < 1024 := (y 1).isLt
  have hb0 : (((cfg0.win 2).blk t).view.emb y 0).val = win0_2.index t (0 : Fin 2) * 1536 + 1 * (y 0).val := rfl
  have hb1 : (((cfg0.win 2).blk t).view.emb y 1).val = win0_2.index t (1 : Fin 2) * 1024 + 1 * (y 1).val := rfl
  rw [e0] at hb0
  rw [e1] at hb1
  rw [View.read_apply]
  show block (iblk m c 0 t) (iblk m c 1 t) ((cfg0.win 2).xinj (grid0.coords t) y) = whole _ _ (((cfg0.win 2).blk t).view.emb y)
  unfold block whole
  refine Finset.sum_congr rfl fun k _ => ?_
  congr 1
  · exact x_apply m c t _ _ _ (by show (((cfg0.win 2).blk t).view.emb y 0).val = t.val % 11 * 1536 + (y 0).val; omega) rfl
  · exact w_apply m c t _ _ _ rfl (by show (((cfg0.win 2).blk t).view.emb y 1).val = t.val / 11 * 1024 + (y 1).val; omega)

theorem final (c : Dev nD) : (dats m 0 c).arrAt 2 cfg0.N = result m c :=
  (dats m 0 c).arrAt_eq_of_cover 2 _ (fun t hf => flushed_eq m c t hf) (fun i => (Value.covered_iff2 i).2 (by
    have h0 : (i 0).val < 16896 := (i 0).isLt; have h1 : (i 1).val < 6144 := (i 1).isLt; omega))

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (final m c),
      Value.kept_main_arg0 m r h c, Value.kept_main_arg1 m r h c⟩)
    (run_main m ρ)

end Cert.ProjGlaIdeal.Final

end
-- ==== Proof.ProjGlaRefValue.lean ====
/- The projection to the recurrence's queries, keys, values and output gate, the reference's side: its result at an index. -/
module

public import proofs.«01_k».proof.Proof.ProjGlaSpec
public import proofs.«01_k».proof.Proof.Gen.ProjGlaRefIdeal.Read
public import proofs.«01_k».proof.Proof.Gen.ProjGlaRefIdeal.Run

@[expose] public section

set_option maxRecDepth 16384

noncomputable section

open Idealize.ShloMosaic Idealize.ShloMosaic.TcCoe Idealize.SL.Sem

namespace Cert.ProjGlaRefIdeal.Final

open Cert.ProjGlaRefIdeal Cert.ProjGlaRefIdeal.Gen Cert.ProjGlaRefIdeal.Read Cert.ProjGlaSpec

theorem ref_eq (x : (⟨S16896x2048, .bf16⟩ : BufTy).Contents (Elt Ideal)) (w : (⟨S2048x10768, .f32⟩ : BufTy).Contents (Elt Ideal)) :
    val_main_v2 x w = whole x w := by
  funext i
  idx_vars i
  unfold whole
  pointwise [val_main_v2, val_main_v1, val_main_v0]

end Cert.ProjGlaRefIdeal.Final

end
-- ==== Proof.GatesBlock.lean ====
/- The branch gates: what the kernel's body leaves in its block, as plain sums. -/
module

public import proofs.«01_k».proof.Proof.Scalars
public import proofs.«01_k».proof.Proof.Gen.GatesIdeal.Value
public import Idealize.ShloMosaic.Lib.Pointwise

@[expose] public section

set_option maxRecDepth 16384

noncomputable section

open Idealize.ShloMosaic Idealize.ShloMosaic.TcCoe Idealize.SL.Sem

namespace Cert.GatesIdeal.Blk

open Cert.GatesIdeal Cert.GatesIdeal.Gen

theorem hz : (![0, 0] : Fin 2 → Nat) = fun _ => 0 := funext fun a => by fin_cases a <;> rfl

/-- The block a point leaves, from its rows and its columns' weights and biases. -/
def block (x : Vec Ideal S1536x2048 .bf16) (w : S2048x1024.Idx → EReal) (b : Vec Ideal S1x1024 .f32) : Vec Ideal S1536x1024 .f32 := fun y =>
  Scalars.sigmoid ((∑ k : Fin 2048, x (ix2 (n0 := 1536) (n1 := 2048) (y 0) k) * w (ix2 (n0 := 2048) (n1 := 1024) k (y 1))) + b (ix2 (n0 := 1) (n1 := 1024) 0 (y 1)))

theorem pay2_apply (q : Vec Ideal S768x2048 .bf16) (w : Vec Ideal S2048x1024 .bf16) (b : Vec Ideal S1x1024 .f32) (r : Fin 768) (e : Fin 1024) :
    k0_pay2 q w b (ix2 r e) = Scalars.sigmoid ((∑ k : Fin 2048, q (ix2 r k) * w (ix2 (n0 := 2048) (n1 := 1024) k e)) + b (ix2 (n0 := 1) (n1 := 1024) 0 e)) := by
  pointwise [k0_pay2]
  rw [← Scalars.half_tanh, Scalars.ofBits_half]

/-- The rows from `o` on of the block, stored in one piece. -/
theorem half_lo (x : Vec Ideal S1536x2048 .bf16) (w : Vec Ideal S2048x1024 .bf16) (b : Vec Ideal S1x1024 .f32) (o : ℕ) (ho : o + 768 ≤ 1536)
    (q : Vec Ideal S768x2048 .bf16) (hq : ∀ r d, q (ix2 r d) = x (ix2 (n0 := 1536) (n1 := 2048) ⟨o + r.val, by omega⟩ d))
    (j : S768x1024.Idx) (y : S1536x1024.Idx) (h0 : (y 0).val = o + (j 0).val) (h1 : (y 1).val = (j 1).val) :
    k0_pay2 q w b j = block x w b y := by
  idx_vars j
  idx_vars y
  have hj : j0.val < 768 := j0.isLt
  have e1 : y1 = j1 := Fin.ext h1
  subst e1
  have e0 : (⟨o + j0.val, by omega⟩ : Fin 1536) = y0 := Fin.ext h0.symm
  rw [pay2_apply]
  unfold block
  simp only [hq, e0]
  rfl

theorem half_hi (x : Vec Ideal S1536x2048 .bf16) (w : Vec Ideal S2048x1024 .bf16) (b : Vec Ideal S1x1024 .f32) (o : ℕ) (ho : o + 768 ≤ 1536)
    (q : Vec Ideal S768x2048 .bf16) (hq : ∀ r d, q (ix2 r d) = x (ix2 (n0 := 1536) (n1 := 2048) ⟨o + r.val, by omega⟩ d))
    (j : S768x1024.Idx) (y : S1536x1024.Idx) (h0 : (y 0).val = o + (j 0).val) (h1 : (y 1).val = (j 1).val) :
    k0_pay3 q w b j = block x w b y := by
  rw [show k0_pay3 q w b j = k0_pay2 q w b j from rfl]
  exact half_lo x w b o ho q hq j y h0 h1

theorem pay1_eq (x : Vec Ideal S2048x1024 .f32) : k0_pay1 x = (x : S2048x1024.Idx → EReal) := by
  unfold k0_pay1
  simp only [shapeCast_self]
  rfl

/-- The weights a column block's first point casts and stores, read back through a rectangle. -/
theorem kept (v : View sig .tc .vmem S2048x1024 .bf16) (x1 : Vec Ideal S2048x1024 .f32) (r : Rect S2048x1024) :
    v.readCov (Val := Elt Ideal) [⟨Rect.unit ![0, 0] ![2048, 1024] inb_S2048x1024_S2048x1024_0_0,
      k0_pay1 x1⟩] r.toLoadRect
      = View.ld (Val := Elt Ideal) (e' := .bf16) x1 r := by
  rw [View.readCov_eq_canon_ld _ _ _ (fun y => ⟨_, List.mem_singleton_self _, View.mem_set_unit_zero hz inb_S2048x1024_S2048x1024_0_0 y⟩),
    View.canon_unit_zero hz, pay1_eq]

theorem sout_A (c : Dev nD) (i : grid0.Coords) (a2 : Memref sig .tc .vmem S1536x2048 .bf16) (h2 : a2.IsWhole) (a3 : Memref sig .tc .vmem S2048x1024 .f32) (h3 : a3.IsWhole) (a4 : Memref sig .tc .vmem S1x1024 .f32) (h4 : a4.IsWhole) (a5 : Memref sig .tc .vmem S1536x1024 .f32) (h5 : a5.IsWhole) (a6 : Memref sig .tc .vmem S2048x1024 .bf16) (h6 : a6.IsWhole) (hc : cond0_0 i)
    (x0 : Vec Ideal S1536x2048 .bf16) (x1 : Vec Ideal S2048x1024 .f32) (x2 : Vec Ideal S1x1024 .f32) :
    sout0_A_0 c i a2 h2 a3 h3 a4 h4 a5 h5 a6 h6 hc x0 x1 x2 = (x1 : S2048x1024.Idx → EReal) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h3.read_unread, View.ld_unit_zero (S := S2048x1024) hz, pay1_eq]

theorem out_A (c : Dev nD) (i : grid0.Coords) (a2 : Memref sig .tc .vmem S1536x2048 .bf16) (h2 : a2.IsWhole) (a3 : Memref sig .tc .vmem S2048x1024 .f32) (h3 : a3.IsWhole) (a4 : Memref sig .tc .vmem S1x1024 .f32) (h4 : a4.IsWhole) (a5 : Memref sig .tc .vmem S1536x1024 .f32) (h5 : a5.IsWhole) (a6 : Memref sig .tc .vmem S2048x1024 .bf16) (h6 : a6.IsWhole) (hc : cond0_0 i)
    (x0 : Vec Ideal S1536x2048 .bf16) (x1 : Vec Ideal S2048x1024 .f32) (x2 : Vec Ideal S1x1024 .f32) :
    out0_A_3 c i a2 h2 a3 h3 a4 h4 a5 h5 a6 h6 hc x0 x1 x2 = block x0 x1 x2 := by
  funext y
  unfold out0_A_3
  rw [View.read_writes_eq_canon _ _ _ (cover0_A_3 c i a2 h2 a3 h3 a4 h4 a5 h5 a6 h6 hc x0 x1 x2)]
  refine View.canon_apply_of_pieces (block x0 x1 x2) _ (fun p hp j => ?_) y (cover0_A_3 c i a2 h2 a3 h3 a4 h4 a5 h5 a6 h6 hc x0 x1 x2 y)
  unfold kernelRun0_A at hp
  dsimp only at hp
  simp only [List.mem_cons, List.mem_nil_iff, or_false] at hp
  rcases hp with rfl | rfl
  all_goals
    dsimp only
    sl_unfold_words
    simp only [View.readAt_eq_ld, h2.read_unread, h3.read_unread, h4.read_unread]
    simp only [kept, View.ld_unit_zero (S := S2048x1024) hz, View.ld_unit_zero (S := S1x1024) hz]
  · exact half_hi x0 x1 x2 768 (by omega) _ (fun _ _ => by pointwise) j _ (by show 768 + 1 * (j 0).val = 768 + (j 0).val; omega) (by show 0 + 1 * (j 1).val = (j 1).val; omega)
  · exact half_lo x0 x1 x2 0 (by omega) _ (fun _ _ => by pointwise) j _ (by show 0 + 1 * (j 0).val = 0 + (j 0).val; omega) (by show 0 + 1 * (j 1).val = (j 1).val; omega)

theorem out_B (c : Dev nD) (i : grid0.Coords) (a2 : Memref sig .tc .vmem S1536x2048 .bf16) (h2 : a2.IsWhole) (a3 : Memref sig .tc .vmem S2048x1024 .f32) (h3 : a3.IsWhole) (a4 : Memref sig .tc .vmem S1x1024 .f32) (h4 : a4.IsWhole) (a5 : Memref sig .tc .vmem S1536x1024 .f32) (h5 : a5.IsWhole) (a6 : Memref sig .tc .vmem S2048x1024 .bf16) (h6 : a6.IsWhole) (hc : ¬cond0_0 i)
    (x0 : Vec Ideal S1536x2048 .bf16) (x1 : Vec Ideal S2048x1024 .f32) (x2 : Vec Ideal S1x1024 .f32) (xs : Vec Ideal S2048x1024 .bf16) :
    out0_B_3 c i a2 h2 a3 h3 a4 h4 a5 h5 a6 h6 hc x0 x1 x2 xs = block x0 xs x2 := by
  funext y
  unfold out0_B_3
  rw [View.read_writes_eq_canon _ _ _ (cover0_B_3 c i a2 h2 a3 h3 a4 h4 a5 h5 a6 h6 hc x0 x1 x2 xs)]
  refine View.canon_apply_of_pieces (block x0 xs x2) _ (fun p hp j => ?_) y (cover0_B_3 c i a2 h2 a3 h3 a4 h4 a5 h5 a6 h6 hc x0 x1 x2 xs y)
  unfold kernelRun0_B at hp
  dsimp only at hp
  simp only [List.mem_cons, List.mem_nil_iff, or_false] at hp
  rcases hp with rfl | rfl
  all_goals
    dsimp only
    sl_unfold_words
    simp only [View.readAt_eq_ld, h2.read_unread, h3.read_unread, h4.read_unread, h6.read_unread, View.ld_unit_zero (S := S2048x1024) hz, View.ld_unit_zero (S := S1x1024) hz]
  · exact half_hi x0 xs x2 768 (by omega) _ (fun _ _ => by pointwise) j _ (by show 768 + 1 * (j 0).val = 768 + (j 0).val; omega) (by show 0 + 1 * (j 1).val = (j 1).val; omega)
  · exact half_lo x0 xs x2 0 (by omega) _ (fun _ _ => by pointwise) j _ (by show 0 + 1 * (j 0).val = 0 + (j 0).val; omega) (by show 0 + 1 * (j 1).val = (j 1).val; omega)

end Cert.GatesIdeal.Blk

end
-- ==== Proof.GatesSpec.lean ====
/- The branch gates, whole, over the extended reals: what both programs are shown to compute. -/
module

public import proofs.«01_k».proof.Proof.Scalars
public import Idealize.ShloMosaic.Lib.Pointwise

@[expose] public section

set_option maxRecDepth 16384

noncomputable section

open Idealize.ShloMosaic Idealize.ShloMosaic.TcCoe Idealize.SL.Sem

namespace Cert.GatesSpec

/-- The result at row `i 0` and column `i 1`. -/
def whole (x : (⟨2, ![16896, 2048]⟩ : Shape).Idx → EReal) (w : (⟨2, ![2048, 6144]⟩ : Shape).Idx → EReal) (b : (⟨1, ![6144]⟩ : Shape).Idx → EReal) :
    (⟨2, ![16896, 6144]⟩ : Shape).Idx → EReal := fun i =>
  Scalars.sigmoid ((∑ k : Fin 2048, x (ix2 (n0 := 16896) (n1 := 2048) (i 0) k) * w (ix2 (n0 := 2048) (n1 := 6144) k (i 1))) + b (ix1 (n0 := 6144) (i 1)))

end Cert.GatesSpec

end
-- ==== Proof.GatesValue.lean ====
/- The branch gates, the kernel's side: the result array after the run. -/
module

public import proofs.«01_k».proof.Proof.GatesBlock
public import proofs.«01_k».proof.Proof.GatesSpec

@[expose] public section

set_option maxRecDepth 16384

noncomputable section

open Idealize.ShloMosaic Idealize.ShloMosaic.TcCoe Idealize.SL.Sem
open Idealize.ShloMosaic.Pipeline (Dat)

namespace Cert.GatesIdeal.Final

open Cert.GatesIdeal Cert.GatesIdeal.Gen Cert.GatesIdeal.Blk Cert.GatesSpec

variable (m : (ℓ : Loc nD τ sig) → Buf (Elt Ideal) ℓ) (ρ : Dev nD → PrngReg)

/-- The index maps over the grid: point `t` takes row block `t % 11` and column block `t / 11`. -/
theorem idx_in : ∀ t : Fin cfg0.N, win0_0.index t (0 : Fin 2) = t.val % 11 ∧ win0_0.index t (1 : Fin 2) = 0
    ∧ win0_1.index t (0 : Fin 2) = 0 ∧ win0_1.index t (1 : Fin 2) = t.val / 11
    ∧ win0_2.index t (0 : Fin 2) = 0 ∧ win0_2.index t (1 : Fin 2) = t.val / 11
    ∧ win0_3.index t (0 : Fin 2) = t.val % 11 ∧ win0_3.index t (1 : Fin 2) = t.val / 11 :=
  (by decide +kernel : ∀ t : Fin grid0.N, _)

/-- The bias row, as the region finds it. -/
theorem V_main_v0 (c : Dev nD) : V m c main_v0
    = (shapeCast S1x6144 (m ((c : Thread nD τ).loc main_arg2) : Vec Ideal S6144 .f32) shapeCasts_S6144_S1x6144 : Vec Ideal S1x6144 .f32) := by
  show StableHlo.after hostOps0 _ (Proc.devRef .tc main_v0) = _
  after_results
  rfl

theorem x_apply (c : Dev nD) (t : Fin cfg0.N) (r : Fin 1536) (e : Fin 2048) (i : S16896x2048.Idx)
    (h0 : (i 0).val = t.val % 11 * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  obtain ⟨e0, e1, -⟩ := idx_in t
  funext a
  apply Fin.ext
  match a with
  | ⟨0, _⟩ => show win0_0.index t (0 : Fin 2) * 1536 + 1 * r.val = (i 0).val; rw [e0]; omega
  | ⟨1, _⟩ => show win0_0.index t (1 : Fin 2) * 2048 + 1 * e.val = (i 1).val; rw [e1]; omega

theorem w_apply (c : Dev nD) (t : Fin cfg0.N) (k : Fin 2048) (e : Fin 1024) (i : S2048x6144.Idx)
    (h0 : (i 0).val = k.val) (h1 : (i 1).val = t.val / 11 * 1024 + e.val) :
    iblk m c 1 t (ix2 k e) = m ((c : Thread nD τ).loc main_arg1) i := by
  unfold iblk
  rw [View.read_apply]
  show V m c main_arg1 _ = _
  rw [V_main_arg1]
  congr 1
  obtain ⟨-, -, e0, e1, -⟩ := idx_in t
  funext a
  apply Fin.ext
  match a with
  | ⟨0, _⟩ => show win0_1.index t (0 : Fin 2) * 2048 + 1 * k.val = (i 0).val; rw [e0]; omega
  | ⟨1, _⟩ => show win0_1.index t (1 : Fin 2) * 1024 + 1 * e.val = (i 1).val; rw [e1]; omega

/-- A vector laid out as one row keeps its entries. -/
theorem row_cast (z : Vec Ideal S6144 .f32) (j : Fin 6144) :
    shapeCast S1x6144 z shapeCasts_S6144_S1x6144 (ix2 (n0 := 1) (n1 := 6144) 0 j) = z (ix1 j) := by
  refine shapeCast_apply z _ _ _ ?_
  rw [Shape.rowMajor_val_one, Shape.rowMajor_val_two]
  show j.val = 0 * 6144 + j.val
  omega

theorem b_apply (c : Dev nD) (t : Fin cfg0.N) (e : Fin 1024) (i : S6144.Idx)
    (h1 : (i 0).val = t.val / 11 * 1024 + e.val) :
    iblk m c 2 t (ix2 (n0 := 1) (n1 := 1024) 0 e) = m ((c : Thread nD τ).loc main_arg2) i := by
  unfold iblk
  rw [View.read_apply]
  show V m c main_v0 _ = _
  rw [V_main_v0]
  obtain ⟨-, -, -, -, e0, e1, -⟩ := idx_in t
  idx_vars i
  have g1 : i0.val = t.val / 11 * 1024 + e.val := h1
  have hi : ((cfg0.win 2).blk t).view.emb (ix2 (n0 := 1) (n1 := 1024) 0 e) = ix2 (n0 := 1) (n1 := 6144) 0 i0 := by
    funext a
    apply Fin.ext
    match a with
    | ⟨0, _⟩ => show win0_2.index t (0 : Fin 2) * 1 + 1 * 0 = 0; rw [e0]
    | ⟨1, _⟩ => show win0_2.index t (1 : Fin 2) * 1024 + 1 * e.val = i0.val; rw [e1]; omega
  rw [hi]
  exact row_cast (m ((c : Thread nD τ).loc main_arg2)) i0

/-- Points of one column block see one block of weights. -/
theorem w_step (c : Dev nD) (t t' : Fin cfg0.N) (h : t.val / 11 = t'.val / 11) :
    (iblk m c 1 t : S2048x1024.Idx → EReal) = iblk m c 1 t' := by
  have hN : cfg0.N = 66 := N_0
  have ht := t.isLt
  funext y
  idx_vars y
  have hy : y0.val < 2048 := y0.isLt
  have h4 : y1.val < 1024 := y1.isLt
  rw [w_apply m c t y0 y1 (ix2 ⟨y0.val, hy⟩ ⟨t.val / 11 * 1024 + y1.val, by omega⟩) rfl rfl,
    w_apply m c t' y0 y1 (ix2 ⟨y0.val, hy⟩ ⟨t.val / 11 * 1024 + y1.val, by omega⟩) rfl (by show t.val / 11 * 1024 + y1.val = _; rw [h])]

/-- After any point the scratch holds the weights of the point's column block. -/
theorem scratch_eq (c : Dev nD) : ∀ (n : ℕ) (h : n < cfg0.N),
    ((outsAt0 m c n h).2 : S2048x1024.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 11 = (n + 1) / 11; omega)

/-- So every point leaves the product of its rows and columns in its output block. -/
theorem outs_eq (c : Dev nD) (t : Fin cfg0.N) :
    (outsAt0 m c t.val t.isLt).1 = block (iblk m c 0 t) (iblk m c 1 t) (iblk m c 2 t) := by
  by_cases h0 : t.val % 11 = 0
  · rw [outsAt0_A m c t h0]
    dsimp only
    rw [out_A]
  · rw [outsAt0_B m c t h0]
    dsimp only
    rw [out_B]
    have hN : cfg0.N = 66 := N_0
    have ht := t.isLt
    have e : ((outsAt0 m c (t.val - 1) (Nat.lt_of_le_of_lt (Nat.sub_le _ _) t.isLt)).2 : S2048x1024.Idx → EReal) = iblk m c 1 t :=
      (scratch_eq m c (t.val - 1) (by omega)).trans (w_step m c _ _ (by show (t.val - 1) / 11 = t.val / 11; omega))
    rw [e]

/-- The result as a function of the arguments. -/
abbrev result (c : Dev nD) : Buf (Elt Ideal) ((c : Thread nD τ).loc main_v1) :=
  whole (m ((c : Thread nD τ).loc main_arg0)) (m ((c : Thread nD τ).loc main_arg1)) (m ((c : Thread nD τ).loc main_arg2))

theorem flushed_eq (c : Dev nD) (t : Fin cfg0.N) (hf : (cfg0.win 3).flush t = true) :
    (dats m 0 c).flushed 3 t = ((cfg0.win 3).blk t).view.read (Elt Ideal) (result m c) := by
  rw [Value.flushed3, outs_eq]
  have hN : cfg0.N = 66 := N_0
  have ht := t.isLt
  obtain ⟨-, -, -, -, -, -, e0, e1⟩ := idx_in t
  funext y
  have hy0 : (y 0).val < 1536 := (y 0).isLt
  have hy1 : (y 1).val < 1024 := (y 1).isLt
  have hb0 : (((cfg0.win 3).blk t).view.emb y 0).val = win0_3.index t (0 : Fin 2) * 1536 + 1 * (y 0).val := rfl
  have hb1 : (((cfg0.win 3).blk t).view.emb y 1).val = win0_3.index t (1 : Fin 2) * 1024 + 1 * (y 1).val := rfl
  rw [e0] at hb0
  rw [e1] at hb1
  rw [View.read_apply]
  show block (iblk m c 0 t) (iblk m c 1 t) (iblk m c 2 t) ((cfg0.win 3).xinj (grid0.coords t) y) = whole _ _ _ (((cfg0.win 3).blk t).view.emb y)
  unfold block whole
  congr 1
  congr 1
  · refine Finset.sum_congr rfl fun k _ => ?_
    congr 1
    · exact x_apply m c t _ _ _ (by show (((cfg0.win 3).blk t).view.emb y 0).val = t.val % 11 * 1536 + (y 0).val; omega) rfl
    · exact w_apply m c t _ _ _ rfl (by show (((cfg0.win 3).blk t).view.emb y 1).val = t.val / 11 * 1024 + (y 1).val; omega)
  · exact b_apply m c t _ _ (by show (((cfg0.win 3).blk t).view.emb y 1).val = t.val / 11 * 1024 + (y 1).val; omega)

theorem final (c : Dev nD) : (dats m 0 c).arrAt 3 cfg0.N = result m c :=
  (dats m 0 c).arrAt_eq_of_cover 3 _ (fun t hf => flushed_eq m c t hf) (fun i => (Value.covered_iff3 i).2 (by
    have h0 : (i 0).val < 16896 := (i 0).isLt; have h1 : (i 1).val < 6144 := (i 1).isLt; omega))

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final m c),
      Value.kept_main_arg0 m r h c, Value.kept_main_arg1 m r h c, Value.kept_main_arg2 m r h c⟩)
    (run_main m ρ)

end Cert.GatesIdeal.Final

end
-- ==== Proof.GatesRefValue.lean ====
/- The branch gates, the reference's side: its result at an index. -/
module

public import proofs.«01_k».proof.Proof.GatesSpec
public import proofs.«01_k».proof.Proof.Gen.GatesRefIdeal.Read
public import proofs.«01_k».proof.Proof.Gen.GatesRefIdeal.Run

@[expose] public section

set_option maxRecDepth 16384

noncomputable section

open Idealize.ShloMosaic Idealize.ShloMosaic.TcCoe Idealize.SL.Sem

namespace Cert.GatesRefIdeal.Final

open Cert.GatesRefIdeal Cert.GatesRefIdeal.Gen Cert.GatesRefIdeal.Read Cert.GatesSpec

theorem ref_eq (x : (⟨S16896x2048, .bf16⟩ : BufTy).Contents (Elt Ideal)) (w : (⟨S2048x6144, .f32⟩ : BufTy).Contents (Elt Ideal)) (b : (⟨S6144, .f32⟩ : BufTy).Contents (Elt Ideal)) :
    val_main_v10 x w b = whole x w b := by
  funext i
  idx_vars i
  unfold whole
  pointwise [val_main_v10, val_main_v9, val_main_v8, val_main_v7, val_main_v6, val_main_v5, val_main_v4, val_main_v3, val_main_v2, val_main_v1, val_main_v0, val_main_cst, val_main_cst_0]
  rfl

end Cert.GatesRefIdeal.Final

end
-- ==== Proof.HeadNorm.lean ====
/- The root-mean-square normalisation of one head of 512 entries, over the extended reals. -/
module

public import Idealize.ShloMosaic.PureOps.Ideal

@[expose] public section

set_option maxRecDepth 16384

noncomputable section

open Idealize.ShloMosaic Idealize.ShloMosaic.TcCoe Idealize.SL.Sem

namespace Cert.HeadNorm

/-- A head scaled by the inverse root of its mean square (the small constant added under the root), then by the learned gain. -/
def normed (a : Fin 512 → EReal) (g : EReal) (j : Fin 512) : EReal :=
  a j * Ideal.rsqrt (Ideal.div (∑ k : Fin 512, a k * a k) (Ideal.ofBits .f32 0x44000000#32) + Ideal.ofBits .f32 0x358637BD#32) * g

end Cert.HeadNorm

end
-- ==== Proof.MemKvSpec.lean ====
/- The memory's keys and values, whole, over the extended reals: what both programs are shown to compute. -/
module

public import proofs.«01_k».proof.Proof.HeadNorm
public import Idealize.ShloMosaic.Lib.Pointwise

@[expose] public section

set_option maxRecDepth 16384

noncomputable section

open Idealize.ShloMosaic Idealize.ShloMosaic.TcCoe Idealize.SL.Sem

namespace Cert.MemKvSpec

/-- A memory row scaled by the inverse root of its mean square (the small constant added under the root), then by the learned gain. -/
def normRow (a : Fin 2048 → EReal) (g : EReal) (k : Fin 2048) : EReal :=
  a k * Ideal.rsqrt (Ideal.div (∑ d : Fin 2048, a d * a d) (Ideal.ofBits .f32 0x45000000#32) + Ideal.ofBits .f32 0x358637BD#32) * g

/-- The normalised memory: sequence `b`, row `r`. -/
def mem (x : (⟨3, ![2, 256, 2048]⟩ : Shape).Idx → EReal) (g : (⟨2, ![1, 2048]⟩ : Shape).Idx → EReal) (b : Fin 2) (r : Fin 256) (k : Fin 2048) : EReal :=
  normRow (fun d => x (ix3 (n0 := 2) (n1 := 256) (n2 := 2048) b r d)) (g (ix2 (n0 := 1) (n1 := 2048) 0 k)) k

/-- Its projection onto column `c` of the keys and values. -/
def proj (x : (⟨3, ![2, 256, 2048]⟩ : Shape).Idx → EReal) (g : (⟨2, ![1, 2048]⟩ : Shape).Idx → EReal) (w : (⟨3, ![1, 2048, 4096]⟩ : Shape).Idx → EReal) (b : Fin 2) (r : Fin 256) (c : Fin 4096) : EReal :=
  ∑ k : Fin 2048, mem x g b r k * w (ix3 (n0 := 1) (n1 := 2048) (n2 := 4096) 0 k c)

/-- Entry `j` of key head `h`. -/
def key (x : (⟨3, ![2, 256, 2048]⟩ : Shape).Idx → EReal) (g : (⟨2, ![1, 2048]⟩ : Shape).Idx → EReal) (w : (⟨3, ![1, 2048, 4096]⟩ : Shape).Idx → EReal) (gk : (⟨2, ![1, 512]⟩ : Shape).Idx → EReal) (b : Fin 2) (r : Fin 256) (h : Fin 4) (j : Fin 512) : EReal :=
  HeadNorm.normed (fun j => proj x g w b r ⟨h.val * 512 + j.val, by omega⟩) (gk (ix2 (n0 := 1) (n1 := 512) 0 j)) j

/-- The result: the keys' columns, each head normalised, then the values' columns. -/
def whole (x : (⟨3, ![2, 256, 2048]⟩ : Shape).Idx → EReal) (g : (⟨2, ![1, 2048]⟩ : Shape).Idx → EReal) (w : (⟨3, ![1, 2048, 4096]⟩ : Shape).Idx → EReal) (gk : (⟨2, ![1, 512]⟩ : Shape).Idx → EReal) : (⟨2, ![512, 4096]⟩ : Shape).Idx → EReal := fun i =>
  if h : (i 1).val < 2048 then
    key x g w gk ⟨(i 0).val / 256, by have h0 : (i 0).val < 512 := (i 0).isLt; omega⟩ ⟨(i 0).val % 256, Nat.mod_lt _ (by omega)⟩
      ⟨(i 1).val / 512, by omega⟩ ⟨(i 1).val % 512, Nat.mod_lt _ (by omega)⟩
  else
    proj x g w ⟨(i 0).val / 256, by have h0 : (i 0).val < 512 := (i 0).isLt; omega⟩ ⟨(i 0).val % 256, Nat.mod_lt _ (by omega)⟩ (i 1)

end Cert.MemKvSpec

end
-- ==== Proof.MemKvBlock.lean ====
/- The memory's keys and values: what the two kernels' bodies leave in their blocks, as plain sums. -/
module

public import proofs.«01_k».proof.Proof.MemKvSpec
public import proofs.«01_k».proof.Proof.Gen.MemKvIdeal.Frame
public import Idealize.ShloMosaic.Lib.Pointwise

@[expose] public section

set_option maxRecDepth 16384

noncomputable section

open Idealize.ShloMosaic Idealize.ShloMosaic.TcCoe Idealize.SL.Sem

namespace Cert.MemKvIdeal.Blk

open Cert.MemKvIdeal Cert.MemKvIdeal.Gen

theorem hz : (![0, 0] : Fin 2 → Nat) = fun _ => 0 := funext fun a => by fin_cases a <;> rfl

/-- The rows a point of the first kernel leaves: each normalised. -/
def rows (x : Vec Ideal S256x2048 .f32) (g : Vec Ideal S1x2048 .f32) : Vec Ideal S256x2048 .bf16 := fun y =>
  MemKvSpec.normRow (fun d => x (ix2 (n0 := 256) (n1 := 2048) (y 0) d)) (g (ix2 (n0 := 1) (n1 := 2048) 0 (y 1))) (y 1)

theorem pay0_apply (x : Vec Ideal S256x2048 .f32) (g : Vec Ideal S1x2048 .f32) (r : Fin 256) (k : Fin 2048) :
    k0_pay1 x g (ix2 r k) = rows x g (ix2 (n0 := 256) (n1 := 2048) r k) := by
  show _ = MemKvSpec.normRow (fun d => x (ix2 (n0 := 256) (n1 := 2048) r d)) (g (ix2 (n0 := 1) (n1 := 2048) 0 k)) k
  unfold MemKvSpec.normRow
  pointwise [k0_pay1]

theorem out0_eq (x : Vec Ideal S256x2048 .f32) (g : Vec Ideal S1x2048 .f32) : out0_2 x g = rows x g := by
  unfold out0_2
  rw [View.canon_unit_zero hz]
  simp only [View.ld_unit_zero (S := S256x2048) hz, View.ld_unit_zero (S := S1x2048) hz]
  funext y
  idx_vars y
  exact pay0_apply x g y0 y1

/-- The block a point of the second kernel leaves before the keys' normalisation. -/
def acc (x : Vec Ideal S512x2048 .bf16) (w : S2048x512.Idx → EReal) (r : Fin 512) (e : Fin 512) : EReal :=
  ∑ k : Fin 2048, x (ix2 (n0 := 512) (n1 := 2048) r k) * w (ix2 (n0 := 2048) (n1 := 512) k e)

/-- The block a point of the second kernel leaves: its head normalised where it is one of the four key heads. -/
def block (h : Fin 8) (x : Vec Ideal S512x2048 .bf16) (w : S2048x512.Idx → EReal) (g : Vec Ideal S1x512 .f32) : Vec Ideal S512x512 .f32 := fun y =>
  if h.val < 4 then HeadNorm.normed (acc x w (y 0)) (g (ix2 (n0 := 1) (n1 := 512) 0 (y 1))) (y 1) else acc x w (y 0) (y 1)

theorem is_key : ∀ h : Fin 8, Scalar.cmpi .slt (BitVec.ofNat 32 h.val) 4#32 = if h.val < 4 then 1#1 else 0#1 := by decide

theorem pay2_apply (i : grid1.Coords) (x : Vec Ideal S512x2048 .bf16) (w : Vec Ideal S2048x512 .bf16) (g : Vec Ideal S1x512 .f32) (r e : Fin 512) :
    k1_pay2 i x w g (ix2 r e) = block (i 0) x w g (ix2 (n0 := 512) (n1 := 512) r e) := by
  show _ = if (i 0).val < 4 then HeadNorm.normed (acc x w r) (g (ix2 (n0 := 1) (n1 := 512) 0 e)) e else acc x w r e
  unfold k1_pay2
  have hk := is_key (i 0)
  dsimp only
  rw [hk]
  split
  · rw [show ∀ a b : FVec Ideal S512x512 .f32, Scalar.select (1#1 : BitVec 1) a b = a from fun _ _ => rfl]
    unfold HeadNorm.normed acc
    pointwise
  · rw [show ∀ a b : FVec Ideal S512x512 .f32, Scalar.select (0#1 : BitVec 1) a b = b from fun _ _ => rfl]
    unfold acc
    pointwise

theorem pay1_eq (x : Vec Ideal S2048x512 .f32) : k1_pay1 x = (x : S2048x512.Idx → EReal) := by
  unfold k1_pay1
  simp only [shapeCast_self]
  rfl

/-- The weights a point casts and stores, read back through a rectangle. -/
theorem kept (v : View sig .tc .vmem S2048x512 .bf16) (x1 : Vec Ideal S2048x512 .f32) (r : Rect S2048x512) :
    v.readCov (Val := Elt Ideal) [⟨Rect.unit ![0, 0] ![2048, 512] inb_S2048x512_S2048x512_0_0,
      k1_pay1 x1⟩] r.toLoadRect
      = View.ld (Val := Elt Ideal) (e' := .bf16) x1 r := by
  rw [View.readCov_eq_canon_ld _ _ _ (fun y => ⟨_, List.mem_singleton_self _, View.mem_set_unit_zero hz inb_S2048x512_S2048x512_0_0 y⟩),
    View.canon_unit_zero hz, pay1_eq]

theorem out_A (c : Dev nD) (i : grid1.Coords) (a2 : Memref sig .tc .vmem S512x2048 .bf16) (h2 : a2.IsWhole) (a3 : Memref sig .tc .vmem S2048x512 .f32) (h3 : a3.IsWhole) (a4 : Memref sig .tc .vmem S1x512 .f32) (h4 : a4.IsWhole) (a5 : Memref sig .tc .vmem S512x512 .f32) (h5 : a5.IsWhole) (a6 : Memref sig .tc .vmem S2048x512 .bf16) (h6 : a6.IsWhole) (hc : cond1_0 i)
    (x0 : Vec Ideal S512x2048 .bf16) (x1 : Vec Ideal S2048x512 .f32) (x2 : Vec Ideal S1x512 .f32) :
    out1_A_3 c i a2 h2 a3 h3 a4 h4 a5 h5 a6 h6 hc x0 x1 x2 = block (i 0) x0 x1 x2 := by
  unfold out1_A_3
  rw [View.read_writes_eq_canon _ _ _ (cover1_A_3 c i a2 h2 a3 h3 a4 h4 a5 h5 a6 h6 hc x0 x1 x2)]
  unfold kernelRun1_A
  dsimp only
  sl_unfold_words
  rw [View.canon_unit_zero hz]
  simp only [View.readAt_eq_ld, h2.read_unread, h3.read_unread, h4.read_unread]
  simp only [kept, View.ld_unit_zero (S := S512x2048) hz, View.ld_unit_zero (S := S2048x512) hz, View.ld_unit_zero (S := S1x512) hz]
  funext y
  idx_vars y
  exact pay2_apply i x0 x1 x2 y0 y1

end Cert.MemKvIdeal.Blk

end
-- ==== Proof.MemKvValue.lean ====
/- The memory's keys and values, the kernels' side: the result array after the run. -/
module

public import proofs.«01_k».proof.Proof.MemKvBlock

@[expose] public section

set_option maxRecDepth 16384

noncomputable section

open Idealize.ShloMosaic Idealize.ShloMosaic.TcCoe Idealize.SL.Sem

open Idealize.ShloMosaic.Pipeline (Dat)

namespace Cert.MemKvIdeal.Final

open Cert.MemKvIdeal Cert.MemKvIdeal.Gen Cert.MemKvIdeal.Blk Cert.MemKvSpec

variable (m : (ℓ : Loc nD τ sig) → Buf (Elt Ideal) ℓ) (ρ : Dev nD → PrngReg)

/-! ## The first kernel: the normalised memory -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flush0 : ∀ t : Fin cfg0.N, (cfg0.win 2).flush t = true :=
  (by decide +kernel : ∀ t : Fin grid0.N, win0_2.flush t = true)

theorem V1_v0 (c : Dev nD) : V1 m ρ c main_v0
    = (shapeCast S512x2048 (m ((c : Thread nD τ).loc main_arg0) : Vec Ideal S2x256x2048 .f32) shapeCasts_S2x256x2048_S512x2048 : Vec Ideal S512x2048 .f32) := by
  show StableHlo.after hostOps0 _ (Proc.devRef .tc main_v0) = _
  after_results
  rfl

theorem V1_v2 (c : Dev nD) : V1 m ρ c main_v2
    = (shapeCast S1x2048 (shapeCast S2048 (m ((c : Thread nD τ).loc main_arg1) : Vec Ideal S1x2048 .f32) shapeCasts_S1x2048_S2048 : Vec Ideal S2048 .f32) shapeCasts_S2048_S1x2048 : Vec Ideal S1x2048 .f32) := by
  show StableHlo.after hostOps0 _ (Proc.devRef .tc main_v2) = _
  after_results
  rfl

/-- The memory's two sequences laid out one after the other. -/
theorem cast_x (z : Vec Ideal S2x256x2048 .f32) (b : Fin 2) (r : Fin 256) (k : Fin 2048) (n : Fin 512) (h : n.val = b.val * 256 + r.val) :
    shapeCast S512x2048 z shapeCasts_S2x256x2048_S512x2048 (ix2 (n0 := 512) (n1 := 2048) n k) = z (ix3 b r k) := by
  refine shapeCast_apply z _ _ _ ?_
  rw [Shape.rowMajor_val_two, Shape.rowMajor_val_three]
  show (b.val * 256 + r.val) * 2048 + k.val = n.val * 2048 + k.val
  omega

theorem cast_g (z : Vec Ideal S1x2048 .f32) :
    shapeCast S1x2048 (shapeCast S2048 z shapeCasts_S1x2048_S2048 : Vec Ideal S2048 .f32) shapeCasts_S2048_S1x2048 = z := by
  funext i
  idx_vars i
  pointwise

theorem x_apply (c : Dev nD) (t : Fin cfg0.N) (b : Fin 2) (hb : b.val = t.val) (r : Fin 256) (k : Fin 2048) :
    iblk0 (V1 m ρ) c 0 t (ix2 r k) = m ((c : Thread nD τ).loc main_arg0) (ix3 (n0 := 2) (n1 := 256) (n2 := 2048) b r k) := by
  unfold iblk0
  rw [View.read_apply]
  show V1 m ρ c main_v0 _ = _
  rw [V1_v0]
  obtain ⟨e0, e1, -⟩ := idx0 t
  have hi : ((cfg0.win 0).blk t).view.emb (ix2 r k) = ix2 (n0 := 512) (n1 := 2048) ⟨b.val * 256 + r.val, by omega⟩ k := by
    funext a
    apply Fin.ext
    match a with
    | ⟨0, _⟩ => show win0_0.index t (0 : Fin 2) * 256 + 1 * r.val = b.val * 256 + r.val; rw [e0]; omega
    | ⟨1, _⟩ => show win0_0.index t (1 : Fin 2) * 2048 + 1 * k.val = k.val; rw [e1]; omega
  rw [hi]
  exact cast_x (m ((c : Thread nD τ).loc main_arg0)) b r k _ rfl

theorem g_apply (c : Dev nD) (t : Fin cfg0.N) (k : Fin 2048) :
    iblk0 (V1 m ρ) c 1 t (ix2 (n0 := 1) (n1 := 2048) 0 k) = m ((c : Thread nD τ).loc main_arg1) (ix2 (n0 := 1) (n1 := 2048) 0 k) := by
  unfold iblk0
  rw [View.read_apply]
  show V1 m ρ c main_v2 _ = _
  rw [V1_v2]
  obtain ⟨-, -, e0, e1, -⟩ := idx0 t
  have hi : ((cfg0.win 1).blk t).view.emb (ix2 (n0 := 1) (n1 := 2048) 0 k) = ix2 (n0 := 1) (n1 := 2048) 0 k := by
    funext a
    apply Fin.ext
    match a with
    | ⟨0, _⟩ => show win0_1.index t (0 : Fin 2) * 1 + 1 * 0 = 0; rw [e0]
    | ⟨1, _⟩ => show win0_1.index t (1 : Fin 2) * 2048 + 1 * k.val = k.val; rw [e1]; omega
  rw [hi]
  exact congrFun (cast_g (m ((c : Thread nD τ).loc main_arg1))) _

/-- The normalised memory, as the second kernel takes it. -/
abbrev normed (c : Dev nD) : Buf (Elt Ideal) ((c : Thread nD τ).loc main_v3) := fun (i : S512x2048.Idx) =>
  mem (m ((c : Thread nD τ).loc main_arg0)) (m ((c : Thread nD τ).loc main_arg1)) ⟨(i 0).val / 256, by have h0 : (i 0).val < 512 := (i 0).isLt; omega⟩ ⟨(i 0).val % 256, Nat.mod_lt _ (by omega)⟩ (i 1)

theorem flushed0_eq (c : Dev nD) (t : Fin cfg0.N) (hf : (cfg0.win 2).flush t = true) :
    (dat0 (V1 m ρ) c).flushed 2 t = ((cfg0.win 2).blk t).view.read (Elt Ideal) (normed m c) := by
  show (cfg0.win 2).cut (grid0.coords t) ((dat0 (V1 m ρ) c).after 2 t) = _
  rw [after0_2, out0_eq]
  obtain ⟨-, -, -, -, e0, e1⟩ := idx0 t
  have ht : t.val < 2 := Nat.lt_of_lt_of_eq t.isLt N_0
  funext y
  have hy0 : (y 0).val < 256 := (y 0).isLt
  have hy1 : (y 1).val < 2048 := (y 1).isLt
  have hb0 : (((cfg0.win 2).blk t).view.emb y 0).val = win0_2.index t (0 : Fin 2) * 256 + 1 * (y 0).val := rfl
  have hb1 : (((cfg0.win 2).blk t).view.emb y 1).val = win0_2.index t (1 : Fin 2) * 2048 + 1 * (y 1).val := rfl
  rw [e0] at hb0
  rw [e1] at hb1
  rw [View.read_apply]
  have q0 : (⟨(((cfg0.win 2).blk t).view.emb y 0).val / 256, by omega⟩ : Fin 2) = ⟨t.val, ht⟩ := Fin.ext (by show _ / 256 = t.val; omega)
  have q1 : (⟨(((cfg0.win 2).blk t).view.emb y 0).val % 256, Nat.mod_lt _ (by omega)⟩ : Fin 256) = ⟨(y 0).val, hy0⟩ := Fin.ext (by show _ % 256 = (y 0).val; omega)
  have q2 : (((cfg0.win 2).blk t).view.emb y 1 : Fin 2048) = ⟨(y 1).val, hy1⟩ := Fin.ext (by show _ = (y 1).val; omega)
  show rows (iblk0 (V1 m ρ) c 0 t) (iblk0 (V1 m ρ) c 1 t) (ix2 (n0 := 256) (n1 := 2048) ⟨(y 0).val, hy0⟩ ⟨(y 1).val, hy1⟩)
    = mem _ _ ⟨(((cfg0.win 2).blk t).view.emb y 0).val / 256, _⟩ ⟨(((cfg0.win 2).blk t).view.emb y 0).val % 256, _⟩ (((cfg0.win 2).blk t).view.emb y 1 : Fin 2048)
  rw [q0, q1, q2]
  unfold rows mem
  exact congrArg₂ (fun (a : Fin 2048 → EReal) (b : EReal) => normRow a b (⟨(y 1).val, hy1⟩ : Fin 2048)) (funext fun d => x_apply m ρ c t ⟨t.val, ht⟩ rfl _ d) (g_apply m ρ c t _)

theorem mem_blk0 (i : S512x2048.Idx) (t : Fin cfg0.N) :
    i ∈ ((cfg0.win 2).blk t).view.set ↔ ∀ a : Fin 2, win0_2.index t a * (![256, 2048] : Fin 2 → ℕ) a ≤ (i a).val ∧ (i a).val < win0_2.index t a * (![256, 2048] : Fin 2 → ℕ) a + (![256, 2048] : Fin 2 → ℕ) a := by
  show i ∈ ((View.whole main_v3).slice (win0_2.rect t)).set ↔ _
  rw [View.set_slice_whole, Rect.mem_set_unit]
  exact Iff.rfl

theorem covered0 (i : S512x2048.Idx) : ∃ t : Fin cfg0.N, (cfg0.win 2).flush t = true ∧ i ∈ ((cfg0.win 2).blk t).view.set := by
  have hN : cfg0.N = 2 := N_0
  have h0 : (i 0).val < 512 := (i 0).isLt
  have h1 : (i 1).val < 2048 := (i 1).isLt
  refine ⟨⟨(i 0).val / 256, by omega⟩, flush0 _, (mem_blk0 i _).2 fun a => ?_⟩
  obtain ⟨-, -, -, -, e0, e1⟩ := idx0 ⟨(i 0).val / 256, by omega⟩
  match a with
  | ⟨0, _⟩ =>
    show win0_2.index _ (0 : Fin 2) * 256 ≤ (i 0).val ∧ (i 0).val < win0_2.index _ (0 : Fin 2) * 256 + 256
    rw [e0]; dsimp only; omega
  | ⟨1, _⟩ =>
    show win0_2.index _ (1 : Fin 2) * 2048 ≤ (i 1).val ∧ (i 1).val < win0_2.index _ (1 : Fin 2) * 2048 + 2048
    rw [e1]; omega

theorem final0 (c : Dev nD) : (dat0 (V1 m ρ) c).arrAt 2 cfg0.N = normed m c :=
  (dat0 (V1 m ρ) c).arrAt_eq_of_cover 2 _ (fun t hf => flushed0_eq m ρ c t hf) (fun i => covered0 i)

/-! ## The second kernel: the projection, the keys' heads normalised -/

theorem idx1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val
    ∧ (grid1.coords t 0).val = t.val :=
  (by decide +kernel : ∀ t : Fin grid1.N, _)

theorem flush1 : ∀ t : Fin cfg1.N, (cfg1.win 3).flush t = true :=
  (by decide +kernel : ∀ t : Fin grid1.N, win1_3.flush t = true)

theorem V3_v3 (c : Dev nD) : V3 m ρ c main_v3 = normed m c :=
  (W3_of m ρ c main_v3 (by decide)).trans ((W2_arr m ρ c 2).trans (final0 m ρ c))

theorem V3_v4 (c : Dev nD) : V3 m ρ c main_v4
    = (shapeCast S2048x4096 (m ((c : Thread nD τ).loc main_arg2) : Vec Ideal S1x2048x4096 .f32) shapeCasts_S1x2048x4096_S2048x4096 : Vec Ideal S2048x4096 .f32) := by
  have e : W2 m ρ c (Proc.devRef .tc main_arg2) = m ((c : Thread nD τ).loc main_arg2) := W2_args m ρ c main_arg2 (by simp [argRefs])
  rw [← e]
  show StableHlo.after hostOps1 (W2 m ρ c) (Proc.devRef .tc main_v4) = _
  after_results
  rfl

theorem V3_v6 (c : Dev nD) : V3 m ρ c main_v6
    = (shapeCast S1x512 (shapeCast S512 (m ((c : Thread nD τ).loc main_arg3) : Vec Ideal S1x512 .f32) shapeCasts_S1x512_S512 : Vec Ideal S512 .f32) shapeCasts_S512_S1x512 : Vec Ideal S1x512 .f32) := by
  have e : W2 m ρ c (Proc.devRef .tc main_arg3) = m ((c : Thread nD τ).loc main_arg3) := W2_args m ρ c main_arg3 (by simp [argRefs])
  rw [← e]
  show StableHlo.after hostOps1 (W2 m ρ c) (Proc.devRef .tc main_v6) = _
  after_results
  rfl

theorem cast_w (z : Vec Ideal S1x2048x4096 .f32) (k : Fin 2048) (e : Fin 4096) :
    shapeCast S2048x4096 z shapeCasts_S1x2048x4096_S2048x4096 (ix2 (n0 := 2048) (n1 := 4096) k e) = z (ix3 (n0 := 1) (n1 := 2048) (n2 := 4096) 0 k e) := by
  refine shapeCast_apply z _ _ _ ?_
  rw [Shape.rowMajor_val_two, Shape.rowMajor_val_three]
  show (0 * 2048 + k.val) * 4096 + e.val = k.val * 4096 + e.val
  omega

theorem cast_gk (z : Vec Ideal S1x512 .f32) :
    shapeCast S1x512 (shapeCast S512 z shapeCasts_S1x512_S512 : Vec Ideal S512 .f32) shapeCasts_S512_S1x512 = z := by
  funext i
  idx_vars i
  pointwise

theorem n_apply (c : Dev nD) (t : Fin cfg1.N) (r : Fin 512) (k : Fin 2048) :
    iblk1 (V3 m ρ) c 0 t (ix2 r k) = normed m c (ix2 (n0 := 512) (n1 := 2048) r k) := by
  unfold iblk1
  rw [View.read_apply]
  show V3 m ρ c main_v3 _ = _
  rw [V3_v3]
  obtain ⟨e0, e1, -⟩ := idx1 t
  congr 1
  funext a
  apply Fin.ext
  match a with
  | ⟨0, _⟩ => show win1_0.index t (0 : Fin 2) * 512 + 1 * r.val = r.val; rw [e0]; omega
  | ⟨1, _⟩ => show win1_0.index t (1 : Fin 2) * 2048 + 1 * k.val = k.val; rw [e1]; omega

theorem w_apply (c : Dev nD) (t : Fin cfg1.N) (k : Fin 2048) (e : Fin 512) (j : Fin 4096) (hj : j.val = t.val * 512 + e.val) :
    iblk1 (V3 m ρ) c 1 t (ix2 k e) = m ((c : Thread nD τ).loc main_arg2) (ix3 (n0 := 1) (n1 := 2048) (n2 := 4096) 0 k j) := by
  unfold iblk1
  rw [View.read_apply]
  show V3 m ρ c main_v4 _ = _
  rw [V3_v4]
  obtain ⟨-, -, e0, e1, -⟩ := idx1 t
  have hi : ((cfg1.win 1).blk t).view.emb (ix2 k e) = ix2 (n0 := 2048) (n1 := 4096) k j := by
    funext a
    apply Fin.ext
    match a with
    | ⟨0, _⟩ => show win1_1.index t (0 : Fin 2) * 2048 + 1 * k.val = k.val; rw [e0]; omega
    | ⟨1, _⟩ => show win1_1.index t (1 : Fin 2) * 512 + 1 * e.val = j.val; rw [e1]; omega
  rw [hi]
  exact cast_w (m ((c : Thread nD τ).loc main_arg2)) k j

theorem gk_apply (c : Dev nD) (t : Fin cfg1.N) (e : Fin 512) :
    iblk1 (V3 m ρ) c 2 t (ix2 (n0 := 1) (n1 := 512) 0 e) = m ((c : Thread nD τ).loc main_arg3) (ix2 (n0 := 1) (n1 := 512) 0 e) := by
  unfold iblk1
  rw [View.read_apply]
  show V3 m ρ c main_v6 _ = _
  rw [V3_v6]
  obtain ⟨-, -, -, -, e0, e1, -⟩ := idx1 t
  have hi : ((cfg1.win 2).blk t).view.emb (ix2 (n0 := 1) (n1 := 512) 0 e) = ix2 (n0 := 1) (n1 := 512) 0 e := by
    funext a
    apply Fin.ext
    match a with
    | ⟨0, _⟩ => show win1_2.index t (0 : Fin 2) * 1 + 1 * 0 = 0; rw [e0]
    | ⟨1, _⟩ => show win1_2.index t (1 : Fin 2) * 512 + 1 * e.val = e.val; rw [e1]; omega
  rw [hi]
  exact congrFun (cast_gk (m ((c : Thread nD τ).loc main_arg3))) _

/-- The result as a function of the arguments. -/
abbrev result (c : Dev nD) : Buf (Elt Ideal) ((c : Thread nD τ).loc main_v7) :=
  whole (m ((c : Thread nD τ).loc main_arg0)) (m ((c : Thread nD τ).loc main_arg1)) (m ((c : Thread nD τ).loc main_arg2)) (m ((c : Thread nD τ).loc main_arg3))

/-- A point's column of products is the projection's. -/
theorem acc_eq (c : Dev nD) (t : Fin cfg1.N) (r e : Fin 512) (j : Fin 4096) (hj : j.val = t.val * 512 + e.val) :
    acc (iblk1 (V3 m ρ) c 0 t) (iblk1 (V3 m ρ) c 1 t) r e
      = proj (m ((c : Thread nD τ).loc main_arg0)) (m ((c : Thread nD τ).loc main_arg1)) (m ((c : Thread nD τ).loc main_arg2)) ⟨r.val / 256, by omega⟩ ⟨r.val % 256, Nat.mod_lt _ (by omega)⟩ j := by
  unfold acc proj
  refine Finset.sum_congr rfl fun k _ => ?_
  exact congrArg₂ (fun a b : EReal => a * b) (n_apply m ρ c t r k) (w_apply m ρ c t k e j hj)

theorem block_eq (c : Dev nD) (t : Fin cfg1.N) (r e : Fin 512) (j : Fin 4096) (hj : j.val = t.val * 512 + e.val) :
    block (grid1.coords t 0) (iblk1 (V3 m ρ) c 0 t) (iblk1 (V3 m ρ) c 1 t) (iblk1 (V3 m ρ) c 2 t) (ix2 (n0 := 512) (n1 := 512) r e)
      = result m c (ix2 (n0 := 512) (n1 := 4096) r j) := by
  obtain ⟨-, -, -, -, -, -, -, -, ec⟩ := idx1 t
  show (if (grid1.coords t 0).val < 4 then HeadNorm.normed (acc (iblk1 (V3 m ρ) c 0 t) (iblk1 (V3 m ρ) c 1 t) r) (iblk1 (V3 m ρ) c 2 t (ix2 (n0 := 1) (n1 := 512) 0 e)) e
      else acc (iblk1 (V3 m ρ) c 0 t) (iblk1 (V3 m ρ) c 1 t) r e)
    = if h : j.val < 2048 then key _ _ _ _ ⟨r.val / 256, _⟩ ⟨r.val % 256, _⟩ ⟨j.val / 512, _⟩ ⟨j.val % 512, _⟩ else proj _ _ _ ⟨r.val / 256, _⟩ ⟨r.val % 256, _⟩ j
  rw [ec]
  by_cases h : t.val < 4
  · rw [if_pos h, dif_pos (show j.val < 2048 by omega)]
    have hm : (⟨j.val % 512, Nat.mod_lt _ (by omega)⟩ : Fin 512) = e := Fin.ext (by show j.val % 512 = e.val; omega)
    have hd : j.val / 512 = t.val := by omega
    rw [hm]
    unfold key
    refine congrArg₂ (fun (a : Fin 512 → EReal) (b : EReal) => HeadNorm.normed a b e) (funext fun d => ?_) (gk_apply m ρ c t e)
    exact acc_eq m ρ c t r d _ (by show j.val / 512 * 512 + d.val = _; rw [hd])
  · rw [if_neg h, dif_neg (show ¬ j.val < 2048 by omega)]
    exact acc_eq m ρ c t r e j hj

theorem flushed1_eq (c : Dev nD) (t : Fin cfg1.N) (hf : (cfg1.win 3).flush t = true) :
    (dat1 (V3 m ρ) c).flushed 3 t = ((cfg1.win 3).blk t).view.read (Elt Ideal) (result m c) := by
  show (cfg1.win 3).cut (grid1.coords t) ((dat1 (V3 m ρ) c).after 3 t) = _
  rw [after1_3]
  unfold outsAt1
  rw [out_A]
  obtain ⟨-, -, -, -, -, -, e0, e1, -⟩ := idx1 t
  have ht : t.val < 8 := Nat.lt_of_lt_of_eq t.isLt N_1
  funext y
  have hy0 : (y 0).val < 512 := (y 0).isLt
  have hy1 : (y 1).val < 512 := (y 1).isLt
  rw [View.read_apply]
  have hi : ((cfg1.win 3).blk t).view.emb y = ix2 (n0 := 512) (n1 := 4096) ⟨(y 0).val, hy0⟩ ⟨t.val * 512 + (y 1).val, by omega⟩ := by
    funext a
    apply Fin.ext
    match a with
    | ⟨0, _⟩ => show win1_3.index t (0 : Fin 2) * 512 + 1 * (y 0).val = (y 0).val; rw [e0]; omega
    | ⟨1, _⟩ => show win1_3.index t (1 : Fin 2) * 512 + 1 * (y 1).val = t.val * 512 + (y 1).val; rw [e1]; omega
  rw [hi]
  exact block_eq m ρ c t ⟨(y 0).val, hy0⟩ ⟨(y 1).val, hy1⟩ _ rfl

theorem mem_blk1 (i : S512x4096.Idx) (t : Fin cfg1.N) :
    i ∈ ((cfg1.win 3).blk t).view.set ↔ ∀ a : Fin 2, win1_3.index t a * (![512, 512] : Fin 2 → ℕ) a ≤ (i a).val ∧ (i a).val < win1_3.index t a * (![512, 512] : Fin 2 → ℕ) a + (![512, 512] : Fin 2 → ℕ) a := by
  show i ∈ ((View.whole main_v7).slice (win1_3.rect t)).set ↔ _
  rw [View.set_slice_whole, Rect.mem_set_unit]
  exact Iff.rfl

theorem covered1 (i : S512x4096.Idx) : ∃ t : Fin cfg1.N, (cfg1.win 3).flush t = true ∧ i ∈ ((cfg1.win 3).blk t).view.set := by
  have hN : cfg1.N = 8 := N_1
  have h0 : (i 0).val < 512 := (i 0).isLt
  have h1 : (i 1).val < 4096 := (i 1).isLt
  refine ⟨⟨(i 1).val / 512, by omega⟩, flush1 _, (mem_blk1 i _).2 fun a => ?_⟩
  obtain ⟨-, -, -, -, -, -, e0, e1, -⟩ := idx1 ⟨(i 1).val / 512, by omega⟩
  match a with
  | ⟨0, _⟩ =>
    show win1_3.index _ (0 : Fin 2) * 512 ≤ (i 0).val ∧ (i 0).val < win1_3.index _ (0 : Fin 2) * 512 + 512
    rw [e0]; omega
  | ⟨1, _⟩ =>
    show win1_3.index _ (1 : Fin 2) * 512 ≤ (i 1).val ∧ (i 1).val < win1_3.index _ (1 : Fin 2) * 512 + 512
    rw [e1]; dsimp only; omega

theorem final1 (c : Dev nD) : (dat1 (V3 m ρ) c).arrAt 3 cfg1.N = result m c :=
  (dat1 (V3 m ρ) c).arrAt_eq_of_cover 3 _ (fun t hf => flushed1_eq m ρ c t hf) (fun i => covered1 i)

theorem W4_main_v7 (c : Dev nD) : W4 m ρ c (Proc.devRef .tc main_v7) = result m c :=
  (W4_arr m ρ c 3).trans (final1 m ρ c)

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

-- The implicit arguments of the launch lemma are found by unifying its conclusion with this statement.
set_option backward.isDefEq.respectTransparency.types false in
/-- The run: the result array at the function of the arguments, the arguments unchanged. -/
theorem run : θ_run defs (onTc (τ := τ) (main (F := Ideal))) ⟨m, fun _ => 0, ρ⟩ (fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

end Cert.MemKvIdeal.Final

end
-- ==== Proof.MemKvRefValue.lean ====
/- The memory's keys and values, the reference's side: its result at an index. -/
module

public import proofs.«01_k».proof.Proof.MemKvSpec
public import proofs.«01_k».proof.Proof.Gen.MemKvRefIdeal.Read
public import proofs.«01_k».proof.Proof.Gen.MemKvRefIdeal.Run

@[expose] public section

set_option maxRecDepth 16384

noncomputable section

open Idealize.ShloMosaic Idealize.ShloMosaic.TcCoe Idealize.SL.Sem

namespace Cert.MemKvRefIdeal.Final

open Cert.MemKvRefIdeal Cert.MemKvRefIdeal.Gen Cert.MemKvRefIdeal.Read Cert.MemKvSpec

variable (x : (⟨S2x256x2048, .f32⟩ : BufTy).Contents (Elt Ideal)) (g : (⟨S1x2048, .f32⟩ : BufTy).Contents (Elt Ideal)) (w : (⟨S1x2048x4096, .f32⟩ : BufTy).Contents (Elt Ideal)) (gk : (⟨S1x512, .f32⟩ : BufTy).Contents (Elt Ideal))

theorem v13_apply (b : Fin 2) (r : Fin 256) (k : Fin 2048) : val_main_v13 x g (ix3 b r k) = mem x g b r k := by
  unfold mem normRow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v15_apply (b : Fin 2) (r : Fin 256) (c : Fin 4096) : val_main_v15 x g w (ix3 b r c) = proj x g w b r c := by
  unfold proj
  simp only [← v13_apply]
  unfold val_main_v15
  generalize val_main_v13 x g = z
  pointwise [val_main_v14]

theorem v18_apply (b : Fin 2) (r : Fin 256) (h : Fin 4) (j : Fin 512) :
    val_main_v18 x g w (ix4 b r h j) = proj x g w b r ⟨h.val * 512 + j.val, by omega⟩ := by
  rw [← v15_apply]
  unfold val_main_v18 val_main_v16
  generalize val_main_v15 x g w = z
  pointwise

theorem v32_apply (b : Fin 2) (r : Fin 256) (h : Fin 4) (j : Fin 512) :
    val_main_v32 x g w gk (ix4 b r h j) = key x g w gk b r h j := by
  unfold key HeadNorm.normed
  simp only [← v18_apply]
  unfold val_main_v32 val_main_v29 val_main_v28 val_main_v27 val_main_v26 val_main_v24 val_main_v22 val_main_v21 val_main_v20
  generalize val_main_v18 x g w = z
  pointwise [val_main_v31, val_main_v30, val_main_v19, val_main_v23, val_main_v25, val_main_cst_2, val_main_cst_3, val_main_cst_4]

theorem v33_apply (n : Fin 512) (c : Fin 2048) :
    val_main_v33 x g w gk (ix2 n c) = key x g w gk ⟨n.val / 256, by omega⟩ ⟨n.val % 256, Nat.mod_lt _ (by omega)⟩ ⟨c.val / 512, by omega⟩ ⟨c.val % 512, Nat.mod_lt _ (by omega)⟩ := by
  rw [← v32_apply]
  unfold val_main_v33
  generalize val_main_v32 x g w gk = z
  pointwise

theorem v34_apply (n : Fin 512) (c : Fin 2048) :
    val_main_v34 x g w (ix2 n c) = proj x g w ⟨n.val / 256, by omega⟩ ⟨n.val % 256, Nat.mod_lt _ (by omega)⟩ ⟨2048 + c.val, by omega⟩ := by
  rw [← v15_apply]
  unfold val_main_v34 val_main_v17
  generalize val_main_v15 x g w = z
  pointwise

theorem ref_eq : val_main_v35 x g w gk = whole x g w gk := by
  funext i
  idx_vars i
  unfold whole
  have h1 : i1.val < 4096 := i1.isLt
  show _ = if h : i1.val < 2048 then key x g w gk ⟨i0.val / 256, _⟩ ⟨i0.val % 256, _⟩ ⟨i1.val / 512, _⟩ ⟨i1.val % 512, _⟩
    else proj x g w ⟨i0.val / 256, _⟩ ⟨i0.val % 256, _⟩ i1
  refine Eq.trans (b := if h : i1.val < 2048 then val_main_v33 x g w gk (ix2 (n0 := 512) (n1 := 2048) i0 ⟨i1.val, h⟩) else val_main_v34 x g w (ix2 (n0 := 512) (n1 := 2048) i0 ⟨i1.val - 2048, by omega⟩)) ?_ ?_
  · unfold val_main_v35
    generalize val_main_v33 x g w gk = z
    generalize val_main_v34 x g w = z'
    pointwise
  · split
    · exact v33_apply x g w gk i0 _
    · rename_i h
      rw [v34_apply]
      congr 1
      exact Fin.ext (by show 2048 + (i1.val - 2048) = i1.val; omega)

end Cert.MemKvRefIdeal.Final

end
-- ==== Proof.MergeBlock.lean ====
/- The gated merge of the three branches: what the body leaves in its block, as plain sums. -/
module

public import proofs.«01_k».proof.Proof.Scalars
public import proofs.«01_k».proof.Proof.Gen.MergeIdeal.Value
public import Idealize.ShloMosaic.Lib.Pointwise

@[expose] public section

set_option maxRecDepth 16384

noncomputable section

open Idealize.ShloMosaic Idealize.ShloMosaic.TcCoe Idealize.SL.Sem

namespace Cert.MergeIdeal.Blk

open Cert.MergeIdeal Cert.MergeIdeal.Gen

theorem hz : (![0, 0] : Fin 2 → Nat) = fun _ => 0 := funext fun a => by fin_cases a <;> rfl

/-- The block a point leaves, from its rows of the three branches, its columns' weights and its gates. -/
def block (w : Vec Ideal S3x2048x1024 .bf16) (a0 a1 a2 : Vec Ideal S512x2048 .bf16) (g0 g1 g2 : Vec Ideal S512x1024 .f32) : Vec Ideal S512x1024 .bf16 := fun y =>
  g0 (ix2 (n0 := 512) (n1 := 1024) (y 0) (y 1)) * (∑ k : Fin 2048, a0 (ix2 (n0 := 512) (n1 := 2048) (y 0) k) * w (ix3 (n0 := 3) (n1 := 2048) (n2 := 1024) 0 k (y 1)))
    + g1 (ix2 (n0 := 512) (n1 := 1024) (y 0) (y 1)) * (∑ k : Fin 2048, a1 (ix2 (n0 := 512) (n1 := 2048) (y 0) k) * w (ix3 (n0 := 3) (n1 := 2048) (n2 := 1024) 1 k (y 1)))
    + g2 (ix2 (n0 := 512) (n1 := 1024) (y 0) (y 1)) * (∑ k : Fin 2048, a2 (ix2 (n0 := 512) (n1 := 2048) (y 0) k) * w (ix3 (n0 := 3) (n1 := 2048) (n2 := 1024) 2 k (y 1)))

theorem pay1_apply (g0 : Vec Ideal S512x1024 .f32) (a0 : Vec Ideal S512x2048 .bf16) (w0 : Vec Ideal S1x2048x1024 .bf16)
    (g1 : Vec Ideal S512x1024 .f32) (a1 : Vec Ideal S512x2048 .bf16) (w1 : Vec Ideal S1x2048x1024 .bf16)
    (g2 : Vec Ideal S512x1024 .f32) (a2 : Vec Ideal S512x2048 .bf16) (w2 : Vec Ideal S1x2048x1024 .bf16) (r : Fin 512) (e : Fin 1024) :
    k0_pay1 g0 a0 w0 g1 a1 w1 g2 a2 w2 (ix2 r e)
      = g0 (ix2 r e) * (∑ k : Fin 2048, a0 (ix2 r k) * w0 (ix3 (n0 := 1) (n1 := 2048) (n2 := 1024) 0 k e))
        + g1 (ix2 r e) * (∑ k : Fin 2048, a1 (ix2 r k) * w1 (ix3 (n0 := 1) (n1 := 2048) (n2 := 1024) 0 k e))
        + g2 (ix2 r e) * (∑ k : Fin 2048, a2 (ix2 r k) * w2 (ix3 (n0 := 1) (n1 := 2048) (n2 := 1024) 0 k e)) := by
  pointwise [k0_pay1]

/-- The body's value, its weights being the three slabs of one block. -/
theorem pay1_block (w : Vec Ideal S3x2048x1024 .bf16) (a0 a1 a2 : Vec Ideal S512x2048 .bf16) (g0 g1 g2 : Vec Ideal S512x1024 .f32)
    (w0 w1 w2 : Vec Ideal S1x2048x1024 .bf16)
    (h0 : ∀ k e, w0 (ix3 (n0 := 1) (n1 := 2048) (n2 := 1024) 0 k e) = w (ix3 (n0 := 3) (n1 := 2048) (n2 := 1024) 0 k e))
    (h1 : ∀ k e, w1 (ix3 (n0 := 1) (n1 := 2048) (n2 := 1024) 0 k e) = w (ix3 (n0 := 3) (n1 := 2048) (n2 := 1024) 1 k e))
    (h2 : ∀ k e, w2 (ix3 (n0 := 1) (n1 := 2048) (n2 := 1024) 0 k e) = w (ix3 (n0 := 3) (n1 := 2048) (n2 := 1024) 2 k e)) :
    k0_pay1 g0 a0 w0 g1 a1 w1 g2 a2 w2 = block w a0 a1 a2 g0 g1 g2 := by
  funext y
  idx_vars y
  rw [pay1_apply]
  simp only [h0, h1, h2]
  rfl

theorem out_A (c : Dev nD) (i : grid0.Coords) (a2 : Memref sig .tc .vmem S3x2048x1024 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .bf16) (h5 : a5.IsWhole) (a6 : Memref sig .tc .vmem S512x2048 .bf16) (h6 : a6.IsWhole) (a7 : Memref sig .tc .vmem S512x2048 .bf16) (h7 : a7.IsWhole) (a8 : Memref sig .tc .vmem S512x2048 .bf16) (h8 : a8.IsWhole) (a9 : Memref sig .tc .vmem S512x1024 .f32) (h9 : a9.IsWhole) (a10 : Memref sig .tc .vmem S512x1024 .f32) (h10 : a10.IsWhole) (a11 : Memref sig .tc .vmem S512x1024 .f32) (h11 : a11.IsWhole) (a12 : Memref sig .tc .vmem S512x1024 .bf16) (h12 : a12.IsWhole) (hc0 : cond0_0 i) (hc1 : ¬cond0_1 i)
    (x0 : Vec Ideal S3x2048x1024 .bf16) (x1 : Vec Ideal S512x2048 .bf16) (x2 : Vec Ideal S512x2048 .bf16) (x3 : Vec Ideal S512x2048 .bf16) (x4 : Vec Ideal S512x2048 .bf16) (x5 : Vec Ideal S512x2048 .bf16) (x6 : Vec Ideal S512x2048 .bf16) (x7 : Vec Ideal S512x1024 .f32) (x8 : Vec Ideal S512x1024 .f32) (x9 : Vec Ideal S512x1024 .f32) :
    out0_A_10 c i a2 h2 a3 h3 a4 h4 a5 h5 a6 h6 a7 h7 a8 h8 a9 h9 a10 h10 a11 h11 a12 h12 hc0 hc1 x0 x1 x2 x3 x4 x5 x6 x7 x8 x9 = block x0 x1 x3 x5 x7 x8 x9 := by
  unfold out0_A_10
  rw [View.read_writes_eq_canon _ _ _ (cover0_A_10 c i a2 h2 a3 h3 a4 h4 a5 h5 a6 h6 a7 h7 a8 h8 a9 h9 a10 h10 a11 h11 a12 h12 hc0 hc1 x0 x1 x2 x3 x4 x5 x6 x7 x8 x9)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, View.ld_unit_zero (S := S512x2048) hz, View.ld_unit_zero (S := S512x1024) hz]
  exact pay1_block x0 x1 x3 x5 x7 x8 x9 _ _ _ (fun _ _ => by pointwise) (fun _ _ => by pointwise) (fun _ _ => by pointwise)

theorem out_B (c : Dev nD) (i : grid0.Coords) (a2 : Memref sig .tc .vmem S3x2048x1024 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .bf16) (h5 : a5.IsWhole) (a6 : Memref sig .tc .vmem S512x2048 .bf16) (h6 : a6.IsWhole) (a7 : Memref sig .tc .vmem S512x2048 .bf16) (h7 : a7.IsWhole) (a8 : Memref sig .tc .vmem S512x2048 .bf16) (h8 : a8.IsWhole) (a9 : Memref sig .tc .vmem S512x1024 .f32) (h9 : a9.IsWhole) (a10 : Memref sig .tc .vmem S512x1024 .f32) (h10 : a10.IsWhole) (a11 : Memref sig .tc .vmem S512x1024 .f32) (h11 : a11.IsWhole) (a12 : Memref sig .tc .vmem S512x1024 .bf16) (h12 : a12.IsWhole) (hc0 : ¬cond0_0 i) (hc1 : cond0_1 i)
    (x0 : Vec Ideal S3x2048x1024 .bf16) (x1 : Vec Ideal S512x2048 .bf16) (x2 : Vec Ideal S512x2048 .bf16) (x3 : Vec Ideal S512x2048 .bf16) (x4 : Vec Ideal S512x2048 .bf16) (x5 : Vec Ideal S512x2048 .bf16) (x6 : Vec Ideal S512x2048 .bf16) (x7 : Vec Ideal S512x1024 .f32) (x8 : Vec Ideal S512x1024 .f32) (x9 : Vec Ideal S512x1024 .f32) :
    out0_B_10 c i a2 h2 a3 h3 a4 h4 a5 h5 a6 h6 a7 h7 a8 h8 a9 h9 a10 h10 a11 h11 a12 h12 hc0 hc1 x0 x1 x2 x3 x4 x5 x6 x7 x8 x9 = block x0 x2 x4 x6 x7 x8 x9 := by
  unfold out0_B_10
  rw [View.read_writes_eq_canon _ _ _ (cover0_B_10 c i a2 h2 a3 h3 a4 h4 a5 h5 a6 h6 a7 h7 a8 h8 a9 h9 a10 h10 a11 h11 a12 h12 hc0 hc1 x0 x1 x2 x3 x4 x5 x6 x7 x8 x9)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, View.ld_unit_zero (S := S512x2048) hz, View.ld_unit_zero (S := S512x1024) hz]
  rw [show ∀ g0 a0 w0 g1 a1 w1 g2 a2 w2, k0_pay2 (F := Ideal) g0 a0 w0 g1 a1 w1 g2 a2 w2 = k0_pay1 g0 a0 w0 g1 a1 w1 g2 a2 w2 from fun _ _ _ _ _ _ _ _ _ => rfl]
  exact pay1_block x0 x2 x4 x6 x7 x8 x9 _ _ _ (fun _ _ => by pointwise) (fun _ _ => by pointwise) (fun _ _ => by pointwise)

end Cert.MergeIdeal.Blk

end
-- ==== Proof.MergeSpec.lean ====
/- The gated merge of the three branches, whole, over the extended reals: what both programs are shown to compute. -/
module

public import proofs.«01_k».proof.Proof.Scalars
public import Idealize.ShloMosaic.Lib.Pointwise

@[expose] public section

set_option maxRecDepth 16384

noncomputable section

open Idealize.ShloMosaic Idealize.ShloMosaic.TcCoe Idealize.SL.Sem

namespace Cert.MergeSpec

/-- Row `n` of a branch: its prompt rows, then its sample rows. -/
def rowOf (p : (⟨2, ![16384, 2048]⟩ : Shape).Idx → EReal) (s : (⟨2, ![512, 2048]⟩ : Shape).Idx → EReal) (n : Fin 16896) (k : Fin 2048) : EReal :=
  if h : n.val < 16384 then p (ix2 (n0 := 16384) (n1 := 2048) ⟨n.val, h⟩ k)
  else s (ix2 (n0 := 512) (n1 := 2048) ⟨n.val - 16384, by omega⟩ k)

/-- One branch's gated output, at row `n` and column `d`. -/
def part (p : (⟨2, ![16384, 2048]⟩ : Shape).Idx → EReal) (s : (⟨2, ![512, 2048]⟩ : Shape).Idx → EReal)
    (w : (⟨3, ![3, 2048, 2048]⟩ : Shape).Idx → EReal) (g : (⟨2, ![16896, 6144]⟩ : Shape).Idx → EReal)
    (b : Fin 3) (n : Fin 16896) (d : Fin 2048) : EReal :=
  g (ix2 (n0 := 16896) (n1 := 6144) n ⟨b.val * 2048 + d.val, by omega⟩)
    * ∑ k : Fin 2048, rowOf p s n k * w (ix3 (n0 := 3) (n1 := 2048) (n2 := 2048) b k d)

/-- The result: the three branches' gated outputs, added up. -/
def whole (p0 : (⟨2, ![16384, 2048]⟩ : Shape).Idx → EReal) (s0 : (⟨2, ![512, 2048]⟩ : Shape).Idx → EReal)
    (p1 : (⟨2, ![16384, 2048]⟩ : Shape).Idx → EReal) (s1 : (⟨2, ![512, 2048]⟩ : Shape).Idx → EReal)
    (p2 : (⟨2, ![16384, 2048]⟩ : Shape).Idx → EReal) (s2 : (⟨2, ![512, 2048]⟩ : Shape).Idx → EReal)
    (w : (⟨3, ![3, 2048, 2048]⟩ : Shape).Idx → EReal) (g : (⟨2, ![16896, 6144]⟩ : Shape).Idx → EReal) :
    (⟨2, ![16896, 2048]⟩ : Shape).Idx → EReal := fun i =>
  part p0 s0 w g 0 (i 0) (i 1) + part p1 s1 w g 1 (i 0) (i 1) + part p2 s2 w g 2 (i 0) (i 1)

end Cert.MergeSpec

end
-- ==== Proof.MergeValue.lean ====
/- The gated merge of the three branches, the kernel's side: the result array after the run. -/
module

public import proofs.«01_k».proof.Proof.MergeBlock
public import proofs.«01_k».proof.Proof.MergeSpec

@[expose] public section

set_option maxRecDepth 16384

noncomputable section

open Idealize.ShloMosaic Idealize.ShloMosaic.TcCoe Idealize.SL.Sem

open Idealize.ShloMosaic.Pipeline (Dat)

namespace Cert.MergeIdeal.Final

open Cert.MergeIdeal Cert.MergeIdeal.Gen Cert.MergeIdeal.Blk Cert.MergeSpec

variable (m : (ℓ : Loc nD τ sig) → Buf (Elt Ideal) ℓ) (ρ : Dev nD → PrngReg)

/-- The index maps over the grid: point `t` takes row tile `t % 33` and column block `t / 33`. -/
theorem idx_in : ∀ t : Fin cfg0.N, win0_0.index t (0 : Fin 3) = 0 ∧ win0_0.index t (1 : Fin 3) = 0 ∧ win0_0.index t (2 : Fin 3) = t.val / 33
    ∧ win0_1.index t (0 : Fin 2) = min (t.val % 33) 31 ∧ win0_1.index t (1 : Fin 2) = 0
    ∧ win0_3.index t (0 : Fin 2) = min (t.val % 33) 31 ∧ win0_3.index t (1 : Fin 2) = 0
    ∧ win0_5.index t (0 : Fin 2) = min (t.val % 33) 31 ∧ win0_5.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = t.val % 33 ∧ win0_7.index t (1 : Fin 2) = t.val / 33
    ∧ win0_8.index t (0 : Fin 2) = t.val % 33 ∧ win0_8.index t (1 : Fin 2) = 2 + t.val / 33
    ∧ win0_9.index t (0 : Fin 2) = t.val % 33 ∧ win0_9.index t (1 : Fin 2) = 4 + t.val / 33
    ∧ win0_10.index t (0 : Fin 2) = t.val % 33 ∧ win0_10.index t (1 : Fin 2) = t.val / 33 :=
  (by decide +kernel : ∀ t : Fin grid0.N, _)

theorem w_apply (c : Dev nD) (t : Fin cfg0.N) (b : Fin 3) (k : Fin 2048) (e : Fin 1024) (i : S3x2048x2048.Idx)
    (h0 : (i 0).val = b.val) (h1 : (i 1).val = k.val) (h2 : (i 2).val = t.val / 33 * 1024 + e.val) :
    iblk m c 0 t (ix3 b k e) = m ((c : Thread nD τ).loc main_arg6) i := by
  unfold iblk
  rw [View.read_apply]
  show V m c main_arg6 _ = _
  rw [V_main_arg6]
  congr 1
  obtain ⟨e0, e1, e2, -⟩ := idx_in t
  funext a
  apply Fin.ext
  match a with
  | ⟨0, _⟩ => show win0_0.index t (0 : Fin 3) * 3 + 1 * b.val = (i 0).val; rw [e0]; omega
  | ⟨1, _⟩ => show win0_0.index t (1 : Fin 3) * 2048 + 1 * k.val = (i 1).val; rw [e1]; omega
  | ⟨2, _⟩ => show win0_0.index t (2 : Fin 3) * 1024 + 1 * e.val = (i 2).val; rw [e2]; omega

theorem a1_apply (c : Dev nD) (t : Fin cfg0.N) (h : t.val % 33 ≤ 31) (r : Fin 512) (k : Fin 2048) (i : S16384x2048.Idx)
    (h0 : (i 0).val = t.val % 33 * 512 + r.val) (h1 : (i 1).val = k.val) :
    iblk m c 1 t (ix2 r k) = m ((c : Thread nD τ).loc main_arg0) i := by
  unfold iblk
  rw [View.read_apply]
  show V m c main_arg0 _ = _
  rw [V_main_arg0]
  congr 1
  obtain ⟨-, -, -, e0, e1, -⟩ := idx_in t
  funext a
  apply Fin.ext
  match a with
  | ⟨0, _⟩ => show win0_1.index t (0 : Fin 2) * 512 + 1 * r.val = (i 0).val; rw [e0]; omega
  | ⟨1, _⟩ => show win0_1.index t (1 : Fin 2) * 2048 + 1 * k.val = (i 1).val; rw [e1]; omega

theorem a2_apply (c : Dev nD) (t : Fin cfg0.N) (r : Fin 512) (k : Fin 2048) (i : S512x2048.Idx)
    (h0 : (i 0).val = r.val) (h1 : (i 1).val = k.val) :
    iblk m c 2 t (ix2 r k) = m ((c : Thread nD τ).loc main_arg1) i := by
  unfold iblk
  rw [View.read_apply]
  show V m c main_arg1 _ = _
  rw [V_main_arg1]
  congr 1
  obtain ⟨-, -, -, -, -, -, -, -, -, e0, e1, -⟩ := idx_in t
  funext a
  apply Fin.ext
  match a with
  | ⟨0, _⟩ => show win0_2.index t (0 : Fin 2) * 512 + 1 * r.val = (i 0).val; rw [e0]; omega
  | ⟨1, _⟩ => show win0_2.index t (1 : Fin 2) * 2048 + 1 * k.val = (i 1).val; rw [e1]; omega

theorem a3_apply (c : Dev nD) (t : Fin cfg0.N) (h : t.val % 33 ≤ 31) (r : Fin 512) (k : Fin 2048) (i : S16384x2048.Idx)
    (h0 : (i 0).val = t.val % 33 * 512 + r.val) (h1 : (i 1).val = k.val) :
    iblk m c 3 t (ix2 r k) = m ((c : Thread nD τ).loc main_arg2) i := by
  unfold iblk
  rw [View.read_apply]
  show V m c main_arg2 _ = _
  rw [V_main_arg2]
  congr 1
  obtain ⟨-, -, -, -, -, e0, e1, -⟩ := idx_in t
  funext a
  apply Fin.ext
  match a with
  | ⟨0, _⟩ => show win0_3.index t (0 : Fin 2) * 512 + 1 * r.val = (i 0).val; rw [e0]; omega
  | ⟨1, _⟩ => show win0_3.index t (1 : Fin 2) * 2048 + 1 * k.val = (i 1).val; rw [e1]; omega

theorem a4_apply (c : Dev nD) (t : Fin cfg0.N) (r : Fin 512) (k : Fin 2048) (i : S512x2048.Idx)
    (h0 : (i 0).val = r.val) (h1 : (i 1).val = k.val) :
    iblk m c 4 t (ix2 r k) = m ((c : Thread nD τ).loc main_arg3) i := by
  unfold iblk
  rw [View.read_apply]
  show V m c main_arg3 _ = _
  rw [V_main_arg3]
  congr 1
  obtain ⟨-, -, -, -, -, -, -, -, -, -, -, e0, e1, -⟩ := idx_in t
  funext a
  apply Fin.ext
  match a with
  | ⟨0, _⟩ => show win0_4.index t (0 : Fin 2) * 512 + 1 * r.val = (i 0).val; rw [e0]; omega
  | ⟨1, _⟩ => show win0_4.index t (1 : Fin 2) * 2048 + 1 * k.val = (i 1).val; rw [e1]; omega

theorem a5_apply (c : Dev nD) (t : Fin cfg0.N) (h : t.val % 33 ≤ 31) (r : Fin 512) (k : Fin 2048) (i : S16384x2048.Idx)
    (h0 : (i 0).val = t.val % 33 * 512 + r.val) (h1 : (i 1).val = k.val) :
    iblk m c 5 t (ix2 r k) = m ((c : Thread nD τ).loc main_arg4) i := by
  unfold iblk
  rw [View.read_apply]
  show V m c main_arg4 _ = _
  rw [V_main_arg4]
  congr 1
  obtain ⟨-, -, -, -, -, -, -, e0, e1, -⟩ := idx_in t
  funext a
  apply Fin.ext
  match a with
  | ⟨0, _⟩ => show win0_5.index t (0 : Fin 2) * 512 + 1 * r.val = (i 0).val; rw [e0]; omega
  | ⟨1, _⟩ => show win0_5.index t (1 : Fin 2) * 2048 + 1 * k.val = (i 1).val; rw [e1]; omega

theorem a6_apply (c : Dev nD) (t : Fin cfg0.N) (r : Fin 512) (k : Fin 2048) (i : S512x2048.Idx)
    (h0 : (i 0).val = r.val) (h1 : (i 1).val = k.val) :
    iblk m c 6 t (ix2 r k) = m ((c : Thread nD τ).loc main_arg5) i := by
  unfold iblk
  rw [View.read_apply]
  show V m c main_arg5 _ = _
  rw [V_main_arg5]
  congr 1
  obtain ⟨-, -, -, -, -, -, -, -, -, -, -, -, -, e0, e1, -⟩ := idx_in t
  funext a
  apply Fin.ext
  match a with
  | ⟨0, _⟩ => show win0_6.index t (0 : Fin 2) * 512 + 1 * r.val = (i 0).val; rw [e0]; omega
  | ⟨1, _⟩ => show win0_6.index t (1 : Fin 2) * 2048 + 1 * k.val = (i 1).val; rw [e1]; omega

theorem g0_apply (c : Dev nD) (t : Fin cfg0.N) (r : Fin 512) (e : Fin 1024) (i : S16896x6144.Idx)
    (h0 : (i 0).val = t.val % 33 * 512 + r.val) (h1 : (i 1).val = 0 + t.val / 33 * 1024 + e.val) :
    iblk m c 7 t (ix2 r e) = m ((c : Thread nD τ).loc main_arg7) i := by
  unfold iblk
  rw [View.read_apply]
  show V m c main_arg7 _ = _
  rw [V_main_arg7]
  congr 1
  obtain ⟨-, -, -, -, -, -, -, -, -, -, -, -, -, -, -, e0, e1, -⟩ := idx_in t
  funext a
  apply Fin.ext
  match a with
  | ⟨0, _⟩ => show win0_7.index t (0 : Fin 2) * 512 + 1 * r.val = (i 0).val; rw [e0]; omega
  | ⟨1, _⟩ => show win0_7.index t (1 : Fin 2) * 1024 + 1 * e.val = (i 1).val; rw [e1]; omega

theorem g1_apply (c : Dev nD) (t : Fin cfg0.N) (r : Fin 512) (e : Fin 1024) (i : S16896x6144.Idx)
    (h0 : (i 0).val = t.val % 33 * 512 + r.val) (h1 : (i 1).val = 2048 + t.val / 33 * 1024 + e.val) :
    iblk m c 8 t (ix2 r e) = m ((c : Thread nD τ).loc main_arg7) i := by
  unfold iblk
  rw [View.read_apply]
  show V m c main_arg7 _ = _
  rw [V_main_arg7]
  congr 1
  obtain ⟨-, -, -, -, -, -, -, -, -, -, -, -, -, -, -, -, -, e0, e1, -⟩ := idx_in t
  funext a
  apply Fin.ext
  match a with
  | ⟨0, _⟩ => show win0_8.index t (0 : Fin 2) * 512 + 1 * r.val = (i 0).val; rw [e0]; omega
  | ⟨1, _⟩ => show win0_8.index t (1 : Fin 2) * 1024 + 1 * e.val = (i 1).val; rw [e1]; omega

theorem g2_apply (c : Dev nD) (t : Fin cfg0.N) (r : Fin 512) (e : Fin 1024) (i : S16896x6144.Idx)
    (h0 : (i 0).val = t.val % 33 * 512 + r.val) (h1 : (i 1).val = 4096 + t.val / 33 * 1024 + e.val) :
    iblk m c 9 t (ix2 r e) = m ((c : Thread nD τ).loc main_arg7) i := by
  unfold iblk
  rw [View.read_apply]
  show V m c main_arg7 _ = _
  rw [V_main_arg7]
  congr 1
  obtain ⟨-, -, -, -, -, -, -, -, -, -, -, -, -, -, -, -, -, -, -, e0, e1, -⟩ := idx_in t
  funext a
  apply Fin.ext
  match a with
  | ⟨0, _⟩ => show win0_9.index t (0 : Fin 2) * 512 + 1 * r.val = (i 0).val; rw [e0]; omega
  | ⟨1, _⟩ => show win0_9.index t (1 : Fin 2) * 1024 + 1 * e.val = (i 1).val; rw [e1]; omega

/-- A prompt tile's rows are the prompt's. -/
theorem rowOf_lo (p : S16384x2048.Idx → EReal) (s : S512x2048.Idx → EReal) (n : Fin 16896) (k : Fin 2048) (h : n.val < 16384) :
    rowOf p s n k = p (ix2 (n0 := 16384) (n1 := 2048) ⟨n.val, h⟩ k) := dif_pos h

/-- The last tile's rows are the samples'. -/
theorem rowOf_hi (p : S16384x2048.Idx → EReal) (s : S512x2048.Idx → EReal) (n : Fin 16896) (k : Fin 2048) (h : ¬ n.val < 16384) :
    rowOf p s n k = s (ix2 (n0 := 512) (n1 := 2048) ⟨n.val - 16384, by omega⟩ k) := dif_neg h

/-- The result as a function of the arguments. -/
abbrev result (c : Dev nD) : Buf (Elt Ideal) ((c : Thread nD τ).loc main_v0) :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- A point's block, when its three blocks of rows are the branches' rows of its tile. -/
theorem block_eq (c : Dev nD) (t : Fin cfg0.N) (a0 a1 a2 : Vec Ideal S512x2048 .bf16)
    (ha0 : ∀ (r : Fin 512) (k : Fin 2048) (n : Fin 16896), n.val = t.val % 33 * 512 + r.val → a0 (ix2 r k) = rowOf (m ((c : Thread nD τ).loc main_arg0)) (m ((c : Thread nD τ).loc main_arg1)) n k)
    (ha1 : ∀ (r : Fin 512) (k : Fin 2048) (n : Fin 16896), n.val = t.val % 33 * 512 + r.val → a1 (ix2 r k) = rowOf (m ((c : Thread nD τ).loc main_arg2)) (m ((c : Thread nD τ).loc main_arg3)) n k)
    (ha2 : ∀ (r : Fin 512) (k : Fin 2048) (n : Fin 16896), n.val = t.val % 33 * 512 + r.val → a2 (ix2 r k) = rowOf (m ((c : Thread nD τ).loc main_arg4)) (m ((c : Thread nD τ).loc main_arg5)) n k)
    (y : S512x1024.Idx) (i : S16896x2048.Idx) (h0 : (i 0).val = t.val % 33 * 512 + (y 0).val) (h1 : (i 1).val = t.val / 33 * 1024 + (y 1).val) :
    block (iblk m c 0 t) a0 a1 a2 (iblk m c 7 t) (iblk m c 8 t) (iblk m c 9 t) y = result m c i := by
  unfold block
  show _ = part _ _ _ _ 0 (i 0) (i 1) + part _ _ _ _ 1 (i 0) (i 1) + part _ _ _ _ 2 (i 0) (i 1)
  unfold part
  refine congrArg₂ (fun a b : EReal => a + b) (congrArg₂ (fun a b : EReal => a + b)
    (congrArg₂ (fun a b : EReal => a * b) (g0_apply m c t (y 0) (y 1) (ix2 (n0 := 16896) (n1 := 6144) (i 0) ⟨0 * 2048 + (i 1).val, by have : (i 1).val < 2048 := (i 1).isLt; omega⟩) h0 (by show 0 * 2048 + (i 1).val = _; omega)) ?_)
    (congrArg₂ (fun a b : EReal => a * b) (g1_apply m c t (y 0) (y 1) (ix2 (n0 := 16896) (n1 := 6144) (i 0) ⟨1 * 2048 + (i 1).val, by have : (i 1).val < 2048 := (i 1).isLt; omega⟩) h0 (by show 1 * 2048 + (i 1).val = _; omega)) ?_))
    (congrArg₂ (fun a b : EReal => a * b) (g2_apply m c t (y 0) (y 1) (ix2 (n0 := 16896) (n1 := 6144) (i 0) ⟨2 * 2048 + (i 1).val, by have : (i 1).val < 2048 := (i 1).isLt; omega⟩) h0 (by show 2 * 2048 + (i 1).val = _; omega)) ?_)
  · refine Finset.sum_congr rfl fun k _ => ?_
    exact congrArg₂ (fun a b : EReal => a * b) (ha0 (y 0) k (i 0) h0) (w_apply m c t 0 k (y 1) (ix3 (n0 := 3) (n1 := 2048) (n2 := 2048) 0 k (i 1)) rfl rfl h1)
  · refine Finset.sum_congr rfl fun k _ => ?_
    exact congrArg₂ (fun a b : EReal => a * b) (ha1 (y 0) k (i 0) h0) (w_apply m c t 1 k (y 1) (ix3 (n0 := 3) (n1 := 2048) (n2 := 2048) 1 k (i 1)) rfl rfl h1)
  · refine Finset.sum_congr rfl fun k _ => ?_
    exact congrArg₂ (fun a b : EReal => a * b) (ha2 (y 0) k (i 0) h0) (w_apply m c t 2 k (y 1) (ix3 (n0 := 3) (n1 := 2048) (n2 := 2048) 2 k (i 1)) rfl rfl h1)

/-- What a point leaves in its output block, entry by entry. -/
theorem outs_eq (c : Dev nD) (t : Fin cfg0.N) (y : S512x1024.Idx) (i : S16896x2048.Idx)
    (h0 : (i 0).val = t.val % 33 * 512 + (y 0).val) (h1 : (i 1).val = t.val / 33 * 1024 + (y 1).val) :
    outsAt0 m c t.val t.isLt y = result m c i := by
  by_cases hp : t.val % 33 ≤ 31
  · rw [outsAt0_A m c t hp (by omega)]
    rw [out_A]
    refine block_eq m c t _ _ _ (fun r k n hn => ?_) (fun r k n hn => ?_) (fun r k n hn => ?_) y i h0 h1
    · rw [rowOf_lo _ _ n k (by omega)]; exact a1_apply m c t hp r k _ hn rfl
    · rw [rowOf_lo _ _ n k (by omega)]; exact a3_apply m c t hp r k _ hn rfl
    · rw [rowOf_lo _ _ n k (by omega)]; exact a5_apply m c t hp r k _ hn rfl
  · have h32 : t.val % 33 = 32 := by omega
    rw [outsAt0_B m c t hp h32]
    rw [out_B]
    refine block_eq m c t _ _ _ (fun r k n hn => ?_) (fun r k n hn => ?_) (fun r k n hn => ?_) y i h0 h1
    · rw [rowOf_hi _ _ n k (by omega)]; exact a2_apply m c t r k _ (by show n.val - 16384 = r.val; omega) rfl
    · rw [rowOf_hi _ _ n k (by omega)]; exact a4_apply m c t r k _ (by show n.val - 16384 = r.val; omega) rfl
    · rw [rowOf_hi _ _ n k (by omega)]; exact a6_apply m c t r k _ (by show n.val - 16384 = r.val; omega) rfl

theorem flushed_eq (c : Dev nD) (t : Fin cfg0.N) (hf : (cfg0.win 10).flush t = true) :
    (dats m 0 c).flushed 10 t = ((cfg0.win 10).blk t).view.read (Elt Ideal) (result m c) := by
  rw [Value.flushed10]
  obtain ⟨-, -, -, -, -, -, -, -, -, -, -, -, -, -, -, -, -, -, -, -, -, e0, e1⟩ := idx_in t
  funext y
  have hb0 : (((cfg0.win 10).blk t).view.emb y 0).val = win0_10.index t (0 : Fin 2) * 512 + 1 * (y 0).val := rfl
  have hb1 : (((cfg0.win 10).blk t).view.emb y 1).val = win0_10.index t (1 : Fin 2) * 1024 + 1 * (y 1).val := rfl
  rw [e0] at hb0
  rw [e1] at hb1
  rw [View.read_apply]
  exact outs_eq m c t _ _ (by show (((cfg0.win 10).blk t).view.emb y 0).val = t.val % 33 * 512 + (y 0).val; omega)
    (by show (((cfg0.win 10).blk t).view.emb y 1).val = t.val / 33 * 1024 + (y 1).val; omega)

/-- Which entries of the result a point's block holds. -/
theorem mem_blk (i : S16896x2048.Idx) (t : Fin cfg0.N) :
    i ∈ ((cfg0.win 10).blk t).view.set ↔ ∀ a : Fin 2, win0_10.index t a * (![512, 1024] : Fin 2 → ℕ) a ≤ (i a).val ∧ (i a).val < win0_10.index t a * (![512, 1024] : Fin 2 → ℕ) a + (![512, 1024] : Fin 2 → ℕ) a := by
  show i ∈ ((View.whole main_v0).slice (win0_10.rect t)).set ↔ _
  rw [View.set_slice_whole, Rect.mem_set_unit]
  exact Iff.rfl

theorem flush_all : ∀ t : Fin cfg0.N, (cfg0.win 10).flush t = true :=
  (by decide +kernel : ∀ t : Fin grid0.N, win0_10.flush t = true)

/-- Every entry of the result lies in some point's block. -/
theorem covered (i : S16896x2048.Idx) : ∃ t : Fin cfg0.N, (cfg0.win 10).flush t = true ∧ i ∈ ((cfg0.win 10).blk t).view.set := by
  have hN : cfg0.N = 66 := N_0
  have h0 : (i 0).val < 16896 := (i 0).isLt
  have h1 : (i 1).val < 2048 := (i 1).isLt
  refine ⟨⟨(i 1).val / 1024 * 33 + (i 0).val / 512, by omega⟩, flush_all _, (mem_blk i _).2 fun a => ?_⟩
  obtain ⟨-, -, -, -, -, -, -, -, -, -, -, -, -, -, -, -, -, -, -, -, -, e0, e1⟩ := idx_in ⟨(i 1).val / 1024 * 33 + (i 0).val / 512, by omega⟩
  match a with
  | ⟨0, _⟩ =>
    show win0_10.index _ (0 : Fin 2) * 512 ≤ (i 0).val ∧ (i 0).val < win0_10.index _ (0 : Fin 2) * 512 + 512
    rw [e0]; dsimp only; omega
  | ⟨1, _⟩ =>
    show win0_10.index _ (1 : Fin 2) * 1024 ≤ (i 1).val ∧ (i 1).val < win0_10.index _ (1 : Fin 2) * 1024 + 1024
    rw [e1]; dsimp only; omega

theorem final (c : Dev nD) : (dats m 0 c).arrAt 10 cfg0.N = result m c :=
  (dats m 0 c).arrAt_eq_of_cover 10 _ (fun t hf => flushed_eq m c t hf) (fun i => covered i)

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(Value.post10 m r h c).trans (final m c),
      Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c⟩)
    (run_main m ρ)

end Cert.MergeIdeal.Final

end
-- ==== Proof.MergeRefValue.lean ====
/- The gated merge of the three branches, the reference's side: its result at an index. -/
module

public import proofs.«01_k».proof.Proof.MergeSpec
public import proofs.«01_k».proof.Proof.Gen.MergeRefIdeal.Read
public import proofs.«01_k».proof.Proof.Gen.MergeRefIdeal.Run
public import Idealize.ShloMosaic.Lib.Pointwise

@[expose] public section

set_option maxRecDepth 16384

noncomputable section

open Idealize.ShloMosaic Idealize.ShloMosaic.TcCoe Idealize.SL.Sem

namespace Cert.MergeRefIdeal.Final

open Cert.MergeRefIdeal Cert.MergeRefIdeal.Gen Cert.MergeRefIdeal.Read Cert.MergeSpec

/-- A branch's rows, the prompt's and the samples' put together. -/
theorem v1_apply (p : (⟨S16384x2048, .bf16⟩ : BufTy).Contents (Elt Ideal)) (s : (⟨S512x2048, .bf16⟩ : BufTy).Contents (Elt Ideal)) (n : Fin 16896) (k : Fin 2048) :
    val_main_v1 p s (ix2 n k) = rowOf p s n k := by
  unfold rowOf
  pointwise [val_main_v1, val_main_v0]

theorem v3_apply (p : (⟨S16384x2048, .bf16⟩ : BufTy).Contents (Elt Ideal)) (s : (⟨S512x2048, .bf16⟩ : BufTy).Contents (Elt Ideal)) (n : Fin 16896) (k : Fin 2048) :
    val_main_v3 p s (ix2 n k) = rowOf p s n k := by
  rw [show val_main_v3 p s = val_main_v1 p s from rfl]
  exact v1_apply p s n k

theorem v5_apply (p : (⟨S16384x2048, .bf16⟩ : BufTy).Contents (Elt Ideal)) (s : (⟨S512x2048, .bf16⟩ : BufTy).Contents (Elt Ideal)) (n : Fin 16896) (k : Fin 2048) :
    val_main_v5 p s (ix2 n k) = rowOf p s n k := by
  rw [show val_main_v5 p s = val_main_v1 p s from rfl]
  exact v1_apply p s n k

theorem v9_0 (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (n : Fin 16896) (k : Fin 2048) :
    val_main_v9 x0 x1 x2 x3 x4 x5 (ix3 (n0 := 16896) (n1 := 3) (n2 := 2048) n 0 k) = rowOf x0 x1 n k := by
  rw [← v1_apply]
  unfold val_main_v9 val_main_v6 val_main_v7 val_main_v8
  generalize val_main_v1 x0 x1 = z0
  generalize val_main_v3 x2 x3 = z1
  generalize val_main_v5 x4 x5 = z2
  pointwise

theorem v9_1 (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (n : Fin 16896) (k : Fin 2048) :
    val_main_v9 x0 x1 x2 x3 x4 x5 (ix3 (n0 := 16896) (n1 := 3) (n2 := 2048) n 1 k) = rowOf x2 x3 n k := by
  rw [← v3_apply]
  unfold val_main_v9 val_main_v6 val_main_v7 val_main_v8
  generalize val_main_v1 x0 x1 = z0
  generalize val_main_v3 x2 x3 = z1
  generalize val_main_v5 x4 x5 = z2
  pointwise

theorem v9_2 (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (n : Fin 16896) (k : Fin 2048) :
    val_main_v9 x0 x1 x2 x3 x4 x5 (ix3 (n0 := 16896) (n1 := 3) (n2 := 2048) n 2 k) = rowOf x4 x5 n k := by
  rw [← v5_apply]
  unfold val_main_v9 val_main_v6 val_main_v7 val_main_v8
  generalize val_main_v1 x0 x1 = z0
  generalize val_main_v3 x2 x3 = z1
  generalize val_main_v5 x4 x5 = z2
  pointwise

/-- The product of the stacked branches and their weights, before the gates. -/
theorem v12_apply (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (x6 : (⟨S3x2048x2048, .bf16⟩ : BufTy).Contents (Elt Ideal)) (n : Fin 16896) (b : Fin 3) (d : Fin 2048) :
    val_main_v12 x0 x1 x2 x3 x4 x5 x6 (ix3 n b d)
      = ∑ k : Fin 2048, val_main_v9 x0 x1 x2 x3 x4 x5 (ix3 n b k) * x6 (ix3 (n0 := 3) (n1 := 2048) (n2 := 2048) b k d) := by
  unfold val_main_v12 val_main_v11 val_main_v10
  generalize val_main_v9 x0 x1 x2 x3 x4 x5 = z
  simp only [mul_comm (z _)]
  pointwise

theorem v14_apply (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (x6 : (⟨S3x2048x2048, .bf16⟩ : BufTy).Contents (Elt Ideal)) (x7 : (⟨S16896x6144, .f32⟩ : BufTy).Contents (Elt Ideal)) (n : Fin 16896) (b : Fin 3) (d : Fin 2048) :
    val_main_v14 x0 x1 x2 x3 x4 x5 x6 x7 (ix3 n b d)
      = x7 (ix2 (n0 := 16896) (n1 := 6144) n ⟨b.val * 2048 + d.val, by omega⟩)
        * ∑ k : Fin 2048, val_main_v9 x0 x1 x2 x3 x4 x5 (ix3 n b k) * x6 (ix3 (n0 := 3) (n1 := 2048) (n2 := 2048) b k d) := by
  rw [← v12_apply]
  unfold val_main_v14
  rw [show mulf (val_main_v13 x7) (val_main_v12 x0 x1 x2 x3 x4 x5 x6) (ix3 n b d) = val_main_v13 x7 (ix3 n b d) * val_main_v12 x0 x1 x2 x3 x4 x5 x6 (ix3 n b d) from rfl,
    val_main_v13_apply]
  congr 2
  funext a
  apply Fin.ext
  match a with
  | ⟨0, _⟩ => show ((n.val * 3 + b.val) * 2048 + d.val) / 6144 = n.val; omega
  | ⟨1, _⟩ => show ((n.val * 3 + b.val) * 2048 + d.val) % 6144 = b.val * 2048 + d.val; omega

theorem ref_eq (x0 : (⟨S16384x2048, .bf16⟩ : BufTy).Contents (Elt Ideal)) (x1 : (⟨S512x2048, .bf16⟩ : BufTy).Contents (Elt Ideal)) (x2 : (⟨S16384x2048, .bf16⟩ : BufTy).Contents (Elt Ideal)) (x3 : (⟨S512x2048, .bf16⟩ : BufTy).Contents (Elt Ideal)) (x4 : (⟨S16384x2048, .bf16⟩ : BufTy).Contents (Elt Ideal)) (x5 : (⟨S512x2048, .bf16⟩ : BufTy).Contents (Elt Ideal)) (x6 : (⟨S3x2048x2048, .bf16⟩ : BufTy).Contents (Elt Ideal)) (x7 : (⟨S16896x6144, .f32⟩ : BufTy).Contents (Elt Ideal)) :
    val_main_v16 x0 x1 x2 x3 x4 x5 x6 x7 = whole x0 x1 x2 x3 x4 x5 x6 x7 := by
  funext i
  idx_vars i
  rw [val_main_v16_apply]
  show val_main_v15 x0 x1 x2 x3 x4 x5 x6 x7 (ix2 i0 i1) = _
  rw [val_main_v15_apply]
  have e : ∀ k : Fin 3, idx_main_v15 (ix2 (n0 := 16896) (n1 := 2048) i0 i1) k = ix3 (n0 := 16896) (n1 := 3) (n2 := 2048) i0 k i1 :=
    fun k => funext fun a => Fin.ext (by match a with | ⟨0, _⟩ => rfl | ⟨1, _⟩ => rfl | ⟨2, _⟩ => rfl)
  simp only [e, Fin.sum_univ_three, v14_apply, v9_0, v9_1, v9_2]
  rw [show val_main_cst (F := Ideal) (Shape.Idx.first h_S_) = 0 by pointwise [val_main_cst], zero_add]
  rfl

end Cert.MergeRefIdeal.Final

end
-- ==== Proof.MemQBlock.lean ====
/- The projection to the memory attention's queries, each head normalised: what the kernel's body leaves in its block, as plain sums. -/
module

public import proofs.«01_k».proof.Proof.HeadNorm
public import proofs.«01_k».proof.Proof.Gen.MemQIdeal.Value
public import Idealize.ShloMosaic.Lib.Pointwise

@[expose] public section

set_option maxRecDepth 16384

noncomputable section

open Idealize.ShloMosaic Idealize.ShloMosaic.TcCoe Idealize.SL.Sem

namespace Cert.MemQIdeal.Blk

open Cert.MemQIdeal Cert.MemQIdeal.Gen

theorem hz : (![0, 0] : Fin 2 → Nat) = fun _ => 0 := funext fun a => by fin_cases a <;> rfl

/-- The block a point leaves, from its rows, its head's weights and the gain. -/
def block (x : Vec Ideal S1536x2048 .bf16) (w : S512x2048.Idx → EReal) (g : Vec Ideal S1x512 .f32) : Vec Ideal S1536x512 .bf16 := fun y =>
  HeadNorm.normed (fun e => ∑ k : Fin 2048, x (ix2 (n0 := 1536) (n1 := 2048) (y 0) k) * w (ix2 (n0 := 512) (n1 := 2048) e k)) (g (ix2 (n0 := 1) (n1 := 512) 0 (y 1))) (y 1)

theorem pay3_apply (q : Vec Ideal S384x2048 .bf16) (w : Vec Ideal S512x2048 .bf16) (g : Vec Ideal S1x512 .f32) (r : Fin 384) (e : Fin 512) :
    k0_pay3 q w g (ix2 r e) = HeadNorm.normed (fun e => ∑ k : Fin 2048, q (ix2 r k) * w (ix2 (n0 := 512) (n1 := 2048) e k)) (g (ix2 (n0 := 1) (n1 := 512) 0 e)) e := by
  unfold HeadNorm.normed
  pointwise [k0_pay3]

/-- The rows from `o` on of the block, stored in one piece. -/
theorem quarter (x : Vec Ideal S1536x2048 .bf16) (w : Vec Ideal S512x2048 .bf16) (g : Vec Ideal S1x512 .f32) (o : ℕ) (ho : o + 384 ≤ 1536)
    (q : Vec Ideal S384x2048 .bf16) (hq : ∀ r d, q (ix2 r d) = x (ix2 (n0 := 1536) (n1 := 2048) ⟨o + r.val, by omega⟩ d))
    (j : S384x512.Idx) (y : S1536x512.Idx) (h0 : (y 0).val = o + (j 0).val) (h1 : (y 1).val = (j 1).val) :
    k0_pay3 q w g j = block x w g y := by
  idx_vars j
  idx_vars y
  have hj : j0.val < 384 := j0.isLt
  have e1 : y1 = j1 := Fin.ext h1
  subst e1
  have e0 : (⟨o + j0.val, by omega⟩ : Fin 1536) = y0 := Fin.ext h0.symm
  rw [pay3_apply]
  unfold block
  simp only [hq, e0]
  rfl

theorem pay2_eq (x : Vec Ideal S512x2048 .f32) : k0_pay2 x = (x : S512x2048.Idx → EReal) := by
  unfold k0_pay2
  simp only [shapeCast_self]
  rfl

/-- The weights a column block's first point casts and stores, read back through a rectangle. -/
theorem kept (v : View sig .tc .vmem S512x2048 .bf16) (x1 : Vec Ideal S512x2048 .f32) (r : Rect S512x2048) :
    v.readCov (Val := Elt Ideal) [⟨Rect.unit ![0, 0] ![512, 2048] inb_S512x2048_S512x2048_0_0,
      k0_pay2 x1⟩] r.toLoadRect
      = View.ld (Val := Elt Ideal) (e' := .bf16) x1 r := by
  rw [View.readCov_eq_canon_ld _ _ _ (fun y => ⟨_, List.mem_singleton_self _, View.mem_set_unit_zero hz inb_S512x2048_S512x2048_0_0 y⟩),
    View.canon_unit_zero hz, pay2_eq]

theorem sout_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S1536x512 .bf16) (h5 : a5.IsWhole) (a6 : Memref sig .tc .vmem S512x2048 .bf16) (h6 : a6.IsWhole) (hc : cond0_0 i)
    (x0 : Vec Ideal S1536x2048 .bf16) (x1 : Vec Ideal S512x2048 .f32) (x2 : Vec Ideal S1x512 .f32) :
    sout0_A_0 c i a2 h2 a3 h3 a4 h4 a5 h5 a6 h6 hc x0 x1 x2 = (x1 : S512x2048.Idx → EReal) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h3.read_unread, View.ld_unit_zero (S := S512x2048) hz, pay2_eq]

theorem out_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S1536x512 .bf16) (h5 : a5.IsWhole) (a6 : Memref sig .tc .vmem S512x2048 .bf16) (h6 : a6.IsWhole) (hc : cond0_0 i)
    (x0 : Vec Ideal S1536x2048 .bf16) (x1 : Vec Ideal S512x2048 .f32) (x2 : Vec Ideal S1x512 .f32) :
    out0_A_3 c i a2 h2 a3 h3 a4 h4 a5 h5 a6 h6 hc x0 x1 x2 = block x0 x1 x2 := by
  funext y
  unfold out0_A_3
  rw [View.read_writes_eq_canon _ _ _ (cover0_A_3 c i a2 h2 a3 h3 a4 h4 a5 h5 a6 h6 hc x0 x1 x2)]
  refine View.canon_apply_of_pieces (block x0 x1 x2) _ (fun p hp j => ?_) y (cover0_A_3 c i a2 h2 a3 h3 a4 h4 a5 h5 a6 h6 hc x0 x1 x2 y)
  unfold kernelRun0_A at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread]
    simp only [kept, View.ld_unit_zero (S := S512x2048) hz, View.ld_unit_zero (S := S1x512) hz]
  · exact quarter x0 x1 x2 1152 (by omega) _ (fun _ _ => by pointwise) j _ (by show 1152 + 1 * (j 0).val = 1152 + (j 0).val; omega) (by show 0 + 1 * (j 1).val = (j 1).val; omega)
  · exact quarter x0 x1 x2 768 (by omega) _ (fun _ _ => by pointwise) j _ (by show 768 + 1 * (j 0).val = 768 + (j 0).val; omega) (by show 0 + 1 * (j 1).val = (j 1).val; omega)
  · exact quarter x0 x1 x2 384 (by omega) _ (fun _ _ => by pointwise) j _ (by show 384 + 1 * (j 0).val = 384 + (j 0).val; omega) (by show 0 + 1 * (j 1).val = (j 1).val; omega)
  · exact quarter x0 x1 x2 0 (by omega) _ (fun _ _ => by pointwise) j _ (by show 0 + 1 * (j 0).val = 0 + (j 0).val; omega) (by show 0 + 1 * (j 1).val = (j 1).val; omega)

theorem out_B (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S1536x512 .bf16) (h5 : a5.IsWhole) (a6 : Memref sig .tc .vmem S512x2048 .bf16) (h6 : a6.IsWhole) (hc : ¬cond0_0 i)
    (x0 : Vec Ideal S1536x2048 .bf16) (x1 : Vec Ideal S512x2048 .f32) (x2 : Vec Ideal S1x512 .f32) (xs : Vec Ideal S512x2048 .bf16) :
    out0_B_3 c i a2 h2 a3 h3 a4 h4 a5 h5 a6 h6 hc x0 x1 x2 xs = block x0 xs x2 := by
  funext y
  unfold out0_B_3
  rw [View.read_writes_eq_canon _ _ _ (cover0_B_3 c i a2 h2 a3 h3 a4 h4 a5 h5 a6 h6 hc x0 x1 x2 xs)]
  refine View.canon_apply_of_pieces (block x0 xs x2) _ (fun p hp j => ?_) y (cover0_B_3 c i a2 h2 a3 h3 a4 h4 a5 h5 a6 h6 hc x0 x1 x2 xs y)
  unfold kernelRun0_B at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread, h6.read_unread, View.ld_unit_zero (S := S512x2048) hz, View.ld_unit_zero (S := S1x512) hz]
  · exact quarter x0 xs x2 1152 (by omega) _ (fun _ _ => by pointwise) j _ (by show 1152 + 1 * (j 0).val = 1152 + (j 0).val; omega) (by show 0 + 1 * (j 1).val = (j 1).val; omega)
  · exact quarter x0 xs x2 768 (by omega) _ (fun _ _ => by pointwise) j _ (by show 768 + 1 * (j 0).val = 768 + (j 0).val; omega) (by show 0 + 1 * (j 1).val = (j 1).val; omega)
  · exact quarter x0 xs x2 384 (by omega) _ (fun _ _ => by pointwise) j _ (by show 384 + 1 * (j 0).val = 384 + (j 0).val; omega) (by show 0 + 1 * (j 1).val = (j 1).val; omega)
  · exact quarter x0 xs x2 0 (by omega) _ (fun _ _ => by pointwise) j _ (by show 0 + 1 * (j 0).val = 0 + (j 0).val; omega) (by show 0 + 1 * (j 1).val = (j 1).val; omega)

end Cert.MemQIdeal.Blk

end
-- ==== Proof.MemQSpec.lean ====
/- The projection to the memory attention's queries, each head normalised, whole, over the extended reals: what both programs are shown to compute. -/
module

public import proofs.«01_k».proof.Proof.HeadNorm
public import Idealize.ShloMosaic.Lib.Pointwise

@[expose] public section

set_option maxRecDepth 16384

noncomputable section

open Idealize.ShloMosaic Idealize.ShloMosaic.TcCoe Idealize.SL.Sem

namespace Cert.MemQSpec

/-- The projection of row `n` onto column `j` of head `h`. -/
def proj (x : (⟨2, ![16896, 2048]⟩ : Shape).Idx → EReal) (w : (⟨2, ![2048, 10768]⟩ : Shape).Idx → EReal) (n : Fin 16896) (h : Fin 4) (j : Fin 512) : EReal :=
  ∑ k : Fin 2048, x (ix2 (n0 := 16896) (n1 := 2048) n k) * w (ix2 (n0 := 2048) (n1 := 10768) k ⟨8720 + (h.val * 512 + j.val), by omega⟩)

/-- The result at row `n`, head `h`, entry `j`. -/
def entry (x : (⟨2, ![16896, 2048]⟩ : Shape).Idx → EReal) (w : (⟨2, ![2048, 10768]⟩ : Shape).Idx → EReal) (g : (⟨1, ![512]⟩ : Shape).Idx → EReal)
    (n : Fin 16896) (h : Fin 4) (j : Fin 512) : EReal :=
  HeadNorm.normed (proj x w n h) (g (ix1 (n0 := 512) j)) j

/-- The result at row `i 0` and column `i 1`. -/
def whole (x : (⟨2, ![16896, 2048]⟩ : Shape).Idx → EReal) (w : (⟨2, ![2048, 10768]⟩ : Shape).Idx → EReal) (g : (⟨1, ![512]⟩ : Shape).Idx → EReal) :
    (⟨2, ![16896, 2048]⟩ : Shape).Idx → EReal := fun i =>
  entry x w g (i 0) ⟨(i 1).val / 512, by have h1 : (i 1).val < 2048 := (i 1).isLt; omega⟩ ⟨(i 1).val % 512, Nat.mod_lt _ (by omega)⟩

end Cert.MemQSpec

end
-- ==== Proof.MemQValue.lean ====
/- The projection to the memory attention's queries, each head normalised, the kernel's side: the result array after the run. -/
module

public import proofs.«01_k».proof.Proof.MemQBlock
public import proofs.«01_k».proof.Proof.MemQSpec

@[expose] public section

set_option maxRecDepth 16384

noncomputable section

open Idealize.ShloMosaic Idealize.ShloMosaic.TcCoe Idealize.SL.Sem

open Idealize.ShloMosaic.Pipeline (Dat)

namespace Cert.MemQIdeal.Final

open Cert.MemQIdeal Cert.MemQIdeal.Gen Cert.MemQIdeal.Blk Cert.MemQSpec

variable (m : (ℓ : Loc nD τ sig) → Buf (Elt Ideal) ℓ) (ρ : Dev nD → PrngReg)

/-- The index maps over the grid: point `t` takes row block `t % 11` and column block `t / 11`. -/
theorem idx_in : ∀ t : Fin cfg0.N, win0_0.index t (0 : Fin 2) = t.val % 11 ∧ win0_0.index t (1 : Fin 2) = 0
    ∧ win0_1.index t (0 : Fin 2) = 8720 + t.val / 11 * 512 ∧ win0_1.index t (1 : Fin 2) = 0
    ∧ win0_2.index t (0 : Fin 2) = 0 ∧ win0_2.index t (1 : Fin 2) = 0
    ∧ win0_3.index t (0 : Fin 2) = t.val % 11 ∧ win0_3.index t (1 : Fin 2) = t.val / 11 :=
  (by decide +kernel : ∀ t : Fin grid0.N, _)

/-- The transposed weights, as the region finds them. -/
theorem V_main_v0 (c : Dev nD) : V m c main_v0
    = (transpose S10768x2048 [1, 0] (m ((c : Thread nD τ).loc main_arg1) : Vec Ideal S2048x10768 .f32) transposes_S2048x10768_S10768x2048_1_0 : Vec Ideal S10768x2048 .f32) := by
  show StableHlo.after hostOps0 _ (Proc.devRef .tc main_v0) = _
  after_results

/-- The gain laid out as one row, as the region finds it. -/
theorem V_main_v1 (c : Dev nD) : V m c main_v1
    = (shapeCast S1x512 (m ((c : Thread nD τ).loc main_arg2) : Vec Ideal S512 .f32) shapeCasts_S512_S1x512 : Vec Ideal S1x512 .f32) := by
  show StableHlo.after hostOps0 _ (Proc.devRef .tc main_v1) = _
  after_results
  rfl

theorem x_apply (c : Dev nD) (t : Fin cfg0.N) (r : Fin 1536) (e : Fin 2048) (i : S16896x2048.Idx)
    (h0 : (i 0).val = t.val % 11 * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  obtain ⟨e0, e1, -⟩ := idx_in t
  funext a
  apply Fin.ext
  match a with
  | ⟨0, _⟩ => show win0_0.index t (0 : Fin 2) * 1536 + 1 * r.val = (i 0).val; rw [e0]; omega
  | ⟨1, _⟩ => show win0_0.index t (1 : Fin 2) * 2048 + 1 * e.val = (i 1).val; rw [e1]; omega

theorem w_apply (c : Dev nD) (t : Fin cfg0.N) (e : Fin 512) (k : Fin 2048) (i : S2048x10768.Idx)
    (h0 : (i 0).val = k.val) (h1 : (i 1).val = 8720 + t.val / 11 * 512 + e.val) :
    iblk m c 1 t (ix2 e k) = m ((c : Thread nD τ).loc main_arg1) i := by
  unfold iblk
  rw [View.read_apply]
  show V m c main_v0 _ = _
  rw [V_main_v0]
  have hN : cfg0.N = 44 := N_0
  have ht := t.isLt
  obtain ⟨-, -, e0, e1, -⟩ := idx_in t
  idx_vars i
  have g0 : i0 = k := Fin.ext h0
  have g1 : i1.val = 8720 + t.val / 11 * 512 + e.val := h1
  have hi : ((cfg0.win 1).blk t).view.emb (ix2 e k) = ix2 (n0 := 10768) (n1 := 2048) i1 i0 := by
    funext a
    apply Fin.ext
    match a with
    | ⟨0, _⟩ => show win0_1.index t (0 : Fin 2) + 1 * e.val = i1.val; rw [e0]; omega
    | ⟨1, _⟩ => show win0_1.index t (1 : Fin 2) + 1 * k.val = i0.val; rw [e1, g0]; omega
  rw [hi]
  pointwise

/-- A vector laid out as one row keeps its entries. -/
theorem row_cast (z : Vec Ideal S512 .f32) (j : Fin 512) :
    shapeCast S1x512 z shapeCasts_S512_S1x512 (ix2 (n0 := 1) (n1 := 512) 0 j) = z (ix1 j) := by
  refine shapeCast_apply z _ _ _ ?_
  rw [Shape.rowMajor_val_one, Shape.rowMajor_val_two]
  show j.val = 0 * 512 + j.val
  omega

theorem g_apply (c : Dev nD) (t : Fin cfg0.N) (e : Fin 512) :
    iblk m c 2 t (ix2 (n0 := 1) (n1 := 512) 0 e) = m ((c : Thread nD τ).loc main_arg2) (ix1 (n0 := 512) e) := by
  unfold iblk
  rw [View.read_apply]
  show V m c main_v1 _ = _
  rw [V_main_v1]
  obtain ⟨-, -, -, -, e0, e1, -⟩ := idx_in t
  have hi : ((cfg0.win 2).blk t).view.emb (ix2 (n0 := 1) (n1 := 512) 0 e) = ix2 (n0 := 1) (n1 := 512) 0 e := by
    funext a
    apply Fin.ext
    match a with
    | ⟨0, _⟩ => show win0_2.index t (0 : Fin 2) * 1 + 1 * 0 = 0; rw [e0]
    | ⟨1, _⟩ => show win0_2.index t (1 : Fin 2) * 512 + 1 * e.val = e.val; rw [e1]; omega
  rw [hi]
  exact row_cast (m ((c : Thread nD τ).loc main_arg2)) e

/-- Points of one column block see one block of weights. -/
theorem w_step (c : Dev nD) (t t' : Fin cfg0.N) (h : t.val / 11 = t'.val / 11) :
    (iblk m c 1 t : S512x2048.Idx → EReal) = iblk m c 1 t' := by
  have hN : cfg0.N = 44 := N_0
  have ht := t.isLt
  funext y
  idx_vars y
  have hy : y0.val < 512 := y0.isLt
  have h4 : y1.val < 2048 := y1.isLt
  rw [w_apply m c t y0 y1 (ix2 ⟨y1.val, h4⟩ ⟨8720 + t.val / 11 * 512 + y0.val, by omega⟩) rfl rfl,
    w_apply m c t' y0 y1 (ix2 ⟨y1.val, h4⟩ ⟨8720 + t.val / 11 * 512 + y0.val, by omega⟩) rfl (by show 8720 + t.val / 11 * 512 + y0.val = _; rw [h])]

/-- After any point the scratch holds the weights of the point's column block. -/
theorem scratch_eq (c : Dev nD) : ∀ (n : ℕ) (h : n < cfg0.N),
    ((outsAt0 m c n h).2 : S512x2048.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 11 = (n + 1) / 11; omega)

/-- So every point leaves the product of its rows and columns in its output block. -/
theorem outs_eq (c : Dev nD) (t : Fin cfg0.N) :
    (outsAt0 m c t.val t.isLt).1 = block (iblk m c 0 t) (iblk m c 1 t) (iblk m c 2 t) := by
  by_cases h0 : t.val % 11 = 0
  · rw [outsAt0_A m c t h0]
    dsimp only
    rw [out_A]
  · rw [outsAt0_B m c t h0]
    dsimp only
    rw [out_B]
    have hN : cfg0.N = 44 := N_0
    have ht := t.isLt
    have e : ((outsAt0 m c (t.val - 1) (Nat.lt_of_le_of_lt (Nat.sub_le _ _) t.isLt)).2 : S512x2048.Idx → EReal) = iblk m c 1 t :=
      (scratch_eq m c (t.val - 1) (by omega)).trans (w_step m c _ _ (by show (t.val - 1) / 11 = t.val / 11; omega))
    rw [e]

/-- The result as a function of the arguments. -/
abbrev result (c : Dev nD) : Buf (Elt Ideal) ((c : Thread nD τ).loc main_v2) :=
  whole (m ((c : Thread nD τ).loc main_arg0)) (m ((c : Thread nD τ).loc main_arg1)) (m ((c : Thread nD τ).loc main_arg2))

theorem flushed_eq (c : Dev nD) (t : Fin cfg0.N) (hf : (cfg0.win 3).flush t = true) :
    (dats m 0 c).flushed 3 t = ((cfg0.win 3).blk t).view.read (Elt Ideal) (result m c) := by
  rw [Value.flushed3, outs_eq]
  have hN : cfg0.N = 44 := N_0
  have ht := t.isLt
  obtain ⟨-, -, -, -, -, -, e0, e1⟩ := idx_in t
  funext y
  have hy0 : (y 0).val < 1536 := (y 0).isLt
  have hy1 : (y 1).val < 512 := (y 1).isLt
  have hb0 : (((cfg0.win 3).blk t).view.emb y 0).val = win0_3.index t (0 : Fin 2) * 1536 + 1 * (y 0).val := rfl
  have hb1 : (((cfg0.win 3).blk t).view.emb y 1).val = win0_3.index t (1 : Fin 2) * 512 + 1 * (y 1).val := rfl
  rw [e0] at hb0
  rw [e1] at hb1
  rw [View.read_apply]
  show block (iblk m c 0 t) (iblk m c 1 t) (iblk m c 2 t) ((cfg0.win 3).xinj (grid0.coords t) y) = whole _ _ _ (((cfg0.win 3).blk t).view.emb y)
  unfold block whole
  have hy : (y 1).val < 512 := (y 1).isLt
  have hd : (((cfg0.win 3).blk t).view.emb y 1).val / 512 = t.val / 11 := by omega
  have hm : (⟨(((cfg0.win 3).blk t).view.emb y 1).val % 512, Nat.mod_lt _ (by omega)⟩ : Fin 512) = y 1 := Fin.ext (by show _ % 512 = (y 1).val; omega)
  unfold entry
  rw [hm]
  refine congrArg₂ (fun (a : Fin 512 → EReal) (b : EReal) => HeadNorm.normed a b (y 1)) (funext fun e => ?_) (g_apply m c t (y 1))
  unfold proj
  refine Finset.sum_congr rfl fun k _ => ?_
  refine congrArg₂ (fun a b : EReal => a * b) ?_ ?_
  · exact x_apply m c t _ _ _ (by show (((cfg0.win 3).blk t).view.emb y 0).val = t.val % 11 * 1536 + (y 0).val; omega) rfl
  · exact w_apply m c t _ _ _ rfl (by show 8720 + ((((cfg0.win 3).blk t).view.emb y 1).val / 512 * 512 + e.val) = 8720 + t.val / 11 * 512 + e.val; rw [hd]; omega)

theorem final (c : Dev nD) : (dats m 0 c).arrAt 3 cfg0.N = result m c :=
  (dats m 0 c).arrAt_eq_of_cover 3 _ (fun t hf => flushed_eq m c t hf) (fun i => (Value.covered_iff3 i).2 (by
    have h0 : (i 0).val < 16896 := (i 0).isLt; have h1 : (i 1).val < 2048 := (i 1).isLt; omega))

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final m c),
      Value.kept_main_arg0 m r h c, Value.kept_main_arg1 m r h c, Value.kept_main_arg2 m r h c⟩)
    (run_main m ρ)

end Cert.MemQIdeal.Final

end
-- ==== Proof.MemQRefValue.lean ====
/- The projection to the memory attention's queries, each head normalised, the reference's side: its result at an index. -/
module

public import proofs.«01_k».proof.Proof.MemQSpec
public import proofs.«01_k».proof.Proof.Gen.MemQRefIdeal.Read
public import proofs.«01_k».proof.Proof.Gen.MemQRefIdeal.Run

@[expose] public section

set_option maxRecDepth 16384

noncomputable section

open Idealize.ShloMosaic Idealize.ShloMosaic.TcCoe Idealize.SL.Sem

namespace Cert.MemQRefIdeal.Final

open Cert.MemQRefIdeal Cert.MemQRefIdeal.Gen Cert.MemQRefIdeal.Read Cert.MemQSpec

variable (x : (⟨S16896x2048, .bf16⟩ : BufTy).Contents (Elt Ideal)) (w : (⟨S2048x10768, .f32⟩ : BufTy).Contents (Elt Ideal)) (g : (⟨S512, .f32⟩ : BufTy).Contents (Elt Ideal))

theorem v3_apply (n : Fin 16896) (h : Fin 4) (j : Fin 512) : val_main_v3 x w (ix3 n h j) = proj x w n h j := by
  unfold proj
  pointwise [val_main_v3, val_main_v2, val_main_v1, val_main_v0]

theorem v16_apply (n : Fin 16896) (h : Fin 4) (j : Fin 512) : val_main_v16 x w g (ix3 n h j) = entry x w g n h j := by
  unfold entry HeadNorm.normed
  simp only [← v3_apply]
  unfold val_main_v16 val_main_v13 val_main_v12 val_main_v11 val_main_v10 val_main_v8 val_main_v6 val_main_v5 val_main_v4
  generalize val_main_v3 x w = z
  pointwise [val_main_v15, val_main_v14, val_main_v9, val_main_v7, val_main_cst, val_main_cst_0, val_main_cst_1]

theorem ref_eq : val_main_v18 x w g = whole x w g := by
  funext i
  idx_vars i
  show _ = entry _ _ _ i0 ⟨i1.val / 512, _⟩ ⟨i1.val % 512, _⟩
  rw [← v16_apply]
  unfold val_main_v18 val_main_v17
  generalize val_main_v16 x w g = z
  pointwise

end Cert.MemQRefIdeal.Final

end
-- ==== Proof.Rope.lean ====
/- The normalisation of one head of 64 entries and the partial rotation of its first sixteen, over the extended reals. -/
module

public import Idealize.ShloMosaic.PureOps.Ideal
public import proofs.«01_k».proof.Proof.Scalars

@[expose] public section

set_option maxRecDepth 16384

noncomputable section

open Idealize.ShloMosaic Idealize.ShloMosaic.TcCoe Idealize.SL.Sem

namespace Cert.Rope

/-- A head scaled by the inverse root of its mean square (the small constant added under the root), then by the learned gain. -/
def normed (a : Fin 64 → EReal) (g : Fin 64 → EReal) (j : Fin 64) : EReal :=
  a j * Ideal.rsqrt (Ideal.div (∑ k : Fin 64, a k * a k) (Ideal.ofBits .f32 0x42800000#32) + Ideal.ofBits .f32 0x358637BD#32) * g j

/-- The first eight entries are rotated against the next eight, the others stay. -/
def turned (c s : Fin 8 → EReal) (u : Fin 64 → EReal) (j : Fin 64) : EReal :=
  if h : j.val < 8 then u j * c ⟨j.val, h⟩ - u ⟨j.val + 8, by omega⟩ * s ⟨j.val, h⟩
  else if h : j.val < 16 then u j * c ⟨j.val - 8, by omega⟩ + u ⟨j.val - 8, by omega⟩ * s ⟨j.val - 8, by omega⟩
  else u j

/-- The scaled rows of the kernel: the mean square taken by a product with the table of the heads, as 512 columns. -/
def rows (a : Fin 512 → EReal) (seg : Fin 512 → Fin 512 → EReal) (g : Fin 512 → EReal) (j : Fin 512) : EReal :=
  a j * Ideal.rsqrt ((∑ k : Fin 512, a k * a k * seg k j) * Ideal.ofBits .f32 0x3C800000#32 + Ideal.ofBits .f32 0x358637BD#32) * g j

/-- The kernel's rotation: the rows turned by eight columns either way, each times its table. -/
def rolled (v : Fin 512 → EReal) (c sa sb : Fin 128 → EReal) (j : Fin 512) : EReal :=
  v j * c ⟨j.val % 128, Nat.mod_lt _ (by omega)⟩
    + v ⟨(j.val + 8) % 512, Nat.mod_lt _ (by omega)⟩ * sa ⟨j.val % 128, Nat.mod_lt _ (by omega)⟩
    + v ⟨(j.val + 504) % 512, Nat.mod_lt _ (by omega)⟩ * sb ⟨j.val % 128, Nat.mod_lt _ (by omega)⟩

/-- A sum over the 512 columns against the indicator of one head is the sum over that head's 64. -/
theorem sum_head (f : Fin 512 → EReal) (h : Fin 8) :
    ∑ k : Fin 512, f k * (if k.val / 64 = h.val then (1 : EReal) else 0) = ∑ l : Fin 64, f ⟨h.val * 64 + l.val, by omega⟩ := by
  have e : ∑ k : Fin 512, f k * (if k.val / 64 = h.val then (1 : EReal) else 0)
      = ∑ p : Fin 8 × Fin 64, f ⟨p.1.val * 64 + p.2.val, by omega⟩ * (if p.1 = h then (1 : EReal) else 0) := by
    rw [← (finProdFinEquiv (m := 8) (n := 64)).sum_comp]
    refine Finset.sum_congr rfl fun p _ => ?_
    have e1 : ((finProdFinEquiv p : Fin (8 * 64)).val) = p.2.val + 64 * p.1.val := rfl
    have e2 : (finProdFinEquiv p : Fin (8 * 64)) = (⟨p.1.val * 64 + p.2.val, by omega⟩ : Fin 512) := Fin.ext (by rw [e1]; show _ = p.1.val * 64 + p.2.val; omega)
    rw [e2]
    congr 1
    have e3 : (p.1.val * 64 + p.2.val) / 64 = p.1.val := by omega
    show (if (p.1.val * 64 + p.2.val) / 64 = h.val then (1 : EReal) else 0) = _
    rw [e3]
    simp only [Fin.ext_iff]
  rw [e, Fintype.sum_prod_type]
  rw [Finset.sum_eq_single h]
  · simp
  · intro b _ hb
    simp [hb]
  · intro hh
    exact absurd (Finset.mem_univ h) hh

theorem eighth : Ideal.ofBits .f32 0x3E000000#32 = ((1 / 8 : ℝ) : EReal) := by
  simp [Ideal.ofBits, Ideal.ieee, -EReal.coe_mul]; norm_num

theorem sixtyfourth : Ideal.ofBits .f32 0x3C800000#32 = ((1 / 64 : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

/-- Dividing by 64 is multiplying by its inverse. -/
theorem div_64 (x : EReal) : Ideal.div x (Ideal.ofBits .f32 0x42800000#32) = x * Ideal.ofBits .f32 0x3C800000#32 := by
  rw [sixtyfour, sixtyfourth]
  unfold Ideal.div
  rw [if_neg (by exact_mod_cast (by norm_num : (64 : ℝ) ≠ 0)), ← EReal.coe_inv]
  norm_num

/-- The kernel's rows at entry `j` of head `h` are the normalised head, the gain scaled by `κ`. -/
theorem rows_eq (a : Fin 512 → EReal) (g : Fin 512 → EReal) (g' : Fin 64 → EReal) (κ : EReal) (seg : Fin 512 → Fin 512 → EReal)
    (hs : ∀ k j, seg k j = if k.val / 64 = j.val / 64 then 1 else 0) (hg : ∀ j, g j = g' ⟨j.val % 64, Nat.mod_lt _ (by omega)⟩ * κ)
    (h : Fin 8) (j : Fin 64) (i : Fin 512) (hi : i.val = h.val * 64 + j.val) :
    rows a seg g i = normed (fun l => a ⟨h.val * 64 + l.val, by omega⟩) g' j * κ := by
  have ei : i = ⟨h.val * 64 + j.val, by omega⟩ := Fin.ext hi
  rw [ei]
  unfold rows normed
  have e : (h.val * 64 + j.val) / 64 = h.val := by omega
  have e' : (⟨(h.val * 64 + j.val) % 64, Nat.mod_lt _ (by omega)⟩ : Fin 64) = j := Fin.ext (by show _ % 64 = _; omega)
  simp only [hs, hg, e, e', sum_head (fun k => a k * a k) h, div_64]
  rw [mul_assoc, mul_assoc, mul_assoc]

/-- The kernel's rotation of the scaled rows is the rotation of the head, scaled. -/
theorem rolled_eq (v : Fin 512 → EReal) (u : Fin 64 → EReal) (κ : EReal) (hκ : 0 ≤ κ) (hκ' : κ ≠ ⊤) (c s : Fin 8 → EReal) (tc ta tb : Fin 128 → EReal) (h : Fin 8)
    (hv : ∀ (j : Fin 64) (i : Fin 512), i.val = h.val * 64 + j.val → v i = u j * κ)
    (hc : ∀ l : Fin 128, tc l = if hl : l.val % 64 < 8 then c ⟨l.val % 64, hl⟩ else if hl : l.val % 64 < 16 then c ⟨l.val % 64 - 8, by omega⟩ else 1)
    (ha : ∀ l : Fin 128, ta l = if hl : l.val % 64 < 8 then -s ⟨l.val % 64, hl⟩ else 0)
    (hb : ∀ l : Fin 128, tb l = if hl : l.val % 64 < 8 then 0 else if hl : l.val % 64 < 16 then s ⟨l.val % 64 - 8, by omega⟩ else 0)
    (j : Fin 64) (i : Fin 512) (hi : i.val = h.val * 64 + j.val) :
    rolled v tc ta tb i = turned c s u j * κ := by
  have e : i.val % 128 % 64 = j.val := by omega
  unfold rolled turned
  rw [hc, ha, hb, hv j i hi]
  simp only [e]
  by_cases h8 : j.val < 8
  · simp only [h8, dite_true]
    rw [hv ⟨j.val + 8, by omega⟩ _ (by show (i.val + 8) % 512 = h.val * 64 + (j.val + 8); omega), mul_zero, add_zero, sub_eq_add_neg,
      EReal.right_distrib_of_nonneg_of_ne_top hκ hκ', mul_neg, EReal.neg_mul]
    congr 1
    · ac_rfl
    · congr 1; ac_rfl
  · by_cases h16 : j.val < 16
    · simp only [h8, h16, dite_true, dite_false]
      rw [hv ⟨j.val - 8, by omega⟩ ⟨(i.val + 504) % 512, Nat.mod_lt _ (by omega)⟩ (by show (i.val + 504) % 512 = h.val * 64 + (j.val - 8); omega), mul_zero, add_zero,
        EReal.right_distrib_of_nonneg_of_ne_top hκ hκ']
      congr 1 <;> ac_rfl
    · simp only [h8, h16, dite_false, mul_zero, add_zero, mul_one]

end Cert.Rope

end
-- ==== Proof.SwaQBlock.lean ====
/- The projection to the sliding attention's queries, each head normalised and rotated: what the kernel's body leaves in its block, as plain sums. -/
module

public import proofs.«01_k».proof.Proof.Rope
public import proofs.«01_k».proof.Proof.Gen.SwaQIdeal.Value
public import Idealize.ShloMosaic.Lib.Pointwise

@[expose] public section

set_option maxRecDepth 16384

noncomputable section

open Idealize.ShloMosaic Idealize.ShloMosaic.TcCoe Idealize.SL.Sem

namespace Cert.SwaQIdeal.Blk

open Cert.SwaQIdeal Cert.SwaQIdeal.Gen

theorem hz : (![0, 0] : Fin 2 → Nat) = fun _ => 0 := funext fun a => by fin_cases a <;> rfl

/-- The block a point leaves, from its rows, its weights, the gain, the table of the heads and the three tables of the rotation. -/
def block (x : Vec Ideal S1536x2048 .bf16) (w : S512x2048.Idx → EReal) (g : Vec Ideal S1x512 .f32) (s : Vec Ideal S512x512 .bf16)
    (tc ta tb : Vec Ideal S1536x128 .f32) : Vec Ideal S1536x512 .bf16 := fun y =>
  Rope.rolled (Rope.rows (fun e => ∑ k : Fin 2048, x (ix2 (n0 := 1536) (n1 := 2048) (y 0) k) * w (ix2 (n0 := 512) (n1 := 2048) e k))
      (fun k j => s (ix2 (n0 := 512) (n1 := 512) k j)) (fun e => g (ix2 (n0 := 1) (n1 := 512) 0 e)))
    (fun l => tc (ix2 (n0 := 1536) (n1 := 128) (y 0) l)) (fun l => ta (ix2 (n0 := 1536) (n1 := 128) (y 0) l)) (fun l => tb (ix2 (n0 := 1536) (n1 := 128) (y 0) l)) (y 1)

/-- The scaled rows of one piece. -/
theorem pay2_apply (q : Vec Ideal S384x2048 .bf16) (w : Vec Ideal S512x2048 .bf16) (s : Vec Ideal S512x512 .bf16) (g : Vec Ideal S1x512 .f32) (r : Fin 384) (e : Fin 512) :
    k0_pay2 q w s g (ix2 r e) = Rope.rows (fun e => ∑ k : Fin 2048, q (ix2 r k) * w (ix2 (n0 := 512) (n1 := 2048) e k))
      (fun k j => s (ix2 (n0 := 512) (n1 := 512) k j)) (fun e => g (ix2 (n0 := 1) (n1 := 512) 0 e)) e := by
  unfold Rope.rows
  pointwise [k0_pay2]

/-- A table laid four times beside itself. -/
theorem four (t : Vec Ideal S384x128 .f32) (r : Fin 384) (j : Fin 512) :
    k0_pay3 t (ix2 r j) = t (ix2 (n0 := 384) (n1 := 128) r ⟨j.val % 128, Nat.mod_lt _ (by omega)⟩) := by
  have hj := j.isLt
  pointwise [k0_pay3]
  split
  · congr 2; exact Fin.ext (by show j.val = j.val % 128; omega)
  · split
    · congr 2; exact Fin.ext (by show j.val - 128 = j.val % 128; omega)
    · split
      · congr 2; exact Fin.ext (by show j.val - 128 - 128 = j.val % 128; omega)
      · congr 2; exact Fin.ext (by show j.val - 128 - 128 - 128 = j.val % 128; omega)

/-- One piece of the result. -/
def piece (q : Vec Ideal S384x2048 .bf16) (w : Vec Ideal S512x2048 .bf16) (s : Vec Ideal S512x512 .bf16) (g : Vec Ideal S1x512 .f32) (tc ta tb : Vec Ideal S384x128 .f32) : Vec Ideal S384x512 .bf16 :=
  addf (addf (mulf (k0_pay2 q w s g) (k0_pay3 tc)) (mulf (dynamicRotate 1 504#32 none (k0_pay2 q w s g) rotates_S384x512_d1) (k0_pay3 ta)))
    (mulf (dynamicRotate 1 8#32 none (k0_pay2 q w s g) rotates_S384x512_d1) (k0_pay3 tb))

theorem piece_A (q : Vec Ideal S384x2048 .bf16) (w : Vec Ideal S512x2048 .bf16) (s : Vec Ideal S512x512 .bf16) (g : Vec Ideal S1x512 .f32) (tc ta tb : Vec Ideal S384x128 .f32) :
    k0_pay6 (k0_pay3 tb) (k0_pay4 q w s g tc ta) (k0_pay5 q w s g) = piece q w s g tc ta tb := rfl

theorem piece_B (q : Vec Ideal S384x2048 .bf16) (w : Vec Ideal S512x2048 .bf16) (s : Vec Ideal S512x512 .bf16) (g : Vec Ideal S1x512 .f32) (tc ta tb : Vec Ideal S384x128 .f32) :
    k0_pay10 (k0_pay8 q w s g tc ta) (k0_pay9 q w s g tb) = piece q w s g tc ta tb := rfl

theorem piece_C (q : Vec Ideal S384x2048 .bf16) (w : Vec Ideal S512x2048 .bf16) (s : Vec Ideal S512x512 .bf16) (g : Vec Ideal S1x512 .f32) (tc ta tb : Vec Ideal S384x128 .f32) :
    k0_pay12 (k0_pay11 q w s g tc ta tb) = piece q w s g tc ta tb := rfl

theorem piece_D (q : Vec Ideal S384x2048 .bf16) (w : Vec Ideal S512x2048 .bf16) (s : Vec Ideal S512x512 .bf16) (g : Vec Ideal S1x512 .f32) (tc ta tb : Vec Ideal S384x128 .f32) :
    k0_pay13 q w s g tc ta tb = piece q w s g tc ta tb := rfl

theorem piece_apply (q : Vec Ideal S384x2048 .bf16) (w : Vec Ideal S512x2048 .bf16) (s : Vec Ideal S512x512 .bf16) (g : Vec Ideal S1x512 .f32) (tc ta tb : Vec Ideal S384x128 .f32)
    (r : Fin 384) (j : Fin 512) :
    piece q w s g tc ta tb (ix2 r j) = Rope.rolled (Rope.rows (fun e => ∑ k : Fin 2048, q (ix2 r k) * w (ix2 (n0 := 512) (n1 := 2048) e k))
      (fun k j => s (ix2 (n0 := 512) (n1 := 512) k j)) (fun e => g (ix2 (n0 := 1) (n1 := 512) 0 e)))
      (fun l => tc (ix2 r l)) (fun l => ta (ix2 r l)) (fun l => tb (ix2 r l)) j := by
  unfold Rope.rolled
  simp only [← pay2_apply, ← four]
  unfold piece
  generalize k0_pay2 q w s g = z
  generalize k0_pay3 tc = zc
  generalize k0_pay3 ta = za
  generalize k0_pay3 tb = zb
  have e1 : (⟨(j.val + 512 - 504) % 512, Nat.mod_lt _ (by omega)⟩ : Fin 512) = ⟨(j.val + 8) % 512, Nat.mod_lt _ (by omega)⟩ := Fin.ext (by show (j.val + 512 - 504) % 512 = (j.val + 8) % 512; congr 1)
  have e2 : (⟨(j.val + 512 - 8) % 512, Nat.mod_lt _ (by omega)⟩ : Fin 512) = ⟨(j.val + 504) % 512, Nat.mod_lt _ (by omega)⟩ := Fin.ext (by show (j.val + 512 - 8) % 512 = (j.val + 504) % 512; congr 1)
  rw [← e1, ← e2]
  pointwise

/-- The rows from `o` on of the block, stored in one piece. -/
theorem quarter (x : Vec Ideal S1536x2048 .bf16) (w : Vec Ideal S512x2048 .bf16) (g : Vec Ideal S1x512 .f32) (s : Vec Ideal S512x512 .bf16) (tc ta tb : Vec Ideal S1536x128 .f32) (o : ℕ) (ho : o + 384 ≤ 1536)
    (q : Vec Ideal S384x2048 .bf16) (hq : ∀ r d, q (ix2 r d) = x (ix2 (n0 := 1536) (n1 := 2048) ⟨o + r.val, by omega⟩ d))
    (qc qa qb : Vec Ideal S384x128 .f32) (hc : ∀ r d, qc (ix2 r d) = tc (ix2 (n0 := 1536) (n1 := 128) ⟨o + r.val, by omega⟩ d))
    (ha : ∀ r d, qa (ix2 r d) = ta (ix2 (n0 := 1536) (n1 := 128) ⟨o + r.val, by omega⟩ d)) (hb : ∀ r d, qb (ix2 r d) = tb (ix2 (n0 := 1536) (n1 := 128) ⟨o + r.val, by omega⟩ d))
    (j : S384x512.Idx) (y : S1536x512.Idx) (h0 : (y 0).val = o + (j 0).val) (h1 : (y 1).val = (j 1).val) :
    piece q w s g qc qa qb j = block x w g s tc ta tb y := by
  idx_vars j
  idx_vars y
  have hj : j0.val < 384 := j0.isLt
  have e1 : y1 = j1 := Fin.ext h1
  subst e1
  have e0 : (⟨o + j0.val, by omega⟩ : Fin 1536) = y0 := Fin.ext h0.symm
  rw [piece_apply]
  unfold block
  simp only [hq, hc, ha, hb, e0]
  rfl

theorem pay1_eq (x : Vec Ideal S512x2048 .f32) : k0_pay1 x = (x : S512x2048.Idx → EReal) := by
  unfold k0_pay1
  simp only [shapeCast_self]
  rfl

/-- The weights a column block's first point casts and stores, read back through a rectangle. -/
theorem kept (v : View sig .tc .vmem S512x2048 .bf16) (x1 : Vec Ideal S512x2048 .f32) (r : Rect S512x2048) :
    v.readCov (Val := Elt Ideal) [⟨Rect.unit ![0, 0] ![512, 2048] inb_S512x2048_S512x2048_0_0,
      k0_pay1 x1⟩] r.toLoadRect
      = View.ld (Val := Elt Ideal) (e' := .bf16) x1 r := by
  rw [View.readCov_eq_canon_ld _ _ _ (fun y => ⟨_, List.mem_singleton_self _, View.mem_set_unit_zero hz inb_S512x2048_S512x2048_0_0 y⟩),
    View.canon_unit_zero hz, pay1_eq]

theorem sout_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .bf16) (h9 : a9.IsWhole) (a10 : Memref sig .tc .vmem S512x2048 .bf16) (h10 : a10.IsWhole) (hc : cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) :
    sout0_A_0 c i a2 h2 a3 h3 a4 h4 a5 h5 a6 h6 a7 h7 a8 h8 a9 h9 a10 h10 hc x0 x1 x2 x3 x4 x5 x6 = (x1 : S512x2048.Idx → EReal) := by
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h3.read_unread, View.ld_unit_zero (S := S512x2048) hz, pay1_eq]

theorem out_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .bf16) (h9 : a9.IsWhole) (a10 : Memref sig .tc .vmem S512x2048 .bf16) (h10 : a10.IsWhole) (hc : cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) :
    out0_A_7 c i a2 h2 a3 h3 a4 h4 a5 h5 a6 h6 a7 h7 a8 h8 a9 h9 a10 h10 hc x0 x1 x2 x3 x4 x5 x6 = block x0 x1 x2 x3 x4 x5 x6 := by
  funext y
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  refine View.canon_apply_of_pieces (block x0 x1 x2 x3 x4 x5 x6) _ (fun p hp j => ?_) y (cover0_A_7 c i a2 h2 a3 h3 a4 h4 a5 h5 a6 h6 a7 h7 a8 h8 a9 h9 a10 h10 hc x0 x1 x2 x3 x4 x5 x6 y)
  unfold kernelRun0_A at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread, h5.read_unread, h6.read_unread, h7.read_unread, h8.read_unread]
    simp only [kept, View.ld_unit_zero (S := S512x2048) hz, View.ld_unit_zero (S := S1x512) hz, View.ld_unit_zero (S := S512x512) hz]
  · rw [piece_D]
    exact quarter x0 x1 x2 x3 x4 x5 x6 1152 (by omega) _ (fun _ _ => by pointwise) _ _ _ (fun _ _ => by pointwise) (fun _ _ => by pointwise) (fun _ _ => by pointwise) j _ (by show 1152 + 1 * (j 0).val = 1152 + (j 0).val; omega) (by show 0 + 1 * (j 1).val = (j 1).val; omega)
  · rw [piece_C]
    exact quarter x0 x1 x2 x3 x4 x5 x6 768 (by omega) _ (fun _ _ => by pointwise) _ _ _ (fun _ _ => by pointwise) (fun _ _ => by pointwise) (fun _ _ => by pointwise) j _ (by show 768 + 1 * (j 0).val = 768 + (j 0).val; omega) (by show 0 + 1 * (j 1).val = (j 1).val; omega)
  · rw [piece_B]
    exact quarter x0 x1 x2 x3 x4 x5 x6 384 (by omega) _ (fun _ _ => by pointwise) _ _ _ (fun _ _ => by pointwise) (fun _ _ => by pointwise) (fun _ _ => by pointwise) j _ (by show 384 + 1 * (j 0).val = 384 + (j 0).val; omega) (by show 0 + 1 * (j 1).val = (j 1).val; omega)
  · rw [piece_A]
    exact quarter x0 x1 x2 x3 x4 x5 x6 0 (by omega) _ (fun _ _ => by pointwise) _ _ _ (fun _ _ => by pointwise) (fun _ _ => by pointwise) (fun _ _ => by pointwise) j _ (by show 0 + 1 * (j 0).val = 0 + (j 0).val; omega) (by show 0 + 1 * (j 1).val = (j 1).val; omega)

theorem out_B (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .bf16) (h9 : a9.IsWhole) (a10 : Memref sig .tc .vmem S512x2048 .bf16) (h10 : a10.IsWhole) (hc : ¬cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) (xs : Vec Ideal S512x2048 .bf16) :
    out0_B_7 c i a2 h2 a3 h3 a4 h4 a5 h5 a6 h6 a7 h7 a8 h8 a9 h9 a10 h10 hc x0 x1 x2 x3 x4 x5 x6 xs = block x0 xs x2 x3 x4 x5 x6 := by
  funext y
  unfold out0_B_7
  rw [View.read_writes_eq_canon _ _ _ (cover0_B_7 c i a2 h2 a3 h3 a4 h4 a5 h5 a6 h6 a7 h7 a8 h8 a9 h9 a10 h10 hc x0 x1 x2 x3 x4 x5 x6 xs)]
  refine View.canon_apply_of_pieces (block x0 xs x2 x3 x4 x5 x6) _ (fun p hp j => ?_) y (cover0_B_7 c i a2 h2 a3 h3 a4 h4 a5 h5 a6 h6 a7 h7 a8 h8 a9 h9 a10 h10 hc x0 x1 x2 x3 x4 x5 x6 xs y)
  unfold kernelRun0_B at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread, h5.read_unread, h6.read_unread, h7.read_unread, h8.read_unread, h10.read_unread, View.ld_unit_zero (S := S512x2048) hz, View.ld_unit_zero (S := S1x512) hz, View.ld_unit_zero (S := S512x512) hz]
  · rw [piece_D]
    exact quarter x0 xs x2 x3 x4 x5 x6 1152 (by omega) _ (fun _ _ => by pointwise) _ _ _ (fun _ _ => by pointwise) (fun _ _ => by pointwise) (fun _ _ => by pointwise) j _ (by show 1152 + 1 * (j 0).val = 1152 + (j 0).val; omega) (by show 0 + 1 * (j 1).val = (j 1).val; omega)
  · rw [piece_C]
    exact quarter x0 xs x2 x3 x4 x5 x6 768 (by omega) _ (fun _ _ => by pointwise) _ _ _ (fun _ _ => by pointwise) (fun _ _ => by pointwise) (fun _ _ => by pointwise) j _ (by show 768 + 1 * (j 0).val = 768 + (j 0).val; omega) (by show 0 + 1 * (j 1).val = (j 1).val; omega)
  · rw [piece_B]
    exact quarter x0 xs x2 x3 x4 x5 x6 384 (by omega) _ (fun _ _ => by pointwise) _ _ _ (fun _ _ => by pointwise) (fun _ _ => by pointwise) (fun _ _ => by pointwise) j _ (by show 384 + 1 * (j 0).val = 384 + (j 0).val; omega) (by show 0 + 1 * (j 1).val = (j 1).val; omega)
  · rw [piece_A]
    exact quarter x0 xs x2 x3 x4 x5 x6 0 (by omega) _ (fun _ _ => by pointwise) _ _ _ (fun _ _ => by pointwise) (fun _ _ => by pointwise) (fun _ _ => by pointwise) j _ (by show 0 + 1 * (j 0).val = 0 + (j 0).val; omega) (by show 0 + 1 * (j 1).val = (j 1).val; omega)

end Cert.SwaQIdeal.Blk

end
-- ==== Proof.SwaQSpec.lean ====
/- The projection to the sliding attention's queries, each head normalised and rotated, whole, over the extended reals: what both programs are shown to compute. -/
module

public import proofs.«01_k».proof.Proof.Rope
public import Idealize.ShloMosaic.Lib.Pointwise

@[expose] public section

set_option maxRecDepth 16384

noncomputable section

open Idealize.ShloMosaic Idealize.ShloMosaic.TcCoe Idealize.SL.Sem

namespace Cert.SwaQSpec

/-- The position of row `n`: its place in its prompt, or after the 1024 cached positions in its sample. -/
def pos (n : Fin 16896) : BitVec 32 := if n.val < 16384 then BitVec.ofNat 32 (n.val % 8192) else IntOp.addi 1024#32 (BitVec.ofNat 32 ((n.val - 16384) % 32))

/-- The angle by which a position turns pair `l`. -/
def angle (p : BitVec 32) (l : Fin 8) : EReal :=
  (FloatOps.sitofp (F := Ideal) .f32 p : EReal) * Ideal.pow (Ideal.ofBits .f32 0x48F42400#32) (Ideal.div (-(FloatOps.sitofp (F := Ideal) .f32 (BitVec.ofNat 32 l.val) : EReal)) (Ideal.ofBits .f32 0x41000000#32))

/-- The projection of row `n` onto entry `j` of head `h`. -/
def proj (x : (⟨2, ![16896, 2048]⟩ : Shape).Idx → EReal) (w : (⟨3, ![1, 2048, 10768]⟩ : Shape).Idx → EReal) (n : Fin 16896) (h : Fin 32) (j : Fin 64) : EReal :=
  ∑ k : Fin 2048, x (ix2 (n0 := 16896) (n1 := 2048) n k) * w (ix3 (n0 := 1) (n1 := 2048) (n2 := 10768) 0 k ⟨6160 + (h.val * 64 + j.val), by omega⟩)

/-- The result at row `n`, head `h`, entry `j`. -/
def entry (x : (⟨2, ![16896, 2048]⟩ : Shape).Idx → EReal) (w : (⟨3, ![1, 2048, 10768]⟩ : Shape).Idx → EReal) (g : (⟨2, ![1, 64]⟩ : Shape).Idx → EReal)
    (n : Fin 16896) (h : Fin 32) (j : Fin 64) : EReal :=
  Rope.turned (fun l => Ideal.cos (angle (pos n) l)) (fun l => Ideal.sin (angle (pos n) l))
    (Rope.normed (proj x w n h) (fun e => g (ix2 (n0 := 1) (n1 := 64) 0 e))) j * Ideal.ofBits .f32 0x3E000000#32

/-- The result at row `i 0` and column `i 1`. -/
def whole (x : (⟨2, ![16896, 2048]⟩ : Shape).Idx → EReal) (w : (⟨3, ![1, 2048, 10768]⟩ : Shape).Idx → EReal) (g : (⟨2, ![1, 64]⟩ : Shape).Idx → EReal) :
    (⟨2, ![16896, 2048]⟩ : Shape).Idx → EReal := fun i =>
  entry x w g (i 0) ⟨(i 1).val / 64, by have h1 : (i 1).val < 2048 := (i 1).isLt; omega⟩ ⟨(i 1).val % 64, Nat.mod_lt _ (by omega)⟩

end Cert.SwaQSpec

end
-- ==== Proof.SwaQValue.lean ====
/- The projection to the sliding attention's queries, each head normalised and rotated, the kernel's side: the result array after the run. -/
module

public import proofs.«01_k».proof.Proof.SwaQBlock
public import proofs.«01_k».proof.Proof.SwaQSpec
public import Idealize.ShloMosaic.Lib.StableHlo.ReadAt

@[expose] public section

set_option maxRecDepth 16384

noncomputable section

open Idealize.ShloMosaic Idealize.ShloMosaic.TcCoe Idealize.SL.Sem

open Idealize.ShloMosaic.Pipeline (Dat)

namespace Cert.SwaQIdeal.Final

open Cert.SwaQIdeal Cert.SwaQIdeal.Gen Cert.SwaQIdeal.Blk Cert.SwaQSpec

variable (m : (ℓ : Loc nD τ sig) → Buf (Elt Ideal) ℓ) (ρ : Dev nD → PrngReg)

/-- The quotient by 64 rounded down, as the host computes it on 32-bit words. -/
def quot (k : BitVec 32) : BitVec 32 :=
  Scalar.select (IntOp.andi (IntOp.cmpi CmpIPredicate.ne (if k = 0 then 0 else if k.msb = true then -1 else (1 : BitVec 32)) (1 : BitVec 32)) (IntOp.cmpi CmpIPredicate.ne (IntOp.remsi ArithUnit.host k 64#32) 0#32))
    (IntOp.subi (IntOp.divsi ArithUnit.host k 64#32) 1#32) (IntOp.divsi ArithUnit.host k 64#32)

theorem quot_eq : ∀ k : Fin 512, quot (BitVec.ofNat 32 k.val) = BitVec.ofNat 32 (k.val / 64) := by decide +kernel

/-- Comparing two of the eight heads' numbers, as a float. -/
theorem same (a b : Fin 8) : (FloatOps.uitofp (F := Ideal) FTy.bf16 (IntOp.cmpi CmpIPredicate.eq (BitVec.ofNat 32 a.val) (BitVec.ofNat 32 b.val)) : EReal) = if a.val = b.val then (1 : EReal) else 0 := by
  have e : ∀ a b : Fin 8, IntOp.cmpi CmpIPredicate.eq (BitVec.ofNat 32 a.val) (BitVec.ofNat 32 b.val) = if a.val = b.val then 1#1 else 0#1 := by decide
  rw [e]
  split
  · show (((1#1 : BitVec 1).toNat : ℝ) : EReal) = 1
    simp
  · show (((0#1 : BitVec 1).toNat : ℝ) : EReal) = 0
    simp

theorem seg_apply (c : Dev nD) (k j : Fin 512) : V m c main_v51 (ix2 (n0 := 512) (n1 := 512) k j)
    = if k.val / 64 = j.val / 64 then (1 : EReal) else 0 := by
  unfold V
  after_reads_at
  show FloatOps.uitofp (F := Ideal) FTy.bf16 (IntOp.cmpi CmpIPredicate.eq (quot (BitVec.ofNat 32 k.val)) (quot (BitVec.ofNat 32 j.val))) = _
  rw [quot_eq, quot_eq]
  have hk := k.isLt
  have hj := j.isLt
  exact same ⟨k.val / 64, by omega⟩ ⟨j.val / 64, by omega⟩

theorem sub_lt_eight (a : ℕ) : a - 8 < 8 ↔ a < 16 := by omega

theorem first_apply (c : Dev nD) (k : Fin 16384) :
    StableHlo.upto [hostOps0 (F := Ideal), hostOps0_1, hostOps0_2].flatten (fun b => m (c, b)) 12 (Proc.tc.devRef main_v4) (ix1 k) = BitVec.ofNat 32 (k.val % 8192) := by
  after_reads_simp
  pointwise

theorem second_apply (c : Dev nD) (k : Fin 512) :
    StableHlo.upto [hostOps0 (F := Ideal), hostOps0_1, hostOps0_2].flatten (fun b => m (c, b)) 12 (Proc.tc.devRef main_v10) (ix1 k) = IntOp.addi 1024#32 (BitVec.ofNat 32 (k.val % 32)) := by
  after_reads_simp
  pointwise

/-- The host's positions are the specification's. -/
theorem pos_reads (c : Dev nD) (n : Fin 16896) :
    (if h : n.val < 16384 then StableHlo.upto [hostOps0 (F := Ideal), hostOps0_1, hostOps0_2].flatten (fun b => m (c, b)) 12 (Proc.tc.devRef main_v4) (ix1 (n0 := 16384) ⟨n.val, h⟩)
      else StableHlo.upto [hostOps0 (F := Ideal), hostOps0_1, hostOps0_2].flatten (fun b => m (c, b)) 12 (Proc.tc.devRef main_v10) (ix1 (n0 := 512) ⟨n.val - 16384, by omega⟩) : BitVec 32) = pos n := by
  unfold pos
  by_cases h : n.val < 16384
  · rw [dif_pos h, if_pos h]
    exact first_apply m c _
  · rw [dif_neg h, if_neg h]
    exact second_apply m c _

theorem tc_apply (c : Dev nD) (n : Fin 16896) (l : Fin 128) : V m c main_v37 (ix2 (n0 := 16896) (n1 := 128) n l)
    = (if hl : l.val % 64 < 8 then Ideal.cos (angle (pos n) ⟨l.val % 64, hl⟩) else if hl : l.val % 64 < 16 then Ideal.cos (angle (pos n) ⟨l.val % 64 - 8, by omega⟩) else (1 : EReal)) := by
  unfold V
  after_reads_at
  after_reads_at
  by_cases h8 : l.val % 64 < 8
  · rw [dif_pos h8, dif_pos h8]
    exact congrArg (fun p => Ideal.cos (angle p ⟨l.val % 64, h8⟩)) (pos_reads m c n)
  · rw [dif_neg h8, dif_neg h8]
    by_cases h16 : l.val % 64 < 16
    · rw [dif_pos ((sub_lt_eight _).2 h16), dif_pos h16]
      exact congrArg (fun p => Ideal.cos (angle p ⟨l.val % 64 - 8, by omega⟩)) (pos_reads m c n)
    · rw [dif_neg (fun h => h16 ((sub_lt_eight _).1 h)), dif_neg h16]

theorem ta_apply (c : Dev nD) (n : Fin 16896) (l : Fin 128) : V m c main_v40 (ix2 (n0 := 16896) (n1 := 128) n l)
    = (if hl : l.val % 64 < 8 then -Ideal.sin (angle (pos n) ⟨l.val % 64, hl⟩) else (0 : EReal)) := by
  unfold V
  after_reads_at
  after_reads_at
  by_cases h8 : l.val % 64 < 8
  · rw [dif_pos h8, dif_pos h8]
    exact congrArg (fun p => -Ideal.sin (angle p ⟨l.val % 64, h8⟩)) (pos_reads m c n)
  · rw [dif_neg h8, dif_neg h8]
    split <;> rfl

theorem tb_apply (c : Dev nD) (n : Fin 16896) (l : Fin 128) : V m c main_v43 (ix2 (n0 := 16896) (n1 := 128) n l)
    = (if hl : l.val % 64 < 8 then 0 else if hl : l.val % 64 < 16 then Ideal.sin (angle (pos n) ⟨l.val % 64 - 8, by omega⟩) else (0 : EReal)) := by
  unfold V
  after_reads_at
  after_reads_at
  by_cases h8 : l.val % 64 < 8
  · rw [dif_pos h8, dif_pos h8]
  · rw [dif_neg h8, dif_neg h8]
    by_cases h16 : l.val % 64 < 16
    · rw [dif_pos ((sub_lt_eight _).2 h16), dif_pos h16]
      exact congrArg (fun p => Ideal.sin (angle p ⟨l.val % 64 - 8, by omega⟩)) (pos_reads m c n)
    · rw [dif_neg (fun h => h16 ((sub_lt_eight _).1 h)), dif_neg h16]

theorem gain_apply (c : Dev nD) (j : Fin 512) : (V m c main_v57 (ix2 (n0 := 1) (n1 := 512) 0 j) : EReal)
    = HMul.hMul (α := EReal) (β := EReal) (γ := EReal) (m ((c : Thread nD τ).loc main_arg2) (ix2 (n0 := 1) (n1 := 64) 0 ⟨j.val % 64, Nat.mod_lt _ (by omega)⟩)) (Ideal.ofBits .f32 0x3E000000#32) := by
  unfold V
  after_reads_at

theorem weight_apply (c : Dev nD) (e : Fin 10768) (k : Fin 2048) : V m c main_v59 (ix2 (n0 := 10768) (n1 := 2048) e k)
    = m ((c : Thread nD τ).loc main_arg1) (ix3 (n0 := 1) (n1 := 2048) (n2 := 10768) 0 k e) := by
  unfold V
  after_reads_at

/-- The index maps over the grid: point `t` takes row block `t % 11` and column block `t / 11`. -/
theorem idx_in : ∀ t : Fin cfg0.N, win0_0.index t (0 : Fin 2) = t.val % 11 ∧ win0_0.index t (1 : Fin 2) = 0
    ∧ win0_1.index t (0 : Fin 2) = 6160 + t.val / 11 * 512 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val % 11 ∧ win0_4.index t (1 : Fin 2) = 0
    ∧ win0_5.index t (0 : Fin 2) = t.val % 11 ∧ win0_5.index t (1 : Fin 2) = 0
    ∧ win0_6.index t (0 : Fin 2) = t.val % 11 ∧ win0_6.index t (1 : Fin 2) = 0
    ∧ win0_7.index t (0 : Fin 2) = t.val % 11 ∧ win0_7.index t (1 : Fin 2) = t.val / 11 :=
  (by decide +kernel : ∀ t : Fin grid0.N, _)

theorem x_apply (c : Dev nD) (t : Fin cfg0.N) (r : Fin 1536) (e : Fin 2048) (i : S16896x2048.Idx)
    (h0 : (i 0).val = t.val % 11 * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_0.index t (0 : Fin 2) * 1536 + 1 * r.val = (i 0).val; omega
  | ⟨1, _⟩ => show win0_0.index t (1 : Fin 2) * 2048 + 1 * e.val = (i 1).val; omega

theorem w_apply (c : Dev nD) (t : Fin cfg0.N) (e : Fin 512) (k : Fin 2048) (i : Fin 10768)
    (h1 : i.val = 6160 + t.val / 11 * 512 + e.val) :
    iblk m c 1 t (ix2 e k) = m ((c : Thread nD τ).loc main_arg1) (ix3 (n0 := 1) (n1 := 2048) (n2 := 10768) 0 k i) := by
  rw [← weight_apply m c i k]
  unfold iblk
  rw [View.read_apply]
  show V m c main_v59 _ = _
  congr 1
  have ei := idx_in t
  funext a
  apply Fin.ext
  match a with
  | ⟨0, _⟩ => show win0_1.index t (0 : Fin 2) + 1 * e.val = i.val; omega
  | ⟨1, _⟩ => show win0_1.index t (1 : Fin 2) + 1 * k.val = k.val; omega

theorem g_blk (c : Dev nD) (t : Fin cfg0.N) (e : Fin 512) :
    (iblk m c 2 t (ix2 (n0 := 1) (n1 := 512) 0 e) : EReal) = HMul.hMul (α := EReal) (β := EReal) (γ := EReal) (m ((c : Thread nD τ).loc main_arg2) (ix2 (n0 := 1) (n1 := 64) 0 ⟨e.val % 64, Nat.mod_lt _ (by omega)⟩)) (Ideal.ofBits .f32 0x3E000000#32) := by
  rw [← gain_apply m c e]
  unfold iblk
  rw [View.read_apply]
  show V m c main_v57 _ = _
  congr 1
  have ei := idx_in t
  funext a
  apply Fin.ext
  match a with
  | ⟨0, _⟩ => show win0_2.index t (0 : Fin 2) * 1 + 1 * 0 = 0; omega
  | ⟨1, _⟩ => show win0_2.index t (1 : Fin 2) * 512 + 1 * e.val = e.val; omega

theorem s_blk (c : Dev nD) (t : Fin cfg0.N) (k j : Fin 512) :
    (iblk m c 3 t (ix2 (n0 := 512) (n1 := 512) k j) : EReal) = if k.val / 64 = j.val / 64 then (1 : EReal) else 0 := by
  rw [← seg_apply m c k j]
  unfold iblk
  rw [View.read_apply]
  show V m c main_v51 _ = _
  congr 1
  have ei := idx_in t
  funext a
  apply Fin.ext
  match a with
  | ⟨0, _⟩ => show win0_3.index t (0 : Fin 2) * 512 + 1 * k.val = k.val; omega
  | ⟨1, _⟩ => show win0_3.index t (1 : Fin 2) * 512 + 1 * j.val = j.val; omega

theorem tc_blk (c : Dev nD) (t : Fin cfg0.N) (r : Fin 1536) (l : Fin 128) (n : Fin 16896) (h0 : n.val = t.val % 11 * 1536 + r.val) :
    (iblk m c 4 t (ix2 (n0 := 1536) (n1 := 128) r l) : EReal) = (if hl : l.val % 64 < 8 then Ideal.cos (angle (pos n) ⟨l.val % 64, hl⟩) else if hl : l.val % 64 < 16 then Ideal.cos (angle (pos n) ⟨l.val % 64 - 8, by omega⟩) else (1 : EReal)) := by
  rw [← tc_apply m c n l]
  unfold iblk
  rw [View.read_apply]
  show V m c main_v37 _ = _
  congr 1
  have e := idx_in t
  funext a
  apply Fin.ext
  match a with
  | ⟨0, _⟩ => show win0_4.index t (0 : Fin 2) * 1536 + 1 * r.val = n.val; omega
  | ⟨1, _⟩ => show win0_4.index t (1 : Fin 2) * 128 + 1 * l.val = l.val; omega

theorem ta_blk (c : Dev nD) (t : Fin cfg0.N) (r : Fin 1536) (l : Fin 128) (n : Fin 16896) (h0 : n.val = t.val % 11 * 1536 + r.val) :
    (iblk m c 5 t (ix2 (n0 := 1536) (n1 := 128) r l) : EReal) = (if hl : l.val % 64 < 8 then -Ideal.sin (angle (pos n) ⟨l.val % 64, hl⟩) else (0 : EReal)) := by
  rw [← ta_apply m c n l]
  unfold iblk
  rw [View.read_apply]
  show V m c main_v40 _ = _
  congr 1
  have e := idx_in t
  funext a
  apply Fin.ext
  match a with
  | ⟨0, _⟩ => show win0_5.index t (0 : Fin 2) * 1536 + 1 * r.val = n.val; omega
  | ⟨1, _⟩ => show win0_5.index t (1 : Fin 2) * 128 + 1 * l.val = l.val; omega

theorem tb_blk (c : Dev nD) (t : Fin cfg0.N) (r : Fin 1536) (l : Fin 128) (n : Fin 16896) (h0 : n.val = t.val % 11 * 1536 + r.val) :
    (iblk m c 6 t (ix2 (n0 := 1536) (n1 := 128) r l) : EReal) = (if hl : l.val % 64 < 8 then 0 else if hl : l.val % 64 < 16 then Ideal.sin (angle (pos n) ⟨l.val % 64 - 8, by omega⟩) else (0 : EReal)) := by
  rw [← tb_apply m c n l]
  unfold iblk
  rw [View.read_apply]
  show V m c main_v43 _ = _
  congr 1
  have e := idx_in t
  funext a
  apply Fin.ext
  match a with
  | ⟨0, _⟩ => show win0_6.index t (0 : Fin 2) * 1536 + 1 * r.val = n.val; omega
  | ⟨1, _⟩ => show win0_6.index t (1 : Fin 2) * 128 + 1 * l.val = l.val; omega

/-- Points of one column block see one block of weights. -/
theorem w_step (c : Dev nD) (t t' : Fin cfg0.N) (h : t.val / 11 = t'.val / 11) :
    (iblk m c 1 t : S512x2048.Idx → EReal) = iblk m c 1 t' := by
  have hN : cfg0.N = 44 := N_0
  have ht := t.isLt
  funext y
  idx_vars y
  have hy : y0.val < 512 := y0.isLt
  rw [w_apply m c t y0 y1 ⟨6160 + t.val / 11 * 512 + y0.val, by omega⟩ rfl,
    w_apply m c t' y0 y1 ⟨6160 + t.val / 11 * 512 + y0.val, by omega⟩ (by show 6160 + t.val / 11 * 512 + y0.val = _; rw [h])]

/-- After any point the scratch holds the weights of the point's column block. -/
theorem scratch_eq (c : Dev nD) : ∀ (n : ℕ) (h : n < cfg0.N),
    ((outsAt0 m c n h).2 : S512x2048.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 11 = (n + 1) / 11; omega)

/-- So every point leaves the block of its rows and columns in its output block. -/
theorem outs_eq (c : Dev nD) (t : Fin cfg0.N) :
    (outsAt0 m c t.val t.isLt).1 = block (iblk m c 0 t) (iblk m c 1 t) (iblk m c 2 t) (iblk m c 3 t) (iblk m c 4 t) (iblk m c 5 t) (iblk m c 6 t) := by
  by_cases h0 : t.val % 11 = 0
  · rw [outsAt0_A m c t h0]
    dsimp only
    rw [out_A]
  · rw [outsAt0_B m c t h0]
    dsimp only
    rw [out_B]
    have hN : cfg0.N = 44 := N_0
    have ht := t.isLt
    have e : ((outsAt0 m c (t.val - 1) (Nat.lt_of_le_of_lt (Nat.sub_le _ _) t.isLt)).2 : S512x2048.Idx → EReal) = iblk m c 1 t :=
      (scratch_eq m c (t.val - 1) (by omega)).trans (w_step m c _ _ (by show (t.val - 1) / 11 = t.val / 11; omega))
    rw [e]

/-- The result as a function of the arguments. -/
abbrev result (c : Dev nD) : Buf (Elt Ideal) ((c : Thread nD τ).loc main_v60) :=
  whole (m ((c : Thread nD τ).loc main_arg0)) (m ((c : Thread nD τ).loc main_arg1)) (m ((c : Thread nD τ).loc main_arg2))

/-- One entry of the block point `t` leaves. -/
theorem block_entry (c : Dev nD) (t : Fin cfg0.N) (y : S1536x512.Idx) (n : Fin 16896) (h : Fin 32) (j : Fin 64)
    (hn : n.val = t.val % 11 * 1536 + (y 0).val) (hh : h.val = t.val / 11 * 8 + (y 1).val / 64) (hj : j.val = (y 1).val % 64) :
    block (iblk m c 0 t) (iblk m c 1 t) (iblk m c 2 t) (iblk m c 3 t) (iblk m c 4 t) (iblk m c 5 t) (iblk m c 6 t) y
      = entry (m ((c : Thread nD τ).loc main_arg0)) (m ((c : Thread nD τ).loc main_arg1)) (m ((c : Thread nD τ).loc main_arg2)) n h j := by
  have hN : cfg0.N = 44 := N_0
  have ht := t.isLt
  have hy0 : (y 0).val < 1536 := (y 0).isLt
  have hy1 : (y 1).val < 512 := (y 1).isLt
  unfold block entry
  refine Rope.rolled_eq _ _ _ (by rw [Rope.eighth]; exact_mod_cast (by norm_num : (0 : ℝ) ≤ 1 / 8)) (by rw [Rope.eighth]; exact EReal.coe_ne_top _) _ _ _ _ _
    ⟨(y 1).val / 64, by omega⟩ (fun j' i hi => ?_) (fun l => tc_blk m c t _ l n hn) (fun l => ta_blk m c t _ l n hn) (fun l => tb_blk m c t _ l n hn) j (y 1)
    (by show (y 1).val = (y 1).val / 64 * 64 + j.val; omega)
  refine (Rope.rows_eq _ _ (fun e => m ((c : Thread nD τ).loc main_arg2) (ix2 (n0 := 1) (n1 := 64) 0 e)) _ _ (fun k j => s_blk m c t k j) (fun e => g_blk m c t e) ⟨(y 1).val / 64, by omega⟩ j' i hi).trans ?_
  refine congrArg (fun a : Fin 64 → EReal => Rope.normed a _ j' * _) (funext fun l => ?_)
  unfold proj
  refine Finset.sum_congr rfl fun k _ => ?_
  refine congrArg₂ (fun a b : EReal => a * b) ?_ ?_
  · exact x_apply m c t _ _ _ hn rfl
  · exact w_apply m c t _ _ _ (by show 6160 + (h.val * 64 + l.val) = 6160 + t.val / 11 * 512 + ((y 1).val / 64 * 64 + l.val); omega)

theorem flushed_eq (c : Dev nD) (t : Fin cfg0.N) (hf : (cfg0.win 7).flush t = true) :
    (dats m 0 c).flushed 7 t = ((cfg0.win 7).blk t).view.read (Elt Ideal) (result m c) := by
  rw [Value.flushed7, outs_eq]
  have hN : cfg0.N = 44 := N_0
  have ht := t.isLt
  have ei := idx_in t
  funext y
  have hy0 : (y 0).val < 1536 := (y 0).isLt
  have hy1 : (y 1).val < 512 := (y 1).isLt
  have hb0 : (((cfg0.win 7).blk t).view.emb y 0).val = win0_7.index t (0 : Fin 2) * 1536 + 1 * (y 0).val := rfl
  have hb1 : (((cfg0.win 7).blk t).view.emb y 1).val = win0_7.index t (1 : Fin 2) * 512 + 1 * (y 1).val := rfl
  rw [View.read_apply]
  exact block_entry m c t y _ _ _ (by omega)
    (by show (((cfg0.win 7).blk t).view.emb y 1).val / 64 = _; omega)
    (by show (((cfg0.win 7).blk t).view.emb y 1).val % 64 = _; omega)

theorem final (c : Dev nD) : (dats m 0 c).arrAt 7 cfg0.N = result m c :=
  (dats m 0 c).arrAt_eq_of_cover 7 _ (fun t hf => flushed_eq m c t hf) (fun i => (Value.covered_iff7 i).2 (by
    have h0 : (i 0).val < 16896 := (i 0).isLt; have h1 : (i 1).val < 2048 := (i 1).isLt; omega))

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v60) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post7 m r h c).trans (final m c),
      Value.kept_main_arg0 m r h c, Value.kept_main_arg1 m r h c, Value.kept_main_arg2 m r h c⟩)
    (run_main m ρ)

end Cert.SwaQIdeal.Final

end
-- ==== Proof.SwaQRefValue.lean ====
/- The projection to the sliding attention's queries, each head normalised and rotated, the reference's side: its result at an index. -/
module

public import proofs.«01_k».proof.Proof.SwaQSpec
public import proofs.«01_k».proof.Proof.Gen.SwaQRefIdeal.Read
public import proofs.«01_k».proof.Proof.Gen.SwaQRefIdeal.Run

@[expose] public section

set_option maxRecDepth 16384

noncomputable section

open Idealize.ShloMosaic Idealize.ShloMosaic.TcCoe Idealize.SL.Sem

namespace Cert.SwaQRefIdeal.Final

open Cert.SwaQRefIdeal Cert.SwaQRefIdeal.Gen Cert.SwaQRefIdeal.Read Cert.SwaQSpec

variable (x : (⟨S16896x2048, .bf16⟩ : BufTy).Contents (Elt Ideal)) (w : (⟨S1x2048x10768, .f32⟩ : BufTy).Contents (Elt Ideal)) (g : (⟨S1x64, .f32⟩ : BufTy).Contents (Elt Ideal))

theorem v33_apply (t : Fin 8192) (l : Fin 8) : val_main_v33 (F := Ideal) (ix2 t l) = angle (BitVec.ofNat 32 t.val) l := by
  pointwise [val_main_v33, val_main_v32, val_main_v31, val_main_v30, val_main_v29, val_main_v28, val_main_v27, val_main_v26, val_main_v25, val_main_v24, val_main_v23, val_main_v22, val_main_v2, val_main_cst_2, val_main_cst_3]
  rfl

theorem v96_apply (t : Fin 32) (l : Fin 8) : val_main_v96 (F := Ideal) (ix2 t l) = angle (IntOp.addi 1024#32 (BitVec.ofNat 32 t.val)) l := by
  pointwise [val_main_v96, val_main_v95, val_main_v94, val_main_v93, val_main_v92, val_main_v91, val_main_v90, val_main_v89, val_main_v88, val_main_v87, val_main_v86, val_main_v85, val_main_v65, val_main_v64, val_main_v63, val_main_c, val_main_cst_8, val_main_cst_9]
  rfl

/-! The prompts. -/

theorem v7_apply (b : Fin 2) (t : Fin 8192) (h : Fin 32) (j : Fin 64) : val_main_v7 x w (ix4 b t h j) = proj x w ⟨b.val * 8192 + t.val, by omega⟩ h j := by
  unfold proj
  pointwise [val_main_v7, val_main_v6, val_main_v5, val_main_v4, val_main_v3, val_main_v1, val_main_v0]

theorem v21_apply (b : Fin 2) (t : Fin 8192) (h : Fin 32) (j : Fin 64) : val_main_v21 x w g (ix4 b t h j)
    = Rope.normed (proj x w ⟨b.val * 8192 + t.val, by omega⟩ h) (fun e => g (ix2 (n0 := 1) (n1 := 64) 0 e)) j := by
  unfold Rope.normed
  simp only [← v7_apply]
  unfold val_main_v21 val_main_v18 val_main_v17 val_main_v16 val_main_v15 val_main_v13 val_main_v11 val_main_v10 val_main_v9
  generalize val_main_v7 x w = z
  pointwise [val_main_v20, val_main_v19, val_main_v14, val_main_v12, val_main_v8, val_main_cst, val_main_cst_0, val_main_cst_1]

theorem v59_apply (b : Fin 2) (t : Fin 8192) (h : Fin 32) (j : Fin 64) : val_main_v59 x w g (ix4 b t h j)
    = entry x w g ⟨b.val * 8192 + t.val, by omega⟩ h j := by
  have hp : pos ⟨b.val * 8192 + t.val, by omega⟩ = BitVec.ofNat 32 t.val := by
    unfold pos
    have e0 : b.val * 8192 + t.val < 16384 := by omega
    have e1 : (b.val * 8192 + t.val) % 8192 = t.val := by omega
    rw [if_pos e0, e1]
  unfold entry Rope.turned
  rw [hp]
  simp only [← v21_apply, ← v33_apply]
  unfold val_main_v59 val_main_v57 val_main_v56 val_main_v55 val_main_v54 val_main_v53 val_main_v50 val_main_v47 val_main_v46 val_main_v43 val_main_v40 val_main_v39 val_main_v38
  generalize val_main_v21 x w g = z
  pointwise [val_main_v58, val_main_v52, val_main_v51, val_main_v49, val_main_v48, val_main_v45, val_main_v44, val_main_v42, val_main_v41, val_main_v37, val_main_v36, val_main_v35, val_main_v34, val_main_cst_4]
  congr 1
  by_cases h8 : j.val < 8
  · have h16 : j.val < 16 := by omega
    have e : (⟨8 + j.val, by omega⟩ : Fin 64) = ⟨j.val + 8, by omega⟩ := Fin.ext (Nat.add_comm _ _)
    simp only [h8, h16, dite_true, e]
  · by_cases h16 : j.val < 16
    · have e : (⟨8 + (j.val - 8), by omega⟩ : Fin 64) = j := Fin.ext (by show 8 + (j.val - 8) = j.val; omega)
      simp only [h8, h16, dite_true, dite_false, e]
    · have e : (⟨16 + (j.val - 16), by omega⟩ : Fin 64) = j := Fin.ext (by show 16 + (j.val - 16) = j.val; omega)
      simp only [h8, h16, dite_false, e]

/-! The samples. -/

theorem v70_apply (b : Fin 16) (t : Fin 32) (h : Fin 32) (j : Fin 64) : val_main_v70 x w (ix4 b t h j) = proj x w ⟨16384 + (b.val * 32 + t.val), by omega⟩ h j := by
  unfold proj
  pointwise [val_main_v70, val_main_v69, val_main_v68, val_main_v67, val_main_v66, val_main_v62, val_main_v61]

theorem v84_apply (b : Fin 16) (t : Fin 32) (h : Fin 32) (j : Fin 64) : val_main_v84 x w g (ix4 b t h j)
    = Rope.normed (proj x w ⟨16384 + (b.val * 32 + t.val), by omega⟩ h) (fun e => g (ix2 (n0 := 1) (n1 := 64) 0 e)) j := by
  unfold Rope.normed
  simp only [← v70_apply]
  unfold val_main_v84 val_main_v81 val_main_v80 val_main_v79 val_main_v78 val_main_v76 val_main_v74 val_main_v73 val_main_v72
  generalize val_main_v70 x w = z
  pointwise [val_main_v83, val_main_v82, val_main_v77, val_main_v75, val_main_v71, val_main_cst_5, val_main_cst_6, val_main_cst_7]

theorem v122_apply (b : Fin 16) (t : Fin 32) (h : Fin 32) (j : Fin 64) : val_main_v122 x w g (ix4 b t h j)
    = entry x w g ⟨16384 + (b.val * 32 + t.val), by omega⟩ h j := by
  have hp : pos ⟨16384 + (b.val * 32 + t.val), by omega⟩ = IntOp.addi 1024#32 (BitVec.ofNat 32 t.val) := by
    unfold pos
    have e0 : ¬(16384 + (b.val * 32 + t.val) < 16384) := by omega
    have e1 : (16384 + (b.val * 32 + t.val) - 16384) % 32 = t.val := by omega
    rw [if_neg e0, e1]
  unfold entry Rope.turned
  rw [hp]
  simp only [← v84_apply, ← v96_apply]
  unfold val_main_v122 val_main_v120 val_main_v119 val_main_v118 val_main_v117 val_main_v116 val_main_v113 val_main_v110 val_main_v109 val_main_v106 val_main_v103 val_main_v102 val_main_v101
  generalize val_main_v84 x w g = z
  pointwise [val_main_v121, val_main_v115, val_main_v114, val_main_v112, val_main_v111, val_main_v108, val_main_v107, val_main_v105, val_main_v104, val_main_v100, val_main_v99, val_main_v98, val_main_v97, val_main_cst_10]
  congr 1
  by_cases h8 : j.val < 8
  · have h16 : j.val < 16 := by omega
    have e : (⟨8 + j.val, by omega⟩ : Fin 64) = ⟨j.val + 8, by omega⟩ := Fin.ext (Nat.add_comm _ _)
    simp only [h8, h16, dite_true, e]
  · by_cases h16 : j.val < 16
    · have e : (⟨8 + (j.val - 8), by omega⟩ : Fin 64) = j := Fin.ext (by show 8 + (j.val - 8) = j.val; omega)
      simp only [h8, h16, dite_true, dite_false, e]
    · have e : (⟨16 + (j.val - 16), by omega⟩ : Fin 64) = j := Fin.ext (by show 16 + (j.val - 16) = j.val; omega)
      simp only [h8, h16, dite_false, e]

theorem ref_eq : val_main_v125 x w g = whole x w g := by
  funext i
  idx_vars i
  have h0 : i0.val < 16896 := i0.isLt
  have h1 : i1.val < 2048 := i1.isLt
  show _ = entry _ _ _ i0 ⟨i1.val / 64, _⟩ ⟨i1.val % 64, _⟩
  unfold val_main_v125 val_main_v124 val_main_v123 val_main_v60
  by_cases hp : i0.val < 16384
  · have e : (⟨(⟨i0.val / 8192, by omega⟩ : Fin 2).val * 8192 + (⟨i0.val % 8192, by omega⟩ : Fin 8192).val, by show i0.val / 8192 * 8192 + i0.val % 8192 < 16896; omega⟩ : Fin 16896) = i0 := Fin.ext (by show i0.val / 8192 * 8192 + i0.val % 8192 = i0.val; omega)
    have r := v59_apply x w g ⟨i0.val / 8192, by omega⟩ ⟨i0.val % 8192, by omega⟩ ⟨i1.val / 64, by omega⟩ ⟨i1.val % 64, by omega⟩
    rw [e] at r
    rw [← r]
    generalize val_main_v59 x w g = z
    generalize val_main_v122 x w g = z'
    pointwise
    rw [dif_pos hp]
  · have e : (⟨16384 + ((⟨(i0.val - 16384) / 32, by omega⟩ : Fin 16).val * 32 + (⟨(i0.val - 16384) % 32, by omega⟩ : Fin 32).val), by show 16384 + ((i0.val - 16384) / 32 * 32 + (i0.val - 16384) % 32) < 16896; omega⟩ : Fin 16896) = i0 := Fin.ext (by show 16384 + ((i0.val - 16384) / 32 * 32 + (i0.val - 16384) % 32) = i0.val; omega)
    have r := v122_apply x w g ⟨(i0.val - 16384) / 32, by omega⟩ ⟨(i0.val - 16384) % 32, by omega⟩ ⟨i1.val / 64, by omega⟩ ⟨i1.val % 64, by omega⟩
    rw [e] at r
    rw [← r]
    generalize val_main_v59 x w g = z
    generalize val_main_v122 x w g = z'
    pointwise
    rw [dif_neg hp]

end Cert.SwaQRefIdeal.Final

end
-- ==== Proof.SwaKvBlock.lean ====
/- The projection to the sliding attention's keys and values, the keys' heads normalised and rotated: what the kernel's body leaves in its block, as plain sums. -/
module

public import proofs.«01_k».proof.Proof.Rope
public import proofs.«01_k».proof.Proof.Gen.SwaKvIdeal.Frame
public import Idealize.ShloMosaic.Lib.Pointwise

@[expose] public section

set_option maxRecDepth 16384

noncomputable section

open Idealize.ShloMosaic Idealize.ShloMosaic.TcCoe Idealize.SL.Sem

namespace Cert.SwaKvIdeal.Blk

open Cert.SwaKvIdeal Cert.SwaKvIdeal.Gen

theorem hz : (![0, 0] : Fin 2 → Nat) = fun _ => 0 := funext fun a => by fin_cases a <;> rfl

/-- The block a point leaves, from its rows, its weights, the gain, the table of the heads and the three tables of the rotation. -/
def block (x : Vec Ideal S1536x2048 .bf16) (w : S512x2048.Idx → EReal) (g : Vec Ideal S1x512 .f32) (s : Vec Ideal S512x512 .bf16)
    (tc ta tb : Vec Ideal S1536x128 .f32) : Vec Ideal S1536x512 .f32 := fun y =>
  if (y 1).val < 256 then
    Rope.rolled (Rope.rows (fun e => ∑ k : Fin 2048, x (ix2 (n0 := 1536) (n1 := 2048) (y 0) k) * w (ix2 (n0 := 512) (n1 := 2048) e k))
        (fun k j => s (ix2 (n0 := 512) (n1 := 512) k j)) (fun e => g (ix2 (n0 := 1) (n1 := 512) 0 e)))
      (fun l => tc (ix2 (n0 := 1536) (n1 := 128) (y 0) l)) (fun l => ta (ix2 (n0 := 1536) (n1 := 128) (y 0) l)) (fun l => tb (ix2 (n0 := 1536) (n1 := 128) (y 0) l)) (y 1)
  else ∑ k : Fin 2048, x (ix2 (n0 := 1536) (n1 := 2048) (y 0) k) * w (ix2 (n0 := 512) (n1 := 2048) (y 1) k)

/-- The products of one piece. -/
theorem pay3_apply (q : Vec Ideal S384x2048 .bf16) (w : Vec Ideal S512x2048 .bf16) (r : Fin 384) (e : Fin 512) :
    k0_pay3 q w (ix2 r e) = ∑ k : Fin 2048, q (ix2 r k) * w (ix2 (n0 := 512) (n1 := 2048) e k) := by
  pointwise [k0_pay3]

/-- The columns below 256 are the keys'. -/
theorem is_key : ∀ j : Fin 512, IntOp.cmpi .slt (BitVec.ofNat 32 j.val) 256#32 = if j.val < 256 then 1#1 else 0#1 := by decide +kernel

/-- The scaled rows of one piece. -/
theorem pay2_apply (q : Vec Ideal S384x2048 .bf16) (w : Vec Ideal S512x2048 .bf16) (s : Vec Ideal S512x512 .bf16) (g : Vec Ideal S1x512 .f32) (r : Fin 384) (e : Fin 512) :
    k0_pay4 q w s g (ix2 r e) = Rope.rows (fun e => ∑ k : Fin 2048, q (ix2 r k) * w (ix2 (n0 := 512) (n1 := 2048) e k))
      (fun k j => s (ix2 (n0 := 512) (n1 := 512) k j)) (fun e => g (ix2 (n0 := 1) (n1 := 512) 0 e)) e := by
  unfold Rope.rows
  pointwise [k0_pay4, k0_pay3]

/-- A table laid four times beside itself. -/
theorem four (t : Vec Ideal S384x128 .f32) (r : Fin 384) (j : Fin 512) :
    k0_pay5 t (ix2 r j) = t (ix2 (n0 := 384) (n1 := 128) r ⟨j.val % 128, Nat.mod_lt _ (by omega)⟩) := by
  have hj := j.isLt
  pointwise [k0_pay5]
  split
  · congr 2; exact Fin.ext (by show j.val = j.val % 128; omega)
  · split
    · congr 2; exact Fin.ext (by show j.val - 128 = j.val % 128; omega)
    · split
      · congr 2; exact Fin.ext (by show j.val - 128 - 128 = j.val % 128; omega)
      · congr 2; exact Fin.ext (by show j.val - 128 - 128 - 128 = j.val % 128; omega)

/-- The rotated rows of one piece. -/
def spun (q : Vec Ideal S384x2048 .bf16) (w : Vec Ideal S512x2048 .bf16) (s : Vec Ideal S512x512 .bf16) (g : Vec Ideal S1x512 .f32) (tc ta tb : Vec Ideal S384x128 .f32) : FVec Ideal S384x512 .f32 :=
  addf (addf (mulf (k0_pay4 q w s g) (k0_pay5 tc)) (mulf (dynamicRotate 1 504#32 none (k0_pay4 q w s g) rotates_S384x512_d1) (k0_pay5 ta)))
    (mulf (dynamicRotate 1 8#32 none (k0_pay4 q w s g) rotates_S384x512_d1) (k0_pay5 tb))

/-- One piece of the result. -/
def piece (q : Vec Ideal S384x2048 .bf16) (w : Vec Ideal S512x2048 .bf16) (s : Vec Ideal S512x512 .bf16) (g : Vec Ideal S1x512 .f32) (tc ta tb : Vec Ideal S384x128 .f32) : Vec Ideal S384x512 .f32 :=
  select (cmpi .slt (iota .tc S384x512 32 [1] iota_S384x512_d1_w32) (broadcast S384x512 256#32)) (spun q w s g tc ta tb) (k0_pay3 q w)

theorem piece_A (q : Vec Ideal S384x2048 .bf16) (w : Vec Ideal S512x2048 .bf16) (s : Vec Ideal S512x512 .bf16) (g : Vec Ideal S1x512 .f32) (tc ta tb : Vec Ideal S384x128 .f32) :
    k0_pay8 (k0_pay3 q w) (k0_pay5 tb) (k0_pay6 q w s g tc ta) (k0_pay7 q w s g) = piece q w s g tc ta tb := rfl

theorem piece_B (q : Vec Ideal S384x2048 .bf16) (w : Vec Ideal S512x2048 .bf16) (s : Vec Ideal S512x512 .bf16) (g : Vec Ideal S1x512 .f32) (tc ta tb : Vec Ideal S384x128 .f32) :
    k0_pay14 (k0_pay9 q w) (k0_pay10 q w s g) (k0_pay11 tb) (k0_pay12 q w s g tc) (k0_pay13 q w s g ta) = piece q w s g tc ta tb := rfl

theorem piece_C (q : Vec Ideal S384x2048 .bf16) (w : Vec Ideal S512x2048 .bf16) (s : Vec Ideal S512x512 .bf16) (g : Vec Ideal S1x512 .f32) (tc ta tb : Vec Ideal S384x128 .f32) :
    k0_pay20 (k0_pay15 q w) (k0_pay16 q w s g) (k0_pay17 ta) (k0_pay18 tb) (k0_pay19 q w s g tc) = piece q w s g tc ta tb := rfl

theorem piece_D (q : Vec Ideal S384x2048 .bf16) (w : Vec Ideal S512x2048 .bf16) (s : Vec Ideal S512x512 .bf16) (g : Vec Ideal S1x512 .f32) (tc ta tb : Vec Ideal S384x128 .f32) :
    k0_pay1 (k0_pay21 q w) (k0_pay22 q w s g) (k0_pay23 tc) (k0_pay24 ta) tb = piece q w s g tc ta tb := rfl

theorem spun_apply (q : Vec Ideal S384x2048 .bf16) (w : Vec Ideal S512x2048 .bf16) (s : Vec Ideal S512x512 .bf16) (g : Vec Ideal S1x512 .f32) (tc ta tb : Vec Ideal S384x128 .f32)
    (r : Fin 384) (j : Fin 512) :
    spun q w s g tc ta tb (ix2 r j) = Rope.rolled (Rope.rows (fun e => ∑ k : Fin 2048, q (ix2 r k) * w (ix2 (n0 := 512) (n1 := 2048) e k))
      (fun k j => s (ix2 (n0 := 512) (n1 := 512) k j)) (fun e => g (ix2 (n0 := 1) (n1 := 512) 0 e)))
      (fun l => tc (ix2 r l)) (fun l => ta (ix2 r l)) (fun l => tb (ix2 r l)) j := by
  unfold Rope.rolled
  simp only [← pay2_apply, ← four]
  unfold spun
  generalize k0_pay4 q w s g = z
  generalize k0_pay5 tc = zc
  generalize k0_pay5 ta = za
  generalize k0_pay5 tb = zb
  have e1 : (⟨(j.val + 512 - 504) % 512, Nat.mod_lt _ (by omega)⟩ : Fin 512) = ⟨(j.val + 8) % 512, Nat.mod_lt _ (by omega)⟩ := Fin.ext (by show (j.val + 512 - 504) % 512 = (j.val + 8) % 512; congr 1)
  have e2 : (⟨(j.val + 512 - 8) % 512, Nat.mod_lt _ (by omega)⟩ : Fin 512) = ⟨(j.val + 504) % 512, Nat.mod_lt _ (by omega)⟩ := Fin.ext (by show (j.val + 512 - 8) % 512 = (j.val + 504) % 512; congr 1)
  rw [← e1, ← e2]
  pointwise

theorem piece_apply (q : Vec Ideal S384x2048 .bf16) (w : Vec Ideal S512x2048 .bf16) (s : Vec Ideal S512x512 .bf16) (g : Vec Ideal S1x512 .f32) (tc ta tb : Vec Ideal S384x128 .f32)
    (r : Fin 384) (j : Fin 512) :
    piece q w s g tc ta tb (ix2 r j) = if j.val < 256 then Rope.rolled (Rope.rows (fun e => ∑ k : Fin 2048, q (ix2 r k) * w (ix2 (n0 := 512) (n1 := 2048) e k))
      (fun k j => s (ix2 (n0 := 512) (n1 := 512) k j)) (fun e => g (ix2 (n0 := 1) (n1 := 512) 0 e)))
      (fun l => tc (ix2 r l)) (fun l => ta (ix2 r l)) (fun l => tb (ix2 r l)) j
      else ∑ k : Fin 2048, q (ix2 r k) * w (ix2 (n0 := 512) (n1 := 2048) j k) := by
  rw [← spun_apply, ← pay3_apply]
  unfold piece
  generalize spun q w s g tc ta tb = z
  generalize k0_pay3 q w = z'
  pointwise
  rw [is_key]
  split
  · rw [show ∀ a b, Scalar.select (1#1 : BitVec 1) a b = a from fun _ _ => rfl]
  · rw [show ∀ a b, Scalar.select (0#1 : BitVec 1) a b = b from fun _ _ => rfl]

/-- The rows from `o` on of the block, stored in one piece. -/
theorem quarter (x : Vec Ideal S1536x2048 .bf16) (w : Vec Ideal S512x2048 .bf16) (g : Vec Ideal S1x512 .f32) (s : Vec Ideal S512x512 .bf16) (tc ta tb : Vec Ideal S1536x128 .f32) (o : ℕ) (ho : o + 384 ≤ 1536)
    (q : Vec Ideal S384x2048 .bf16) (hq : ∀ r d, q (ix2 r d) = x (ix2 (n0 := 1536) (n1 := 2048) ⟨o + r.val, by omega⟩ d))
    (qc qa qb : Vec Ideal S384x128 .f32) (hc : ∀ r d, qc (ix2 r d) = tc (ix2 (n0 := 1536) (n1 := 128) ⟨o + r.val, by omega⟩ d))
    (ha : ∀ r d, qa (ix2 r d) = ta (ix2 (n0 := 1536) (n1 := 128) ⟨o + r.val, by omega⟩ d)) (hb : ∀ r d, qb (ix2 r d) = tb (ix2 (n0 := 1536) (n1 := 128) ⟨o + r.val, by omega⟩ d))
    (j : S384x512.Idx) (y : S1536x512.Idx) (h0 : (y 0).val = o + (j 0).val) (h1 : (y 1).val = (j 1).val) :
    piece q w s g qc qa qb j = block x w g s tc ta tb y := by
  idx_vars j
  idx_vars y
  have hj : j0.val < 384 := j0.isLt
  have e1 : y1 = j1 := Fin.ext h1
  subst e1
  have e0 : (⟨o + j0.val, by omega⟩ : Fin 1536) = y0 := Fin.ext h0.symm
  rw [piece_apply]
  unfold block
  simp only [hq, hc, ha, hb, e0]
  rfl

theorem pay1_eq (x : Vec Ideal S512x2048 .f32) : k0_pay2 x = (x : S512x2048.Idx → EReal) := by
  unfold k0_pay2
  simp only [shapeCast_self]
  rfl

/-- The weights a column block's first point casts and stores, read back through a rectangle. -/
theorem kept (v : View sig .tc .vmem S512x2048 .bf16) (x1 : Vec Ideal S512x2048 .f32) (r : Rect S512x2048) :
    v.readCov (Val := Elt Ideal) [⟨Rect.unit ![0, 0] ![512, 2048] inb_S512x2048_S512x2048_0_0,
      k0_pay2 x1⟩] r.toLoadRect
      = View.ld (Val := Elt Ideal) (e' := .bf16) x1 r := by
  rw [View.readCov_eq_canon_ld _ _ _ (fun y => ⟨_, List.mem_singleton_self _, View.mem_set_unit_zero hz inb_S512x2048_S512x2048_0_0 y⟩),
    View.canon_unit_zero hz, pay1_eq]

theorem sout_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .f32) (h9 : a9.IsWhole) (a10 : Memref sig .tc .vmem S512x2048 .bf16) (h10 : a10.IsWhole) (hc : cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) :
    sout0_A_0 c i a2 h2 a3 h3 a4 h4 a5 h5 a6 h6 a7 h7 a8 h8 a9 h9 a10 h10 hc x0 x1 x2 x3 x4 x5 x6 = (x1 : S512x2048.Idx → EReal) := by
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h3.read_unread, View.ld_unit_zero (S := S512x2048) hz, pay1_eq]

theorem out_A (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .f32) (h9 : a9.IsWhole) (a10 : Memref sig .tc .vmem S512x2048 .bf16) (h10 : a10.IsWhole) (hc : cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) :
    out0_A_7 c i a2 h2 a3 h3 a4 h4 a5 h5 a6 h6 a7 h7 a8 h8 a9 h9 a10 h10 hc x0 x1 x2 x3 x4 x5 x6 = block x0 x1 x2 x3 x4 x5 x6 := by
  funext y
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  refine View.canon_apply_of_pieces (block x0 x1 x2 x3 x4 x5 x6) _ (fun p hp j => ?_) y (cover0_A_7 c i a2 h2 a3 h3 a4 h4 a5 h5 a6 h6 a7 h7 a8 h8 a9 h9 a10 h10 hc x0 x1 x2 x3 x4 x5 x6 y)
  unfold kernelRun0_A at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread, h5.read_unread, h6.read_unread, h7.read_unread, h8.read_unread]
    simp only [kept, View.ld_unit_zero (S := S512x2048) hz, View.ld_unit_zero (S := S1x512) hz, View.ld_unit_zero (S := S512x512) hz]
  · rw [piece_D]
    exact quarter x0 x1 x2 x3 x4 x5 x6 1152 (by omega) _ (fun _ _ => by pointwise) _ _ _ (fun _ _ => by pointwise) (fun _ _ => by pointwise) (fun _ _ => by pointwise) j _ (by show 1152 + 1 * (j 0).val = 1152 + (j 0).val; omega) (by show 0 + 1 * (j 1).val = (j 1).val; omega)
  · rw [piece_C]
    exact quarter x0 x1 x2 x3 x4 x5 x6 768 (by omega) _ (fun _ _ => by pointwise) _ _ _ (fun _ _ => by pointwise) (fun _ _ => by pointwise) (fun _ _ => by pointwise) j _ (by show 768 + 1 * (j 0).val = 768 + (j 0).val; omega) (by show 0 + 1 * (j 1).val = (j 1).val; omega)
  · rw [piece_B]
    exact quarter x0 x1 x2 x3 x4 x5 x6 384 (by omega) _ (fun _ _ => by pointwise) _ _ _ (fun _ _ => by pointwise) (fun _ _ => by pointwise) (fun _ _ => by pointwise) j _ (by show 384 + 1 * (j 0).val = 384 + (j 0).val; omega) (by show 0 + 1 * (j 1).val = (j 1).val; omega)
  · rw [piece_A]
    exact quarter x0 x1 x2 x3 x4 x5 x6 0 (by omega) _ (fun _ _ => by pointwise) _ _ _ (fun _ _ => by pointwise) (fun _ _ => by pointwise) (fun _ _ => by pointwise) j _ (by show 0 + 1 * (j 0).val = 0 + (j 0).val; omega) (by show 0 + 1 * (j 1).val = (j 1).val; omega)

theorem out_B (c : Dev nD) (i : grid0.Coords) (a2 : Memref sig .tc .vmem S1536x2048 .bf16) (h2 : a2.IsWhole) (a3 : Memref sig .tc .vmem S512x2048 .f32) (h3 : a3.IsWhole) (a4 : Memref sig .tc .vmem S1x512 .f32) (h4 : a4.IsWhole) (a5 : Memref sig .tc .vmem S512x512 .bf16) (h5 : a5.IsWhole) (a6 : Memref sig .tc .vmem S1536x128 .f32) (h6 : a6.IsWhole) (a7 : Memref sig .tc .vmem S1536x128 .f32) (h7 : a7.IsWhole) (a8 : Memref sig .tc .vmem S1536x128 .f32) (h8 : a8.IsWhole) (a9 : Memref sig .tc .vmem S1536x512 .f32) (h9 : a9.IsWhole) (a10 : Memref sig .tc .vmem S512x2048 .bf16) (h10 : a10.IsWhole) (hc : ¬cond0_0 i)
    (x0 : Vec Ideal S1536x2048 .bf16) (x1 : Vec Ideal S512x2048 .f32) (x2 : Vec Ideal S1x512 .f32) (x3 : Vec Ideal S512x512 .bf16) (x4 : Vec Ideal S1536x128 .f32) (x5 : Vec Ideal S1536x128 .f32) (x6 : Vec Ideal S1536x128 .f32) (xs : Vec Ideal S512x2048 .bf16) :
    out0_B_7 c i a2 h2 a3 h3 a4 h4 a5 h5 a6 h6 a7 h7 a8 h8 a9 h9 a10 h10 hc x0 x1 x2 x3 x4 x5 x6 xs = block x0 xs x2 x3 x4 x5 x6 := by
  funext y
  unfold out0_B_7
  rw [View.read_writes_eq_canon _ _ _ (cover0_B_7 c i a2 h2 a3 h3 a4 h4 a5 h5 a6 h6 a7 h7 a8 h8 a9 h9 a10 h10 hc x0 x1 x2 x3 x4 x5 x6 xs)]
  refine View.canon_apply_of_pieces (block x0 xs x2 x3 x4 x5 x6) _ (fun p hp j => ?_) y (cover0_B_7 c i a2 h2 a3 h3 a4 h4 a5 h5 a6 h6 a7 h7 a8 h8 a9 h9 a10 h10 hc x0 x1 x2 x3 x4 x5 x6 xs y)
  unfold kernelRun0_B at hp
  dsimp only at hp
  simp only [List.mem_cons, List.mem_nil_iff, or_false] at hp
  rcases hp with rfl | rfl | rfl | rfl
  all_goals
    dsimp only
    sl_unfold_words
    simp only [View.readAt_eq_ld, h2.read_unread, h3.read_unread, h4.read_unread, h5.read_unread, h6.read_unread, h7.read_unread, h8.read_unread, h10.read_unread, View.ld_unit_zero (S := S512x2048) hz, View.ld_unit_zero (S := S1x512) hz, View.ld_unit_zero (S := S512x512) hz]
  · rw [piece_D]
    exact quarter x0 xs x2 x3 x4 x5 x6 1152 (by omega) _ (fun _ _ => by pointwise) _ _ _ (fun _ _ => by pointwise) (fun _ _ => by pointwise) (fun _ _ => by pointwise) j _ (by show 1152 + 1 * (j 0).val = 1152 + (j 0).val; omega) (by show 0 + 1 * (j 1).val = (j 1).val; omega)
  · rw [piece_C]
    exact quarter x0 xs x2 x3 x4 x5 x6 768 (by omega) _ (fun _ _ => by pointwise) _ _ _ (fun _ _ => by pointwise) (fun _ _ => by pointwise) (fun _ _ => by pointwise) j _ (by show 768 + 1 * (j 0).val = 768 + (j 0).val; omega) (by show 0 + 1 * (j 1).val = (j 1).val; omega)
  · rw [piece_B]
    exact quarter x0 xs x2 x3 x4 x5 x6 384 (by omega) _ (fun _ _ => by pointwise) _ _ _ (fun _ _ => by pointwise) (fun _ _ => by pointwise) (fun _ _ => by pointwise) j _ (by show 384 + 1 * (j 0).val = 384 + (j 0).val; omega) (by show 0 + 1 * (j 1).val = (j 1).val; omega)
  · rw [piece_A]
    exact quarter x0 xs x2 x3 x4 x5 x6 0 (by omega) _ (fun _ _ => by pointwise) _ _ _ (fun _ _ => by pointwise) (fun _ _ => by pointwise) (fun _ _ => by pointwise) j _ (by show 0 + 1 * (j 0).val = 0 + (j 0).val; omega) (by show 0 + 1 * (j 1).val = (j 1).val; omega)

end Cert.SwaKvIdeal.Blk

end
-- ==== Proof.SwaKvSpec.lean ====
/- The projection to the sliding attention's keys and values, the keys' heads normalised and rotated, and the caches they leave, over the extended reals: what both programs are shown to compute. -/
module

public import proofs.«01_k».proof.Proof.SwaQSpec
public import Idealize.ShloMosaic.Lib.Pointwise

@[expose] public section

set_option maxRecDepth 16384

noncomputable section

open Idealize.ShloMosaic Idealize.ShloMosaic.TcCoe Idealize.SL.Sem

namespace Cert.SwaKvSpec

open Cert.SwaQSpec (pos angle)

/-- The projection of row `n` onto column `e` of the keys and values. -/
def proj (x : (⟨2, ![16896, 2048]⟩ : Shape).Idx → EReal) (w : (⟨3, ![1, 2048, 10768]⟩ : Shape).Idx → EReal) (n : Fin 16896) (e : Fin 512) : EReal :=
  ∑ k : Fin 2048, x (ix2 (n0 := 16896) (n1 := 2048) n k) * w (ix3 (n0 := 1) (n1 := 2048) (n2 := 10768) 0 k ⟨8208 + e.val, by omega⟩)

/-- The key at row `n`, head `h`, entry `j`. -/
def key (x : (⟨2, ![16896, 2048]⟩ : Shape).Idx → EReal) (w : (⟨3, ![1, 2048, 10768]⟩ : Shape).Idx → EReal) (g : (⟨2, ![1, 64]⟩ : Shape).Idx → EReal) (n : Fin 16896) (h : Fin 4) (j : Fin 64) : EReal :=
  Rope.turned (fun l => Ideal.cos (angle (pos n) l)) (fun l => Ideal.sin (angle (pos n) l))
    (Rope.normed (fun l => proj x w n ⟨h.val * 64 + l.val, by omega⟩) (fun e => g (ix2 (n0 := 1) (n1 := 64) 0 e))) j

/-- The value at row `n`, head `h`, entry `j`. -/
def value (x : (⟨2, ![16896, 2048]⟩ : Shape).Idx → EReal) (w : (⟨3, ![1, 2048, 10768]⟩ : Shape).Idx → EReal) (n : Fin 16896) (h : Fin 4) (j : Fin 64) : EReal :=
  proj x w n ⟨256 + (h.val * 64 + j.val), by omega⟩

/-- Keys and values side by side. -/
def whole (x : (⟨2, ![16896, 2048]⟩ : Shape).Idx → EReal) (w : (⟨3, ![1, 2048, 10768]⟩ : Shape).Idx → EReal) (g : (⟨2, ![1, 64]⟩ : Shape).Idx → EReal) : (⟨2, ![16896, 512]⟩ : Shape).Idx → EReal := fun i =>
  if h : (i 1).val < 256 then key x w g (i 0) ⟨(i 1).val / 64, by omega⟩ ⟨(i 1).val % 64, Nat.mod_lt _ (by omega)⟩
    else proj x w (i 0) (i 1)

/-- The last 128 keys of the prompts. -/
def keysP (x : (⟨2, ![16896, 2048]⟩ : Shape).Idx → EReal) (w : (⟨3, ![1, 2048, 10768]⟩ : Shape).Idx → EReal) (g : (⟨2, ![1, 64]⟩ : Shape).Idx → EReal) : (⟨5, ![1, 2, 128, 4, 64]⟩ : Shape).Idx → EReal := fun i =>
  key x w g ⟨(i 1).val * 8192 + (8064 + (i 2).val), by have h1 : (i 1).val < 2 := (i 1).isLt; have h2 : (i 2).val < 128 := (i 2).isLt; omega⟩ (i 3) (i 4)

/-- The last 128 values of the prompts. -/
def valuesP (x : (⟨2, ![16896, 2048]⟩ : Shape).Idx → EReal) (w : (⟨3, ![1, 2048, 10768]⟩ : Shape).Idx → EReal) : (⟨5, ![1, 2, 128, 4, 64]⟩ : Shape).Idx → EReal := fun i =>
  value x w ⟨(i 1).val * 8192 + (8064 + (i 2).val), by have h1 : (i 1).val < 2 := (i 1).isLt; have h2 : (i 2).val < 128 := (i 2).isLt; omega⟩ (i 3) (i 4)

/-- The samples' cache of keys, moved on by 32 positions. -/
def keysS (x : (⟨2, ![16896, 2048]⟩ : Shape).Idx → EReal) (a : (⟨5, ![1, 16, 128, 4, 64]⟩ : Shape).Idx → EReal) (w : (⟨3, ![1, 2048, 10768]⟩ : Shape).Idx → EReal) (g : (⟨2, ![1, 64]⟩ : Shape).Idx → EReal) : (⟨5, ![1, 16, 128, 4, 64]⟩ : Shape).Idx → EReal := fun i =>
  if h : (i 2).val + 32 < 128 then a (ix5 (n0 := 1) (n1 := 16) (n2 := 128) (n3 := 4) (n4 := 64) 0 (i 1) ⟨(i 2).val + 32, h⟩ (i 3) (i 4))
    else key x w g ⟨16384 + ((i 1).val * 32 + ((i 2).val + 32 - 128)), by have h1 : (i 1).val < 16 := (i 1).isLt; have h2 : (i 2).val < 128 := (i 2).isLt; omega⟩ (i 3) (i 4)

/-- The samples' cache of values, moved on by 32 positions. -/
def valuesS (x : (⟨2, ![16896, 2048]⟩ : Shape).Idx → EReal) (a : (⟨5, ![1, 16, 128, 4, 64]⟩ : Shape).Idx → EReal) (w : (⟨3, ![1, 2048, 10768]⟩ : Shape).Idx → EReal) : (⟨5, ![1, 16, 128, 4, 64]⟩ : Shape).Idx → EReal := fun i =>
  if h : (i 2).val + 32 < 128 then a (ix5 (n0 := 1) (n1 := 16) (n2 := 128) (n3 := 4) (n4 := 64) 0 (i 1) ⟨(i 2).val + 32, h⟩ (i 3) (i 4))
    else value x w ⟨16384 + ((i 1).val * 32 + ((i 2).val + 32 - 128)), by have h1 : (i 1).val < 16 := (i 1).isLt; have h2 : (i 2).val < 128 := (i 2).isLt; omega⟩ (i 3) (i 4)

end Cert.SwaKvSpec

end
-- ==== Proof.SwaKvValue.lean ====
/- The projection to the sliding attention's keys and values, the keys' heads normalised and rotated, the kernel's side: the region's array and the four results after the run. -/
module

public import proofs.«01_k».proof.Proof.SwaKvBlock
public import proofs.«01_k».proof.Proof.SwaKvSpec
public import Idealize.ShloMosaic.Lib.StableHlo.ReadAt

@[expose] public section

set_option maxRecDepth 16384

noncomputable section

open Idealize.ShloMosaic Idealize.ShloMosaic.TcCoe Idealize.SL.Sem

open Idealize.ShloMosaic.Pipeline (Dat)

namespace Cert.SwaKvIdeal.Final

open Cert.SwaKvIdeal Cert.SwaKvIdeal.Gen Cert.SwaKvIdeal.Blk Cert.SwaKvSpec

open Cert.SwaQSpec (pos angle)

variable (m : (ℓ : Loc nD τ sig) → Buf (Elt Ideal) ℓ) (ρ : Dev nD → PrngReg)

/-- The quotient by 64 rounded down, as the host computes it on 32-bit words. -/
def quot (k : BitVec 32) : BitVec 32 :=
  Scalar.select (IntOp.andi (IntOp.cmpi CmpIPredicate.ne (if k = 0 then 0 else if k.msb = true then -1 else (1 : BitVec 32)) (1 : BitVec 32)) (IntOp.cmpi CmpIPredicate.ne (IntOp.remsi ArithUnit.host k 64#32) 0#32))
    (IntOp.subi (IntOp.divsi ArithUnit.host k 64#32) 1#32) (IntOp.divsi ArithUnit.host k 64#32)

theorem quot_eq : ∀ k : Fin 512, quot (BitVec.ofNat 32 k.val) = BitVec.ofNat 32 (k.val / 64) := by decide +kernel

/-- Comparing two of the eight heads' numbers, as a float. -/
theorem same (a b : Fin 8) : (FloatOps.uitofp (F := Ideal) FTy.bf16 (IntOp.cmpi CmpIPredicate.eq (BitVec.ofNat 32 a.val) (BitVec.ofNat 32 b.val)) : EReal) = if a.val = b.val then (1 : EReal) else 0 := by
  have e : ∀ a b : Fin 8, IntOp.cmpi CmpIPredicate.eq (BitVec.ofNat 32 a.val) (BitVec.ofNat 32 b.val) = if a.val = b.val then 1#1 else 0#1 := by decide
  rw [e]
  split
  · show (((1#1 : BitVec 1).toNat : ℝ) : EReal) = 1
    simp
  · show (((0#1 : BitVec 1).toNat : ℝ) : EReal) = 0
    simp

theorem seg_apply (c : Dev nD) (k j : Fin 512) : V m c main_v51 (ix2 (n0 := 512) (n1 := 512) k j)
    = if k.val / 64 = j.val / 64 then (1 : EReal) else 0 := by
  unfold V
  after_reads_at
  show FloatOps.uitofp (F := Ideal) FTy.bf16 (IntOp.cmpi CmpIPredicate.eq (quot (BitVec.ofNat 32 k.val)) (quot (BitVec.ofNat 32 j.val))) = _
  rw [quot_eq, quot_eq]
  have hk := k.isLt
  have hj := j.isLt
  exact same ⟨k.val / 64, by omega⟩ ⟨j.val / 64, by omega⟩

theorem sub_lt_eight (a : ℕ) : a - 8 < 8 ↔ a < 16 := by omega

theorem first_apply (c : Dev nD) (k : Fin 16384) :
    StableHlo.upto [hostOps0 (F := Ideal), hostOps0_1, hostOps0_2].flatten (fun b => m (c, b)) 12 (Proc.tc.devRef main_v4) (ix1 k) = BitVec.ofNat 32 (k.val % 8192) := by
  after_reads_simp
  pointwise

theorem second_apply (c : Dev nD) (k : Fin 512) :
    StableHlo.upto [hostOps0 (F := Ideal), hostOps0_1, hostOps0_2].flatten (fun b => m (c, b)) 12 (Proc.tc.devRef main_v10) (ix1 k) = IntOp.addi 1024#32 (BitVec.ofNat 32 (k.val % 32)) := by
  after_reads_simp
  pointwise

/-- The host's positions are the specification's. -/
theorem pos_reads (c : Dev nD) (n : Fin 16896) :
    (if h : n.val < 16384 then StableHlo.upto [hostOps0 (F := Ideal), hostOps0_1, hostOps0_2].flatten (fun b => m (c, b)) 12 (Proc.tc.devRef main_v4) (ix1 (n0 := 16384) ⟨n.val, h⟩)
      else StableHlo.upto [hostOps0 (F := Ideal), hostOps0_1, hostOps0_2].flatten (fun b => m (c, b)) 12 (Proc.tc.devRef main_v10) (ix1 (n0 := 512) ⟨n.val - 16384, by omega⟩) : BitVec 32) = pos n := by
  unfold pos
  by_cases h : n.val < 16384
  · rw [dif_pos h, if_pos h]
    exact first_apply m c _
  · rw [dif_neg h, if_neg h]
    exact second_apply m c _

theorem tc_apply (c : Dev nD) (n : Fin 16896) (l : Fin 128) : V m c main_v37 (ix2 (n0 := 16896) (n1 := 128) n l)
    = (if hl : l.val % 64 < 8 then Ideal.cos (angle (pos n) ⟨l.val % 64, hl⟩) else if hl : l.val % 64 < 16 then Ideal.cos (angle (pos n) ⟨l.val % 64 - 8, by omega⟩) else (1 : EReal)) := by
  unfold V
  after_reads_at
  after_reads_at
  by_cases h8 : l.val % 64 < 8
  · rw [dif_pos h8, dif_pos h8]
    exact congrArg (fun p => Ideal.cos (angle p ⟨l.val % 64, h8⟩)) (pos_reads m c n)
  · rw [dif_neg h8, dif_neg h8]
    by_cases h16 : l.val % 64 < 16
    · rw [dif_pos ((sub_lt_eight _).2 h16), dif_pos h16]
      exact congrArg (fun p => Ideal.cos (angle p ⟨l.val % 64 - 8, by omega⟩)) (pos_reads m c n)
    · rw [dif_neg (fun h => h16 ((sub_lt_eight _).1 h)), dif_neg h16]

theorem ta_apply (c : Dev nD) (n : Fin 16896) (l : Fin 128) : V m c main_v40 (ix2 (n0 := 16896) (n1 := 128) n l)
    = (if hl : l.val % 64 < 8 then -Ideal.sin (angle (pos n) ⟨l.val % 64, hl⟩) else (0 : EReal)) := by
  unfold V
  after_reads_at
  after_reads_at
  by_cases h8 : l.val % 64 < 8
  · rw [dif_pos h8, dif_pos h8]
    exact congrArg (fun p => -Ideal.sin (angle p ⟨l.val % 64, h8⟩)) (pos_reads m c n)
  · rw [dif_neg h8, dif_neg h8]
    split <;> rfl

theorem tb_apply (c : Dev nD) (n : Fin 16896) (l : Fin 128) : V m c main_v43 (ix2 (n0 := 16896) (n1 := 128) n l)
    = (if hl : l.val % 64 < 8 then 0 else if hl : l.val % 64 < 16 then Ideal.sin (angle (pos n) ⟨l.val % 64 - 8, by omega⟩) else (0 : EReal)) := by
  unfold V
  after_reads_at
  after_reads_at
  by_cases h8 : l.val % 64 < 8
  · rw [dif_pos h8, dif_pos h8]
  · rw [dif_neg h8, dif_neg h8]
    by_cases h16 : l.val % 64 < 16
    · rw [dif_pos ((sub_lt_eight _).2 h16), dif_pos h16]
      exact congrArg (fun p => Ideal.sin (angle p ⟨l.val % 64 - 8, by omega⟩)) (pos_reads m c n)
    · rw [dif_neg (fun h => h16 ((sub_lt_eight _).1 h)), dif_neg h16]

theorem gain_apply (c : Dev nD) (j : Fin 512) : (V m c main_v55 (ix2 (n0 := 1) (n1 := 512) 0 j) : EReal)
    = (m ((c : Thread nD τ).loc main_arg4) (ix2 (n0 := 1) (n1 := 64) 0 ⟨j.val % 64, Nat.mod_lt _ (by omega)⟩) : EReal) := by
  unfold V
  after_reads_at

theorem weight_apply (c : Dev nD) (e : Fin 10768) (k : Fin 2048) : V m c main_v57 (ix2 (n0 := 10768) (n1 := 2048) e k)
    = m ((c : Thread nD τ).loc main_arg3) (ix3 (n0 := 1) (n1 := 2048) (n2 := 10768) 0 k e) := by
  unfold V
  after_reads_at

/-- The index maps over the grid: point `t` takes row block `t`, and the weights from row 8208 on. -/
theorem idx_in : ∀ t : Fin cfg0.N, win0_0.index t (0 : Fin 2) = t.val ∧ win0_0.index t (1 : Fin 2) = 0
    ∧ win0_1.index t (0 : Fin 2) = 8208 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem x_apply (c : Dev nD) (t : Fin cfg0.N) (r : Fin 1536) (e : Fin 2048) (i : S16896x2048.Idx)
    (h0 : (i 0).val = t.val * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_0.index t (0 : Fin 2) * 1536 + 1 * r.val = (i 0).val; omega
  | ⟨1, _⟩ => show win0_0.index t (1 : Fin 2) * 2048 + 1 * e.val = (i 1).val; omega

theorem w_apply (c : Dev nD) (t : Fin cfg0.N) (e : Fin 512) (k : Fin 2048) (i : Fin 10768)
    (h1 : i.val = 8208 + e.val) :
    iblk m c 1 t (ix2 e k) = m ((c : Thread nD τ).loc main_arg3) (ix3 (n0 := 1) (n1 := 2048) (n2 := 10768) 0 k i) := by
  rw [← weight_apply m c i k]
  unfold iblk
  rw [View.read_apply]
  show V m c main_v57 _ = _
  congr 1
  have ei := idx_in t
  funext a
  apply Fin.ext
  match a with
  | ⟨0, _⟩ => show win0_1.index t (0 : Fin 2) + 1 * e.val = i.val; omega
  | ⟨1, _⟩ => show win0_1.index t (1 : Fin 2) + 1 * k.val = k.val; omega

theorem g_blk (c : Dev nD) (t : Fin cfg0.N) (e : Fin 512) :
    (iblk m c 2 t (ix2 (n0 := 1) (n1 := 512) 0 e) : EReal) = m ((c : Thread nD τ).loc main_arg4) (ix2 (n0 := 1) (n1 := 64) 0 ⟨e.val % 64, Nat.mod_lt _ (by omega)⟩) := by
  rw [← gain_apply m c e]
  unfold iblk
  rw [View.read_apply]
  show V m c main_v55 _ = _
  congr 1
  have ei := idx_in t
  funext a
  apply Fin.ext
  match a with
  | ⟨0, _⟩ => show win0_2.index t (0 : Fin 2) * 1 + 1 * 0 = 0; omega
  | ⟨1, _⟩ => show win0_2.index t (1 : Fin 2) * 512 + 1 * e.val = e.val; omega

theorem s_blk (c : Dev nD) (t : Fin cfg0.N) (k j : Fin 512) :
    (iblk m c 3 t (ix2 (n0 := 512) (n1 := 512) k j) : EReal) = if k.val / 64 = j.val / 64 then (1 : EReal) else 0 := by
  rw [← seg_apply m c k j]
  unfold iblk
  rw [View.read_apply]
  show V m c main_v51 _ = _
  congr 1
  have ei := idx_in t
  funext a
  apply Fin.ext
  match a with
  | ⟨0, _⟩ => show win0_3.index t (0 : Fin 2) * 512 + 1 * k.val = k.val; omega
  | ⟨1, _⟩ => show win0_3.index t (1 : Fin 2) * 512 + 1 * j.val = j.val; omega

theorem tc_blk (c : Dev nD) (t : Fin cfg0.N) (r : Fin 1536) (l : Fin 128) (n : Fin 16896) (h0 : n.val = t.val * 1536 + r.val) :
    (iblk m c 4 t (ix2 (n0 := 1536) (n1 := 128) r l) : EReal) = (if hl : l.val % 64 < 8 then Ideal.cos (angle (pos n) ⟨l.val % 64, hl⟩) else if hl : l.val % 64 < 16 then Ideal.cos (angle (pos n) ⟨l.val % 64 - 8, by omega⟩) else (1 : EReal)) := by
  rw [← tc_apply m c n l]
  unfold iblk
  rw [View.read_apply]
  show V m c main_v37 _ = _
  congr 1
  have e := idx_in t
  funext a
  apply Fin.ext
  match a with
  | ⟨0, _⟩ => show win0_4.index t (0 : Fin 2) * 1536 + 1 * r.val = n.val; omega
  | ⟨1, _⟩ => show win0_4.index t (1 : Fin 2) * 128 + 1 * l.val = l.val; omega

theorem ta_blk (c : Dev nD) (t : Fin cfg0.N) (r : Fin 1536) (l : Fin 128) (n : Fin 16896) (h0 : n.val = t.val * 1536 + r.val) :
    (iblk m c 5 t (ix2 (n0 := 1536) (n1 := 128) r l) : EReal) = (if hl : l.val % 64 < 8 then -Ideal.sin (angle (pos n) ⟨l.val % 64, hl⟩) else (0 : EReal)) := by
  rw [← ta_apply m c n l]
  unfold iblk
  rw [View.read_apply]
  show V m c main_v40 _ = _
  congr 1
  have e := idx_in t
  funext a
  apply Fin.ext
  match a with
  | ⟨0, _⟩ => show win0_5.index t (0 : Fin 2) * 1536 + 1 * r.val = n.val; omega
  | ⟨1, _⟩ => show win0_5.index t (1 : Fin 2) * 128 + 1 * l.val = l.val; omega

theorem tb_blk (c : Dev nD) (t : Fin cfg0.N) (r : Fin 1536) (l : Fin 128) (n : Fin 16896) (h0 : n.val = t.val * 1536 + r.val) :
    (iblk m c 6 t (ix2 (n0 := 1536) (n1 := 128) r l) : EReal) = (if hl : l.val % 64 < 8 then 0 else if hl : l.val % 64 < 16 then Ideal.sin (angle (pos n) ⟨l.val % 64 - 8, by omega⟩) else (0 : EReal)) := by
  rw [← tb_apply m c n l]
  unfold iblk
  rw [View.read_apply]
  show V m c main_v43 _ = _
  congr 1
  have e := idx_in t
  funext a
  apply Fin.ext
  match a with
  | ⟨0, _⟩ => show win0_6.index t (0 : Fin 2) * 1536 + 1 * r.val = n.val; omega
  | ⟨1, _⟩ => show win0_6.index t (1 : Fin 2) * 128 + 1 * l.val = l.val; omega

/-- All points see one block of weights. -/
theorem w_step (c : Dev nD) (t t' : Fin cfg0.N) :
    (iblk m c 1 t : S512x2048.Idx → EReal) = iblk m c 1 t' := by
  funext y
  idx_vars y
  have hy : y0.val < 512 := y0.isLt
  rw [w_apply m c t y0 y1 ⟨8208 + y0.val, by omega⟩ rfl, w_apply m c t' y0 y1 ⟨8208 + y0.val, by omega⟩ rfl]

/-- After any point the scratch holds the weights. -/
theorem scratch_eq (c : Dev nD) : ∀ (n : ℕ) (h : n < cfg0.N),
    ((outsAt0 m c n h).2 : S512x2048.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _

/-- So every point leaves the block of its rows and columns in its output block. -/
theorem outs_eq (c : Dev nD) (t : Fin cfg0.N) :
    (outsAt0 m c t.val t.isLt).1 = block (iblk m c 0 t) (iblk m c 1 t) (iblk m c 2 t) (iblk m c 3 t) (iblk m c 4 t) (iblk m c 5 t) (iblk m c 6 t) := by
  by_cases h0 : t.val % 11 = 0
  · rw [outsAt0_A m c t h0]
    dsimp only
    rw [out_A]
  · rw [outsAt0_B m c t h0]
    dsimp only
    rw [out_B]
    have hN : cfg0.N = 11 := N_0
    have ht := t.isLt
    have e : ((outsAt0 m c (t.val - 1) (Nat.lt_of_le_of_lt (Nat.sub_le _ _) t.isLt)).2 : S512x2048.Idx → EReal) = iblk m c 1 t :=
      (scratch_eq m c (t.val - 1) (by omega)).trans (w_step m c _ _)
    rw [e]

/-- The region's array as a function of the arguments. -/
abbrev result (c : Dev nD) : Buf (Elt Ideal) ((c : Thread nD τ).loc main_v58) :=
  whole (m ((c : Thread nD τ).loc main_arg0)) (m ((c : Thread nD τ).loc main_arg3)) (m ((c : Thread nD τ).loc main_arg4))

theorem one_more (a : EReal) : a = a * 1 := (mul_one a).symm

/-- One entry of the block point `t` leaves. -/
theorem block_entry (c : Dev nD) (t : Fin cfg0.N) (y : S1536x512.Idx) (i : S16896x512.Idx)
    (hn : (i 0).val = t.val * 1536 + (y 0).val) (he : (i 1).val = (y 1).val) :
    block (iblk m c 0 t) (iblk m c 1 t) (iblk m c 2 t) (iblk m c 3 t) (iblk m c 4 t) (iblk m c 5 t) (iblk m c 6 t) y
      = whole (m ((c : Thread nD τ).loc main_arg0)) (m ((c : Thread nD τ).loc main_arg3)) (m ((c : Thread nD τ).loc main_arg4)) i := by
  have hN : cfg0.N = 11 := N_0
  have ht := t.isLt
  have hy0 : (y 0).val < 1536 := (y 0).isLt
  have hy1 : (y 1).val < 512 := (y 1).isLt
  unfold block whole
  by_cases hk : (y 1).val < 256
  · rw [if_pos hk, dif_pos (by omega)]
    unfold key
    refine (Rope.rolled_eq (u := Rope.normed (fun l => proj (m ((c : Thread nD τ).loc main_arg0)) (m ((c : Thread nD τ).loc main_arg3)) (i 0) ⟨(i 1).val / 64 * 64 + l.val, by omega⟩)
        (fun e => m ((c : Thread nD τ).loc main_arg4) (ix2 (n0 := 1) (n1 := 64) 0 e)))
      _ 1 zero_le_one (EReal.coe_ne_top 1) (fun l => Ideal.cos (angle (pos (i 0)) l)) (fun l => Ideal.sin (angle (pos (i 0)) l)) _ _ _
      ⟨(y 1).val / 64, by omega⟩ (fun j' i' hi => ?_) (fun l => tc_blk m c t _ l (i 0) hn) (fun l => ta_blk m c t _ l (i 0) hn) (fun l => tb_blk m c t _ l (i 0) hn)
      ⟨(i 1).val % 64, Nat.mod_lt _ (by omega)⟩ (y 1) (by show (y 1).val = (y 1).val / 64 * 64 + (i 1).val % 64; omega)).trans (mul_one _)
    refine (Rope.rows_eq _ _ (fun e => m ((c : Thread nD τ).loc main_arg4) (ix2 (n0 := 1) (n1 := 64) 0 e)) 1 _ (fun k j => s_blk m c t k j) (fun e => (g_blk m c t e).trans (one_more _)) ⟨(y 1).val / 64, by omega⟩ j' i' hi).trans ?_
    refine congrArg (fun a : Fin 64 → EReal => Rope.normed a _ j' * 1) (funext fun l => ?_)
    unfold proj
    refine Finset.sum_congr rfl fun k _ => ?_
    refine congrArg₂ (fun a b : EReal => a * b) ?_ ?_
    · exact x_apply m c t _ _ _ hn rfl
    · exact w_apply m c t _ _ _ (by show 8208 + ((i 1).val / 64 * 64 + l.val) = 8208 + ((y 1).val / 64 * 64 + l.val); omega)
  · rw [if_neg hk, dif_neg (by omega)]
    unfold proj
    refine Finset.sum_congr rfl fun k _ => ?_
    refine congrArg₂ (fun a b : EReal => a * b) ?_ ?_
    · exact x_apply m c t _ _ _ hn rfl
    · exact w_apply m c t _ _ _ (by show 8208 + (i 1).val = 8208 + (y 1).val; omega)

theorem flush_all : ∀ t : Fin cfg0.N, (cfg0.win 7).flush t = true := flush0_7

theorem mem_blk (i : S16896x512.Idx) (t : Fin cfg0.N) :
    i ∈ ((cfg0.win 7).blk t).view.set ↔ ∀ a : Fin 2, win0_7.index t a * (![1536, 512] : Fin 2 → ℕ) a ≤ (i a).val ∧ (i a).val < win0_7.index t a * (![1536, 512] : Fin 2 → ℕ) a + (![1536, 512] : Fin 2 → ℕ) a := by
  show i ∈ ((View.whole main_v58).slice (win0_7.rect t)).set ↔ _
  rw [View.set_slice_whole, Rect.mem_set_unit]
  exact Iff.rfl

theorem covered (i : S16896x512.Idx) : ∃ t : Fin cfg0.N, (cfg0.win 7).flush t = true ∧ i ∈ ((cfg0.win 7).blk t).view.set := by
  have hN : cfg0.N = 11 := N_0
  have h0 : (i 0).val < 16896 := (i 0).isLt
  have h1 : (i 1).val < 512 := (i 1).isLt
  refine ⟨⟨(i 0).val / 1536, by omega⟩, flush_all _, (mem_blk i _).2 fun a => ?_⟩
  obtain ⟨-, -, -, -, -, -, -, -, -, -, -, -, -, -, e0, e1⟩ := idx_in ⟨(i 0).val / 1536, by omega⟩
  match a with
  | ⟨0, _⟩ =>
    show win0_7.index _ (0 : Fin 2) * 1536 ≤ (i 0).val ∧ (i 0).val < win0_7.index _ (0 : Fin 2) * 1536 + 1536
    rw [e0]; dsimp only; omega
  | ⟨1, _⟩ =>
    show win0_7.index _ (1 : Fin 2) * 512 ≤ (i 1).val ∧ (i 1).val < win0_7.index _ (1 : Fin 2) * 512 + 512
    rw [e1]; omega

theorem flushed_eq (c : Dev nD) (t : Fin cfg0.N) (hf : (cfg0.win 7).flush t = true) :
    (dats m 0 c).flushed 7 t = ((cfg0.win 7).blk t).view.read (Elt Ideal) (result m c) := by
  show (cfg0.win 7).cut (grid0.coords t) ((dats m 0 c).after 7 t) = _
  rw [after0_7, outs_eq]
  have hN : cfg0.N = 11 := N_0
  have ht := t.isLt
  have ei := idx_in t
  funext y
  have hb0 : (((cfg0.win 7).blk t).view.emb y 0).val = win0_7.index t (0 : Fin 2) * 1536 + 1 * (y 0).val := rfl
  have hb1 : (((cfg0.win 7).blk t).view.emb y 1).val = win0_7.index t (1 : Fin 2) * 512 + 1 * (y 1).val := rfl
  rw [View.read_apply]
  exact block_entry m c t y _ (by omega) (by omega)

theorem final (c : Dev nD) : (dats m 0 c).arrAt 7 cfg0.N = result m c :=
  (dats m 0 c).arrAt_eq_of_cover 7 _ (fun t hf => flushed_eq m c t hf) (fun i => covered i)

/-! ## The lines after the region -/

section Tail

variable (U : Valuation τ sig (Elt Ideal))

theorem row_eq (n n' : Fin 16896) (e : Fin 512) (h : n.val = n'.val) :
    U (Proc.devRef .tc main_v58) (ix2 (n0 := 16896) (n1 := 512) n e) = U (Proc.devRef .tc main_v58) (ix2 (n0 := 16896) (n1 := 512) n' e) := by
  rw [Fin.ext h]

theorem tail_keysP (b : Fin 2) (t : Fin 128) (h : Fin 4) (j : Fin 64) :
    StableHlo.after [hostOps1 (F := Ideal)].flatten U (Proc.devRef .tc main_v79) (ix5 (n0 := 1) (n1 := 2) (n2 := 128) (n3 := 4) (n4 := 64) 0 b t h j)
      = U (Proc.devRef .tc main_v58) (ix2 (n0 := 16896) (n1 := 512) ⟨b.val * 8192 + (8064 + t.val), by omega⟩ ⟨h.val * 64 + j.val, by omega⟩) := by
  have hb := b.isLt
  after_reads_at
  after_reads_at
  by_cases h1 : b.val < 1
  · exact (dif_pos h1).trans (row_eq U _ _ ⟨h.val * 64 + j.val, by omega⟩ (by show 8064 + t.val = b.val * 8192 + (8064 + t.val); omega))
  · exact (dif_neg h1).trans (row_eq U _ _ ⟨h.val * 64 + j.val, by omega⟩ (by show 16256 + t.val = b.val * 8192 + (8064 + t.val); omega))

theorem tail_valuesP (b : Fin 2) (t : Fin 128) (h : Fin 4) (j : Fin 64) :
    StableHlo.after [hostOps1 (F := Ideal)].flatten U (Proc.devRef .tc main_v82) (ix5 (n0 := 1) (n1 := 2) (n2 := 128) (n3 := 4) (n4 := 64) 0 b t h j)
      = U (Proc.devRef .tc main_v58) (ix2 (n0 := 16896) (n1 := 512) ⟨b.val * 8192 + (8064 + t.val), by omega⟩ ⟨256 + h.val * 64 + j.val, by omega⟩) := by
  have hb := b.isLt
  after_reads_at
  after_reads_at
  by_cases h1 : b.val < 1
  · exact (dif_pos h1).trans (row_eq U _ _ ⟨256 + h.val * 64 + j.val, by omega⟩ (by show 8064 + t.val = b.val * 8192 + (8064 + t.val); omega))
  · exact (dif_neg h1).trans (row_eq U _ _ ⟨256 + h.val * 64 + j.val, by omega⟩ (by show 16256 + t.val = b.val * 8192 + (8064 + t.val); omega))

theorem tail_keysS_old (b : Fin 16) (t : Fin 128) (h : Fin 4) (j : Fin 64) :
    StableHlo.upto [hostOps1 (F := Ideal)].flatten U 11 (Proc.devRef .tc main_v67) (ix4 (n0 := 16) (n1 := 128) (n2 := 4) (n3 := 64) b t h j)
      = U (Proc.devRef .tc main_arg1) (ix5 (n0 := 1) (n1 := 16) (n2 := 128) (n3 := 4) (n4 := 64) 0 b t h j) := by
  after_reads_at

theorem tail_keysS_new (b : Fin 16) (t : Fin 32) (h : Fin 4) (j : Fin 64) :
    StableHlo.upto [hostOps1 (F := Ideal)].flatten U 11 (Proc.devRef .tc main_v69) (ix4 (n0 := 16) (n1 := 32) (n2 := 4) (n3 := 64) b t h j)
      = U (Proc.devRef .tc main_v58) (ix2 (n0 := 16896) (n1 := 512) ⟨16384 + (b.val * 32 + t.val), by omega⟩ ⟨h.val * 64 + j.val, by omega⟩) := by
  after_reads_at

theorem tail_keysS (b : Fin 16) (t : Fin 128) (h : Fin 4) (j : Fin 64) :
    StableHlo.after [hostOps1 (F := Ideal)].flatten U (Proc.devRef .tc main_v83) (ix5 (n0 := 1) (n1 := 16) (n2 := 128) (n3 := 4) (n4 := 64) 0 b t h j)
      = if hh : t.val + 32 < 128 then U (Proc.devRef .tc main_arg1) (ix5 (n0 := 1) (n1 := 16) (n2 := 128) (n3 := 4) (n4 := 64) 0 b ⟨t.val + 32, hh⟩ h j)
        else U (Proc.devRef .tc main_v58) (ix2 (n0 := 16896) (n1 := 512) ⟨16384 + (b.val * 32 + (t.val + 32 - 128)), by omega⟩ ⟨h.val * 64 + j.val, by omega⟩) := by
  after_reads_at
  by_cases h1 : t.val + 32 < 128
  · have e : (⟨32 + t.val, by omega⟩ : Fin 128) = ⟨t.val + 32, h1⟩ := Fin.ext (by show 32 + t.val = t.val + 32; omega)
    rw [dif_pos (by omega), dif_pos h1, e]
    exact tail_keysS_old U b _ h j
  · have e : (⟨32 + t.val - 128, by omega⟩ : Fin 32) = ⟨t.val + 32 - 128, by omega⟩ := Fin.ext (by show 32 + t.val - 128 = t.val + 32 - 128; omega)
    rw [dif_neg (by omega), dif_neg h1, e]
    exact tail_keysS_new U b _ h j

theorem tail_valuesS_old (b : Fin 16) (t : Fin 128) (h : Fin 4) (j : Fin 64) :
    StableHlo.upto [hostOps1 (F := Ideal)].flatten U 16 (Proc.devRef .tc main_v72) (ix4 (n0 := 16) (n1 := 128) (n2 := 4) (n3 := 64) b t h j)
      = U (Proc.devRef .tc main_arg2) (ix5 (n0 := 1) (n1 := 16) (n2 := 128) (n3 := 4) (n4 := 64) 0 b t h j) := by
  after_reads_at

theorem tail_valuesS_new (b : Fin 16) (t : Fin 32) (h : Fin 4) (j : Fin 64) :
    StableHlo.upto [hostOps1 (F := Ideal)].flatten U 16 (Proc.devRef .tc main_v74) (ix4 (n0 := 16) (n1 := 32) (n2 := 4) (n3 := 64) b t h j)
      = U (Proc.devRef .tc main_v58) (ix2 (n0 := 16896) (n1 := 512) ⟨16384 + (b.val * 32 + t.val), by omega⟩ ⟨256 + h.val * 64 + j.val, by omega⟩) := by
  after_reads_at

theorem tail_valuesS (b : Fin 16) (t : Fin 128) (h : Fin 4) (j : Fin 64) :
    StableHlo.after [hostOps1 (F := Ideal)].flatten U (Proc.devRef .tc main_v84) (ix5 (n0 := 1) (n1 := 16) (n2 := 128) (n3 := 4) (n4 := 64) 0 b t h j)
      = if hh : t.val + 32 < 128 then U (Proc.devRef .tc main_arg2) (ix5 (n0 := 1) (n1 := 16) (n2 := 128) (n3 := 4) (n4 := 64) 0 b ⟨t.val + 32, hh⟩ h j)
        else U (Proc.devRef .tc main_v58) (ix2 (n0 := 16896) (n1 := 512) ⟨16384 + (b.val * 32 + (t.val + 32 - 128)), by omega⟩ ⟨256 + h.val * 64 + j.val, by omega⟩) := by
  after_reads_at
  by_cases h1 : t.val + 32 < 128
  · have e : (⟨32 + t.val, by omega⟩ : Fin 128) = ⟨t.val + 32, h1⟩ := Fin.ext (by show 32 + t.val = t.val + 32; omega)
    rw [dif_pos (by omega), dif_pos h1, e]
    exact tail_valuesS_old U b _ h j
  · have e : (⟨32 + t.val - 128, by omega⟩ : Fin 32) = ⟨t.val + 32 - 128, by omega⟩ := Fin.ext (by show 32 + t.val - 128 = t.val + 32 - 128; omega)
    rw [dif_neg (by omega), dif_neg h1, e]
    exact tail_valuesS_new U b _ h j

end Tail

/-- The keys' columns of the region's array. -/
theorem whole_key (x : (⟨2, ![16896, 2048]⟩ : Shape).Idx → EReal) (w : (⟨3, ![1, 2048, 10768]⟩ : Shape).Idx → EReal) (g : (⟨2, ![1, 64]⟩ : Shape).Idx → EReal) (n : Fin 16896) (h : Fin 4) (j : Fin 64) :
    whole x w g (ix2 (n0 := 16896) (n1 := 512) n ⟨h.val * 64 + j.val, by omega⟩) = key x w g n h j := by
  have h1 : (⟨(h.val * 64 + j.val) / 64, by omega⟩ : Fin 4) = h := Fin.ext (by show (h.val * 64 + j.val) / 64 = h.val; omega)
  have h2 : (⟨(h.val * 64 + j.val) % 64, Nat.mod_lt _ (by omega)⟩ : Fin 64) = j := Fin.ext (by show (h.val * 64 + j.val) % 64 = j.val; omega)
  show (if hh : h.val * 64 + j.val < 256 then key x w g n ⟨(h.val * 64 + j.val) / 64, _⟩ ⟨(h.val * 64 + j.val) % 64, _⟩ else proj x w n ⟨h.val * 64 + j.val, _⟩) = _
  rw [dif_pos (by omega), h1, h2]

/-- The values' columns of the region's array. -/
theorem whole_value (x : (⟨2, ![16896, 2048]⟩ : Shape).Idx → EReal) (w : (⟨3, ![1, 2048, 10768]⟩ : Shape).Idx → EReal) (g : (⟨2, ![1, 64]⟩ : Shape).Idx → EReal) (n : Fin 16896) (h : Fin 4) (j : Fin 64) :
    whole x w g (ix2 (n0 := 16896) (n1 := 512) n ⟨256 + h.val * 64 + j.val, by omega⟩) = value x w n h j := by
  show (if hh : 256 + h.val * 64 + j.val < 256 then key x w g n ⟨(256 + h.val * 64 + j.val) / 64, _⟩ ⟨(256 + h.val * 64 + j.val) % 64, _⟩ else proj x w n ⟨256 + h.val * 64 + j.val, _⟩) = _
  rw [dif_neg (by omega)]
  exact congrArg (proj x w n) (Fin.ext (Nat.add_assoc 256 (h.val * 64) j.val))

/-- What the lines after the region start from. -/
abbrev exit (c : Dev nD) : Valuation τ sig (Elt Ideal) :=
  Pipeline.withArrays spec0 c (V0 m c) fun w => (dats m 0 c).arrAt w cfg0.N

theorem exit_result (c : Dev nD) : exit m c (Proc.devRef .tc main_v58) = result m c :=
  (Pipeline.withArrays_arr spec0 winFacts0.arr_inj c (V0 m c) _ 7).trans (final m c)

theorem exit_arg1 (c : Dev nD) : exit m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem exit_arg2 (c : Dev nD) : exit m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem keysP_after (c : Dev nD) : Pipeline.afterTail₀ cfgs (dats m) 0 (V0 m) [hostOps1] c main_v79 = keysP (m ((c : Thread nD τ).loc main_arg0)) (m ((c : Thread nD τ).loc main_arg3)) (m ((c : Thread nD τ).loc main_arg4)) := by
  funext i
  idx_vars i
  have h0 : i0 = 0 := Subsingleton.elim _ _
  subst h0
  refine (tail_keysP (exit m c) i1 i2 i3 i4).trans ?_
  rw [exit_result]
  exact whole_key _ _ _ _ i3 i4

theorem valuesP_after (c : Dev nD) : Pipeline.afterTail₀ cfgs (dats m) 0 (V0 m) [hostOps1] c main_v82 = valuesP (m ((c : Thread nD τ).loc main_arg0)) (m ((c : Thread nD τ).loc main_arg3)) := by
  funext i
  idx_vars i
  have h0 : i0 = 0 := Subsingleton.elim _ _
  subst h0
  refine (tail_valuesP (exit m c) i1 i2 i3 i4).trans ?_
  rw [exit_result]
  exact whole_value _ _ _ _ i3 i4

theorem keysS_after (c : Dev nD) : Pipeline.afterTail₀ cfgs (dats m) 0 (V0 m) [hostOps1] c main_v83 = keysS (m ((c : Thread nD τ).loc main_arg0)) (m ((c : Thread nD τ).loc main_arg1)) (m ((c : Thread nD τ).loc main_arg3)) (m ((c : Thread nD τ).loc main_arg4)) := by
  funext i
  idx_vars i
  have h0 : i0 = 0 := Subsingleton.elim _ _
  subst h0
  refine (tail_keysS (exit m c) i1 i2 i3 i4).trans ?_
  rw [exit_arg1]
  show _ = if h : i2.val + 32 < 128 then m ((c : Thread nD τ).loc main_arg1) (ix5 (n0 := 1) (n1 := 16) (n2 := 128) (n3 := 4) (n4 := 64) 0 i1 ⟨i2.val + 32, h⟩ i3 i4) else _
  by_cases h : i2.val + 32 < 128
  · rw [dif_pos h, dif_pos h]
  · rw [dif_neg h, dif_neg h, exit_result]
    exact whole_key _ _ _ _ i3 i4

theorem valuesS_after (c : Dev nD) : Pipeline.afterTail₀ cfgs (dats m) 0 (V0 m) [hostOps1] c main_v84 = valuesS (m ((c : Thread nD τ).loc main_arg0)) (m ((c : Thread nD τ).loc main_arg2)) (m ((c : Thread nD τ).loc main_arg3)) := by
  funext i
  idx_vars i
  have h0 : i0 = 0 := Subsingleton.elim _ _
  subst h0
  refine (tail_valuesS (exit m c) i1 i2 i3 i4).trans ?_
  rw [exit_arg2]
  show _ = if h : i2.val + 32 < 128 then m ((c : Thread nD τ).loc main_arg2) (ix5 (n0 := 1) (n1 := 16) (n2 := 128) (n3 := 4) (n4 := 64) 0 i1 ⟨i2.val + 32, h⟩ i3 i4) else _
  by_cases h : i2.val + 32 < 128
  · rw [dif_pos h, dif_pos h]
  · rw [dif_neg h, dif_neg h, exit_result]
    exact whole_value _ _ _ _ i3 i4

/-- The run: the four results at the functions of the arguments, the arguments unchanged. -/
theorem run : θ_run defs (onTc (τ := τ) (main (F := Ideal))) ⟨m, fun _ => 0, ρ⟩ fun r => ∀ c : Dev nD,
      r.2.mem ((c : Thread nD τ).loc main_v79) = keysP (m ((c : Thread nD τ).loc main_arg0)) (m ((c : Thread nD τ).loc main_arg3)) (m ((c : Thread nD τ).loc main_arg4))
      ∧ r.2.mem ((c : Thread nD τ).loc main_v82) = valuesP (m ((c : Thread nD τ).loc main_arg0)) (m ((c : Thread nD τ).loc main_arg3))
      ∧ r.2.mem ((c : Thread nD τ).loc main_v83) = keysS (m ((c : Thread nD τ).loc main_arg0)) (m ((c : Thread nD τ).loc main_arg1)) (m ((c : Thread nD τ).loc main_arg3)) (m ((c : Thread nD τ).loc main_arg4))
      ∧ r.2.mem ((c : Thread nD τ).loc main_v84) = valuesS (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v79 (Pipeline.mem_restRefs_of main_v79 (by decide) (by decide))).trans (keysP_after m c),
      ((h.1 c).2 main_v82 (Pipeline.mem_restRefs_of main_v82 (by decide) (by decide))).trans (valuesP_after m c),
      ((h.1 c).2 main_v83 (Pipeline.mem_restRefs_of main_v83 (by decide) (by decide))).trans (keysS_after m c),
      ((h.1 c).2 main_v84 (Pipeline.mem_restRefs_of main_v84 (by decide) (by decide))).trans (valuesS_after m c),
      h.2 c⟩)
    (θ_run_and (run_main m ρ) (unchanged m ρ))

end Cert.SwaKvIdeal.Final

end
-- ==== Proof.SwaKvRefValue.lean ====
/- The projection to the sliding attention's keys and values, the reference's side: its results at an index. -/
module

public import proofs.«01_k».proof.Proof.SwaKvSpec
public import proofs.«01_k».proof.Proof.Gen.SwaKvRefIdeal.Read
public import proofs.«01_k».proof.Proof.Gen.SwaKvRefIdeal.Run

@[expose] public section

set_option maxRecDepth 16384

noncomputable section

open Idealize.ShloMosaic Idealize.ShloMosaic.TcCoe Idealize.SL.Sem

namespace Cert.SwaKvRefIdeal.Final

open Cert.SwaKvRefIdeal Cert.SwaKvRefIdeal.Gen Cert.SwaKvRefIdeal.Read Cert.SwaKvSpec
open Cert.SwaQSpec (pos angle)

variable (x : (⟨S16896x2048, .bf16⟩ : BufTy).Contents (Elt Ideal)) (a : (⟨S1x16x128x4x64, .f32⟩ : BufTy).Contents (Elt Ideal)) (w : (⟨S1x2048x10768, .f32⟩ : BufTy).Contents (Elt Ideal)) (g : (⟨S1x64, .f32⟩ : BufTy).Contents (Elt Ideal))

theorem v35_apply (t : Fin 8192) (l : Fin 8) : val_main_v35 (F := Ideal) (ix2 t l) = angle (BitVec.ofNat 32 t.val) l := by
  pointwise [val_main_v35, val_main_v34, val_main_v33, val_main_v32, val_main_v31, val_main_v30, val_main_v29, val_main_v28, val_main_v27, val_main_v26, val_main_v25, val_main_v24, val_main_v2, val_main_cst_2, val_main_cst_3]
  rfl

theorem v98_apply (t : Fin 32) (l : Fin 8) : val_main_v98 (F := Ideal) (ix2 t l) = angle (IntOp.addi 1024#32 (BitVec.ofNat 32 t.val)) l := by
  pointwise [val_main_v98, val_main_v97, val_main_v96, val_main_v95, val_main_v94, val_main_v93, val_main_v92, val_main_v91, val_main_v90, val_main_v89, val_main_v88, val_main_v87, val_main_v65, val_main_v64, val_main_v63, val_main_c, val_main_cst_7, val_main_cst_8]
  rfl

/-! The prompts. -/

theorem v9_apply (b : Fin 2) (t : Fin 8192) (h : Fin 4) (j : Fin 64) : val_main_v9 x w (ix4 b t h j) = proj x w ⟨b.val * 8192 + t.val, by omega⟩ ⟨h.val * 64 + j.val, by omega⟩ := by
  unfold proj
  pointwise [val_main_v9, val_main_v7, val_main_v6, val_main_v5, val_main_v4, val_main_v3, val_main_v1, val_main_v0]

theorem v60_apply (b : Fin 2) (t : Fin 8192) (h : Fin 4) (j : Fin 64) : val_main_v60 x w (ix4 b t h j) = value x w ⟨b.val * 8192 + t.val, by omega⟩ h j := by
  unfold value proj
  pointwise [val_main_v60, val_main_v8, val_main_v6, val_main_v5, val_main_v4, val_main_v3, val_main_v1, val_main_v0]

theorem v23_apply (b : Fin 2) (t : Fin 8192) (h : Fin 4) (j : Fin 64) : val_main_v23 x w g (ix4 b t h j)
    = Rope.normed (fun l => proj x w ⟨b.val * 8192 + t.val, by omega⟩ ⟨h.val * 64 + l.val, by omega⟩) (fun e => g (ix2 (n0 := 1) (n1 := 64) 0 e)) j := by
  unfold Rope.normed
  simp only [← v9_apply]
  unfold val_main_v23 val_main_v20 val_main_v19 val_main_v18 val_main_v17 val_main_v15 val_main_v13 val_main_v12 val_main_v11
  generalize val_main_v9 x w = z
  pointwise [val_main_v22, val_main_v21, val_main_v16, val_main_v14, val_main_v10, val_main_cst, val_main_cst_0, val_main_cst_1]

theorem v59_apply (b : Fin 2) (t : Fin 8192) (h : Fin 4) (j : Fin 64) : val_main_v59 x w g (ix4 b t h j) = key x w g ⟨b.val * 8192 + t.val, by omega⟩ h j := by
  have hp : pos ⟨b.val * 8192 + t.val, by omega⟩ = BitVec.ofNat 32 t.val := by
    unfold pos
    have e0 : b.val * 8192 + t.val < 16384 := by omega
    have e1 : (b.val * 8192 + t.val) % 8192 = t.val := by omega
    rw [if_pos e0, e1]
  unfold key Rope.turned
  rw [hp]
  simp only [← v23_apply, ← v35_apply]
  unfold val_main_v59 val_main_v58 val_main_v57 val_main_v56 val_main_v55 val_main_v52 val_main_v49 val_main_v48 val_main_v45 val_main_v42 val_main_v41 val_main_v40
  generalize val_main_v23 x w g = z
  pointwise [val_main_v54, val_main_v53, val_main_v51, val_main_v50, val_main_v47, val_main_v46, val_main_v44, val_main_v43, val_main_v39, val_main_v38, val_main_v37, val_main_v36]
  by_cases h8 : j.val < 8
  · have h16 : j.val < 16 := by omega
    have e : (⟨8 + j.val, by omega⟩ : Fin 64) = ⟨j.val + 8, by omega⟩ := Fin.ext (Nat.add_comm _ _)
    simp only [h8, h16, dite_true, e]
  · by_cases h16 : j.val < 16
    · have e : (⟨8 + (j.val - 8), by omega⟩ : Fin 64) = j := Fin.ext (by show 8 + (j.val - 8) = j.val; omega)
      simp only [h8, h16, dite_true, dite_false, e]
    · have e : (⟨16 + (j.val - 16), by omega⟩ : Fin 64) = j := Fin.ext (by show 16 + (j.val - 16) = j.val; omega)
      simp only [h8, h16, dite_false, e]

/-! The samples. -/

theorem v72_apply (b : Fin 16) (t : Fin 32) (h : Fin 4) (j : Fin 64) : val_main_v72 x w (ix4 b t h j) = proj x w ⟨16384 + (b.val * 32 + t.val), by omega⟩ ⟨h.val * 64 + j.val, by omega⟩ := by
  unfold proj
  pointwise [val_main_v72, val_main_v70, val_main_v69, val_main_v68, val_main_v67, val_main_v66, val_main_v62, val_main_v61]

theorem v123_apply (b : Fin 16) (t : Fin 32) (h : Fin 4) (j : Fin 64) : val_main_v123 x w (ix4 b t h j) = value x w ⟨16384 + (b.val * 32 + t.val), by omega⟩ h j := by
  unfold value proj
  pointwise [val_main_v123, val_main_v71, val_main_v69, val_main_v68, val_main_v67, val_main_v66, val_main_v62, val_main_v61]

theorem v86_apply (b : Fin 16) (t : Fin 32) (h : Fin 4) (j : Fin 64) : val_main_v86 x w g (ix4 b t h j)
    = Rope.normed (fun l => proj x w ⟨16384 + (b.val * 32 + t.val), by omega⟩ ⟨h.val * 64 + l.val, by omega⟩) (fun e => g (ix2 (n0 := 1) (n1 := 64) 0 e)) j := by
  unfold Rope.normed
  simp only [← v72_apply]
  unfold val_main_v86 val_main_v83 val_main_v82 val_main_v81 val_main_v80 val_main_v78 val_main_v76 val_main_v75 val_main_v74
  generalize val_main_v72 x w = z
  pointwise [val_main_v85, val_main_v84, val_main_v79, val_main_v77, val_main_v73, val_main_cst_4, val_main_cst_5, val_main_cst_6]

theorem v122_apply (b : Fin 16) (t : Fin 32) (h : Fin 4) (j : Fin 64) : val_main_v122 x w g (ix4 b t h j) = key x w g ⟨16384 + (b.val * 32 + t.val), by omega⟩ h j := by
  have hp : pos ⟨16384 + (b.val * 32 + t.val), by omega⟩ = IntOp.addi 1024#32 (BitVec.ofNat 32 t.val) := by
    unfold pos
    have e0 : ¬(16384 + (b.val * 32 + t.val) < 16384) := by omega
    have e1 : (16384 + (b.val * 32 + t.val) - 16384) % 32 = t.val := by omega
    rw [if_neg e0, e1]
  unfold key Rope.turned
  rw [hp]
  simp only [← v86_apply, ← v98_apply]
  unfold val_main_v122 val_main_v121 val_main_v120 val_main_v119 val_main_v118 val_main_v115 val_main_v112 val_main_v111 val_main_v108 val_main_v105 val_main_v104 val_main_v103
  generalize val_main_v86 x w g = z
  pointwise [val_main_v117, val_main_v116, val_main_v114, val_main_v113, val_main_v110, val_main_v109, val_main_v107, val_main_v106, val_main_v102, val_main_v101, val_main_v100, val_main_v99]
  by_cases h8 : j.val < 8
  · have h16 : j.val < 16 := by omega
    have e : (⟨8 + j.val, by omega⟩ : Fin 64) = ⟨j.val + 8, by omega⟩ := Fin.ext (Nat.add_comm _ _)
    simp only [h8, h16, dite_true, e]
  · by_cases h16 : j.val < 16
    · have e : (⟨8 + (j.val - 8), by omega⟩ : Fin 64) = j := Fin.ext (by show 8 + (j.val - 8) = j.val; omega)
      simp only [h8, h16, dite_true, dite_false, e]
    · have e : (⟨16 + (j.val - 16), by omega⟩ : Fin 64) = j := Fin.ext (by show 16 + (j.val - 16) = j.val; omega)
      simp only [h8, h16, dite_false, e]

/-! The results. -/

theorem keysP_eq : val_main_v131 x w g = keysP x w g := by
  funext i
  idx_vars i
  show _ = key x w g ⟨i1.val * 8192 + (8064 + i2.val), _⟩ i3 i4
  have h2 : i2.val < 128 := i2.isLt
  have r := v59_apply x w g i1 ⟨8064 + i2.val, by omega⟩ i3 i4
  rw [← r]
  unfold val_main_v131 val_main_v130
  generalize val_main_v59 x w g = z
  pointwise

theorem valuesP_eq : val_main_v133 x w = valuesP x w := by
  funext i
  idx_vars i
  show _ = value x w ⟨i1.val * 8192 + (8064 + i2.val), _⟩ i3 i4
  have h2 : i2.val < 128 := i2.isLt
  have r := v60_apply x w i1 ⟨8064 + i2.val, by omega⟩ i3 i4
  rw [← r]
  unfold val_main_v133 val_main_v132
  generalize val_main_v60 x w = z
  pointwise

theorem v124_apply (b : Fin 16) (t : Fin 128) (h : Fin 4) (j : Fin 64) : val_main_v124 a (ix4 b t h j) = a (ix5 (n0 := 1) (n1 := 16) (n2 := 128) (n3 := 4) (n4 := 64) 0 b t h j) := by
  pointwise [val_main_v124]

theorem v127_apply (b : Fin 16) (t : Fin 128) (h : Fin 4) (j : Fin 64) : val_main_v127 a (ix4 b t h j) = a (ix5 (n0 := 1) (n1 := 16) (n2 := 128) (n3 := 4) (n4 := 64) 0 b t h j) := by
  pointwise [val_main_v127]

theorem keysS_eq : val_main_v134 x a w g = keysS x a w g := by
  funext i
  idx_vars i
  have h2 : i2.val < 128 := i2.isLt
  show _ = if h : i2.val + 32 < 128 then a (ix5 (n0 := 1) (n1 := 16) (n2 := 128) (n3 := 4) (n4 := 64) 0 i1 ⟨i2.val + 32, h⟩ i3 i4)
    else key x w g ⟨16384 + (i1.val * 32 + (i2.val + 32 - 128)), _⟩ i3 i4
  unfold val_main_v134 val_main_v126 val_main_v125
  by_cases hp : i2.val + 32 < 128
  · rw [dif_pos hp, ← v124_apply a]
    generalize val_main_v124 a = z
    generalize val_main_v122 x w g = z'
    have e32 : (⟨32 + i2.val, by omega⟩ : Fin 128) = ⟨i2.val + 32, hp⟩ := Fin.ext (by show 32 + i2.val = i2.val + 32; omega)
    pointwise
    rw [dif_pos (by omega), e32]
  · have r := v122_apply x w g i1 ⟨i2.val + 32 - 128, by omega⟩ i3 i4
    rw [dif_neg hp, ← r]
    generalize val_main_v124 a = z
    generalize val_main_v122 x w g = z'
    have e32 : (⟨32 + i2.val - 128, by omega⟩ : Fin 32) = ⟨i2.val + 32 - 128, by omega⟩ := Fin.ext (by show 32 + i2.val - 128 = i2.val + 32 - 128; omega)
    pointwise
    rw [dif_neg (by omega), e32]

theorem valuesS_eq : val_main_v135 x a w = valuesS x a w := by
  funext i
  idx_vars i
  have h2 : i2.val < 128 := i2.isLt
  show _ = if h : i2.val + 32 < 128 then a (ix5 (n0 := 1) (n1 := 16) (n2 := 128) (n3 := 4) (n4 := 64) 0 i1 ⟨i2.val + 32, h⟩ i3 i4)
    else value x w ⟨16384 + (i1.val * 32 + (i2.val + 32 - 128)), _⟩ i3 i4
  unfold val_main_v135 val_main_v129 val_main_v128
  by_cases hp : i2.val + 32 < 128
  · rw [dif_pos hp, ← v127_apply a]
    generalize val_main_v127 a = z
    generalize val_main_v123 x w = z'
    have e32 : (⟨32 + i2.val, by omega⟩ : Fin 128) = ⟨i2.val + 32, hp⟩ := Fin.ext (by show 32 + i2.val = i2.val + 32; omega)
    pointwise
    rw [dif_pos (by omega), e32]
  · have r := v123_apply x w i1 ⟨i2.val + 32 - 128, by omega⟩ i3 i4
    rw [dif_neg hp, ← r]
    generalize val_main_v127 a = z
    generalize val_main_v123 x w = z'
    have e32 : (⟨32 + i2.val - 128, by omega⟩ : Fin 32) = ⟨i2.val + 32 - 128, by omega⟩ := Fin.ext (by show 32 + i2.val - 128 = i2.val + 32 - 128; omega)
    pointwise
    rw [dif_neg (by omega), e32]

end Cert.SwaKvRefIdeal.Final

end
-- ==== Proof.Gla.lean ====
/- One chunk of the gated linear attention on the extended reals: the gate, its running sum, the outputs and the new state. -/
module

public import proofs.«01_k».proof.Proof.Scalars
public import Idealize.ShloMosaic.PureOps.Ideal

@[expose] public section

set_option maxRecDepth 16384

noncomputable section

open Idealize.ShloMosaic Idealize.ShloMosaic.TcCoe Idealize.SL.Sem

namespace Cert.Gla

/-- A sixteenth, the factor of the queries. -/
abbrev scale : EReal := Ideal.ofBits .f32 0x3D800000#32

theorem scale_eq : scale = ((1 / 16 : ℝ) : EReal) := by
  unfold scale
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

/-- The logarithm of the decay: a sixteenth of the logarithm of the logistic function, as the reference writes it. -/
def gate (z : EReal) : EReal :=
  Ideal.div (-(max (-z) 0 + Ideal.log1p (Ideal.exp (-(max (-z) (- -z)))))) (Ideal.ofBits .f32 0x41800000#32)

/-- The same, as the kernel writes it. -/
def gate' (z : EReal) : EReal :=
  (min z 0 - Ideal.log (1 + Ideal.exp (0 - max z (-z)))) * scale

theorem div16 (x : EReal) : Ideal.div x (Ideal.ofBits .f32 0x41800000#32) = x * scale := by
  rw [sixteen_eq, scale_eq]
  unfold Ideal.div
  rw [if_neg (by exact_mod_cast (by norm_num : (16 : ℝ) ≠ 0)), ← EReal.coe_inv, one_div]

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

theorem gate_coe (r : ℝ) : gate' (r : EReal) = (((min r 0 - Real.log (1 + Real.exp (-|r|))) * (1 / 16) : ℝ) : EReal) := by
  have p : ¬ (1 + Real.exp (-|r|) ≤ 0) := not_le.2 (by positivity)
  unfold gate'
  rw [scale_eq, zero_sub, ← EReal.coe_neg, coe_max, ← abs_eq_max_neg, ← EReal.coe_neg, Ideal.exp_coe, ← EReal.coe_one, ← EReal.coe_add, Ideal.log_coe, if_neg p,
    ← EReal.coe_zero, coe_min, ← EReal.coe_sub, ← EReal.coe_mul]

theorem gate_bot : gate' ⊥ = ⊥ := by
  unfold gate'
  rw [scale_eq, min_eq_left bot_le]
  simp only [EReal.bot_sub]
  exact EReal.bot_mul_coe_of_pos (by norm_num)

theorem gate_top : gate' ⊤ = 0 := by
  unfold gate'
  simp
  rw [← EReal.coe_one, Ideal.log_coe]
  simp

theorem gate_ne_top (z : EReal) : gate' z ≠ ⊤ := by
  induction z with
  | bot => rw [gate_bot]; exact bot_ne_top
  | top => rw [gate_top]; exact EReal.zero_ne_top
  | coe r => rw [gate_coe]; exact EReal.coe_ne_top _

theorem gate_eq (z : EReal) : gate z = gate' z := by
  unfold gate gate'
  rw [div16]
  congr 1
  unfold Ideal.log1p
  rw [zero_sub, neg_neg, max_comm (-z) z]
  induction z with
  | bot =>
    simp
    rw [← EReal.coe_one, Ideal.log_coe]
    simp
  | top =>
    simp
  | coe r =>
    have p : ¬ (1 + Real.exp (-|r|) ≤ 0) := not_le.2 (by positivity)
    rw [← EReal.coe_neg, coe_max, ← abs_eq_max_neg, ← EReal.coe_neg, Ideal.exp_coe, ← EReal.coe_one, ← EReal.coe_add, Ideal.log_coe, if_neg p,
      ← EReal.coe_zero, coe_min, coe_max, ← EReal.coe_add, ← EReal.coe_neg, ← EReal.coe_sub]
    congr 1
    rw [neg_add, ← min_neg_neg, neg_neg, neg_zero]
    ring

/-- The running sum of a chunk's rows. -/
def csum (a : Fin 32 → EReal) (t : Fin 32) : EReal := ∑ s : Fin 32, if s.val ≤ t.val then a s else 0

/-- A number, its difference with itself and the difference's difference add up to the number, unless it is `⊤`. -/
theorem split3 (a : EReal) (h : a ≠ ⊤) : a + (a - a) + ((a - a) - (a - a)) = a := by
  induction a with
  | bot => simp
  | top => exact absurd rfl h
  | coe r => rw [← EReal.coe_sub, sub_self, ← EReal.coe_sub, ← EReal.coe_add, ← EReal.coe_add]; norm_num

/-- The running sum by a triangle of ones, the numbers taken in three parts. -/
theorem csum_parts (a : Fin 32 → EReal) (h : ∀ s, a s ≠ ⊤) (t : Fin 32) :
    (∑ s : Fin 32, (if s.val ≤ t.val then (1 : EReal) else 0) * a s + ∑ s : Fin 32, (if s.val ≤ t.val then (1 : EReal) else 0) * (a s - a s))
      + ∑ s : Fin 32, (if s.val ≤ t.val then (1 : EReal) else 0) * ((a s - a s) - (a s - a s)) = csum a t := by
  unfold csum
  rw [← Finset.sum_add_distrib, ← Finset.sum_add_distrib]
  refine Finset.sum_congr rfl fun s _ => ?_
  split
  · rw [one_mul, one_mul, one_mul, split3 _ (h s)]
  · simp

/-- The running sum as the host forms it: a window of 32 slid over the rows, 31 zeros before them. -/
theorem csum_window (a : Fin 32 → EReal) (t : Fin 32) :
    (∑ n : Fin 32, if h : 31 ≤ t.val + n.val ∧ t.val + n.val - 31 < 32 then a ⟨t.val + n.val - 31, h.2⟩ else 0) = csum a t := by
  unfold csum
  refine Fintype.sum_equiv (Equiv.addRight (t + 1)) _ _ fun n => ?_
  have hn := n.isLt
  have ht := t.isLt
  have e : ((Equiv.addRight (t + 1)) n).val = (n.val + t.val + 1) % 32 := by
    show (n + (t + 1)).val = _
    rw [Fin.val_add, Fin.val_add]
    show (n.val + (t.val + 1) % 32) % 32 = _
    omega
  by_cases h : 31 ≤ t.val + n.val
  · rw [dif_pos ⟨h, by omega⟩, if_pos (by omega)]
    exact congrArg a (Fin.ext (by show t.val + n.val - 31 = _; omega))
  · rw [dif_neg (fun h' => h h'.1), if_neg (by omega)]

section
variable (q k : Fin 32 → Fin 256 → EReal) (v : Fin 32 → Fin 512 → EReal) (b : Fin 32 → Fin 256 → EReal) (S : Fin 256 → Fin 512 → EReal)

/-- The score of row `s` for row `t`, from the decayed queries and keys. -/
def att (t s : Fin 32) : EReal :=
  if s.val ≤ t.val then ∑ d : Fin 256, (q t d * scale * Ideal.exp (b t d)) * (k s d * Ideal.exp (-(b s d))) else 0

/-- The outputs of a head: what the old state gives and what the chunk's own rows give. -/
def outs (t : Fin 32) (e : Fin 512) : EReal :=
  (∑ d : Fin 256, (q t d * scale * Ideal.exp (b t d)) * S d e) + ∑ s : Fin 32, att q k b t s * v s e

/-- The new state of a head. -/
def next (d : Fin 256) (e : Fin 512) : EReal :=
  Ideal.exp (b 31 d) * S d e + ∑ t : Fin 32, (k t d * Ideal.exp (b 31 d - b t d)) * v t e

end

/-- A head's outputs normalised over the head, times the gain and the gated branch. -/
def normed (o : Fin 512 → EReal) (gn gg : Fin 512 → EReal) (e : Fin 512) : EReal :=
  o e * Ideal.rsqrt (Ideal.div (∑ l : Fin 512, o l * o l) (Ideal.ofBits .f32 0x44000000#32) + Ideal.ofBits .f32 0x358637BD#32) * gn e * (gg e * Scalars.sigmoid (gg e))

end Cert.Gla

end
-- ==== Proof.GlaSBlock.lean ====
/- One chunk of the gated linear attention, one sample: what the kernel's body leaves in its two blocks, as plain sums. -/
module

public import proofs.«01_k».proof.Proof.Gla
public import proofs.«01_k».proof.Proof.Gen.GlaSIdeal.Value
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.GlaSIdeal.Blk

open Cert.GlaSIdeal Cert.GlaSIdeal.Gen

/-- The logarithms of the decay, row by row and column by column. -/
def logs (x4 : Vec Ideal S32x128 .f32) (x5 : Vec Ideal S128x1024 .bf16) (x6 : Vec Ideal S1x1024 .f32) (s : Fin 32) (c : Fin 1024) : EReal :=
  Gla.gate' (∑ j : Fin 128, x4 (ix2 (n0 := 32) (n1 := 128) s j) * x5 (ix2 (n0 := 128) (n1 := 1024) j c) + x6 (ix2 (n0 := 1) (n1 := 1024) 0 c))

theorem pay4_apply (x4 : Vec Ideal S32x128 .f32) (x5 : Vec Ideal S128x1024 .bf16) (x6 : Vec Ideal S1x1024 .f32) (s : Fin 32) (c : Fin 1024) :
    k0_pay4 x4 x5 x6 (ix2 s c) = logs x4 x5 x6 s c := by
  unfold logs Gla.gate' Gla.scale
  pointwise [k0_pay4]
  rfl

/-- The triangle of ones. -/
theorem tri_apply (r s : Fin 32) : k0_pay3 (F := Ideal) (ix2 r s) = if s.val ≤ r.val then (1 : EReal) else 0 := by
  have e : ∀ r s : Fin 32, BitVec.setWidth 32 (IntOp.cmpi CmpIPredicate.sge (BitVec.ofNat 32 r.val) (BitVec.ofNat 32 s.val)) = if s.val ≤ r.val then 1#32 else 0#32 := by decide +kernel
  pointwise [k0_pay3]
  rw [e]
  split
  · show (((1#32 : BitVec 32).toInt : ℝ) : EReal) = 1
    simp
  · show (((0#32 : BitVec 32).toInt : ℝ) : EReal) = 0
    simp

/-- The mask of the rows before a row. -/
theorem mask_apply (r s : Fin 32) : k0_pay21 (ix2 r s) = if s.val ≤ r.val then 1#1 else 0#1 := by
  have e : ∀ r s : Fin 32, IntOp.andi (IntOp.cmpi CmpIPredicate.sge (BitVec.ofNat 32 s.val) (IntOp.andi (BitVec.ofNat 32 r.val) 4294967264#32))
      (IntOp.cmpi CmpIPredicate.sge (BitVec.ofNat 32 r.val) (BitVec.ofNat 32 s.val)) = if s.val ≤ r.val then 1#1 else 0#1 := by decide +kernel
  pointwise [k0_pay21]
  exact e r s

theorem sums_apply (x4 : Vec Ideal S32x128 .f32) (x5 : Vec Ideal S128x1024 .bf16) (x6 : Vec Ideal S1x1024 .f32) (t : Fin 32) (c : Fin 1024) :
    k0_pay10 (k0_pay8 x4 x5 x6) (k0_pay9 x4 x5 x6) (ix2 t c) = Gla.csum (fun s => logs x4 x5 x6 s c) t := by
  rw [← Gla.csum_parts (fun s => logs x4 x5 x6 s c) (fun s => Gla.gate_ne_top _) t]
  simp only [← tri_apply, ← pay4_apply]
  unfold k0_pay10 k0_pay8 k0_pay9 k0_pay7 k0_pay6 k0_pay5
  generalize k0_pay4 x4 x5 x6 = z
  generalize k0_pay3 (F := Ideal) = w
  pointwise

/-- A head's outputs: the kernel's four heads compute the same function. -/
def attn (q k : FVec Ideal S32x256 .bf16) (v : Vec Ideal S32x512 .f32) (q' : FVec Ideal S32x256 .bf16) (S : Vec Ideal S1x256x512 .f32) : FVec Ideal S32x512 .f32 :=
  k0_pay33 (k0_pay25 k0_pay21 q k v) q' (k0_pay32 S)

theorem attn_apply (q k : FVec Ideal S32x256 .bf16) (v : Vec Ideal S32x512 .f32) (q' : FVec Ideal S32x256 .bf16) (S : Vec Ideal S1x256x512 .f32) (t : Fin 32) (e : Fin 512) :
    attn q k v q' S (ix2 t e) = (∑ d : Fin 256, q' (ix2 t d) * S (ix3 (n0 := 1) (n1 := 256) (n2 := 512) 0 d e))
      + ∑ s : Fin 32, (if s.val ≤ t.val then ∑ d : Fin 256, q (ix2 t d) * k (ix2 s d) else 0) * v (ix2 s e) := by
  have m : ∀ s : Fin 32, (if s.val ≤ t.val then ∑ d : Fin 256, q (ix2 t d) * k (ix2 s d) else 0) * v (ix2 s e)
      = Scalar.select (k0_pay21 (ix2 t s)) ((∑ d : Fin 256, q (ix2 t d) * k (ix2 s d)) * v (ix2 s e)) (0 : EReal) := by
    intro s
    rw [mask_apply]
    split
    · rfl
    · rw [zero_mul]; rfl
  simp only [m]
  unfold attn
  generalize k0_pay21 = z
  pointwise [k0_pay33, k0_pay25, k0_pay32, k0_pay31]
  rw [add_comm]

/-- A head's piece of the result. -/
def piece (o : FVec Ideal S32x512 .f32) (g : Vec Ideal S1x512 .f32) (gg : Vec Ideal S32x512 .f32) : FVec Ideal S32x512 .bf16 :=
  k0_pay44 o (k0_pay43 o) (FloatOps.ofBits FTy.f32 897988541#32) g gg

theorem piece_apply (o : FVec Ideal S32x512 .f32) (g : Vec Ideal S1x512 .f32) (gg : Vec Ideal S32x512 .f32) (t : Fin 32) (e : Fin 512) :
    piece o g gg (ix2 t e) = Gla.normed (fun l => o (ix2 t l)) (fun l => g (ix2 (n0 := 1) (n1 := 512) 0 l)) (fun l => gg (ix2 t l)) e := by
  unfold Gla.normed piece
  rw [← Scalars.half_tanh, ← Scalars.ofBits_half]
  pointwise [k0_pay44, k0_pay43]

/-- A head's new state. -/
def state (S : Vec Ideal S1x256x512 .f32) (dec : Vec Ideal S1x1x256x128 .f32) (k : FVec Ideal S32x256 .bf16) (v : Vec Ideal S32x512 .f32) : FVec Ideal S1x256x512 .f32 :=
  k0_pay34 (k0_pay31 S) dec k v

theorem state_apply (S : Vec Ideal S1x256x512 .f32) (dec : Vec Ideal S1x1x256x128 .f32) (a : Fin 256 → EReal) (hd : ∀ d l, dec (ix4 0 0 d l) = a d)
    (k : FVec Ideal S32x256 .bf16) (v : Vec Ideal S32x512 .f32) (d : Fin 256) (e : Fin 512) :
    state S dec k v (ix3 0 d e) = a d * S (ix3 (n0 := 1) (n1 := 256) (n2 := 512) 0 d e) + ∑ t : Fin 32, k (ix2 t d) * v (ix2 t e) := by
  unfold state
  pointwise [k0_pay34, k0_pay31]
  simp only [hd]
  split
  · rfl
  · split
    · rfl
    · split <;> rfl

section
variable (x0 x1 : Vec Ideal S32x1024 .f32) (x2 x3 : Vec Ideal S32x2048 .f32) (x4 : Vec Ideal S32x128 .f32) (x5 : Vec Ideal S128x1024 .bf16) (x6 : Vec Ideal S1x1024 .f32) (x7 : Vec Ideal S1x512 .f32) (x8 : Vec Ideal S1x4x256x512 .f32)

/-- A head's running sums of the decay's logarithms. -/
def sums (h : Fin 4) (t : Fin 32) (d : Fin 256) : EReal := Gla.csum (fun s => logs x4 x5 x6 s ⟨h.val * 256 + d.val, by omega⟩) t

/-- A head's columns of the queries or the keys. -/
def cols (x : Vec Ideal S32x1024 .f32) (h : Fin 4) (t : Fin 32) (d : Fin 256) : EReal := x (ix2 (n0 := 32) (n1 := 1024) t ⟨h.val * 256 + d.val, by omega⟩)

/-- A head's columns of the values or the gated branch. -/
def wide (x : Vec Ideal S32x2048 .f32) (h : Fin 4) (t : Fin 32) (e : Fin 512) : EReal := x (ix2 (n0 := 32) (n1 := 2048) t ⟨h.val * 512 + e.val, by omega⟩)

/-- One head's block of the result. -/
def headO (h : Fin 4) (t : Fin 32) (e : Fin 512) : EReal :=
  Gla.normed (fun l => Gla.outs (cols x0 h) (cols x1 h) (wide x2 h) (sums x4 x5 x6 h) (fun d e => x8 (ix4 (n0 := 1) (n1 := 4) (n2 := 256) (n3 := 512) 0 h d e)) t l)
    (fun l => x7 (ix2 (n0 := 1) (n1 := 512) 0 l)) (wide x3 h t) e

/-- One head's new state. -/
def headS (h : Fin 4) (d : Fin 256) (e : Fin 512) : EReal :=
  Gla.next (cols x1 h) (wide x2 h) (sums x4 x5 x6 h) (fun d e => x8 (ix4 (n0 := 1) (n1 := 4) (n2 := 256) (n3 := 512) 0 h d e)) d e

/-- The block of the result, the four heads beside one another. -/
def blockO : Vec Ideal S32x2048 .bf16 := fun y =>
  have h1 : (y 1).val < 2048 := (y 1).isLt
  headO x0 x1 x2 x3 x4 x5 x6 x7 x8 ⟨(y 1).val / 512, by omega⟩ (y 0) ⟨(y 1).val % 512, Nat.mod_lt _ (by omega)⟩

/-- The new state of the four heads. -/
def blockT : Vec Ideal S4x256x512 .f32 := fun y => headS x1 x2 x4 x5 x6 x8 (y 0) (y 1) (y 2)

/-- The block of the new state. -/
def blockS : Vec Ideal S1x4x256x512 .f32 := fun y => headS x1 x2 x4 x5 x6 x8 (y 1) (y 2) (y 3)

theorem sums_at (h : Fin 4) (o : ℕ) (ho : o = h.val * 256) (t : Fin 32) (d : Fin 256) (hd : o + d.val < 1024) :
    k0_pay10 (k0_pay8 x4 x5 x6) (k0_pay9 x4 x5 x6) (ix2 t (⟨o + d.val, hd⟩ : Fin 1024)) = sums x4 x5 x6 h t d := by
  subst ho
  exact sums_apply x4 x5 x6 t _

theorem head_piece (h : Fin 4) (q k q' : FVec Ideal S32x256 .bf16) (v gg : Vec Ideal S32x512 .f32) (S : Vec Ideal S1x256x512 .f32)
    (hq : ∀ t d, q (ix2 t d) = cols x0 h t d * Gla.scale * Ideal.exp (sums x4 x5 x6 h t d))
    (hk : ∀ t d, k (ix2 t d) = cols x1 h t d * Ideal.exp (-(sums x4 x5 x6 h t d)))
    (hq' : ∀ t d, q' (ix2 t d) = cols x0 h t d * Gla.scale * Ideal.exp (sums x4 x5 x6 h t d))
    (hv : ∀ t e, v (ix2 t e) = wide x2 h t e) (hg : ∀ t e, gg (ix2 t e) = wide x3 h t e)
    (hS : ∀ d e, S (ix3 (n0 := 1) (n1 := 256) (n2 := 512) 0 d e) = x8 (ix4 (n0 := 1) (n1 := 4) (n2 := 256) (n3 := 512) 0 h d e))
    (j : S32x512.Idx) (y : S32x2048.Idx) (h0 : (y 0).val = (j 0).val) (h1 : (y 1).val = h.val * 512 + (j 1).val) :
    piece (attn q k v q' S) x7 gg j = blockO x0 x1 x2 x3 x4 x5 x6 x7 x8 y := by
  idx_vars j
  idx_vars y
  have e0 : y0 = j0 := Fin.ext h0
  subst e0
  have hj : j1.val < 512 := j1.isLt
  have h1' : y1.val = h.val * 512 + j1.val := h1
  have eh : (⟨y1.val / 512, by omega⟩ : Fin 4) = h := Fin.ext (by show y1.val / 512 = h.val; omega)
  have ej : (⟨y1.val % 512, Nat.mod_lt _ (by omega)⟩ : Fin 512) = j1 := Fin.ext (by show y1.val % 512 = j1.val; omega)
  have main : piece (attn q k v q' S) x7 gg (ix2 y0 j1) = headO x0 x1 x2 x3 x4 x5 x6 x7 x8 h y0 j1 := by
    rw [piece_apply]
    unfold headO
    simp only [attn_apply, hq, hk, hq', hv, hg, hS]
    rfl
  rw [main]
  show _ = headO x0 x1 x2 x3 x4 x5 x6 x7 x8 ⟨y1.val / 512, _⟩ y0 ⟨y1.val % 512, _⟩
  rw [eh, ej]

theorem head_state (h : Fin 4) (k : FVec Ideal S32x256 .bf16) (v : Vec Ideal S32x512 .f32) (S : Vec Ideal S1x256x512 .f32) (dec : Vec Ideal S1x1x256x128 .f32)
    (hd : ∀ d l, dec (ix4 0 0 d l) = Ideal.exp (sums x4 x5 x6 h 31 d))
    (hk : ∀ t d, k (ix2 t d) = cols x1 h t d * Ideal.exp (sums x4 x5 x6 h 31 d - sums x4 x5 x6 h t d))
    (hv : ∀ t e, v (ix2 t e) = wide x2 h t e)
    (hS : ∀ d e, S (ix3 (n0 := 1) (n1 := 256) (n2 := 512) 0 d e) = x8 (ix4 (n0 := 1) (n1 := 4) (n2 := 256) (n3 := 512) 0 h d e))
    (j : S1x256x512.Idx) (y : S4x256x512.Idx) (h0 : (y 0).val = h.val) (h1 : (y 1).val = (j 1).val) (h2 : (y 2).val = (j 2).val) :
    state S dec k v j = blockT x1 x2 x4 x5 x6 x8 y := by
  idx_vars j
  idx_vars y
  have e0 : y0 = h := Fin.ext h0
  have e1 : y1 = j1 := Fin.ext h1
  have e2 : y2 = j2 := Fin.ext h2
  subst e0 e1 e2
  have ez : j0 = 0 := Fin.ext (by have := j0.isLt; show j0.val = 0; omega)
  subst ez
  rw [state_apply S dec _ hd]
  simp only [hk, hv, hS]
  rfl

end

theorem part (X : FVec Ideal S32x1024 .bf16) {off : Fin 2 → ℕ} (inb : ∀ a, off a + S32x256.size a ≤ S32x1024.size a) (o : ℕ) (h : off = ![0, o]) (t : Fin 32) (d : Fin 256) (hd : o + d.val < 1024) :
    View.ld (Val := Elt Ideal) (e' := .bf16) X (Rect.unit (s := S32x1024) off S32x256.size inb) (ix2 t d) = X (ix2 (n0 := 32) (n1 := 1024) t ⟨o + d.val, hd⟩) := by
  subst h
  pointwise

theorem part_wide (X : Vec Ideal S32x2048 .f32) {off : Fin 2 → ℕ} (inb : ∀ a, off a + S32x512.size a ≤ S32x2048.size a) (h : Fin 4) (ho : off = ![0, h.val * 512]) (t : Fin 32) (e : Fin 512) :
    View.ld (Val := Elt Ideal) (e' := .f32) X (Rect.unit (s := S32x2048) off S32x512.size inb) (ix2 t e) = wide X h t e := by
  subst ho
  unfold wide
  pointwise

theorem part_state (X : Vec Ideal S1x4x256x512 .f32) {off : Fin 3 → ℕ} (inb : ∀ a, off a + S1x256x512.size a ≤ S4x256x512.size a) (h : Fin 4) (ho : off = ![h.val, 0, 0]) (d : Fin 256) (e : Fin 512) :
    View.ld (Val := Elt Ideal) (e' := .f32) (k0_pay2 (F := Ideal) X) (Rect.unit (s := S4x256x512) off S1x256x512.size inb) (ix3 0 d e) = X (ix4 (n0 := 1) (n1 := 4) (n2 := 256) (n3 := 512) 0 h d e) := by
  subst ho
  pointwise [k0_pay2]

/-- The decayed queries, by column. -/
theorem q_apply (b x0 : FVec Ideal S32x1024 .f32) (t : Fin 32) (c : Fin 1024) :
    k0_pay17 b x0 (FloatOps.ofBits FTy.f32 1031798784#32) (ix2 t c) = x0 (ix2 t c) * Gla.scale * Ideal.exp (b (ix2 t c)) := by
  unfold Gla.scale
  pointwise [k0_pay17]

theorem q'_apply (b x0 : FVec Ideal S32x1024 .f32) (t : Fin 32) (c : Fin 1024) :
    k0_pay19 b x0 (FloatOps.ofBits FTy.f32 1031798784#32) (ix2 t c) = x0 (ix2 t c) * Gla.scale * Ideal.exp (b (ix2 t c)) := by
  unfold Gla.scale
  pointwise [k0_pay19, k0_pay17]

/-- The keys freed of their decay, by column. -/
theorem k_apply (b x1 : FVec Ideal S32x1024 .f32) (t : Fin 32) (c : Fin 1024) :
    k0_pay18 b x1 (ix2 t c) = x1 (ix2 t c) * Ideal.exp (-(b (ix2 t c))) := by
  rw [← zero_sub (b (ix2 t c))]
  pointwise [k0_pay18]

/-- The keys decayed to the chunk's end, by column. -/
theorem ku_apply (p p' : FVec Ideal S32x1024 .f32) (x1 : FVec Ideal S32x1024 .f32) (t : Fin 32) (c : Fin 1024) :
    k0_pay20 (k0_pay10 p p') (k0_pay12 p p') x1 (ix2 t c) = x1 (ix2 t c) * Ideal.exp (k0_pay10 p p' (ix2 31 c) - k0_pay10 p p' (ix2 t c)) := by
  unfold k0_pay20 k0_pay12 k0_pay11
  generalize k0_pay10 p p' = b
  pointwise

theorem readCov_same {sig : RefSig} {κ : Kind} {sp : Space} {s : Shape} {e : EltTy} {Val : EltTy → Type} [∀ e, Nonempty (Val e)] (v : View sig κ sp s e)
    {off off' : Fin s.rank → ℕ} {sz : Fin s.rank → ℕ} (inb : ∀ a, off a + sz a ≤ s.size a) (inb' : ∀ a, off' a + sz a ≤ s.size a)
    (w : (Rect.unit off sz inb).shape.Idx → Val e) (L : List (View.Piece Val s e)) (h : off = off') :
    v.readCov (⟨Rect.unit off (no_index sz) inb, w⟩ :: L) (Rect.unit off' (no_index sz) inb').toLoadRect = w := by
  subst h
  exact View.readCov_cons_toLoadRect v _ w L

theorem slice_at (X : FVec Ideal S32x1024 .bf16) (o : ℕ) (hs : S32x1024.Slices ![0, o] S32x256) (t : Fin 32) (d : Fin 256) (hd : o + d.val < 1024) :
    extractStridedSlice S32x256 ![0, o] X hs (ix2 t d) = X (ix2 (n0 := 32) (n1 := 1024) t ⟨o + d.val, hd⟩) := by
  pointwise

section
variable (x0 x1 : Vec Ideal S32x1024 .f32) (x2 x3 : Vec Ideal S32x2048 .f32) (x4 : Vec Ideal S32x128 .f32) (x5 : Vec Ideal S128x1024 .bf16) (x6 : Vec Ideal S1x1024 .f32) (x7 : Vec Ideal S1x512 .f32) (x8 : Vec Ideal S1x4x256x512 .f32)

theorem q_head (h : Fin 4) (o : ℕ) (ho : o = h.val * 256) (t : Fin 32) (d : Fin 256) (hd : o + d.val < 1024) :
    k0_pay17 (k0_pay10 (k0_pay8 x4 x5 x6) (k0_pay9 x4 x5 x6)) x0 (FloatOps.ofBits FTy.f32 1031798784#32) (ix2 t (⟨o + d.val, hd⟩ : Fin 1024)) = cols x0 h t d * Gla.scale * Ideal.exp (sums x4 x5 x6 h t d) := by
  rw [q_apply, sums_at x4 x5 x6 h o ho]
  subst ho
  rfl

theorem q'_head (h : Fin 4) (o : ℕ) (ho : o = h.val * 256) (t : Fin 32) (d : Fin 256) (hd : o + d.val < 1024) :
    k0_pay19 (k0_pay10 (k0_pay8 x4 x5 x6) (k0_pay9 x4 x5 x6)) x0 (FloatOps.ofBits FTy.f32 1031798784#32) (ix2 t (⟨o + d.val, hd⟩ : Fin 1024)) = cols x0 h t d * Gla.scale * Ideal.exp (sums x4 x5 x6 h t d) := by
  rw [q'_apply, sums_at x4 x5 x6 h o ho]
  subst ho
  rfl

theorem k_head (h : Fin 4) (o : ℕ) (ho : o = h.val * 256) (t : Fin 32) (d : Fin 256) (hd : o + d.val < 1024) :
    k0_pay18 (k0_pay10 (k0_pay8 x4 x5 x6) (k0_pay9 x4 x5 x6)) x1 (ix2 t (⟨o + d.val, hd⟩ : Fin 1024)) = cols x1 h t d * Ideal.exp (-(sums x4 x5 x6 h t d)) := by
  rw [k_apply, sums_at x4 x5 x6 h o ho]
  subst ho
  rfl

theorem ku_head (h : Fin 4) (o : ℕ) (ho : o = h.val * 256) (t : Fin 32) (d : Fin 256) (hd : o + d.val < 1024) :
    k0_pay20 (k0_pay10 (k0_pay8 x4 x5 x6) (k0_pay9 x4 x5 x6)) (k0_pay12 (k0_pay8 x4 x5 x6) (k0_pay9 x4 x5 x6)) x1 (ix2 t (⟨o + d.val, hd⟩ : Fin 1024))
      = cols x1 h t d * Ideal.exp (sums x4 x5 x6 h 31 d - sums x4 x5 x6 h t d) := by
  rw [ku_apply, sums_at x4 x5 x6 h o ho, sums_at x4 x5 x6 h o ho]
  subst ho
  rfl

end

theorem head0_eq (b x0 x1 : FVec Ideal S32x1024 .f32) (v gg : Vec Ideal S32x512 .f32) (q' : FVec Ideal S32x256 .bf16) (S : Vec Ideal S1x256x512 .f32) (g : Vec Ideal S1x512 .f32) :
    k0_pay42 (k0_pay29 S (k0_pay22 b x0 (FloatOps.ofBits FTy.f32 1031798784#32) x1 v) q') g gg
      = piece (attn (extractStridedSlice S32x256 ![0, 0] (k0_pay17 b x0 (FloatOps.ofBits FTy.f32 1031798784#32)) slices_S32x1024_o0_0_S32x256) (extractStridedSlice S32x256 ![0, 0] (k0_pay18 b x1) slices_S32x1024_o0_0_S32x256) v q' S) g gg := rfl

theorem head1_eq (b x0 x1 : FVec Ideal S32x1024 .f32) (v gg : Vec Ideal S32x512 .f32) (q' : FVec Ideal S32x256 .bf16) (S : Vec Ideal S1x256x512 .f32) (g : Vec Ideal S1x512 .f32) :
    k0_pay44 (k0_pay33 (k0_pay25 k0_pay21 (k0_pay23 b x0 (FloatOps.ofBits FTy.f32 1031798784#32)) (k0_pay24 b x1) v) q' (k0_pay32 S)) (k0_pay43 (k0_pay33 (k0_pay25 k0_pay21 (k0_pay23 b x0 (FloatOps.ofBits FTy.f32 1031798784#32)) (k0_pay24 b x1) v) q' (k0_pay32 S))) (FloatOps.ofBits FTy.f32 897988541#32) g gg
      = piece (attn (extractStridedSlice S32x256 ![0, 256] (k0_pay17 b x0 (FloatOps.ofBits FTy.f32 1031798784#32)) slices_S32x1024_o0_256_S32x256) (extractStridedSlice S32x256 ![0, 256] (k0_pay18 b x1) slices_S32x1024_o0_256_S32x256) v q' S) g gg := rfl

theorem head2_eq (qt kt : FVec Ideal S32x1024 .bf16) (v gg : Vec Ideal S32x512 .f32) (q' : FVec Ideal S32x256 .bf16) (S : Vec Ideal S1x256x512 .f32) (g : Vec Ideal S1x512 .f32) :
    k0_pay47 (k0_pay45 (k0_pay36 S (k0_pay26 qt kt k0_pay21 v) q') g) gg (k0_pay46 gg)
      = piece (attn (extractStridedSlice S32x256 ![0, 512] qt slices_S32x1024_o0_512_S32x256) (extractStridedSlice S32x256 ![0, 512] kt slices_S32x1024_o0_512_S32x256) v q' S) g gg := rfl

theorem head3_eq (qt kt : FVec Ideal S32x1024 .bf16) (v gg : Vec Ideal S32x512 .f32) (q' : FVec Ideal S32x256 .bf16) (S : Vec Ideal S1x256x512 .f32) (g : Vec Ideal S1x512 .f32) :
    k0_pay48 (k0_pay39 S (k0_pay27 qt kt k0_pay21 v) q') g gg
      = piece (attn (extractStridedSlice S32x256 ![0, 768] qt slices_S32x1024_o0_768_S32x256) (extractStridedSlice S32x256 ![0, 768] kt slices_S32x1024_o0_768_S32x256) v q' S) g gg := rfl

theorem state0_eq (S : Vec Ideal S1x256x512 .f32) (dec : Vec Ideal S1x1x256x128 .f32) (k : FVec Ideal S32x256 .bf16) (v : Vec Ideal S32x512 .f32) : k0_pay30 S dec k v = state S dec k v := rfl

theorem state1_eq (S : Vec Ideal S1x256x512 .f32) (dec : Vec Ideal S1x1x256x128 .f32) (k : FVec Ideal S32x256 .bf16) (v : Vec Ideal S32x512 .f32) : k0_pay34 (k0_pay31 S) dec k v = state S dec k v := rfl

theorem state2_eq (S : Vec Ideal S1x256x512 .f32) (dec : Vec Ideal S1x1x256x128 .f32) (k : FVec Ideal S32x256 .bf16) (v : Vec Ideal S32x512 .f32) : k0_pay37 (k0_pay35 S) dec k v = state S dec k v := rfl

theorem state3_eq (S : Vec Ideal S1x256x512 .f32) (dec : Vec Ideal S1x1x256x128 .f32) (k : FVec Ideal S32x256 .bf16) (v : Vec Ideal S32x512 .f32) : k0_pay41 (k0_pay40 S dec k v) = state S dec k v := rfl

theorem dec0_apply (p p' : FVec Ideal S32x1024 .f32) (d : Fin 256) (l : Fin 128) :
    k0_pay13 p p' (ix4 0 0 d l) = Ideal.exp (k0_pay10 p p' (ix2 31 (⟨0 + d.val, by omega⟩ : Fin 1024))) := by
  unfold k0_pay13 k0_pay11
  generalize k0_pay10 p p' = b
  pointwise

theorem dec1_apply (p p' : FVec Ideal S32x1024 .f32) (d : Fin 256) (l : Fin 128) :
    k0_pay14 p p' (ix4 0 0 d l) = Ideal.exp (k0_pay10 p p' (ix2 31 (⟨256 + d.val, by omega⟩ : Fin 1024))) := by
  unfold k0_pay14 k0_pay11
  generalize k0_pay10 p p' = b
  pointwise

theorem dec2_apply (p p' : FVec Ideal S32x1024 .f32) (d : Fin 256) (l : Fin 128) :
    k0_pay15 p p' (ix4 0 0 d l) = Ideal.exp (k0_pay10 p p' (ix2 31 (⟨512 + d.val, by omega⟩ : Fin 1024))) := by
  unfold k0_pay15 k0_pay11
  generalize k0_pay10 p p' = b
  pointwise

theorem dec3_apply (p p' : FVec Ideal S32x1024 .f32) (d : Fin 256) (l : Fin 128) :
    k0_pay16 p p' (ix4 0 0 d l) = Ideal.exp (k0_pay10 p p' (ix2 31 (⟨768 + d.val, by omega⟩ : Fin 1024))) := by
  unfold k0_pay16 k0_pay11
  generalize k0_pay10 p p' = b
  pointwise

/-- What the body leaves in the block of the result. -/
theorem out_9 (c : Dev nD) (i : grid0.Coords) (a2 : Memref sig .tc .vmem S32x1024 .f32) (h2 : a2.IsWhole) (a3 : Memref sig .tc .vmem S32x1024 .f32) (h3 : a3.IsWhole) (a4 : Memref sig .tc .vmem S32x2048 .f32) (h4 : a4.IsWhole) (a5 : Memref sig .tc .vmem S32x2048 .f32) (h5 : a5.IsWhole) (a6 : Memref sig .tc .vmem S32x128 .f32) (h6 : a6.IsWhole) (a7 : Memref sig .tc .vmem S128x1024 .bf16) (h7 : a7.IsWhole) (a8 : Memref sig .tc .vmem S1x1024 .f32) (h8 : a8.IsWhole) (a9 : Memref sig .tc .vmem S1x512 .f32) (h9 : a9.IsWhole) (a10 : Memref sig .tc .vmem S1x4x256x512 .f32) (h10 : a10.IsWhole) (a11 : Memref sig .tc .vmem S32x2048 .bf16) (h11 : a11.IsWhole) (a12 : Memref sig .tc .vmem S1x4x256x512 .f32) (h12 : a12.IsWhole) (a13 : Memref sig .tc .vmem S4x256x512 .f32) (h13 : a13.IsWhole) (a14 : Memref sig .tc .vmem S32x1024 .bf16) (h14 : a14.IsWhole) (a15 : Memref sig .tc .vmem S32x1024 .bf16) (h15 : a15.IsWhole) (a16 : Memref sig .tc .vmem S32x2048 .f32) (h16 : a16.IsWhole) (a17 : Memref sig .tc .vmem S1x4x256x128 .f32) (h17 : a17.IsWhole) (hc0 : cond0_0 i) (hc1 : cond0_1 i)
    (x0 : Vec Ideal S32x1024 .f32) (x1 : Vec Ideal S32x1024 .f32) (x2 : Vec Ideal S32x2048 .f32) (x3 : Vec Ideal S32x2048 .f32) (x4 : Vec Ideal S32x128 .f32) (x5 : Vec Ideal S128x1024 .bf16) (x6 : Vec Ideal S1x1024 .f32) (x7 : Vec Ideal S1x512 .f32) (x8 : Vec Ideal S1x4x256x512 .f32) :
    out0_A_9 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 = blockO x0 x1 x2 x3 x4 x5 x6 x7 x8 := by
  funext y
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_run_names
  simp only [View.readAt_eq_ld, h2.read_unread, h3.read_unread, h4.read_unread, h5.read_unread, h6.read_unread, h7.read_unread, h8.read_unread, h9.read_unread, h10.read_unread]
  simp (disch := decide) only [↓ View.readCov_skip, ↓ readCov_same, ↓ View.readCov_cons_toLoadRect, ↓ View.readCov_fill, View.ld_unit_lit]
  refine View.canon_apply_of_pieces (blockO x0 x1 x2 x3 x4 x5 x6 x7 x8) _ ?_ y ?_
  rotate_left
  · exact View.cover_of_tiledL (s := S32x2048) _ ![32, 512] (by sl_kernel_rfl) y
  apply View.PiecesOf.mem
  refine ⟨?_, ?_, ?_, ?_, trivial⟩
  · intro j
    dsimp only
    rw [head3_eq]
    refine head_piece x0 x1 x2 x3 x4 x5 x6 x7 x8 3 _ _ _ _ _ _ (fun t d => ?_) (fun t d => ?_) (fun t d => ?_) (fun t e => part_wide x2 _ 3 rfl t e) (fun t e => part_wide x3 _ 3 rfl t e)
      (fun d e => part_state x8 _ 3 rfl d e) j _ (by show 0 + 1 * (j 0).val = (j 0).val; omega) (by show 1536 + 1 * (j 1).val = 3 * 512 + (j 1).val; omega)
    · exact (slice_at _ 768 _ t d (by omega)).trans (q_head x0 x4 x5 x6 3 768 rfl t d _)
    · exact (slice_at _ 768 _ t d (by omega)).trans (k_head x1 x4 x5 x6 3 768 rfl t d _)
    · exact (part _ _ 768 (by decide) t d (by omega)).trans (q'_head x0 x4 x5 x6 3 768 rfl t d _)
  · intro j
    dsimp only
    rw [head2_eq]
    refine head_piece x0 x1 x2 x3 x4 x5 x6 x7 x8 2 _ _ _ _ _ _ (fun t d => ?_) (fun t d => ?_) (fun t d => ?_) (fun t e => part_wide x2 _ 2 rfl t e) (fun t e => part_wide x3 _ 2 rfl t e)
      (fun d e => part_state x8 _ 2 rfl d e) j _ (by show 0 + 1 * (j 0).val = (j 0).val; omega) (by show 1024 + 1 * (j 1).val = 2 * 512 + (j 1).val; omega)
    · exact (slice_at _ 512 _ t d (by omega)).trans (q_head x0 x4 x5 x6 2 512 rfl t d _)
    · exact (slice_at _ 512 _ t d (by omega)).trans (k_head x1 x4 x5 x6 2 512 rfl t d _)
    · exact (part _ _ 512 (by decide) t d (by omega)).trans (q'_head x0 x4 x5 x6 2 512 rfl t d _)
  · intro j
    dsimp only
    rw [head1_eq]
    refine head_piece x0 x1 x2 x3 x4 x5 x6 x7 x8 1 _ _ _ _ _ _ (fun t d => ?_) (fun t d => ?_) (fun t d => ?_) (fun t e => part_wide x2 _ 1 rfl t e) (fun t e => part_wide x3 _ 1 rfl t e)
      (fun d e => part_state x8 _ 1 rfl d e) j _ (by show 0 + 1 * (j 0).val = (j 0).val; omega) (by show 512 + 1 * (j 1).val = 1 * 512 + (j 1).val; omega)
    · exact (slice_at _ 256 _ t d (by omega)).trans (q_head x0 x4 x5 x6 1 256 rfl t d _)
    · exact (slice_at _ 256 _ t d (by omega)).trans (k_head x1 x4 x5 x6 1 256 rfl t d _)
    · exact (part _ _ 256 (by decide) t d (by omega)).trans (q'_head x0 x4 x5 x6 1 256 rfl t d _)
  · intro j
    dsimp only
    rw [head0_eq]
    refine head_piece x0 x1 x2 x3 x4 x5 x6 x7 x8 0 _ _ _ _ _ _ (fun t d => ?_) (fun t d => ?_) (fun t d => ?_) (fun t e => part_wide x2 _ 0 rfl t e) (fun t e => part_wide x3 _ 0 rfl t e)
      (fun d e => part_state x8 _ 0 rfl d e) j _ (by show 0 + 1 * (j 0).val = (j 0).val; omega) (by show 0 + 1 * (j 1).val = 0 * 512 + (j 1).val; omega)
    · exact (slice_at _ 0 _ t d (by omega)).trans (q_head x0 x4 x5 x6 0 0 rfl t d _)
    · exact (slice_at _ 0 _ t d (by omega)).trans (k_head x1 x4 x5 x6 0 0 rfl t d _)
    · exact (part _ _ 0 (by decide) t d (by omega)).trans (q'_head x0 x4 x5 x6 0 0 rfl t d _)

/-- What the body leaves in the block of the new state. -/
theorem out_10 (c : Dev nD) (i : grid0.Coords) (a2 : Memref sig .tc .vmem S32x1024 .f32) (h2 : a2.IsWhole) (a3 : Memref sig .tc .vmem S32x1024 .f32) (h3 : a3.IsWhole) (a4 : Memref sig .tc .vmem S32x2048 .f32) (h4 : a4.IsWhole) (a5 : Memref sig .tc .vmem S32x2048 .f32) (h5 : a5.IsWhole) (a6 : Memref sig .tc .vmem S32x128 .f32) (h6 : a6.IsWhole) (a7 : Memref sig .tc .vmem S128x1024 .bf16) (h7 : a7.IsWhole) (a8 : Memref sig .tc .vmem S1x1024 .f32) (h8 : a8.IsWhole) (a9 : Memref sig .tc .vmem S1x512 .f32) (h9 : a9.IsWhole) (a10 : Memref sig .tc .vmem S1x4x256x512 .f32) (h10 : a10.IsWhole) (a11 : Memref sig .tc .vmem S32x2048 .bf16) (h11 : a11.IsWhole) (a12 : Memref sig .tc .vmem S1x4x256x512 .f32) (h12 : a12.IsWhole) (a13 : Memref sig .tc .vmem S4x256x512 .f32) (h13 : a13.IsWhole) (a14 : Memref sig .tc .vmem S32x1024 .bf16) (h14 : a14.IsWhole) (a15 : Memref sig .tc .vmem S32x1024 .bf16) (h15 : a15.IsWhole) (a16 : Memref sig .tc .vmem S32x2048 .f32) (h16 : a16.IsWhole) (a17 : Memref sig .tc .vmem S1x4x256x128 .f32) (h17 : a17.IsWhole) (hc0 : cond0_0 i) (hc1 : cond0_1 i)
    (x0 : Vec Ideal S32x1024 .f32) (x1 : Vec Ideal S32x1024 .f32) (x2 : Vec Ideal S32x2048 .f32) (x3 : Vec Ideal S32x2048 .f32) (x4 : Vec Ideal S32x128 .f32) (x5 : Vec Ideal S128x1024 .bf16) (x6 : Vec Ideal S1x1024 .f32) (x7 : Vec Ideal S1x512 .f32) (x8 : Vec Ideal S1x4x256x512 .f32) :
    out0_A_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8 = blockS x1 x2 x4 x5 x6 x8 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 x8)]
  unfold kernelRun0_A
  dsimp only
  sl_unfold_run_names
  simp only [View.readAt_eq_ld, h2.read_unread, h3.read_unread, h4.read_unread, h5.read_unread, h6.read_unread, h7.read_unread, h8.read_unread, h9.read_unread, h10.read_unread]
  simp (disch := decide) only [↓ View.readCov_skip, ↓ readCov_same, ↓ View.readCov_cons_toLoadRect, ↓ View.readCov_fill, View.ld_unit_lit]
  rw [View.canon_unit_zero (funext fun a => by fin_cases a <;> rfl), View.readCov_eq_canon']
  refine (congrArg (k0_pay1 (F := Ideal)) (?_ : _ = blockT x1 x2 x4 x5 x6 x8)).trans ?_
  · funext j
    refine (View.canon_append_of_piecesOf (blockT x1 x2 x4 x5 x6 x8) [_] [_, _, _, _] ?_ _ ?_).trans ?_
    · refine ⟨?_, ?_, ?_, ?_, trivial⟩
      · intro j
        dsimp only
        rw [state3_eq]
        exact head_state x1 x2 x4 x5 x6 x8 3 _ _ _ _ (fun d l => (dec3_apply _ _ d l).trans (congrArg Ideal.exp (sums_at x4 x5 x6 3 768 rfl 31 d (by omega))))
          (fun t d => (part _ _ 768 (by decide) t d (by omega)).trans (ku_head x1 x4 x5 x6 3 768 rfl t d _)) (fun t e => part_wide x2 _ 3 (by decide) t e)
          (fun d e => part_state x8 _ 3 rfl d e) j _ (by have h : (j 0).val < 1 := (j 0).isLt; show 3 + 1 * (j 0).val = 3; omega) (by show 0 + 1 * (j 1).val = (j 1).val; omega) (by show 0 + 1 * (j 2).val = (j 2).val; omega)
      · intro j
        dsimp only
        rw [state2_eq]
        exact head_state x1 x2 x4 x5 x6 x8 2 _ _ _ _ (fun d l => (dec2_apply _ _ d l).trans (congrArg Ideal.exp (sums_at x4 x5 x6 2 512 rfl 31 d (by omega))))
          (fun t d => (part _ _ 512 (by decide) t d (by omega)).trans (ku_head x1 x4 x5 x6 2 512 rfl t d _)) (fun t e => part_wide x2 _ 2 (by decide) t e)
          (fun d e => part_state x8 _ 2 rfl d e) j _ (by have h : (j 0).val < 1 := (j 0).isLt; show 2 + 1 * (j 0).val = 2; omega) (by show 0 + 1 * (j 1).val = (j 1).val; omega) (by show 0 + 1 * (j 2).val = (j 2).val; omega)
      · intro j
        dsimp only
        rw [state1_eq]
        exact head_state x1 x2 x4 x5 x6 x8 1 _ _ _ _ (fun d l => (dec1_apply _ _ d l).trans (congrArg Ideal.exp (sums_at x4 x5 x6 1 256 rfl 31 d (by omega))))
          (fun t d => (part _ _ 256 (by decide) t d (by omega)).trans (ku_head x1 x4 x5 x6 1 256 rfl t d _)) (fun t e => part_wide x2 _ 1 (by decide) t e)
          (fun d e => part_state x8 _ 1 rfl d e) j _ (by have h : (j 0).val < 1 := (j 0).isLt; show 1 + 1 * (j 0).val = 1; omega) (by show 0 + 1 * (j 1).val = (j 1).val; omega) (by show 0 + 1 * (j 2).val = (j 2).val; omega)
      · intro j
        dsimp only
        rw [state0_eq]
        exact head_state x1 x2 x4 x5 x6 x8 0 _ _ _ _ (fun d l => (dec0_apply _ _ d l).trans (congrArg Ideal.exp (sums_at x4 x5 x6 0 0 rfl 31 d (by omega))))
          (fun t d => (part _ _ 0 (by decide) t d (by omega)).trans (ku_head x1 x4 x5 x6 0 0 rfl t d _)) (fun t e => part_wide x2 _ 0 (by decide) t e)
          (fun d e => part_state x8 _ 0 rfl d e) j _ (by have h : (j 0).val < 1 := (j 0).isLt; show 0 + 1 * (j 0).val = 0; omega) (by show 0 + 1 * (j 1).val = (j 1).val; omega) (by show 0 + 1 * (j 2).val = (j 2).val; omega)
    · exact View.cover_of_tiledL (s := S4x256x512) _ ![1, 256, 512] (by sl_kernel_rfl) _
    · congr 1
      funext a
      apply Fin.ext
      match a with
      | ⟨0, _⟩ => show 0 + 1 * (j 0).val = (j 0).val; omega
      | ⟨1, _⟩ => show 0 + 1 * (j 1).val = (j 1).val; omega
      | ⟨2, _⟩ => show 0 + 1 * (j 2).val = (j 2).val; omega
  · funext y
    idx_vars y
    have ez : y0 = 0 := Fin.ext (by have h : y0.val < 1 := y0.isLt; show y0.val = 0; omega)
    subst ez
    show k0_pay1 (F := Ideal) (blockT x1 x2 x4 x5 x6 x8) (ix4 0 y1 y2 y3) = blockT x1 x2 x4 x5 x6 x8 (ix3 y1 y2 y3)
    generalize blockT x1 x2 x4 x5 x6 x8 = z
    pointwise [k0_pay1]

end Cert.GlaSIdeal.Blk

end
-- ==== Proof.GlaSSpec.lean ====
/- The gated linear attention over the samples, over the extended reals: what both programs are shown to compute. -/
module

public import proofs.«01_k».proof.Proof.Gla
public import Idealize.ShloMosaic.Lib.Pointwise

@[expose] public section

set_option maxRecDepth 16384

noncomputable section

open Idealize.ShloMosaic Idealize.ShloMosaic.TcCoe Idealize.SL.Sem

namespace Cert.GlaSSpec

/-- Row `t` of sample `b` among all rows. -/
def row (b : Fin 16) (t : Fin 32) : Fin 16896 := ⟨16384 + (b.val * 32 + t.val), by omega⟩

/-- The queries of a head. -/
def query (x0 : (⟨2, ![16896, 6144]⟩ : Shape).Idx → EReal) (b : Fin 16) (h : Fin 4) (t : Fin 32) (d : Fin 256) : EReal :=
  x0 (ix2 (n0 := 16896) (n1 := 6144) (row b t) ⟨h.val * 256 + d.val, by omega⟩)

/-- The keys of a head. -/
def key (x0 : (⟨2, ![16896, 6144]⟩ : Shape).Idx → EReal) (b : Fin 16) (h : Fin 4) (t : Fin 32) (d : Fin 256) : EReal :=
  x0 (ix2 (n0 := 16896) (n1 := 6144) (row b t) ⟨1024 + (h.val * 256 + d.val), by omega⟩)

/-- The values of a head. -/
def value (x0 : (⟨2, ![16896, 6144]⟩ : Shape).Idx → EReal) (b : Fin 16) (h : Fin 4) (t : Fin 32) (e : Fin 512) : EReal :=
  x0 (ix2 (n0 := 16896) (n1 := 6144) (row b t) ⟨2048 + (h.val * 512 + e.val), by omega⟩)

/-- The gated branch of a head. -/
def branch (x0 : (⟨2, ![16896, 6144]⟩ : Shape).Idx → EReal) (b : Fin 16) (h : Fin 4) (t : Fin 32) (e : Fin 512) : EReal :=
  x0 (ix2 (n0 := 16896) (n1 := 6144) (row b t) ⟨4096 + (h.val * 512 + e.val), by omega⟩)

/-- The gate before the logistic function. -/
def logit (x1 : (⟨2, ![16896, 128]⟩ : Shape).Idx → EReal) (x2 : (⟨3, ![1, 16, 1024]⟩ : Shape).Idx → EReal) (x3 : (⟨2, ![1, 1024]⟩ : Shape).Idx → EReal) (b : Fin 16) (s : Fin 32) (c : Fin 1024) : EReal :=
  ∑ j : Fin 16, x1 (ix2 (n0 := 16896) (n1 := 128) (row b s) ⟨j.val, by omega⟩) * x2 (ix3 (n0 := 1) (n1 := 16) (n2 := 1024) 0 j c) + x3 (ix2 (n0 := 1) (n1 := 1024) 0 c)

/-- The running sums of a head's gates. -/
def sums (x1 : (⟨2, ![16896, 128]⟩ : Shape).Idx → EReal) (x2 : (⟨3, ![1, 16, 1024]⟩ : Shape).Idx → EReal) (x3 : (⟨2, ![1, 1024]⟩ : Shape).Idx → EReal) (b : Fin 16) (h : Fin 4) (t : Fin 32) (d : Fin 256) : EReal :=
  Gla.csum (fun s => Gla.gate (logit x1 x2 x3 b s ⟨h.val * 256 + d.val, by omega⟩)) t

/-- A sample's old state at a head. -/
def old (x5 : (⟨5, ![1, 16, 4, 256, 512]⟩ : Shape).Idx → EReal) (b : Fin 16) (h : Fin 4) (d : Fin 256) (e : Fin 512) : EReal := x5 (ix5 (n0 := 1) (n1 := 16) (n2 := 4) (n3 := 256) (n4 := 512) 0 b h d e)

/-- A head's normalised and gated output. -/
def out (x0 : (⟨2, ![16896, 6144]⟩ : Shape).Idx → EReal) (x1 : (⟨2, ![16896, 128]⟩ : Shape).Idx → EReal) (x2 : (⟨3, ![1, 16, 1024]⟩ : Shape).Idx → EReal) (x3 : (⟨2, ![1, 1024]⟩ : Shape).Idx → EReal) (x4 : (⟨2, ![1, 512]⟩ : Shape).Idx → EReal) (x5 : (⟨5, ![1, 16, 4, 256, 512]⟩ : Shape).Idx → EReal) (b : Fin 16) (h : Fin 4) (t : Fin 32) (e : Fin 512) : EReal :=
  Gla.normed (fun l => Gla.outs (query x0 b h) (key x0 b h) (value x0 b h) (sums x1 x2 x3 b h) (old x5 b h) t l)
    (fun l => x4 (ix2 (n0 := 1) (n1 := 512) 0 l)) (branch x0 b h t) e

/-- The first result: the samples' rows, a head's entries beside one another. -/
def rows (x0 : (⟨2, ![16896, 6144]⟩ : Shape).Idx → EReal) (x1 : (⟨2, ![16896, 128]⟩ : Shape).Idx → EReal) (x2 : (⟨3, ![1, 16, 1024]⟩ : Shape).Idx → EReal) (x3 : (⟨2, ![1, 1024]⟩ : Shape).Idx → EReal) (x4 : (⟨2, ![1, 512]⟩ : Shape).Idx → EReal) (x5 : (⟨5, ![1, 16, 4, 256, 512]⟩ : Shape).Idx → EReal) : (⟨2, ![512, 2048]⟩ : Shape).Idx → EReal := fun i =>
  have h0 : (i 0).val < 512 := (i 0).isLt
  have h1 : (i 1).val < 2048 := (i 1).isLt
  out x0 x1 x2 x3 x4 x5 ⟨(i 0).val / 32, by omega⟩ ⟨(i 1).val / 512, by omega⟩ ⟨(i 0).val % 32, Nat.mod_lt _ (by omega)⟩ ⟨(i 1).val % 512, Nat.mod_lt _ (by omega)⟩

/-- The second result: the samples' new states. -/
def states (x0 : (⟨2, ![16896, 6144]⟩ : Shape).Idx → EReal) (x1 : (⟨2, ![16896, 128]⟩ : Shape).Idx → EReal) (x2 : (⟨3, ![1, 16, 1024]⟩ : Shape).Idx → EReal) (x3 : (⟨2, ![1, 1024]⟩ : Shape).Idx → EReal) (x5 : (⟨5, ![1, 16, 4, 256, 512]⟩ : Shape).Idx → EReal) : (⟨4, ![16, 4, 256, 512]⟩ : Shape).Idx → EReal := fun i =>
  Gla.next (key x0 (i 0) (i 1)) (value x0 (i 0) (i 1)) (sums x1 x2 x3 (i 0) (i 1)) (old x5 (i 0) (i 1)) (i 2) (i 3)

end Cert.GlaSSpec

end
-- ==== Proof.GlaSValue.lean ====
/- The gated linear attention over the samples, the kernel's side: the two arrays after the run. -/
module

public import proofs.«01_k».proof.Proof.GlaSBlock
public import proofs.«01_k».proof.Proof.GlaSSpec
public import Idealize.ShloMosaic.Lib.StableHlo.ReadAt

@[expose] public section

set_option maxRecDepth 16384

noncomputable section

open Idealize.ShloMosaic Idealize.ShloMosaic.TcCoe Idealize.SL.Sem

open Idealize.ShloMosaic.Pipeline (Dat)

namespace Cert.GlaSIdeal.Final

open Cert.GlaSIdeal Cert.GlaSIdeal.Gen Cert.GlaSIdeal.Blk Cert.GlaSSpec

variable (m : (ℓ : Loc nD τ sig) → Buf (Elt Ideal) ℓ) (ρ : Dev nD → PrngReg)

/-- The gate's weights as the kernel takes them: sixteen rows, then rows of zeros. -/
theorem weight_apply (c : Dev nD) (j : Fin 128) (e : Fin 1024) : (V m c main_v2 (ix2 (n0 := 128) (n1 := 1024) j e) : EReal)
    = if h : j.val < 16 then (m ((c : Thread nD τ).loc main_arg2) (ix3 (n0 := 1) (n1 := 16) (n2 := 1024) 0 ⟨j.val, h⟩ e) : EReal) else (0 : EReal) := by
  have hz : (FloatOps.sitofp FTy.f32 (0#32) : Ideal .f32) = (0 : EReal) := by
    show (((0#32 : BitVec 32).toInt : ℝ) : EReal) = 0
    simp
  unfold V
  after_reads_at
  by_cases h : j.val < 16
  · rw [dif_pos h, dif_pos h]
  · rw [dif_neg h, dif_neg h]
    exact hz

theorem bias_apply (c : Dev nD) (e : Fin 1024) : (V m c main_v4 (ix2 (n0 := 1) (n1 := 1024) 0 e) : EReal)
    = m ((c : Thread nD τ).loc main_arg3) (ix2 (n0 := 1) (n1 := 1024) 0 e) := by
  unfold V
  after_reads_at

theorem gain_apply (c : Dev nD) (e : Fin 512) : (V m c main_v6 (ix2 (n0 := 1) (n1 := 512) 0 e) : EReal)
    = m ((c : Thread nD τ).loc main_arg4) (ix2 (n0 := 1) (n1 := 512) 0 e) := by
  unfold V
  after_reads_at

theorem old_apply (c : Dev nD) (b : Fin 16) (h : Fin 4) (d : Fin 256) (e : Fin 512) : (V m c main_v7 (ix4 (n0 := 16) (n1 := 4) (n2 := 256) (n3 := 512) b h d e) : EReal)
    = m ((c : Thread nD τ).loc main_arg5) (ix5 (n0 := 1) (n1 := 16) (n2 := 4) (n3 := 256) (n4 := 512) 0 b h d e) := by
  unfold V
  after_reads_at

/-- The index maps over the grid: point `t` takes the rows and the state of sample `t`. -/
theorem idx_in : ∀ t : Fin cfg0.N, win0_0.index t (0 : Fin 2) = 512 + t.val ∧ win0_0.index t (1 : Fin 2) = 0
    ∧ win0_1.index t (0 : Fin 2) = 512 + t.val ∧ win0_1.index t (1 : Fin 2) = 1
    ∧ win0_2.index t (0 : Fin 2) = 512 + t.val ∧ win0_2.index t (1 : Fin 2) = 1
    ∧ win0_3.index t (0 : Fin 2) = 512 + t.val ∧ win0_3.index t (1 : Fin 2) = 2
    ∧ win0_4.index t (0 : Fin 2) = 512 + t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 4) = t.val ∧ win0_8.index t (1 : Fin 4) = 0 ∧ win0_8.index t (2 : Fin 4) = 0 ∧ win0_8.index t (3 : Fin 4) = 0
    ∧ win0_9.index t (0 : Fin 2) = t.val ∧ win0_9.index t (1 : Fin 2) = 0
    ∧ win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)

theorem q_apply (c : Dev nD) (t : Fin cfg0.N) (r : Fin 32) (e : Fin 1024) (i : S16896x6144.Idx)
    (h0 : (i 0).val = 16384 + (t.val * 32 + r.val)) (h1 : (i 1).val = 0 + e.val) :
    iblk m c 0 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_0.index t (0 : Fin 2) * 32 + 1 * r.val = (i 0).val; omega
  | ⟨1, _⟩ => show win0_0.index t (1 : Fin 2) * 1024 + 1 * e.val = (i 1).val; omega

theorem k_apply (c : Dev nD) (t : Fin cfg0.N) (r : Fin 32) (e : Fin 1024) (i : S16896x6144.Idx)
    (h0 : (i 0).val = 16384 + (t.val * 32 + r.val)) (h1 : (i 1).val = 1024 + e.val) :
    iblk m c 1 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_1.index t (0 : Fin 2) * 32 + 1 * r.val = (i 0).val; omega
  | ⟨1, _⟩ => show win0_1.index t (1 : Fin 2) * 1024 + 1 * e.val = (i 1).val; omega

theorem v_apply (c : Dev nD) (t : Fin cfg0.N) (r : Fin 32) (e : Fin 2048) (i : S16896x6144.Idx)
    (h0 : (i 0).val = 16384 + (t.val * 32 + r.val)) (h1 : (i 1).val = 2048 + e.val) :
    iblk m c 2 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_2.index t (0 : Fin 2) * 32 + 1 * r.val = (i 0).val; omega
  | ⟨1, _⟩ => show win0_2.index t (1 : Fin 2) * 2048 + 1 * e.val = (i 1).val; omega

theorem g_apply (c : Dev nD) (t : Fin cfg0.N) (r : Fin 32) (e : Fin 2048) (i : S16896x6144.Idx)
    (h0 : (i 0).val = 16384 + (t.val * 32 + r.val)) (h1 : (i 1).val = 4096 + e.val) :
    iblk m c 3 t (ix2 r e) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_3.index t (0 : Fin 2) * 32 + 1 * r.val = (i 0).val; omega
  | ⟨1, _⟩ => show win0_3.index t (1 : Fin 2) * 2048 + 1 * e.val = (i 1).val; omega

theorem a_apply (c : Dev nD) (t : Fin cfg0.N) (r : Fin 32) (e : Fin 128) (i : S16896x128.Idx)
    (h0 : (i 0).val = 16384 + (t.val * 32 + r.val)) (h1 : (i 1).val = 0 + e.val) :
    iblk m c 4 t (ix2 r e) = m ((c : Thread nD τ).loc main_arg1) i := by
  unfold iblk
  rw [View.read_apply]
  show V m c main_arg1 _ = _
  rw [V_main_arg1]
  congr 1
  have ei := idx_in t
  funext a
  apply Fin.ext
  match a with
  | ⟨0, _⟩ => show win0_4.index t (0 : Fin 2) * 32 + 1 * r.val = (i 0).val; omega
  | ⟨1, _⟩ => show win0_4.index t (1 : Fin 2) * 128 + 1 * e.val = (i 1).val; omega

theorem weight_blk (c : Dev nD) (t : Fin cfg0.N) (j : Fin 128) (e : Fin 1024) : (iblk m c 5 t (ix2 (n0 := 128) (n1 := 1024) j e) : EReal) = if h : j.val < 16 then (m ((c : Thread nD τ).loc main_arg2) (ix3 (n0 := 1) (n1 := 16) (n2 := 1024) 0 ⟨j.val, h⟩ e) : EReal) else (0 : EReal) := by
  rw [← weight_apply m c j e]
  unfold iblk
  rw [View.read_apply]
  show V m c main_v2 _ = _
  congr 1
  have ei := idx_in t
  funext a
  apply Fin.ext
  match a with
  | ⟨0, _⟩ => show win0_5.index t (0 : Fin 2) * 128 + 1 * j.val = j.val; omega
  | ⟨1, _⟩ => show win0_5.index t (1 : Fin 2) * 1024 + 1 * e.val = e.val; omega

theorem bias_blk (c : Dev nD) (t : Fin cfg0.N) (e : Fin 1024) : (iblk m c 6 t (ix2 (n0 := 1) (n1 := 1024) 0 e) : EReal) = m ((c : Thread nD τ).loc main_arg3) (ix2 (n0 := 1) (n1 := 1024) 0 e) := by
  rw [← bias_apply m c e]
  unfold iblk
  rw [View.read_apply]
  show V m c main_v4 _ = _
  congr 1
  have ei := idx_in t
  funext a
  apply Fin.ext
  match a with
  | ⟨0, _⟩ => show win0_6.index t (0 : Fin 2) * 1 + 1 * 0 = 0; omega
  | ⟨1, _⟩ => show win0_6.index t (1 : Fin 2) * 1024 + 1 * e.val = e.val; omega

theorem gain_blk (c : Dev nD) (t : Fin cfg0.N) (e : Fin 512) : (iblk m c 7 t (ix2 (n0 := 1) (n1 := 512) 0 e) : EReal) = m ((c : Thread nD τ).loc main_arg4) (ix2 (n0 := 1) (n1 := 512) 0 e) := by
  rw [← gain_apply m c e]
  unfold iblk
  rw [View.read_apply]
  show V m c main_v6 _ = _
  congr 1
  have ei := idx_in t
  funext a
  apply Fin.ext
  match a with
  | ⟨0, _⟩ => show win0_7.index t (0 : Fin 2) * 1 + 1 * 0 = 0; omega
  | ⟨1, _⟩ => show win0_7.index t (1 : Fin 2) * 512 + 1 * e.val = e.val; omega

theorem old_blk (c : Dev nD) (t : Fin cfg0.N) (b : Fin 16) (hb : b.val = t.val) (h : Fin 4) (d : Fin 256) (e : Fin 512) : (iblk m c 8 t (ix4 (n0 := 1) (n1 := 4) (n2 := 256) (n3 := 512) 0 h d e) : EReal) = m ((c : Thread nD τ).loc main_arg5) (ix5 (n0 := 1) (n1 := 16) (n2 := 4) (n3 := 256) (n4 := 512) 0 b h d e) := by
  rw [← old_apply m c b h d e]
  unfold iblk
  rw [View.read_apply]
  show V m c main_v7 _ = _
  congr 1
  have ei := idx_in t
  funext a
  apply Fin.ext
  match a with
  | ⟨0, _⟩ => show win0_8.index t (0 : Fin 4) * 1 + 1 * 0 = b.val; omega
  | ⟨1, _⟩ => show win0_8.index t (1 : Fin 4) * 4 + 1 * h.val = h.val; omega
  | ⟨2, _⟩ => show win0_8.index t (2 : Fin 4) * 256 + 1 * d.val = d.val; omega
  | ⟨3, _⟩ => show win0_8.index t (3 : Fin 4) * 512 + 1 * e.val = e.val; omega

/-- A sum over 128 entries of which only the first sixteen may differ from zero. -/
theorem sum_padded (f : Fin 128 → EReal) (h : ∀ j : Fin 128, 16 ≤ j.val → f j = 0) : ∑ j : Fin 128, f j = ∑ j : Fin 16, f ⟨j.val, by omega⟩ := by
  refine (Fin.sum_univ_add (a := 16) (b := 112) (show Fin (16 + 112) → EReal from f)).trans ?_
  refine (congrArg₂ (fun x y : EReal => x + y) rfl (Finset.sum_eq_zero fun j _ => h _ (by show 16 ≤ 16 + j.val; omega))).trans (add_zero _)

section

variable (c : Dev nD) (t : Fin cfg0.N) (b : Fin 16) (hb : b.val = t.val) (h : Fin 4)

include hb

theorem q_cols : cols (iblk m c 0 t) h = query (m ((c : Thread nD τ).loc main_arg0)) b h := by
  funext r d
  exact q_apply m c t r _ _ (by show 16384 + (b.val * 32 + r.val) = _; omega) (by show h.val * 256 + d.val = 0 + (h.val * 256 + d.val); omega)

theorem k_cols : cols (iblk m c 1 t) h = key (m ((c : Thread nD τ).loc main_arg0)) b h := by
  funext r d
  exact k_apply m c t r _ _ (by show 16384 + (b.val * 32 + r.val) = _; omega) rfl

theorem v_wide : wide (iblk m c 2 t) h = value (m ((c : Thread nD τ).loc main_arg0)) b h := by
  funext r d
  exact v_apply m c t r _ _ (by show 16384 + (b.val * 32 + r.val) = _; omega) rfl

theorem g_wide : wide (iblk m c 3 t) h = branch (m ((c : Thread nD τ).loc main_arg0)) b h := by
  funext r d
  exact g_apply m c t r _ _ (by show 16384 + (b.val * 32 + r.val) = _; omega) rfl

theorem logit_blk (s : Fin 32) (e : Fin 1024) : logs (iblk m c 4 t) (iblk m c 5 t) (iblk m c 6 t) s e = Gla.gate (logit (m ((c : Thread nD τ).loc main_arg1)) (m ((c : Thread nD τ).loc main_arg2)) (m ((c : Thread nD τ).loc main_arg3)) b s e) := by
  rw [Gla.gate_eq]
  unfold logs logit
  refine congrArg Gla.gate' (congrArg₂ (fun x y : EReal => x + y) ?_ (bias_blk m c t e))
  refine (sum_padded (fun j : Fin 128 => HMul.hMul (α := EReal) (iblk m c 4 t (ix2 s j)) (iblk m c 5 t (ix2 j e))) fun j hj => ?_).trans ?_
  · exact (congrArg (fun y : EReal => HMul.hMul (α := EReal) (iblk m c 4 t (ix2 s j)) y) ((weight_blk m c t j e).trans (dif_neg (by omega)))).trans (mul_zero _)
  refine Finset.sum_congr rfl fun j _ => congrArg₂ (fun x y : EReal => x * y) ?_ ((weight_blk m c t ⟨j.val, by omega⟩ e).trans (dif_pos j.isLt))
  exact a_apply m c t s _ _ (by show 16384 + (b.val * 32 + s.val) = _; omega) (by show j.val = 0 + j.val; omega)

theorem sums_blk : Blk.sums (iblk m c 4 t) (iblk m c 5 t) (iblk m c 6 t) h = GlaSSpec.sums (m ((c : Thread nD τ).loc main_arg1)) (m ((c : Thread nD τ).loc main_arg2)) (m ((c : Thread nD τ).loc main_arg3)) b h := by
  funext r d
  unfold Blk.sums GlaSSpec.sums
  exact congrArg (fun a => Gla.csum a r) (funext fun s => logit_blk m c t b hb s _)

theorem old_fun : (fun d e => iblk m c 8 t (ix4 (n0 := 1) (n1 := 4) (n2 := 256) (n3 := 512) 0 h d e)) = old (m ((c : Thread nD τ).loc main_arg5)) b h := by
  funext d e
  exact old_blk m c t b hb h d e

theorem head_out (r : Fin 32) (e : Fin 512) : headO (iblk m c 0 t) (iblk m c 1 t) (iblk m c 2 t) (iblk m c 3 t) (iblk m c 4 t) (iblk m c 5 t) (iblk m c 6 t) (iblk m c 7 t) (iblk m c 8 t) h r e = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b h r e := by
  unfold headO out
  rw [q_cols m c t b hb, k_cols m c t b hb, v_wide m c t b hb, g_wide m c t b hb, sums_blk m c t b hb]
  exact congrArg₂ (fun o g => Gla.normed (fun l => Gla.outs _ _ _ _ o r l) g _ e) (old_fun m c t b hb h) (funext fun l => gain_blk m c t l)

theorem head_state_eq (d : Fin 256) (e : Fin 512) : headS (iblk m c 1 t) (iblk m c 2 t) (iblk m c 4 t) (iblk m c 5 t) (iblk m c 6 t) (iblk m c 8 t) h d e
    = Gla.next (key (m ((c : Thread nD τ).loc main_arg0)) b h) (value (m ((c : Thread nD τ).loc main_arg0)) b h) (GlaSSpec.sums (m ((c : Thread nD τ).loc main_arg1)) (m ((c : Thread nD τ).loc main_arg2)) (m ((c : Thread nD τ).loc main_arg3)) b h) (old (m ((c : Thread nD τ).loc main_arg5)) b h) d e := by
  unfold headS
  rw [k_cols m c t b hb, v_wide m c t b hb, sums_blk m c t b hb]
  exact congrArg (fun o => Gla.next _ _ _ o d e) (old_fun m c t b hb h)

end

/-- The first result after the run. -/
def outRows (c : Dev nD) : S512x2048.Idx → EReal := rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The second result after the run. -/
def outStates (c : Dev nD) : S16x4x256x512.Idx → EReal := states (m ((c : Thread nD τ).loc main_arg0)) (m ((c : Thread nD τ).loc main_arg1)) (m ((c : Thread nD τ).loc main_arg2)) (m ((c : Thread nD τ).loc main_arg3)) (m ((c : Thread nD τ).loc main_arg5))

theorem mem_blk9 (i : S512x2048.Idx) (t : Fin cfg0.N) :
    i ∈ ((cfg0.win 9).blk t).view.set ↔ ∀ a : Fin 2, win0_9.index t a * (![32, 2048] : Fin 2 → ℕ) a ≤ (i a).val ∧ (i a).val < win0_9.index t a * (![32, 2048] : Fin 2 → ℕ) a + (![32, 2048] : Fin 2 → ℕ) a := by
  show i ∈ ((View.whole main_v8_0).slice (win0_9.rect t)).set ↔ _
  rw [View.set_slice_whole, Rect.mem_set_unit]
  exact Iff.rfl

theorem mem_blk10 (i : S16x4x256x512.Idx) (t : Fin cfg0.N) :
    i ∈ ((cfg0.win 10).blk t).view.set ↔ ∀ a : Fin 4, win0_10.index t a * (![1, 4, 256, 512] : Fin 4 → ℕ) a ≤ (i a).val ∧ (i a).val < win0_10.index t a * (![1, 4, 256, 512] : Fin 4 → ℕ) a + (![1, 4, 256, 512] : Fin 4 → ℕ) a := by
  show i ∈ ((View.whole main_v8_1).slice (win0_10.rect t)).set ↔ _
  rw [View.set_slice_whole, Rect.mem_set_unit]
  exact Iff.rfl

theorem covered9 (i : S512x2048.Idx) : ∃ t : Fin cfg0.N, (cfg0.win 9).flush t = true ∧ i ∈ ((cfg0.win 9).blk t).view.set := by
  have hN : cfg0.N = 16 := N_0
  have h0 : (i 0).val < 512 := (i 0).isLt
  have h1 : (i 1).val < 2048 := (i 1).isLt
  refine ⟨⟨(i 0).val / 32, by omega⟩, flush0_9 _, (mem_blk9 i _).2 fun a => ?_⟩
  have e := idx_in ⟨(i 0).val / 32, by omega⟩
  dsimp only at e
  match a with
  | ⟨0, _⟩ =>
    show win0_9.index _ (0 : Fin 2) * 32 ≤ (i 0).val ∧ (i 0).val < win0_9.index _ (0 : Fin 2) * 32 + 32
    omega
  | ⟨1, _⟩ =>
    show win0_9.index _ (1 : Fin 2) * 2048 ≤ (i 1).val ∧ (i 1).val < win0_9.index _ (1 : Fin 2) * 2048 + 2048
    omega

theorem covered10 (i : S16x4x256x512.Idx) : ∃ t : Fin cfg0.N, (cfg0.win 10).flush t = true ∧ i ∈ ((cfg0.win 10).blk t).view.set := by
  have hN : cfg0.N = 16 := N_0
  have h0 : (i 0).val < 16 := (i 0).isLt
  have h1 : (i 1).val < 4 := (i 1).isLt
  have h2 : (i 2).val < 256 := (i 2).isLt
  have h3 : (i 3).val < 512 := (i 3).isLt
  refine ⟨⟨(i 0).val, by omega⟩, flush0_10 _, (mem_blk10 i _).2 fun a => ?_⟩
  have e := idx_in ⟨(i 0).val, by omega⟩
  dsimp only at e
  match a with
  | ⟨0, _⟩ =>
    show win0_10.index _ (0 : Fin 4) * 1 ≤ (i 0).val ∧ (i 0).val < win0_10.index _ (0 : Fin 4) * 1 + 1
    omega
  | ⟨1, _⟩ =>
    show win0_10.index _ (1 : Fin 4) * 4 ≤ (i 1).val ∧ (i 1).val < win0_10.index _ (1 : Fin 4) * 4 + 4
    omega
  | ⟨2, _⟩ =>
    show win0_10.index _ (2 : Fin 4) * 256 ≤ (i 2).val ∧ (i 2).val < win0_10.index _ (2 : Fin 4) * 256 + 256
    omega
  | ⟨3, _⟩ =>
    show win0_10.index _ (3 : Fin 4) * 512 ≤ (i 3).val ∧ (i 3).val < win0_10.index _ (3 : Fin 4) * 512 + 512
    omega

theorem flushed9_eq (c : Dev nD) (t : Fin cfg0.N) (hf : (cfg0.win 9).flush t = true) :
    (dats m 0 c).flushed 9 t = ((cfg0.win 9).blk t).view.read (Elt Ideal) (outRows m c) := by
  rw [Value.flushed9_A, out_9]
  have hN : cfg0.N = 16 := N_0
  have ht := t.isLt
  have ei := idx_in t
  funext y
  have hy0 : (y 0).val < 32 := (y 0).isLt
  have hy1 : (y 1).val < 2048 := (y 1).isLt
  have hb0 : (((cfg0.win 9).blk t).view.emb y 0).val = win0_9.index t (0 : Fin 2) * 32 + 1 * (y 0).val := rfl
  have hb1 : (((cfg0.win 9).blk t).view.emb y 1).val = win0_9.index t (1 : Fin 2) * 2048 + 1 * (y 1).val := rfl
  rw [View.read_apply]
  generalize ((cfg0.win 9).blk t).view.emb y = i at hb0 hb1 ⊢
  refine (head_out m c t ⟨t.val, by omega⟩ rfl _ _ _).trans ?_
  unfold outRows rows
  dsimp only
  congr 1
  · exact Fin.ext (by show t.val = (i 0).val / 32; omega)
  · exact Fin.ext (by show (y 1).val / 512 = (i 1).val / 512; omega)
  · exact Fin.ext (by show (y 0).val = (i 0).val % 32; omega)
  · exact Fin.ext (by show (y 1).val % 512 = (i 1).val % 512; omega)

theorem flushed10_eq (c : Dev nD) (t : Fin cfg0.N) (hf : (cfg0.win 10).flush t = true) :
    (dats m 0 c).flushed 10 t = ((cfg0.win 10).blk t).view.read (Elt Ideal) (outStates m c) := by
  rw [Value.flushed10_A, out_10]
  have hN : cfg0.N = 16 := N_0
  have ht := t.isLt
  have ei := idx_in t
  funext y
  have hy0 : (y 0).val < 1 := (y 0).isLt
  have hb0 : (((cfg0.win 10).blk t).view.emb y 0).val = win0_10.index t (0 : Fin 4) * 1 + 1 * (y 0).val := rfl
  have hb1 : (((cfg0.win 10).blk t).view.emb y 1).val = win0_10.index t (1 : Fin 4) * 4 + 1 * (y 1).val := rfl
  have hb2 : (((cfg0.win 10).blk t).view.emb y 2).val = win0_10.index t (2 : Fin 4) * 256 + 1 * (y 2).val := rfl
  have hb3 : (((cfg0.win 10).blk t).view.emb y 3).val = win0_10.index t (3 : Fin 4) * 512 + 1 * (y 3).val := rfl
  rw [View.read_apply]
  generalize ((cfg0.win 10).blk t).view.emb y = i at hb0 hb1 hb2 hb3 ⊢
  refine (head_state_eq m c t (i 0) (by omega) _ _ _).trans ?_
  have e1 : (y 1 : Fin 4) = i 1 := Fin.ext (by omega)
  have e2 : (y 2 : Fin 256) = i 2 := Fin.ext (by omega)
  have e3 : (y 3 : Fin 512) = i 3 := Fin.ext (by omega)
  show _ = Gla.next (key (m ((c : Thread nD τ).loc main_arg0)) (i 0) (i 1)) (value (m ((c : Thread nD τ).loc main_arg0)) (i 0) (i 1)) (GlaSSpec.sums (m ((c : Thread nD τ).loc main_arg1)) (m ((c : Thread nD τ).loc main_arg2)) (m ((c : Thread nD τ).loc main_arg3)) (i 0) (i 1)) (old (m ((c : Thread nD τ).loc main_arg5)) (i 0) (i 1)) (i 2) (i 3)
  rw [← e1, ← e2, ← e3]

theorem final9 (c : Dev nD) : (dats m 0 c).arrAt 9 cfg0.N = outRows m c :=
  (dats m 0 c).arrAt_eq_of_cover 9 _ (fun t hf => flushed9_eq m c t hf) (fun i => covered9 i)

theorem final10 (c : Dev nD) : (dats m 0 c).arrAt 10 cfg0.N = outStates m c :=
  (dats m 0 c).arrAt_eq_of_cover 10 _ (fun t hf => flushed10_eq m c t hf) (fun i => covered10 i)

/-- The run: the two results at the functions of the arguments, the arguments unchanged. -/
theorem run : θ_run defs (onTc (τ := τ) (main (F := Ideal))) ⟨m, fun _ => 0, ρ⟩ fun r => ∀ c : Dev nD,
      r.2.mem ((c : Thread nD τ).loc main_v8_0) = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v8_1) = states (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(Value.post9 m r h c).trans (final9 m c), (Value.post10 m r h c).trans (final10 m c),
      Value.kept_main_arg0 m r h c, Value.kept_main_arg1 m r h c, Value.kept_main_arg2 m r h c, Value.kept_main_arg3 m r h c, Value.kept_main_arg4 m r h c, Value.kept_main_arg5 m r h c⟩)
    (run_main m ρ)

end Cert.GlaSIdeal.Final

end
-- ==== Proof.GlaSRefValue.lean ====
/- The gated linear attention over the samples, the reference's side: its results at an index. -/
module

public import proofs.«01_k».proof.Proof.GlaSSpec
public import proofs.«01_k».proof.Proof.Gen.GlaSRefIdeal.Read
public import proofs.«01_k».proof.Proof.Gen.GlaSRefIdeal.Run

@[expose] public section

set_option maxRecDepth 16384

noncomputable section

open Idealize.ShloMosaic Idealize.ShloMosaic.TcCoe Idealize.SL.Sem

namespace Cert.GlaSRefIdeal.Final

open Cert.GlaSRefIdeal Cert.GlaSRefIdeal.Gen Cert.GlaSRefIdeal.Read Cert.GlaSSpec

variable (x0 : (⟨S16896x6144, .f32⟩ : BufTy).Contents (Elt Ideal)) (x1 : (⟨S16896x128, .f32⟩ : BufTy).Contents (Elt Ideal)) (x2 : (⟨S1x16x1024, .f32⟩ : BufTy).Contents (Elt Ideal)) (x3 : (⟨S1x1024, .f32⟩ : BufTy).Contents (Elt Ideal))
  (x4 : (⟨S1x512, .f32⟩ : BufTy).Contents (Elt Ideal)) (x5 : (⟨S1x16x4x256x512, .f32⟩ : BufTy).Contents (Elt Ideal))

theorem v0_apply (b : Fin 16) (h : Fin 4) (d : Fin 256) (e : Fin 512) : val_main_v0 x5 (ix4 b h d e) = old x5 b h d e := by
  unfold old
  pointwise [val_main_v0]

theorem v28_apply (b : Fin 16) (h : Fin 4) (t : Fin 32) (d : Fin 256) : val_main_v28 x0 (ix4 b h t d) = HMul.hMul (α := EReal) (query x0 b h t d) Gla.scale := by
  unfold query row Gla.scale
  pointwise [val_main_v28, val_main_v21, val_main_v20, val_main_v4, val_main_v3, val_main_cst, val_main_v2, val_main_v1]

theorem v29_apply (b : Fin 16) (h : Fin 4) (t : Fin 32) (d : Fin 256) : val_main_v29 x0 (ix4 b h t d) = key x0 b h t d := by
  unfold key row
  pointwise [val_main_v29, val_main_v23, val_main_v22, val_main_v6, val_main_v5]

theorem v30_apply (b : Fin 16) (h : Fin 4) (t : Fin 32) (e : Fin 512) : val_main_v30 x0 (ix4 b h t e) = value x0 b h t e := by
  unfold value row
  pointwise [val_main_v30, val_main_v25, val_main_v24, val_main_v8, val_main_v7]

theorem v61_apply (b : Fin 16) (h : Fin 4) (t : Fin 32) (e : Fin 512) : val_main_v61 x0 (ix4 b t h e) = branch x0 b h t e := by
  unfold branch row
  pointwise [val_main_v61, val_main_v60]

theorem v15_apply (b : Fin 16) (s : Fin 32) (c : Fin 1024) : val_main_v15 x1 x2 x3 (ix2 ⟨b.val * 32 + s.val, by omega⟩ c) = logit x1 x2 x3 b s c := by
  unfold logit row
  pointwise [val_main_v15, val_main_v14, val_main_v13, val_main_v12, val_main_v11, val_main_v10, val_main_v9]

theorem v18_apply (n : Fin 512) (c : Fin 1024) : val_main_v18 x1 x2 x3 (ix2 n c) = Gla.gate (val_main_v15 x1 x2 x3 (ix2 n c)) := by
  unfold val_main_v18 val_main_v16 val_main_call0_v1 val_main_call0_call0_v11 val_main_call0_call0_v10 val_main_call0_call0_v9 val_main_call0_call0_v8 val_main_call0_call0_v7 val_main_call0_call0_v6 val_main_call0_call0_v4 val_main_call0_call0_v3 val_main_call0_call0_v1 val_main_call0_v0
  generalize val_main_v15 x1 x2 x3 = z
  pointwise [val_main_v17, val_main_cst_0, val_main_call0_call0_v5, val_main_call0_call0_v2, val_main_call0_call0_v0, val_main_call0_call0_cst]
  unfold Gla.gate
  generalize z (ix2 n c) = y
  rw [if_neg (fun h => h rfl)]
  rfl

theorem v31_apply (b : Fin 16) (h : Fin 4) (s : Fin 32) (d : Fin 256) : val_main_v31 x1 x2 x3 (ix4 b h s d) = Gla.gate (logit x1 x2 x3 b s ⟨h.val * 256 + d.val, by omega⟩) := by
  rw [← v15_apply, ← v18_apply]
  unfold val_main_v31 val_main_v27 val_main_v26 val_main_v19
  generalize val_main_v18 x1 x2 x3 = z
  pointwise []

/-- The window's shape. -/
abbrev W : Shape := ⟨4, ![1, 1, 32, 1]⟩

theorem window_at : ∀ n : Fin W.numel, ((W.rowMajor.symm n (0 : Fin 4)).val = 0 ∧ (W.rowMajor.symm n (1 : Fin 4)).val = 0) ∧ (W.rowMajor.symm n (2 : Fin 4)).val = n.val ∧ (W.rowMajor.symm n (3 : Fin 4)).val = 0 := by
  decide +kernel

theorem window_numel : W.numel = 32 := by decide +kernel

/-- Adding a list's numbers one after the other to zero is their sum. -/
theorem fold_sum {n : ℕ} (f : Fin n → EReal) : (List.finRange n).foldl (fun r k => r + f k) 0 = ∑ k : Fin n, f k := by
  rw [Fin.sum_univ_def, List.sum_eq_foldl, List.foldl_map]

theorem v34_apply (b : Fin 16) (h : Fin 4) (t : Fin 32) (d : Fin 256) : val_main_v34 x1 x2 x3 (ix4 b h t d) = Gla.csum (fun s => val_main_v31 x1 x2 x3 (ix4 b h s d)) t := by
  have hz : (val_main_call2_call0_v0 (F := Ideal) (Shape.Idx.first h_S_) : EReal) = 0 := by
    pointwise [val_main_call2_call0_v0, val_main_call2_call0_cst]
  rw [← Gla.csum_window]
  unfold val_main_v34
  generalize val_main_v31 x1 x2 x3 = z
  unfold Host.reduceWindowAdd
  rw [Ideal.hostReduceWindowAdd_def, hz]
  unfold Ideal.hostReduceWindowAdd Host.reduceWindow
  dsimp only
  refine (fold_sum (n := W.numel) _).trans ?_
  refine Fintype.sum_equiv (finCongr window_numel) _ _ fun n => ?_
  obtain ⟨⟨w0, w1⟩, w2, w3⟩ := window_at n
  have hn : n.val < 32 := window_numel ▸ n.isLt
  show _ = if h' : 31 ≤ t.val + n.val ∧ t.val + n.val - 31 < 32 then z (ix4 b h ⟨t.val + n.val - 31, h'.2⟩ d) else (0 : EReal)
  by_cases hh : 31 ≤ t.val + n.val
  · have h' : 31 ≤ t.val + n.val ∧ t.val + n.val - 31 < 32 := ⟨hh, by omega⟩
    rw [dif_pos h']
    refine (dif_pos fun a => ?_).trans (congrArg z (funext fun a => Fin.ext ?_))
    · match a with
      | ⟨0, _⟩ => exact ⟨Nat.zero_le _, by show b.val * 1 + (W.rowMajor.symm n (0 : Fin 4)).val - 0 < 16; omega⟩
      | ⟨1, _⟩ => exact ⟨Nat.zero_le _, by show h.val * 1 + (W.rowMajor.symm n (1 : Fin 4)).val - 0 < 4; omega⟩
      | ⟨2, _⟩ => exact ⟨by show 31 ≤ t.val * 1 + (W.rowMajor.symm n (2 : Fin 4)).val; omega, by show t.val * 1 + (W.rowMajor.symm n (2 : Fin 4)).val - 31 < 32; omega⟩
      | ⟨3, _⟩ => exact ⟨Nat.zero_le _, by show d.val * 1 + (W.rowMajor.symm n (3 : Fin 4)).val - 0 < 256; omega⟩
    · match a with
      | ⟨0, _⟩ => show b.val * 1 + (W.rowMajor.symm n (0 : Fin 4)).val - 0 = b.val; omega
      | ⟨1, _⟩ => show h.val * 1 + (W.rowMajor.symm n (1 : Fin 4)).val - 0 = h.val; omega
      | ⟨2, _⟩ => show t.val * 1 + (W.rowMajor.symm n (2 : Fin 4)).val - 31 = t.val + n.val - 31; omega
      | ⟨3, _⟩ => show d.val * 1 + (W.rowMajor.symm n (3 : Fin 4)).val - 0 = d.val; omega
  · rw [dif_neg (fun h' : 31 ≤ t.val + n.val ∧ t.val + n.val - 31 < 32 => hh h'.1)]
    refine dif_neg fun hin => ?_
    have h2 : 31 ≤ t.val * 1 + (W.rowMajor.symm n (2 : Fin 4)).val := (hin (2 : Fin 4)).1
    omega

theorem v34_sums (b : Fin 16) (h : Fin 4) (t : Fin 32) (d : Fin 256) : val_main_v34 x1 x2 x3 (ix4 b h t d) = sums x1 x2 x3 b h t d := by
  rw [v34_apply]
  unfold sums
  exact congrArg (fun a => Gla.csum a t) (funext fun s => v31_apply x1 x2 x3 b h s d)

/-- The lower triangle, the diagonal with it. -/
theorem v33_apply : ∀ t s : Fin 32, val_main_v33 (F := Ideal) (ix2 t s) = if s.val ≤ t.val then 1#1 else 0#1 := by
  have h : ∀ t s : Fin 32, (if IntOp.cmpi .sge (IntOp.addi (BitVec.ofNat 32 t.val) 0#32) (BitVec.ofNat 32 s.val) = 1#1 then 1#1 else 0#1) = if s.val ≤ t.val then 1#1 else 0#1 := by decide +kernel
  intro t s
  rw [← h t s]
  pointwise [val_main_v33, val_main_v32, val_main_c, val_main_call1_v5, val_main_call1_c_0, val_main_call1_v4, val_main_call1_v3, val_main_call1_v2, val_main_call1_v1, val_main_call1_v0, val_main_call1_c]
  rfl

theorem v46_apply (b : Fin 16) (h : Fin 4) (t s : Fin 32) : val_main_v46 x0 x1 x2 x3 (ix4 b h t s) = Gla.att (query x0 b h) (key x0 b h) (sums x1 x2 x3 b h) t s := by
  have hm := v33_apply t s
  unfold Gla.att
  simp only [← v34_sums, ← v28_apply, ← v29_apply]
  unfold val_main_v46 val_main_call3_v1 val_main_v45 val_main_v40 val_main_v39 val_main_v38 val_main_v37 val_main_v36
  generalize val_main_v33 (F := Ideal) = w at hm ⊢
  generalize val_main_v34 x1 x2 x3 = z
  generalize val_main_v28 x0 = q
  generalize val_main_v29 x0 = k
  pointwise [val_main_call3_v2, val_main_call3_v0, val_main_cst_1]
  rw [hm]
  by_cases hh : s.val ≤ t.val
  · simp only [hh, if_true]
    rfl
  · simp only [hh, if_false]
    exact Ideal.ofBits_zero_f32

theorem v49_apply (b : Fin 16) (h : Fin 4) (t : Fin 32) (e : Fin 512) : val_main_v49 x0 x1 x2 x3 x5 (ix4 b h t e)
    = Gla.outs (query x0 b h) (key x0 b h) (value x0 b h) (sums x1 x2 x3 b h) (old x5 b h) t e := by
  unfold Gla.outs
  simp only [← v46_apply, ← v34_sums, ← v28_apply, ← v30_apply, ← v0_apply]
  unfold val_main_v49 val_main_v48 val_main_v47 val_main_v37 val_main_v36
  generalize val_main_v46 x0 x1 x2 x3 = a
  generalize val_main_v34 x1 x2 x3 = z
  generalize val_main_v28 x0 = q
  generalize val_main_v30 x0 = v
  generalize val_main_v0 x5 = S
  pointwise []

theorem states_eq : val_main_v56 x0 x1 x2 x3 x5 = states x0 x1 x2 x3 x5 := by
  funext i
  idx_vars i
  show _ = Gla.next (key x0 i0 i1) (value x0 i0 i1) (sums x1 x2 x3 i0 i1) (old x5 i0 i1) i2 i3
  unfold Gla.next
  simp only [← v34_sums, ← v29_apply, ← v30_apply, ← v0_apply]
  unfold val_main_v56 val_main_v55 val_main_v54 val_main_v53 val_main_v52 val_main_v51 val_main_v50 val_main_v44 val_main_v43 val_main_v42 val_main_v41 val_main_v35
  generalize val_main_v34 x1 x2 x3 = z
  generalize val_main_v29 x0 = k
  generalize val_main_v30 x0 = v
  generalize val_main_v0 x5 = S
  pointwise []

theorem v77_apply (b : Fin 16) (h : Fin 4) (t : Fin 32) (e : Fin 512) : val_main_v77 x0 x1 x2 x3 x4 x5 (ix4 b t h e) = out x0 x1 x2 x3 x4 x5 b h t e := by
  unfold out Gla.normed Scalars.sigmoid
  simp only [← v49_apply, ← v61_apply]
  unfold val_main_v77 val_main_v76 val_main_call4_v5 val_main_call4_v3 val_main_call4_v1 val_main_call4_v0 val_main_v75 val_main_v72 val_main_v71 val_main_v70 val_main_v69 val_main_v67 val_main_v65 val_main_v64 val_main_v63 val_main_v59 val_main_v58 val_main_v57
  generalize val_main_v49 x0 x1 x2 x3 x5 = o
  generalize val_main_v61 x0 = g
  pointwise [val_main_v74, val_main_v73, val_main_v62, val_main_v68, val_main_v66, val_main_cst_2, val_main_cst_3, val_main_cst_4, val_main_call4_v2, val_main_call4_v4, val_main_call4_cst, val_main_call4_cst_0]

theorem rows_eq : val_main_v79 x0 x1 x2 x3 x4 x5 = rows x0 x1 x2 x3 x4 x5 := by
  funext i
  idx_vars i
  have h0 := i0.isLt
  have h1 := i1.isLt
  show _ = out x0 x1 x2 x3 x4 x5 ⟨i0.val / 32, _⟩ ⟨i1.val / 512, _⟩ ⟨i0.val % 32, _⟩ ⟨i1.val % 512, _⟩
  rw [← v77_apply]
  unfold val_main_v79 val_main_v78
  generalize val_main_v77 x0 x1 x2 x3 x4 x5 = z
  pointwise []

end Cert.GlaSRefIdeal.Final

end
-- ==== Proof.OutProjSpec.lean ====
/- The residual stream after the output projection, over the extended reals: what both programs are shown to
   compute. -/
module

public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.OutProjSpec

/-- Row `n` of the layer's input: the prompts' tokens, one prompt after the other, then the samples'. -/
def rowOf (p : (⟨3, ![2, 8192, 2048]⟩ : Shape).Idx → EReal) (s : (⟨3, ![16, 32, 2048]⟩ : Shape).Idx → EReal)
    (n : Fin 16896) (d : Fin 2048) : EReal :=
  if h : n.val < 16384 then p (ix3 (n0 := 2) (n1 := 8192) (n2 := 2048) ⟨n.val / 8192, by omega⟩ ⟨n.val % 8192, by omega⟩ d)
  else s (ix3 (n0 := 16) (n1 := 32) (n2 := 2048) ⟨(n.val - 16384) / 32, by omega⟩ ⟨(n.val - 16384) % 32, by omega⟩ d)

/-- The result: each token's input plus the product of its merged row and the output weights. -/
def whole (a : (⟨2, ![16896, 2048]⟩ : Shape).Idx → EReal) (p : (⟨3, ![2, 8192, 2048]⟩ : Shape).Idx → EReal)
    (s : (⟨3, ![16, 32, 2048]⟩ : Shape).Idx → EReal) (w : (⟨3, ![1, 2048, 2048]⟩ : Shape).Idx → EReal) :
    (⟨2, ![16896, 2048]⟩ : Shape).Idx → EReal := fun i =>
  rowOf p s (i 0) (i 1) + ∑ k : Fin 2048, a (ix2 (n0 := 16896) (n1 := 2048) (i 0) k) * w (ix3 (n0 := 1) (n1 := 2048) (n2 := 2048) 0 k (i 1))

end Cert.OutProjSpec

end
-- ==== Proof.OutProjIdealRun.lean ====
/- The body of the idealized output projection kernel, run once from whole staging buffers. The two halves of the block
   of the residual stream that it stores are kept as pieces; the packed rows, the expert numbers and the
   weights are only said to hold something. -/
module

public import proofs.«01_k».proof.Proof.Gen.OutProjIdeal.Frame
public import proofs.«01_k».proof.Proof.Gen.OutProjIdeal.Skeleton

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body stores into the block of the residual stream, with the proof that from whole
    staging buffers, the inputs' at their contents and the outputs' at anything, the body runs to a
    state that has the inputs as they were, that block with the pieces written over it, and the other
    three outputs' buffers at some contents. -/
def kernelRun (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S512x2048 .f32) (harg8 : arg8.IsWhole) (arg9 : Memref sig .tc .vmem S4096x2x128 .bf16) (harg9 : arg9.IsWhole) (arg10 : Memref sig .tc .vmem S512x128 .i32) (harg10 : arg10.IsWhole) (arg11 : Memref sig .tc .vmem S512x128 .f32) (harg11 : arg11.IsWhole)
    (x0 : Vec F S512x2048 .bf16) (x1 : Vec F S2048x2048 .bf16) (x2 : Vec F S512x2048 .f32) (x3 : Vec F S512x2048 .f32) (x4 : Vec F S1x2048 .f32) (x5 : Vec F S2048x128 .bf16) (x6 : Vec F S1x128 .f32) :
    { L7 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl

end Cert.OutProjIdeal.Hand

end
-- ==== Proof.OutProjIdealFrame.lean ====
/- The frame of the idealized output projection kernel and what its run leaves in the residual stream: the pipeline's proof data,
   which name the contents of the inputs and of the residual stream and forget the packed rows, the expert
   numbers and the weights; the obligation of the body at a point; the launch. -/
module

public import proofs.«01_k».proof.Proof.OutProjIdealRun
public import Idealize.ShloMosaic.Lib.Claim

@[expose] public section

set_option maxRecDepth 16384

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of window 0 at point `t`. -/
abbrev ms0 (t : Fin cfg0.N) : Memref sig .tc .vmem S512x2048 .bf16 := win0_0.stage (cfg0.slots t 0)
/-- It is a whole buffer. -/
abbrev hs0 (t : Fin cfg0.N) : (ms0 t).IsWhole := hstage0_0 ((cfg0.slots t 0).cast nbuf0_0)
/-- The staging buffer of window 1 at point `t`. -/
abbrev ms1 (t : Fin cfg0.N) : Memref sig .tc .vmem S2048x2048 .bf16 := win0_1.stage (cfg0.slots t 1)
/-- It is a whole buffer. -/
abbrev hs1 (t : Fin cfg0.N) : (ms1 t).IsWhole := hstage0_1 ((cfg0.slots t 1).cast nbuf0_1)
/-- The staging buffer of window 2 at point `t`. -/
abbrev ms2 (t : Fin cfg0.N) : Memref sig .tc .vmem S512x2048 .f32 := win0_2.stage (cfg0.slots t 2)
/-- It is a whole buffer. -/
abbrev hs2 (t : Fin cfg0.N) : (ms2 t).IsWhole := hstage0_2 ((cfg0.slots t 2).cast nbuf0_2)
/-- The staging buffer of window 3 at point `t`. -/
abbrev ms3 (t : Fin cfg0.N) : Memref sig .tc .vmem S512x2048 .f32 := win0_3.stage (cfg0.slots t 3)
/-- It is a whole buffer. -/
abbrev hs3 (t : Fin cfg0.N) : (ms3 t).IsWhole := hstage0_3 ((cfg0.slots t 3).cast nbuf0_3)
/-- The staging buffer of window 4 at point `t`. -/
abbrev ms4 (t : Fin cfg0.N) : Memref sig .tc .vmem S1x2048 .f32 := win0_4.stage (cfg0.slots t 4)
/-- It is a whole buffer. -/
abbrev hs4 (t : Fin cfg0.N) : (ms4 t).IsWhole := hstage0_4 ((cfg0.slots t 4).cast nbuf0_4)
/-- The staging buffer of window 5 at point `t`. -/
abbrev ms5 (t : Fin cfg0.N) : Memref sig .tc .vmem S2048x128 .bf16 := win0_5.stage (cfg0.slots t 5)
/-- It is a whole buffer. -/
abbrev hs5 (t : Fin cfg0.N) : (ms5 t).IsWhole := hstage0_5 ((cfg0.slots t 5).cast nbuf0_5)
/-- The staging buffer of window 6 at point `t`. -/
abbrev ms6 (t : Fin cfg0.N) : Memref sig .tc .vmem S1x128 .f32 := win0_6.stage (cfg0.slots t 6)
/-- It is a whole buffer. -/
abbrev hs6 (t : Fin cfg0.N) : (ms6 t).IsWhole := hstage0_6 ((cfg0.slots t 6).cast nbuf0_6)
/-- The staging buffer of window 7 at point `t`. -/
abbrev ms7 (t : Fin cfg0.N) : Memref sig .tc .vmem S512x2048 .f32 := win0_7.stage (cfg0.slots t 7)
/-- It is a whole buffer. -/
abbrev hs7 (t : Fin cfg0.N) : (ms7 t).IsWhole := hstage0_7 ((cfg0.slots t 7).cast nbuf0_7)
/-- The staging buffer of window 8 at point `t`. -/
abbrev ms8 (t : Fin cfg0.N) : Memref sig .tc .vmem S4096x2x128 .bf16 := win0_8.stage (cfg0.slots t 8)
/-- It is a whole buffer. -/
abbrev hs8 (t : Fin cfg0.N) : (ms8 t).IsWhole := hstage0_8 ((cfg0.slots t 8).cast nbuf0_8)
/-- The staging buffer of window 9 at point `t`. -/
abbrev ms9 (t : Fin cfg0.N) : Memref sig .tc .vmem S512x128 .i32 := win0_9.stage (cfg0.slots t 9)
/-- It is a whole buffer. -/
abbrev hs9 (t : Fin cfg0.N) : (ms9 t).IsWhole := hstage0_9 ((cfg0.slots t 9).cast nbuf0_9)
/-- The staging buffer of window 10 at point `t`. -/
abbrev ms10 (t : Fin cfg0.N) : Memref sig .tc .vmem S512x128 .f32 := win0_10.stage (cfg0.slots t 10)
/-- It is a whole buffer. -/
abbrev hs10 (t : Fin cfg0.N) : (ms10 t).IsWhole := hstage0_10 ((cfg0.slots t 10).cast nbuf0_10)
/-- The view through which the contents of output 7 are stated. -/
abbrev VO7 : View sig .tc .vmem S512x2048 .f32 := (Memref.whole cc0_stg7_0 : Memref sig .tc .vmem S512x2048 .f32).view
/-- The view through which the contents of output 8 are stated. -/
abbrev VO8 : View sig .tc .vmem S4096x2x128 .bf16 := (Memref.whole cc0_stg8_0 : Memref sig .tc .vmem S4096x2x128 .bf16).view
/-- The view through which the contents of output 9 are stated. -/
abbrev VO9 : View sig .tc .vmem S512x128 .i32 := (Memref.whole cc0_stg9_0 : Memref sig .tc .vmem S512x128 .i32).view
/-- The view through which the contents of output 10 are stated. -/
abbrev VO10 : View sig .tc .vmem S512x128 .f32 := (Memref.whole cc0_stg10_0 : Memref sig .tc .vmem S512x128 .f32).view

/-- The two stored halves cover the block of the residual stream. -/
theorem cover7 (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S512x2048 .f32) (harg8 : arg8.IsWhole) (arg9 : Memref sig .tc .vmem S4096x2x128 .bf16) (harg9 : arg9.IsWhole) (arg10 : Memref sig .tc .vmem S512x128 .i32) (harg10 : arg10.IsWhole) (arg11 : Memref sig .tc .vmem S512x128 .f32) (harg11 : arg11.IsWhole)
    (x0 : Vec F S512x2048 .bf16) (x1 : Vec F S2048x2048 .bf16) (x2 : Vec F S512x2048 .f32) (x3 : Vec F S512x2048 .f32) (x4 : Vec F S1x2048 .f32) (x5 : Vec F S2048x128 .bf16) (x6 : Vec F S1x128 .f32) (y : S512x2048.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 x6).1 S256x2048.size (by sl_kernel_rfl) y

/-- What the body leaves in the block of the residual stream at point `t`. -/
def out7 (c : Dev nD) (t : Fin cfg0.N) : Vec F S512x2048 .f32 :=
  VO7.read (Elt F) (VO7.writes (Elt F) VO7.junk (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t)).1)

/-- The pipeline's proof data: the arrays as the region finds them, each input's buffer at its block, the
    residual stream's at `out7`; the last three outputs are forgotten, so what is named for them is of no account. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => VO8.read (Elt F) VO8.junk
    | ⟨9, _⟩ => VO9.read (Elt F) VO9.junk
    | ⟨10, _⟩ => VO10.read (Elt F) VO10.junk
  Φ _ := Pipeline.ΦA spec0 c
  q _ := fullShare
  owed _ := 0

/-- The windows whose contents are forgotten: the packed rows, the expert numbers and the weights. -/
def fgt (w : Fin cfg0.W) : Bool := Nat.ble 8 w.val

/-- The arrays of the proof data are those at the region's entry. -/
theorem A_eq (c : Dev nD) (w : Fin cfg0.W) : (dats m 0 c).A w = V m c (Pipeline.arrRef spec0 w) := by
  dsimp only [dats]

/-- The body leaves input 0's block in place. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  before0_0_of m (dats m 0 c) (A_eq m c 0) (after_0 m c) t d
/-- The body leaves input 1's block in place. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- The body leaves input 2's block in place. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- The body leaves input 3's block in place. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- The body leaves input 4's block in place. -/
theorem after_4 (c : Dev nD) (t : Fin cfg0.N) : (dats m 0 c).after 4 t = iblk m c 4 t := by dsimp only [dats]
/-- Input 4's buffer holds its block at every point. -/
theorem before_4 (c : Dev nD) (t : Fin cfg0.N) (d) : (dats m 0 c).before 4 t d = iblk m c 4 t :=
  before0_4_of m (dats m 0 c) (A_eq m c 4) (after_4 m c) t d
/-- The body leaves input 5's block in place. -/
theorem after_5 (c : Dev nD) (t : Fin cfg0.N) : (dats m 0 c).after 5 t = iblk m c 5 t := by dsimp only [dats]
/-- Input 5's buffer holds its block at every point. -/
theorem before_5 (c : Dev nD) (t : Fin cfg0.N) (d) : (dats m 0 c).before 5 t d = iblk m c 5 t :=
  before0_5_of m (dats m 0 c) (A_eq m c 5) (after_5 m c) t d
/-- The body leaves input 6's block in place. -/
theorem after_6 (c : Dev nD) (t : Fin cfg0.N) : (dats m 0 c).after 6 t = iblk m c 6 t := by dsimp only [dats]
/-- Input 6's buffer holds its block at every point. -/
theorem before_6 (c : Dev nD) (t : Fin cfg0.N) (d) : (dats m 0 c).before 6 t d = iblk m c 6 t :=
  before0_6_of m (dats m 0 c) (A_eq m c 6) (after_6 m c) t d
/-- The body leaves `out7` in the residual stream's block. -/
theorem after_7 (c : Dev nD) (t : Fin cfg0.N) : (dats m 0 c).after 7 t = out7 m c t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ X, owns (c : Thread nD τ) (ms8 t) fullShare X)
    ∗ (∃ X, owns (c : Thread nD τ) (ms9 t) fullShare X)
    ∗ (∃ X, owns (c : Thread nD τ) (ms10 t) fullShare X))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ X, owns (c : Thread nD τ) (ms8 t) fullShare X)
    ∗ (∃ X, owns (c : Thread nD τ) (ms9 t) fullShare X)
    ∗ (∃ X, owns (c : Thread nD τ) (ms10 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6, after_7]
  rw [show (dats m 0 c).Φ t.succ = (dats m 0 c).Φ t.castSucc from rfl,
    show (dats m 0 c).owesAt () t.succ = (dats m 0 c).owesAt () t.castSucc from rfl]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, ⟨%e7, H7⟩, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ )
  isplitl [H8]; · iexact H8
  isplitl [H9]; · iexact H9
  iexact H10

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point, the last three windows forgotten. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every final state has each window's array at contents the proof data allow, every other
    buffer as the region found it, and every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The residual stream's array after the run. -/
theorem arr7_of (c : Dev nD) (r : PUnit × MemSt nD τ sig (Elt F))
    (h : Pipeline.RDat.FramePost cfg0 (fun c => (dats m 0 c).toRForget fgt) (V m) r) :
    r.2.mem ((spec0 7).arr.view.loc (c.tc : Thread nD τ)) = (dats m 0 c).arrAt 7 cfg0.N :=
  ((dats m 0 c).toRForget_arrAt_iff (w := 7) rfl _ _).mp ((h c).1 7)

/-- The arguments after the run are as launched. -/
theorem args_of (c : Dev nD) (r : PUnit × MemSt nD τ sig (Elt F))
    (h : Pipeline.RDat.FramePost cfg0 (fun c => (dats m 0 c).toRForget fgt) (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨(((dats m 0 c).toRForget_arrAt_iff (w := 0) rfl _ _).mp ((h c).1 0)).trans
      (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The frame: the run ends, the arguments are unchanged, the semaphores are at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun r h => ⟨fun c => args_of m c r h.1, h.2⟩) (run_main m ρ)

end Cert.OutProjIdeal.Hand

end
-- ==== Proof.OutProjBlock.lean ====
/- The output projection: what the kernel's body leaves in its block of the residual stream, as plain sums. -/
module

public import proofs.«01_k».proof.Proof.OutProjIdealFrame
public import Idealize.ShloMosaic.Lib.Pointwise

@[expose] public section

set_option maxRecDepth 16384

noncomputable section

open Idealize.ShloMosaic Idealize.ShloMosaic.TcCoe Idealize.SL.Sem

namespace Cert.OutProjIdeal.Blk

open Cert.OutProjIdeal Cert.OutProjIdeal.Gen Cert.OutProjIdeal.Hand

theorem hz : (![0, 0] : Fin 2 → Nat) = fun _ => 0 := funext fun a => by fin_cases a <;> rfl

/-- The block a point leaves: its rows of the input, the prompt's before the last point and the samples' at
    it, plus its merged rows' product with the weights. -/
def block (i : grid0.Coords) (a : Vec Ideal S512x2048 .bf16) (w : Vec Ideal S2048x2048 .bf16) (p s : Vec Ideal S512x2048 .f32) : Vec Ideal S512x2048 .f32 := fun y =>
  Scalar.select (Scalar.cmpi .slt (BitVec.ofNat 32 (i 0).val) 32#32) (p (ix2 (n0 := 512) (n1 := 2048) (y 0) (y 1))) (s (ix2 (n0 := 512) (n1 := 2048) (y 0) (y 1)))
    + ∑ k : Fin 2048, a (ix2 (n0 := 512) (n1 := 2048) (y 0) k) * w (ix2 (n0 := 2048) (n1 := 2048) k (y 1))

theorem select_apply (b : BitVec 1) (p s : FVec Ideal S256x2048 .f32) (y : S256x2048.Idx) :
    (Scalar.select b p s : FVec Ideal S256x2048 .f32) y = Scalar.select b (p y) (s y) := by
  unfold Scalar.select; split <;> rfl

/-- The second half's value, its choice of input rows left open. -/
theorem pay37_apply (b : BitVec 1) (q : Vec Ideal S256x2048 .bf16) (w : Vec Ideal S2048x2048 .bf16) (p s : Vec Ideal S256x2048 .f32) (r : Fin 256) (e : Fin 2048) :
    k0_pay37 b q w p s (ix2 r e) = Scalar.select b (p (ix2 r e)) (s (ix2 r e)) + ∑ k : Fin 2048, q (ix2 r k) * w (ix2 (n0 := 2048) (n1 := 2048) k e) := by
  have h : k0_pay37 b q w p s (ix2 r e) = Scalar.select b p s (ix2 r e) + matmul (F := Ideal) (φ₁ := .bf16) (φ₂ := .bf16) dot_S256x2048_S2048x2048_S256x2048_1_0_0_1_n_n none q w (constant S256x2048 .f32 0x00000000#32) (ix2 r e) := by
    unfold k0_pay37
    simp only [shapeCast_self]
    rfl
  rw [h, select_apply]
  have hd : matmul (F := Ideal) (φ₁ := .bf16) (φ₂ := .bf16) dot_S256x2048_S2048x2048_S256x2048_1_0_0_1_n_n none q w (constant S256x2048 .f32 0x00000000#32) (ix2 r e)
      = (∑ k : Fin 2048, q (ix2 r k) * w (ix2 (n0 := 2048) (n1 := 2048) k e) : EReal) := by
    pointwise
  rw [hd]

/-- The rows from `o` on of the block, stored in one piece. -/
theorem half (i : grid0.Coords) (a : Vec Ideal S512x2048 .bf16) (w : Vec Ideal S2048x2048 .bf16) (p s : Vec Ideal S512x2048 .f32) (o : ℕ) (ho : o + 256 ≤ 512)
    (q : Vec Ideal S256x2048 .bf16) (pq sq : Vec Ideal S256x2048 .f32)
    (hq : ∀ r d, q (ix2 r d) = a (ix2 (n0 := 512) (n1 := 2048) ⟨o + r.val, by omega⟩ d))
    (hp : ∀ r d, pq (ix2 r d) = p (ix2 (n0 := 512) (n1 := 2048) ⟨o + r.val, by omega⟩ d))
    (hs : ∀ r d, sq (ix2 r d) = s (ix2 (n0 := 512) (n1 := 2048) ⟨o + r.val, by omega⟩ d))
    (j : S256x2048.Idx) (y : S512x2048.Idx) (h0 : (y 0).val = o + (j 0).val) (h1 : (y 1).val = (j 1).val) :
    k0_pay37 (Scalar.cmpi .slt (BitVec.ofNat 32 (i 0).val) 32#32) q w pq sq j = block i a w p s y := by
  idx_vars j
  idx_vars y
  have hj : j0.val < 256 := j0.isLt
  have e1 : y1 = j1 := Fin.ext h1
  subst e1
  have e0 : (⟨o + j0.val, by omega⟩ : Fin 512) = y0 := Fin.ext h0.symm
  rw [pay37_apply]
  unfold block
  simp only [hq, hp, hs, e0]
  rfl

theorem out_eq (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S1x128 .f32) (harg7 : arg7.IsWhole) (arg8 : Memref sig .tc .vmem S512x2048 .f32) (harg8 : arg8.IsWhole) (arg9 : Memref sig .tc .vmem S4096x2x128 .bf16) (harg9 : arg9.IsWhole) (arg10 : Memref sig .tc .vmem S512x128 .i32) (harg10 : arg10.IsWhole) (arg11 : Memref sig .tc .vmem S512x128 .f32) (harg11 : arg11.IsWhole)
    (x0 : Vec Ideal S512x2048 .bf16) (x1 : Vec Ideal S2048x2048 .bf16) (x2 : Vec Ideal S512x2048 .f32) (x3 : Vec Ideal S512x2048 .f32) (x4 : Vec Ideal S1x2048 .f32) (x5 : Vec Ideal S2048x128 .bf16) (x6 : Vec Ideal S1x128 .f32) (y : S512x2048.Idx) :
    VO7.read (Elt Ideal) (VO7.writes (Elt Ideal) VO7.junk (kernelRun c i arg1 harg1 arg2 harg2 arg3 harg3 arg4 harg4 arg5 harg5 arg6 harg6 arg7 harg7 arg8 harg8 arg9 harg9 arg10 harg10 arg11 harg11 x0 x1 x2 x3 x4 x5 x6).1) y = block i x0 x1 x2 x3 y := by
  rw [View.read_writes_eq_canon _ _ _ (cover7 c i arg1 harg1 arg2 harg2 arg3 harg3 arg4 harg4 arg5 harg5 arg6 harg6 arg7 harg7 arg8 harg8 arg9 harg9 arg10 harg10 arg11 harg11 x0 x1 x2 x3 x4 x5 x6)]
  refine View.canon_apply_of_pieces (block i x0 x1 x2 x3) _ (fun p hp j => ?_) y (cover7 c i arg1 harg1 arg2 harg2 arg3 harg3 arg4 harg4 arg5 harg5 arg6 harg6 arg7 harg7 arg8 harg8 arg9 harg9 arg10 harg10 arg11 harg11 x0 x1 x2 x3 x4 x5 x6 y)
  unfold kernelRun at hp
  dsimp only at hp
  simp only [List.mem_cons, List.mem_nil_iff, or_false] at hp
  rcases hp with rfl | rfl
  all_goals
    dsimp only
    sl_unfold_words
    simp only [View.readAt_eq_ld, harg1.read_unread, harg2.read_unread, harg3.read_unread, harg4.read_unread]
    simp only [View.ld_unit_zero (S := S2048x2048) hz]
  · exact half i x0 x1 x2 x3 256 (by omega) _ _ _ (fun _ _ => by pointwise) (fun _ _ => by pointwise) (fun _ _ => by pointwise) j _ (by show 256 + 1 * (j 0).val = 256 + (j 0).val; omega) (by show 0 + 1 * (j 1).val = (j 1).val; omega)
  · rw [show ∀ v1 v2 v5 v7, k0_pay3 (F := Ideal) i v1 v2 v5 v7 = k0_pay37 (Scalar.cmpi .slt (BitVec.ofNat 32 (i 0).val) 32#32) v1 v2 v5 v7 from fun _ _ _ _ => rfl]
    exact half i x0 x1 x2 x3 0 (by omega) _ _ _ (fun _ _ => by pointwise) (fun _ _ => by pointwise) (fun _ _ => by pointwise) j _ (by show 0 + 1 * (j 0).val = 0 + (j 0).val; omega) (by show 0 + 1 * (j 1).val = (j 1).val; omega)

end Cert.OutProjIdeal.Blk

end
-- ==== Proof.OutProjValue.lean ====
/- The output projection: from the blocks to the whole residual stream, and the run. -/
module

public import proofs.«01_k».proof.Proof.OutProjSpec
public import proofs.«01_k».proof.Proof.OutProjBlock
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.OutProjIdeal.Final

open Cert.OutProjIdeal Cert.OutProjIdeal.Gen Cert.OutProjIdeal.Hand Cert.OutProjIdeal.Blk Cert.OutProjSpec

variable (m : (ℓ : Loc nD τ sig) → Buf (Elt Ideal) ℓ) (ρ : Dev nD → PrngReg)

/-- The weights as the kernel takes them. -/
theorem weight_apply (c : Dev nD) (k e : Fin 2048) : (V m c main_v1 (ix2 (n0 := 2048) (n1 := 2048) k e) : EReal)
    = m ((c : Thread nD τ).loc main_arg3) (ix3 (n0 := 1) (n1 := 2048) (n2 := 2048) 0 k e) := by
  unfold V
  after_reads_at

/-- The prompts' tokens in one line. -/
theorem prompt_apply (c : Dev nD) (n : Fin 16384) (e : Fin 2048) : (V m c main_v12 (ix2 (n0 := 16384) (n1 := 2048) n e) : EReal)
    = m ((c : Thread nD τ).loc main_arg1) (ix3 (n0 := 2) (n1 := 8192) (n2 := 2048) ⟨n.val / 8192, by omega⟩ ⟨n.val % 8192, by omega⟩ e) := by
  unfold V
  after_reads_at

/-- The samples' tokens in one line. -/
theorem sample_apply (c : Dev nD) (n : Fin 512) (e : Fin 2048) : (V m c main_v13 (ix2 (n0 := 512) (n1 := 2048) n e) : EReal)
    = m ((c : Thread nD τ).loc main_arg2) (ix3 (n0 := 16) (n1 := 32) (n2 := 2048) ⟨n.val / 32, by omega⟩ ⟨n.val % 32, by omega⟩ e) := by
  unfold V
  after_reads_at

/-- The index maps over the grid: point `t` takes row tile `t`; the prompt's tile stays at its last, the
    samples' one tile throughout. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = min t.val 31 ∧ win0_2.index t (1 : Fin 2) = 0
    ∧ win0_3.index t (0 : Fin 2) = 0 ∧ win0_3.index t (1 : Fin 2) = 0
    ∧ win0_7.index t (0 : Fin 2) = t.val ∧ win0_7.index t (1 : Fin 2) = 0 :=
  (by decide +kernel : ∀ t : Fin grid0.N, _)

/-- Which rows of the input a point takes: the prompts' before the last point. -/
theorem choice : ∀ t : Fin cfg0.N, Scalar.cmpi .slt (BitVec.ofNat 32 (grid0.coords t 0).val) 32#32 = if t.val < 32 then 1#1 else 0#1 :=
  (by decide +kernel : ∀ t : Fin grid0.N, _)

theorem a_apply (c : Dev nD) (t : Fin cfg0.N) (r : Fin 512) (k : Fin 2048) (i : S16896x2048.Idx)
    (h0 : (i 0).val = t.val * 512 + r.val) (h1 : (i 1).val = k.val) :
    iblk m c 0 t (ix2 r k) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_0.index t (0 : Fin 2) * 512 + 1 * r.val = (i 0).val; omega
  | ⟨1, _⟩ => show win0_0.index t (1 : Fin 2) * 2048 + 1 * k.val = (i 1).val; omega

theorem w_apply (c : Dev nD) (t : Fin cfg0.N) (k e : Fin 2048) : (iblk m c 1 t (ix2 (n0 := 2048) (n1 := 2048) k e) : EReal)
    = m ((c : Thread nD τ).loc main_arg3) (ix3 (n0 := 1) (n1 := 2048) (n2 := 2048) 0 k e) := by
  rw [← weight_apply m c k e]
  unfold iblk
  rw [View.read_apply]
  show V m c main_v1 _ = _
  congr 1
  have ei := idx_in t
  funext a
  apply Fin.ext
  match a with
  | ⟨0, _⟩ => show win0_1.index t (0 : Fin 2) * 2048 + 1 * k.val = k.val; omega
  | ⟨1, _⟩ => show win0_1.index t (1 : Fin 2) * 2048 + 1 * e.val = e.val; omega

theorem p_apply (c : Dev nD) (t : Fin cfg0.N) (h : t.val < 32) (r : Fin 512) (e : Fin 2048) (n : Fin 16384)
    (hn : n.val = t.val * 512 + r.val) :
    (iblk m c 2 t (ix2 (n0 := 512) (n1 := 2048) r e) : EReal)
    = m ((c : Thread nD τ).loc main_arg1) (ix3 (n0 := 2) (n1 := 8192) (n2 := 2048) ⟨n.val / 8192, by omega⟩ ⟨n.val % 8192, by omega⟩ e) := by
  rw [← prompt_apply m c n e]
  unfold iblk
  rw [View.read_apply]
  show V m c main_v12 _ = _
  congr 1
  have ei := idx_in t
  funext a
  apply Fin.ext
  match a with
  | ⟨0, _⟩ => show win0_2.index t (0 : Fin 2) * 512 + 1 * r.val = n.val; omega
  | ⟨1, _⟩ => show win0_2.index t (1 : Fin 2) * 2048 + 1 * e.val = e.val; omega

theorem s_apply (c : Dev nD) (t : Fin cfg0.N) (r : Fin 512) (e : Fin 2048) :
    (iblk m c 3 t (ix2 (n0 := 512) (n1 := 2048) r e) : EReal)
    = m ((c : Thread nD τ).loc main_arg2) (ix3 (n0 := 16) (n1 := 32) (n2 := 2048) ⟨r.val / 32, by omega⟩ ⟨r.val % 32, by omega⟩ e) := by
  rw [← sample_apply m c r e]
  unfold iblk
  rw [View.read_apply]
  show V m c main_v13 _ = _
  congr 1
  have ei := idx_in t
  funext a
  apply Fin.ext
  match a with
  | ⟨0, _⟩ => show win0_3.index t (0 : Fin 2) * 512 + 1 * r.val = r.val; omega
  | ⟨1, _⟩ => show win0_3.index t (1 : Fin 2) * 2048 + 1 * e.val = e.val; omega

/-- The result as a function of the arguments. -/
abbrev result (c : Dev nD) : Buf (Elt Ideal) ((c : Thread nD τ).loc main_v16_0) :=
  whole (m ((c : Thread nD τ).loc main_arg0)) (m ((c : Thread nD τ).loc main_arg1)) (m ((c : Thread nD τ).loc main_arg2)) (m ((c : Thread nD τ).loc main_arg3))

/-- The input's rows a point takes are its tile's. -/
theorem x_apply (c : Dev nD) (t : Fin cfg0.N) (r : Fin 512) (e : Fin 2048) (n : Fin 16896) (hn : n.val = t.val * 512 + r.val) :
    (Scalar.select (Scalar.cmpi .slt (BitVec.ofNat 32 (grid0.coords t 0).val) 32#32) (iblk m c 2 t (ix2 (n0 := 512) (n1 := 2048) r e)) (iblk m c 3 t (ix2 (n0 := 512) (n1 := 2048) r e)) : EReal)
      = rowOf (m ((c : Thread nD τ).loc main_arg1)) (m ((c : Thread nD τ).loc main_arg2)) n e := by
  have hN : cfg0.N = 33 := N_0
  have ht := t.isLt
  rw [choice t]
  unfold rowOf
  by_cases h : t.val < 32
  · have hl : n.val < 16384 := by omega
    rw [if_pos h, dif_pos hl]
    exact p_apply m c t h r e ⟨n.val, hl⟩ hn
  · have hl : ¬ n.val < 16384 := by omega
    rw [if_neg h, dif_neg hl]
    have hr : n.val - 16384 = r.val := by omega
    refine (s_apply m c t r e).trans ?_
    simp only [hr]

/-- What a point leaves in its output block, entry by entry. -/
theorem outs_eq (c : Dev nD) (t : Fin cfg0.N) (y : S512x2048.Idx) (i : S16896x2048.Idx)
    (h0 : (i 0).val = t.val * 512 + (y 0).val) (h1 : (i 1).val = (y 1).val) :
    out7 m c t y = result m c i := by
  unfold out7
  refine (out_eq c _ _ _ _ _ _ _ _ _ _ _ _ _ _ _ _ _ _ _ _ _ _ _ _ _ _ _ _ _ _ y).trans ?_
  have e1 : (y 1 : Fin 2048) = i 1 := Fin.ext h1.symm
  unfold block
  show _ = rowOf _ _ (i 0) (i 1) + _
  refine congrArg₂ (fun a b : EReal => a + b) ?_ (Finset.sum_congr rfl fun k _ => ?_)
  · rw [← e1]
    exact x_apply m c t (y 0) (y 1) (i 0) h0
  · refine congrArg₂ (fun a b : EReal => a * b) (a_apply m c t (y 0) k (ix2 (n0 := 16896) (n1 := 2048) (i 0) k) h0 rfl) ?_
    rw [← e1]
    exact w_apply m c t k (y 1)

theorem flushed_eq (c : Dev nD) (t : Fin cfg0.N) (hf : (cfg0.win 7).flush t = true) :
    (dats m 0 c).flushed 7 t = ((cfg0.win 7).blk t).view.read (Elt Ideal) (result m c) := by
  have hfl : (dats m 0 c).flushed 7 t = (cfg0.win 7).cut (grid0.coords t) (out7 m c t) := by
    show (cfg0.win 7).cut (grid0.coords t) ((dats m 0 c).after 7 t) = _
    rw [after_7]
  rw [hfl]
  have ei := idx_in t
  funext y
  have hb0 : (((cfg0.win 7).blk t).view.emb y 0).val = win0_7.index t (0 : Fin 2) * 512 + 1 * (y 0).val := rfl
  have hb1 : (((cfg0.win 7).blk t).view.emb y 1).val = win0_7.index t (1 : Fin 2) * 2048 + 1 * (y 1).val := rfl
  rw [View.read_apply]
  exact outs_eq m c t _ _ (by show (((cfg0.win 7).blk t).view.emb y 0).val = t.val * 512 + (y 0).val; omega)
    (by show (((cfg0.win 7).blk t).view.emb y 1).val = (y 1).val; omega)

/-- Which entries of the result a point's block holds. -/
theorem mem_blk (i : S16896x2048.Idx) (t : Fin cfg0.N) :
    i ∈ ((cfg0.win 7).blk t).view.set ↔ ∀ a : Fin 2, win0_7.index t a * (![512, 2048] : Fin 2 → ℕ) a ≤ (i a).val ∧ (i a).val < win0_7.index t a * (![512, 2048] : Fin 2 → ℕ) a + (![512, 2048] : Fin 2 → ℕ) a := by
  show i ∈ ((View.whole main_v16_0).slice (win0_7.rect t)).set ↔ _
  rw [View.set_slice_whole, Rect.mem_set_unit]
  exact Iff.rfl

theorem flush_all : ∀ t : Fin cfg0.N, (cfg0.win 7).flush t = true :=
  (by decide +kernel : ∀ t : Fin grid0.N, win0_7.flush t = true)

/-- Every entry of the result lies in some point's block. -/
theorem covered (i : S16896x2048.Idx) : ∃ t : Fin cfg0.N, (cfg0.win 7).flush t = true ∧ i ∈ ((cfg0.win 7).blk t).view.set := by
  have hN : cfg0.N = 33 := N_0
  have h0 : (i 0).val < 16896 := (i 0).isLt
  have h1 : (i 1).val < 2048 := (i 1).isLt
  refine ⟨⟨(i 0).val / 512, by omega⟩, flush_all _, (mem_blk i _).2 fun a => ?_⟩
  obtain ⟨-, -, -, -, -, -, -, -, e0, e1⟩ := idx_in ⟨(i 0).val / 512, by omega⟩
  match a with
  | ⟨0, _⟩ =>
    show win0_7.index _ (0 : Fin 2) * 512 ≤ (i 0).val ∧ (i 0).val < win0_7.index _ (0 : Fin 2) * 512 + 512
    rw [e0]; dsimp only; omega
  | ⟨1, _⟩ =>
    show win0_7.index _ (1 : Fin 2) * 2048 ≤ (i 1).val ∧ (i 1).val < win0_7.index _ (1 : Fin 2) * 2048 + 2048
    rw [e1]; omega

theorem final (c : Dev nD) : (dats m 0 c).arrAt 7 cfg0.N = result m c :=
  (dats m 0 c).arrAt_eq_of_cover 7 _ (fun t hf => flushed_eq m c t hf) (fun i => covered i)

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v16_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(arr7_of m c r h.1).trans (final m c), args_of m c r h.1⟩)
    (run_main m ρ)

end Cert.OutProjIdeal.Final

end
-- ==== Proof.OutProjRefValue.lean ====
/- The output projection, the reference's side: its result at an index. -/
module

public import proofs.«01_k».proof.Proof.OutProjSpec
public import proofs.«01_k».proof.Proof.Gen.OutProjRefIdeal.Read
public import proofs.«01_k».proof.Proof.Gen.OutProjRefIdeal.Run
public import Idealize.ShloMosaic.Lib.Pointwise

@[expose] public section

set_option maxRecDepth 16384

noncomputable section

open Idealize.ShloMosaic Idealize.ShloMosaic.TcCoe Idealize.SL.Sem

namespace Cert.OutProjRefIdeal.Final

open Cert.OutProjRefIdeal Cert.OutProjRefIdeal.Gen Cert.OutProjRefIdeal.Read Cert.OutProjSpec

/-- The layer's input, its prompt rows and its sample rows put together. -/
theorem v2_apply (p : (⟨S2x8192x2048, .f32⟩ : BufTy).Contents (Elt Ideal)) (s : (⟨S16x32x2048, .f32⟩ : BufTy).Contents (Elt Ideal)) (n : Fin 16896) (k : Fin 2048) :
    val_main_v2 p s (ix2 n k) = rowOf p s n k := by
  unfold rowOf
  pointwise [val_main_v2, val_main_v1, val_main_v0]

/-- The product of the merged rows and the weights. -/
theorem v5_apply (a : (⟨S16896x2048, .bf16⟩ : BufTy).Contents (Elt Ideal)) (w : (⟨S1x2048x2048, .f32⟩ : BufTy).Contents (Elt Ideal)) (n : Fin 16896) (d : Fin 2048) :
    val_main_v5 a w (ix2 n d) = ∑ k : Fin 2048, a (ix2 (n0 := 16896) (n1 := 2048) n k) * w (ix3 (n0 := 1) (n1 := 2048) (n2 := 2048) 0 k d) := by
  pointwise [val_main_v5, val_main_v3, val_main_v4]

theorem ref_eq (x0 : (⟨S16896x2048, .bf16⟩ : BufTy).Contents (Elt Ideal)) (x1 : (⟨S2x8192x2048, .f32⟩ : BufTy).Contents (Elt Ideal)) (x2 : (⟨S16x32x2048, .f32⟩ : BufTy).Contents (Elt Ideal)) (x3 : (⟨S1x2048x2048, .f32⟩ : BufTy).Contents (Elt Ideal)) :
    val_main_v6 x0 x1 x2 x3 = whole x0 x1 x2 x3 := by
  funext i
  idx_vars i
  rw [show val_main_v6 x0 x1 x2 x3 (ix2 i0 i1) = val_main_v2 x1 x2 (ix2 i0 i1) + val_main_v5 x0 x3 (ix2 i0 i1) from rfl,
    v2_apply, v5_apply]
  rfl

end Cert.OutProjRefIdeal.Final

end
-- ==== Proof.NormMixSpec.lean ====
/- The layer's first norm, whole, over the extended reals: what both programs are shown to compute. -/
module

public import proofs.«01_k».proof.Proof.MemKvSpec
public import proofs.«01_k».proof.Proof.OutProjSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMixSpec

/-- The result: every token's input row normalised. -/
def whole (p : (⟨3, ![2, 8192, 2048]⟩ : Shape).Idx → EReal) (s : (⟨3, ![16, 32, 2048]⟩ : Shape).Idx → EReal)
    (g : (⟨2, ![1, 2048]⟩ : Shape).Idx → EReal) : (⟨2, ![16896, 2048]⟩ : Shape).Idx → EReal := fun i =>
  MemKvSpec.normRow (fun d => OutProjSpec.rowOf p s (i 0) d) (g (ix2 (n0 := 1) (n1 := 2048) 0 (i 1))) (i 1)

end Cert.NormMixSpec

end
-- ==== Proof.NormMixBlock.lean ====
/- The layer's first norm: what the body leaves in its block, row by row. -/
module

public import proofs.«01_k».proof.Proof.NormMixSpec
public import proofs.«01_k».proof.Proof.Gen.NormMixIdeal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMixIdeal.Blk

open Cert.NormMixIdeal Cert.NormMixIdeal.Gen

theorem hz : (![0, 0] : Fin 2 → Nat) = fun _ => 0 := funext fun a => by fin_cases a <;> rfl

/-- The rows a point leaves: each normalised. -/
def rows (x : Vec Ideal S512x2048 .f32) (g : Vec Ideal S1x2048 .f32) : Vec Ideal S512x2048 .bf16 := fun y =>
  MemKvSpec.normRow (fun d => x (ix2 (n0 := 512) (n1 := 2048) (y 0) d)) (g (ix2 (n0 := 1) (n1 := 2048) 0 (y 1))) (y 1)

theorem pay1_apply (x : Vec Ideal S512x2048 .f32) (g : Vec Ideal S1x2048 .f32) (r : Fin 512) (k : Fin 2048) :
    k0_pay1 x g (ix2 r k) = rows x g (ix2 (n0 := 512) (n1 := 2048) r k) := by
  show _ = MemKvSpec.normRow (fun d => x (ix2 (n0 := 512) (n1 := 2048) r d)) (g (ix2 (n0 := 1) (n1 := 2048) 0 k)) k
  unfold MemKvSpec.normRow
  pointwise [k0_pay1]

theorem out_A (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole) (hc0 : cond0_0 i) (hc1 : ¬cond0_1 i)
    (x0 x1 : Vec Ideal S512x2048 .f32) (x2 : Vec Ideal S1x2048 .f32) :
    out0_A_3 c i a1 h1 a2 h2 a3 h3 a4 h4 hc0 hc1 x0 x1 x2 = rows x0 x2 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_unit_zero hz]
  simp only [View.readAt_eq_ld, h1.read_unread, h2.read_unread, h3.read_unread, View.ld_unit_zero (S := S512x2048) hz, View.ld_unit_zero (S := S1x2048) hz]
  funext y
  idx_vars y
  exact pay1_apply x0 x2 y0 y1

theorem out_B (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole) (hc0 : ¬cond0_0 i) (hc1 : cond0_1 i)
    (x0 x1 : Vec Ideal S512x2048 .f32) (x2 : Vec Ideal S1x2048 .f32) :
    out0_B_3 c i a1 h1 a2 h2 a3 h3 a4 h4 hc0 hc1 x0 x1 x2 = rows x1 x2 := by
  unfold out0_B_3
  rw [View.read_writes_eq_canon _ _ _ (cover0_B_3 c i a1 h1 a2 h2 a3 h3 a4 h4 hc0 hc1 x0 x1 x2)]
  unfold kernelRun0_B
  dsimp only
  sl_unfold_words
  rw [View.canon_unit_zero hz]
  simp only [View.readAt_eq_ld, h1.read_unread, h2.read_unread, h3.read_unread, View.ld_unit_zero (S := S512x2048) hz, View.ld_unit_zero (S := S1x2048) hz]
  rw [show ∀ v w, k0_pay2 (F := Ideal) v w = k0_pay1 v w from fun _ _ => rfl]
  funext y
  idx_vars y
  exact pay1_apply x1 x2 y0 y1

end Cert.NormMixIdeal.Blk

end
-- ==== Proof.NormMixValue.lean ====
/- The layer's first norm, the kernel's side: the result array after the run. -/
module

public import proofs.«01_k».proof.Proof.NormMixBlock
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NormMixIdeal.Final

open Cert.NormMixIdeal Cert.NormMixIdeal.Gen Cert.NormMixIdeal.Blk Cert.NormMixSpec

variable (m : (ℓ : Loc nD τ sig) → Buf (Elt Ideal) ℓ) (ρ : Dev nD → PrngReg)

/-- The prompts' tokens in one line. -/
theorem prompt_apply (c : Dev nD) (n : Fin 16384) (e : Fin 2048) : (V m c main_v0 (ix2 (n0 := 16384) (n1 := 2048) n e) : EReal)
    = m ((c : Thread nD τ).loc main_arg0) (ix3 (n0 := 2) (n1 := 8192) (n2 := 2048) ⟨n.val / 8192, by omega⟩ ⟨n.val % 8192, by omega⟩ e) := by
  unfold V
  after_reads_at

/-- The samples' tokens in one line. -/
theorem sample_apply (c : Dev nD) (n : Fin 512) (e : Fin 2048) : (V m c main_v1 (ix2 (n0 := 512) (n1 := 2048) n e) : EReal)
    = m ((c : Thread nD τ).loc main_arg1) (ix3 (n0 := 16) (n1 := 32) (n2 := 2048) ⟨n.val / 32, by omega⟩ ⟨n.val % 32, by omega⟩ e) := by
  unfold V
  after_reads_at

/-- The gain's row. -/
theorem gain_apply (c : Dev nD) (e : Fin 2048) : (V m c main_v3 (ix2 (n0 := 1) (n1 := 2048) 0 e) : EReal)
    = m ((c : Thread nD τ).loc main_arg2) (ix2 (n0 := 1) (n1 := 2048) 0 e) := by
  unfold V
  after_reads_at

/-- The index maps over the grid: point `t` takes row tile `t`; the prompt's tile stays at its last, the
    samples' one tile throughout. -/
theorem idx_in : ∀ t : Fin cfg0.N, win0_0.index t (0 : Fin 2) = min t.val 31 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem p_apply (c : Dev nD) (t : Fin cfg0.N) (h : t.val < 32) (r : Fin 512) (e : Fin 2048) (n : Fin 16896) (hn : n.val = t.val * 512 + r.val) :
    (iblk m c 0 t (ix2 r e) : EReal) = OutProjSpec.rowOf (m ((c : Thread nD τ).loc main_arg0)) (m ((c : Thread nD τ).loc main_arg1)) n e := by
  have hlt : n.val < 16384 := by omega
  rw [show OutProjSpec.rowOf (m ((c : Thread nD τ).loc main_arg0)) (m ((c : Thread nD τ).loc main_arg1)) n e = _ from dif_pos hlt]
  refine Eq.trans ?_ (prompt_apply m c ⟨n.val, hlt⟩ e)
  unfold iblk
  rw [View.read_apply]
  show V m c main_v0 _ = _
  congr 1
  have ei := idx_in t
  funext a
  apply Fin.ext
  match a with
  | ⟨0, _⟩ => show win0_0.index t (0 : Fin 2) * 512 + 1 * r.val = n.val; omega
  | ⟨1, _⟩ => show win0_0.index t (1 : Fin 2) * 2048 + 1 * e.val = e.val; omega

theorem s_apply (c : Dev nD) (t : Fin cfg0.N) (h : t.val = 32) (r : Fin 512) (e : Fin 2048) (n : Fin 16896) (hn : n.val = t.val * 512 + r.val) :
    (iblk m c 1 t (ix2 r e) : EReal) = OutProjSpec.rowOf (m ((c : Thread nD τ).loc main_arg0)) (m ((c : Thread nD τ).loc main_arg1)) n e := by
  have hge : ¬ n.val < 16384 := by omega
  rw [show OutProjSpec.rowOf (m ((c : Thread nD τ).loc main_arg0)) (m ((c : Thread nD τ).loc main_arg1)) n e = _ from dif_neg hge]
  refine Eq.trans ?_ (sample_apply m c ⟨n.val - 16384, by omega⟩ e)
  unfold iblk
  rw [View.read_apply]
  show V m c main_v1 _ = _
  congr 1
  have ei := idx_in t
  funext a
  apply Fin.ext
  match a with
  | ⟨0, _⟩ => show win0_1.index t (0 : Fin 2) * 512 + 1 * r.val = n.val - 16384; omega
  | ⟨1, _⟩ => show win0_1.index t (1 : Fin 2) * 2048 + 1 * e.val = e.val; omega

theorem g_apply (c : Dev nD) (t : Fin cfg0.N) (e : Fin 2048) :
    (iblk m c 2 t (ix2 (n0 := 1) (n1 := 2048) 0 e) : EReal) = m ((c : Thread nD τ).loc main_arg2) (ix2 (n0 := 1) (n1 := 2048) 0 e) := by
  refine Eq.trans ?_ (gain_apply m c e)
  unfold iblk
  rw [View.read_apply]
  show V m c main_v3 _ = _
  congr 1
  have ei := idx_in t
  funext a
  apply Fin.ext
  match a with
  | ⟨0, _⟩ => show win0_2.index t (0 : Fin 2) * 1 + 1 * 0 = 0; omega
  | ⟨1, _⟩ => show win0_2.index t (1 : Fin 2) * 2048 + 1 * e.val = e.val; omega

/-- The result as a function of the arguments. -/
abbrev result (c : Dev nD) : Buf (Elt Ideal) ((c : Thread nD τ).loc main_v4) :=
  whole (m ((c : Thread nD τ).loc main_arg0)) (m ((c : Thread nD τ).loc main_arg1)) (m ((c : Thread nD τ).loc main_arg2))

/-- A point's rows, when its block holds the tokens of its tile. -/
theorem rows_eq (c : Dev nD) (t : Fin cfg0.N) (a : Vec Ideal S512x2048 .f32)
    (ha : ∀ (r : Fin 512) (k : Fin 2048) (n : Fin 16896), n.val = t.val * 512 + r.val →
      (a (ix2 r k) : EReal) = OutProjSpec.rowOf (m ((c : Thread nD τ).loc main_arg0)) (m ((c : Thread nD τ).loc main_arg1)) n k)
    (y : S512x2048.Idx) (i : S16896x2048.Idx) (h0 : (i 0).val = t.val * 512 + (y 0).val) (h1 : (i 1).val = (y 1).val) :
    rows a (iblk m c 2 t) y = result m c i := by
  idx_vars y
  idx_vars i
  have e1 : i1 = y1 := Fin.ext h1
  subst e1
  show MemKvSpec.normRow (fun d => (a (ix2 (n0 := 512) (n1 := 2048) y0 d) : EReal)) (iblk m c 2 t (ix2 (n0 := 1) (n1 := 2048) 0 i1)) i1
    = MemKvSpec.normRow (fun d => OutProjSpec.rowOf (m ((c : Thread nD τ).loc main_arg0)) (m ((c : Thread nD τ).loc main_arg1)) i0 d) (m ((c : Thread nD τ).loc main_arg2) (ix2 (n0 := 1) (n1 := 2048) 0 i1)) i1
  rw [g_apply, show (fun d => (a (ix2 (n0 := 512) (n1 := 2048) y0 d) : EReal)) = _ from funext fun d => ha y0 d i0 h0]

/-- What a point leaves in its output block, entry by entry. -/
theorem outs_eq (c : Dev nD) (t : Fin cfg0.N) (y : S512x2048.Idx) (i : S16896x2048.Idx)
    (h0 : (i 0).val = t.val * 512 + (y 0).val) (h1 : (i 1).val = (y 1).val) :
    outsAt0 m c t.val t.isLt y = result m c i := by
  have hN : cfg0.N = 33 := N_0
  have ht := t.isLt
  by_cases hp : t.val < 32
  · rw [outsAt0_A m c t hp (by omega), out_A]
    exact rows_eq m c t _ (fun r k n hn => p_apply m c t hp r k n hn) y i h0 h1
  · rw [outsAt0_B m c t hp (by omega), out_B]
    exact rows_eq m c t _ (fun r k n hn => s_apply m c t (by omega) r k n hn) y i h0 h1

theorem flushed_eq (c : Dev nD) (t : Fin cfg0.N) (hf : (cfg0.win 3).flush t = true) :
    (dats m 0 c).flushed 3 t = ((cfg0.win 3).blk t).view.read (Elt Ideal) (result m c) := by
  rw [Value.flushed3]
  have ei := idx_in t
  funext y
  have hb0 : (((cfg0.win 3).blk t).view.emb y 0).val = win0_3.index t (0 : Fin 2) * 512 + 1 * (y 0).val := rfl
  have hb1 : (((cfg0.win 3).blk t).view.emb y 1).val = win0_3.index t (1 : Fin 2) * 2048 + 1 * (y 1).val := rfl
  rw [View.read_apply]
  exact outs_eq m c t _ _ (by show (((cfg0.win 3).blk t).view.emb y 0).val = t.val * 512 + (y 0).val; omega)
    (by show (((cfg0.win 3).blk t).view.emb y 1).val = (y 1).val; omega)

/-- Which entries of the result a point's block holds. -/
theorem mem_blk (i : S16896x2048.Idx) (t : Fin cfg0.N) :
    i ∈ ((cfg0.win 3).blk t).view.set ↔ ∀ a : Fin 2, win0_3.index t a * (![512, 2048] : Fin 2 → ℕ) a ≤ (i a).val ∧ (i a).val < win0_3.index t a * (![512, 2048] : Fin 2 → ℕ) a + (![512, 2048] : Fin 2 → ℕ) a := by
  show i ∈ ((View.whole main_v4).slice (win0_3.rect t)).set ↔ _
  rw [View.set_slice_whole, Rect.mem_set_unit]
  exact Iff.rfl

theorem flush_all : ∀ t : Fin cfg0.N, (cfg0.win 3).flush t = true :=
  (by decide +kernel : ∀ t : Fin grid0.N, win0_3.flush t = true)

/-- Every entry of the result lies in some point's block. -/
theorem covered (i : S16896x2048.Idx) : ∃ t : Fin cfg0.N, (cfg0.win 3).flush t = true ∧ i ∈ ((cfg0.win 3).blk t).view.set := by
  have hN : cfg0.N = 33 := N_0
  have h0 : (i 0).val < 16896 := (i 0).isLt
  have h1 : (i 1).val < 2048 := (i 1).isLt
  refine ⟨⟨(i 0).val / 512, by omega⟩, flush_all _, (mem_blk i _).2 fun a => ?_⟩
  obtain ⟨-, -, -, -, -, -, e0, e1⟩ := idx_in ⟨(i 0).val / 512, by omega⟩
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 2048 ≤ (i 1).val ∧ (i 1).val < win0_3.index _ (1 : Fin 2) * 2048 + 2048
    rw [e1]; dsimp only; omega

theorem final (c : Dev nD) : (dats m 0 c).arrAt 3 cfg0.N = result m c :=
  (dats m 0 c).arrAt_eq_of_cover 3 _ (fun t hf => flushed_eq m c t hf) (fun i => covered i)

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final m c),
      Value.kept_main_arg0 m r h c, Value.kept_main_arg1 m r h c, Value.kept_main_arg2 m r h c⟩)
    (run_main m ρ)

end Cert.NormMixIdeal.Final

end
-- ==== Proof.NormMixRefValue.lean ====
/- The layer's first norm, the reference's side: its result at an index. -/
module

public import proofs.«01_k».proof.Proof.NormMixSpec
public import proofs.«01_k».proof.Proof.Gen.NormMixRefIdeal.Read
public import proofs.«01_k».proof.Proof.Gen.NormMixRefIdeal.Run

@[expose] public section

set_option maxRecDepth 16384

noncomputable section

open Idealize.ShloMosaic Idealize.ShloMosaic.TcCoe Idealize.SL.Sem
open Idealize.ShloMosaic.Pipeline (Dat)

namespace Cert.NormMixRefIdeal.Final

open Cert.NormMixRefIdeal Cert.NormMixRefIdeal.Gen Cert.NormMixRefIdeal.Read Cert.NormMixSpec

variable (p : (⟨S2x8192x2048, .f32⟩ : BufTy).Contents (Elt Ideal)) (s : (⟨S16x32x2048, .f32⟩ : BufTy).Contents (Elt Ideal)) (g : (⟨S1x2048, .f32⟩ : BufTy).Contents (Elt Ideal))

/-- The layer's input, its prompt rows and its sample rows put together. -/
theorem v2_apply (n : Fin 16896) (k : Fin 2048) : val_main_v2 p s (ix2 n k) = OutProjSpec.rowOf p s n k := by
  unfold OutProjSpec.rowOf
  pointwise [val_main_v2, val_main_v1, val_main_v0]

theorem ref_eq : val_main_v17 p s g = whole p s g := by
  funext i
  idx_vars i
  show _ = MemKvSpec.normRow (fun d => OutProjSpec.rowOf p s i0 d) (g (ix2 (n0 := 1) (n1 := 2048) 0 i1)) i1
  unfold MemKvSpec.normRow
  simp only [← v2_apply]
  unfold val_main_v17 val_main_v16 val_main_v13 val_main_v12 val_main_v11 val_main_v10 val_main_v8 val_main_v6 val_main_v5 val_main_v4
  generalize val_main_v2 p s = z
  pointwise [val_main_v15, val_main_v14, val_main_v3, val_main_v9, val_main_v7, val_main_cst, val_main_cst_0, val_main_cst_1]

end Cert.NormMixRefIdeal.Final

end
-- ==== Proof.LowRankBlock.lean ====
/- The projection to the low-rank branch of the recurrence's gate: what the kernel's body leaves in its block, as plain sums. -/
module

public import proofs.«01_k».proof.Proof.Scalars
public import proofs.«01_k».proof.Proof.Gen.LowRankIdeal.Value
public import Idealize.ShloMosaic.Lib.Pointwise

@[expose] public section

set_option maxRecDepth 16384

noncomputable section

open Idealize.ShloMosaic Idealize.ShloMosaic.TcCoe Idealize.SL.Sem

namespace Cert.LowRankIdeal.Blk

open Cert.LowRankIdeal Cert.LowRankIdeal.Gen

theorem hz : (![0, 0] : Fin 2 → Nat) = fun _ => 0 := funext fun a => by fin_cases a <;> rfl

/-- The block a point leaves, from its rows and its columns' weights: sixteen columns of the product, zeros behind them. -/
def block (x : Vec Ideal S1536x2048 .bf16) (w : S128x2048.Idx → EReal) : Vec Ideal S1536x128 .f32 := fun y =>
  if (y 1).val < 16 then ∑ k : Fin 2048, x (ix2 (n0 := 1536) (n1 := 2048) (y 0) k) * w (ix2 (n0 := 128) (n1 := 2048) (y 1) k) else (0 : EReal)

theorem is_low : ∀ j : Fin 128, IntOp.cmpi .slt (BitVec.ofNat 32 j.val) 16#32 = if j.val < 16 then 1#1 else 0#1 := by decide +kernel

theorem pay2_apply (q : Vec Ideal S1536x2048 .bf16) (w : Vec Ideal S128x2048 .bf16) (r : Fin 1536) (e : Fin 128) :
    k0_pay2 q w (ix2 r e) = if e.val < 16 then ∑ k : Fin 2048, q (ix2 r k) * w (ix2 (n0 := 128) (n1 := 2048) e k) else (0 : EReal) := by
  pointwise [k0_pay2]
  rw [is_low]
  split
  · rw [show ∀ a b, Scalar.select (1#1 : BitVec 1) a b = a from fun _ _ => rfl]
  · rw [show ∀ a b, Scalar.select (0#1 : BitVec 1) a b = b from fun _ _ => rfl]

theorem pay2_eq (q : Vec Ideal S1536x2048 .bf16) (w : Vec Ideal S128x2048 .bf16) : k0_pay2 q w = block q w := by
  funext y
  idx_vars y
  exact pay2_apply q w y0 y1

theorem pay1_eq (x : Vec Ideal S128x2048 .f32) : k0_pay1 x = (x : S128x2048.Idx → EReal) := by
  unfold k0_pay1
  simp only [shapeCast_self]
  rfl

/-- The weights a column block's first point casts and stores, read back through a rectangle. -/
theorem kept (v : View sig .tc .vmem S128x2048 .bf16) (x1 : Vec Ideal S128x2048 .f32) (r : Rect S128x2048) :
    v.readCov (Val := Elt Ideal) [⟨Rect.unit ![0, 0] ![128, 2048] inb_S128x2048_S128x2048_0_0,
      k0_pay1 x1⟩] r.toLoadRect
      = View.ld (Val := Elt Ideal) (e' := .bf16) x1 r := by
  rw [View.readCov_eq_canon_ld _ _ _ (fun y => ⟨_, List.mem_singleton_self _, View.mem_set_unit_zero hz inb_S128x2048_S128x2048_0_0 y⟩),
    View.canon_unit_zero hz, pay1_eq]

theorem sout_A (c : Dev nD) (i : grid0.Coords) (a2 : Memref sig .tc .vmem S1536x2048 .bf16) (h2 : a2.IsWhole) (a3 : Memref sig .tc .vmem S128x2048 .f32) (h3 : a3.IsWhole) (a4 : Memref sig .tc .vmem S1536x128 .f32) (h4 : a4.IsWhole) (a5 : Memref sig .tc .vmem S128x2048 .bf16) (h5 : a5.IsWhole) (hc : cond0_0 i)
    (x0 : Vec Ideal S1536x2048 .bf16) (x1 : Vec Ideal S128x2048 .f32) :
    sout0_A_0 c i a2 h2 a3 h3 a4 h4 a5 h5 hc x0 x1 = (x1 : S128x2048.Idx → EReal) := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S128x2048) hz, pay1_eq]

theorem out_A (c : Dev nD) (i : grid0.Coords) (a2 : Memref sig .tc .vmem S1536x2048 .bf16) (h2 : a2.IsWhole) (a3 : Memref sig .tc .vmem S128x2048 .f32) (h3 : a3.IsWhole) (a4 : Memref sig .tc .vmem S1536x128 .f32) (h4 : a4.IsWhole) (a5 : Memref sig .tc .vmem S128x2048 .bf16) (h5 : a5.IsWhole) (hc : cond0_0 i)
    (x0 : Vec Ideal S1536x2048 .bf16) (x1 : Vec Ideal S128x2048 .f32) :
    out0_A_2 c i a2 h2 a3 h3 a4 h4 a5 h5 hc x0 x1 = block x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread]
  simp only [kept, View.ld_unit_zero (S := S1536x2048) hz, View.ld_unit_zero (S := S128x2048) hz]
  exact pay2_eq x0 x1

theorem out_B (c : Dev nD) (i : grid0.Coords) (a2 : Memref sig .tc .vmem S1536x2048 .bf16) (h2 : a2.IsWhole) (a3 : Memref sig .tc .vmem S128x2048 .f32) (h3 : a3.IsWhole) (a4 : Memref sig .tc .vmem S1536x128 .f32) (h4 : a4.IsWhole) (a5 : Memref sig .tc .vmem S128x2048 .bf16) (h5 : a5.IsWhole) (hc : ¬cond0_0 i)
    (x0 : Vec Ideal S1536x2048 .bf16) (x1 : Vec Ideal S128x2048 .f32) (xs : Vec Ideal S128x2048 .bf16) :
    out0_B_2 c i a2 h2 a3 h3 a4 h4 a5 h5 hc x0 x1 xs = block x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h3.read_unread, h5.read_unread]
  simp only [View.ld_unit_zero (S := S1536x2048) hz, View.ld_unit_zero (S := S128x2048) hz]
  exact pay2_eq x0 xs

end Cert.LowRankIdeal.Blk

end
-- ==== Proof.LowRankSpec.lean ====
/- The projection to the low-rank branch of the recurrence's gate, whole, over the extended reals: what both programs are shown to compute. -/
module

public import proofs.«01_k».proof.Proof.Scalars
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LowRankSpec

/-- The result at row `i 0` and column `i 1`: sixteen columns of the product, zeros behind them. -/
def whole (x : (⟨2, ![16896, 2048]⟩ : Shape).Idx → EReal) (w : (⟨2, ![2048, 10768]⟩ : Shape).Idx → EReal) :
    (⟨2, ![16896, 128]⟩ : Shape).Idx → EReal := fun i =>
  if (i 1).val < 16 then
    ∑ k : Fin 2048, x (ix2 (n0 := 16896) (n1 := 2048) (i 0) k) * w (ix2 (n0 := 2048) (n1 := 10768) k ⟨6144 + (i 1).val, by have h1 : (i 1).val < 128 := (i 1).isLt; omega⟩)
  else 0

end Cert.LowRankSpec

end
-- ==== Proof.LowRankValue.lean ====
/- The projection to the low-rank branch of the recurrence's gate, the kernel's side: the result array after the run. -/
module

public import proofs.«01_k».proof.Proof.LowRankBlock
public import proofs.«01_k».proof.Proof.LowRankSpec

@[expose] public section

set_option maxRecDepth 16384

noncomputable section

open Idealize.ShloMosaic Idealize.ShloMosaic.TcCoe Idealize.SL.Sem
open Idealize.ShloMosaic.Pipeline (Dat)

namespace Cert.LowRankIdeal.Final

open Cert.LowRankIdeal Cert.LowRankIdeal.Gen Cert.LowRankIdeal.Blk Cert.LowRankSpec

variable (m : (ℓ : Loc nD τ sig) → Buf (Elt Ideal) ℓ) (ρ : Dev nD → PrngReg)

/-- The index maps over the grid: point `t` takes row block `t`; the weights are the 128 rows from 6144 on. -/
theorem idx_in : ∀ t : Fin cfg0.N, win0_0.index t (0 : Fin 2) = t.val % 11 ∧ win0_0.index t (1 : Fin 2) = 0
    ∧ win0_1.index t (0 : Fin 2) = 6144 + t.val / 11 * 128 ∧ win0_1.index t (1 : Fin 2) = 0
    ∧ win0_2.index t (0 : Fin 2) = t.val % 11 ∧ win0_2.index t (1 : Fin 2) = t.val / 11 :=
  (by decide +kernel : ∀ t : Fin grid0.N, _)

/-- The transposed weights, as the region finds them. -/
theorem V_main_v0 (c : Dev nD) : V m c main_v0
    = (transpose S10768x2048 [1, 0] (m ((c : Thread nD τ).loc main_arg1) : Vec Ideal S2048x10768 .f32) transposes_S2048x10768_S10768x2048_1_0 : Vec Ideal S10768x2048 .f32) := by
  show StableHlo.after hostOps0 _ (Proc.devRef .tc main_v0) = _
  after_results

theorem x_apply (c : Dev nD) (t : Fin cfg0.N) (r : Fin 1536) (e : Fin 2048) (i : S16896x2048.Idx)
    (h0 : (i 0).val = t.val % 11 * 1536 + r.val) (h1 : (i 1).val = e.val) :
    iblk m c 0 t (ix2 r e) = m ((c : Thread nD τ).loc main_arg0) i := by
  unfold iblk
  rw [View.read_apply]
  show V m c main_arg0 _ = _
  rw [V_main_arg0]
  congr 1
  obtain ⟨e0, e1, -⟩ := idx_in t
  funext a
  apply Fin.ext
  match a with
  | ⟨0, _⟩ => show win0_0.index t (0 : Fin 2) * 1536 + 1 * r.val = (i 0).val; rw [e0]; omega
  | ⟨1, _⟩ => show win0_0.index t (1 : Fin 2) * 2048 + 1 * e.val = (i 1).val; rw [e1]; omega

theorem w_apply (c : Dev nD) (t : Fin cfg0.N) (e : Fin 128) (k : Fin 2048) (i : S2048x10768.Idx)
    (h0 : (i 0).val = k.val) (h1 : (i 1).val = 6144 + t.val / 11 * 128 + e.val) :
    iblk m c 1 t (ix2 e k) = m ((c : Thread nD τ).loc main_arg1) i := by
  unfold iblk
  rw [View.read_apply]
  show V m c main_v0 _ = _
  rw [V_main_v0]
  have hN : cfg0.N = 11 := N_0
  have ht := t.isLt
  obtain ⟨-, -, e0, e1, -⟩ := idx_in t
  idx_vars i
  have g0 : i0 = k := Fin.ext h0
  have g1 : i1.val = 6144 + t.val / 11 * 128 + e.val := h1
  have hi : ((cfg0.win 1).blk t).view.emb (ix2 e k) = ix2 (n0 := 10768) (n1 := 2048) i1 i0 := by
    funext a
    apply Fin.ext
    match a with
    | ⟨0, _⟩ => show win0_1.index t (0 : Fin 2) + 1 * e.val = i1.val; rw [e0]; omega
    | ⟨1, _⟩ => show win0_1.index t (1 : Fin 2) + 1 * k.val = i0.val; rw [e1, g0]; omega
  rw [hi]
  pointwise

/-- Points of one column block see one block of weights. -/
theorem w_step (c : Dev nD) (t t' : Fin cfg0.N) (h : t.val / 11 = t'.val / 11) :
    (iblk m c 1 t : S128x2048.Idx → EReal) = iblk m c 1 t' := by
  have hN : cfg0.N = 11 := N_0
  have ht := t.isLt
  funext y
  idx_vars y
  have hy : y0.val < 128 := y0.isLt
  have h4 : y1.val < 2048 := y1.isLt
  rw [w_apply m c t y0 y1 (ix2 ⟨y1.val, h4⟩ ⟨6144 + t.val / 11 * 128 + y0.val, by omega⟩) rfl rfl,
    w_apply m c t' y0 y1 (ix2 ⟨y1.val, h4⟩ ⟨6144 + t.val / 11 * 128 + y0.val, by omega⟩) rfl (by show 6144 + t.val / 11 * 128 + y0.val = _; rw [h])]

/-- After any point the scratch holds the weights of the point's column block. -/
theorem scratch_eq (c : Dev nD) : ∀ (n : ℕ) (h : n < cfg0.N),
    ((outsAt0 m c n h).2 : S128x2048.Idx → EReal) = iblk m c 1 ⟨n, h⟩
  | 0, h => by
    rw [outsAt0_A m c ⟨0, h⟩ rfl]
    dsimp only
    rw [sout_A]
  | n + 1, h => by
    by_cases h0 : (n + 1) % 11 = 0
    · rw [outsAt0_A m c ⟨n + 1, h⟩ h0]
      dsimp only
      rw [sout_A]
    · rw [outsAt0_B m c ⟨n + 1, h⟩ h0]
      dsimp only
      unfold sout0_B_0
      show (outsAt0 m c n _).2 = _
      rw [scratch_eq c n (Nat.lt_of_succ_lt h)]
      exact w_step m c _ _ (by show n / 11 = (n + 1) / 11; omega)

/-- So every point leaves the product of its rows and columns in its output block. -/
theorem outs_eq (c : Dev nD) (t : Fin cfg0.N) :
    (outsAt0 m c t.val t.isLt).1 = block (iblk m c 0 t) (iblk m c 1 t) := by
  by_cases h0 : t.val % 11 = 0
  · rw [outsAt0_A m c t h0]
    dsimp only
    rw [out_A]
  · rw [outsAt0_B m c t h0]
    dsimp only
    rw [out_B]
    have hN : cfg0.N = 11 := N_0
    have ht := t.isLt
    have e : ((outsAt0 m c (t.val - 1) (Nat.lt_of_le_of_lt (Nat.sub_le _ _) t.isLt)).2 : S128x2048.Idx → EReal) = iblk m c 1 t :=
      (scratch_eq m c (t.val - 1) (by omega)).trans (w_step m c _ _ (by show (t.val - 1) / 11 = t.val / 11; omega))
    rw [e]

/-- The result as a function of the arguments. -/
abbrev result (c : Dev nD) : Buf (Elt Ideal) ((c : Thread nD τ).loc main_v1) :=
  whole (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  rw [Value.flushed2, outs_eq]
  have hN : cfg0.N = 11 := N_0
  have ht := t.isLt
  obtain ⟨-, -, -, -, e0, e1⟩ := idx_in t
  funext y
  have hy0 : (y 0).val < 1536 := (y 0).isLt
  have hy1 : (y 1).val < 128 := (y 1).isLt
  have hb0 : (((cfg0.win 2).blk t).view.emb y 0).val = win0_2.index t (0 : Fin 2) * 1536 + 1 * (y 0).val := rfl
  have hb1 : (((cfg0.win 2).blk t).view.emb y 1).val = win0_2.index t (1 : Fin 2) * 128 + 1 * (y 1).val := rfl
  rw [e0] at hb0
  rw [e1] at hb1
  rw [View.read_apply]
  show block (iblk m c 0 t) (iblk m c 1 t) ((cfg0.win 2).xinj (grid0.coords t) y) = whole _ _ (((cfg0.win 2).blk t).view.emb y)
  unfold block whole
  have hx : (((cfg0.win 2).blk t).view.emb y 1).val = (y 1).val := by omega
  refine if_congr (by show (y 1).val < 16 ↔ (((cfg0.win 2).blk t).view.emb y 1).val < 16; rw [hx]) (Finset.sum_congr rfl fun k _ => ?_) rfl
  congr 1
  · exact x_apply m c t _ _ _ (by show (((cfg0.win 2).blk t).view.emb y 0).val = t.val % 11 * 1536 + (y 0).val; omega) rfl
  · exact w_apply m c t _ _ _ rfl (by show 6144 + (((cfg0.win 2).blk t).view.emb y 1).val = 6144 + t.val / 11 * 128 + (y 1).val; omega)

theorem final (c : Dev nD) : (dats m 0 c).arrAt 2 cfg0.N = result m c :=
  (dats m 0 c).arrAt_eq_of_cover 2 _ (fun t hf => flushed_eq m c t hf) (fun i => (Value.covered_iff2 i).2 (by
    have h0 : (i 0).val < 16896 := (i 0).isLt; have h1 : (i 1).val < 128 := (i 1).isLt; omega))

/-- The run: the result array at the function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (final m c),
      Value.kept_main_arg0 m r h c, Value.kept_main_arg1 m r h c⟩)
    (run_main m ρ)

end Cert.LowRankIdeal.Final

end
-- ==== Proof.LowRankRefValue.lean ====
/- The projection to the low-rank branch of the recurrence's gate, the reference's side: its result at an index. -/
module

public import proofs.«01_k».proof.Proof.LowRankSpec
public import proofs.«01_k».proof.Proof.Gen.LowRankRefIdeal.Read
public import proofs.«01_k».proof.Proof.Gen.LowRankRefIdeal.Run

@[expose] public section

set_option maxRecDepth 16384

noncomputable section

open Idealize.ShloMosaic Idealize.ShloMosaic.TcCoe Idealize.SL.Sem
open Idealize.ShloMosaic.Pipeline (Dat)

namespace Cert.LowRankRefIdeal.Final

open Cert.LowRankRefIdeal Cert.LowRankRefIdeal.Gen Cert.LowRankRefIdeal.Read Cert.LowRankSpec

theorem v2_apply (x : (⟨S16896x2048, .bf16⟩ : BufTy).Contents (Elt Ideal)) (w : (⟨S2048x10768, .f32⟩ : BufTy).Contents (Elt Ideal)) (r : Fin 16896) (e : Fin 16) :
    val_main_v2 x w (ix2 r e) = ∑ k : Fin 2048, x (ix2 (n0 := 16896) (n1 := 2048) r k) * w (ix2 (n0 := 2048) (n1 := 10768) k ⟨6144 + e.val, by omega⟩) := by
  pointwise [val_main_v2, val_main_v1, val_main_v0]

theorem ref_eq (x : (⟨S16896x2048, .bf16⟩ : BufTy).Contents (Elt Ideal)) (w : (⟨S2048x10768, .f32⟩ : BufTy).Contents (Elt Ideal)) :
    val_main_v3 x w = whole x w := by
  have hz : (FloatOps.sitofp FTy.f32 (0#32) : Ideal .f32) = (0 : EReal) := by
    show (((0#32 : BitVec 32).toInt : ℝ) : EReal) = 0
    norm_num
  funext i
  idx_vars i
  show _ = if i1.val < 16 then ∑ k : Fin 2048, x (ix2 (n0 := 16896) (n1 := 2048) i0 k) * w (ix2 (n0 := 2048) (n1 := 10768) k ⟨6144 + i1.val, by omega⟩) else 0
  unfold val_main_v3
  by_cases h : i1.val < 16
  · rw [if_pos h, ← v2_apply x w i0 ⟨i1.val, h⟩]
    generalize val_main_v2 x w = z
    pointwise [val_main_call0_v0, val_main_c]
    rw [dif_pos h]
  · rw [if_neg h]
    generalize val_main_v2 x w = z
    pointwise [val_main_call0_v0, val_main_c]
    rw [dif_neg h]
    exact hz

end Cert.LowRankRefIdeal.Final

end
-- ==== Proof.CombineSpec.lean ====
/- The layer's output, over the extended reals, from the residual stream, the experts' outputs and their
   weights: what both programs are shown to compute. -/
module

public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.CombineSpec

/-- The packed row that holds column `d` of the output of slot `s` of the experts' outputs: sixteen rows of
    128 a slot. -/
def prow (s : ℕ) (hs : s < 34304) (d : Fin 2048) : Fin 548864 := ⟨16 * s + d.val / 128, by omega⟩
/-- and its place in that row. -/
def pcol (d : Fin 2048) : Fin 128 := ⟨d.val % 128, by omega⟩

/-- Token `n`'s output at `d`: its residual stream plus the outputs of its first and its second expert, each
    times its weight; the second experts' outputs lie after all the first. -/
def comb (x : (⟨2, ![16896, 2048]⟩ : Shape).Idx → EReal) (y : (⟨2, ![548864, 128]⟩ : Shape).Idx → EReal)
    (w : (⟨2, ![16896, 128]⟩ : Shape).Idx → EReal) (n : Fin 16896) (d : Fin 2048) : EReal :=
  x (ix2 (n0 := 16896) (n1 := 2048) n d)
    + (y (ix2 (n0 := 548864) (n1 := 128) (prow n.val (by omega) d) (pcol d)) * w (ix2 (n0 := 16896) (n1 := 128) n 0)
      + y (ix2 (n0 := 548864) (n1 := 128) (prow (16896 + n.val) (by omega) d) (pcol d)) * w (ix2 (n0 := 16896) (n1 := 128) n 1))

/-- The prompt tokens' outputs. -/
def prompt (x : (⟨2, ![16896, 2048]⟩ : Shape).Idx → EReal) (y : (⟨2, ![548864, 128]⟩ : Shape).Idx → EReal)
    (w : (⟨2, ![16896, 128]⟩ : Shape).Idx → EReal) : (⟨2, ![16384, 2048]⟩ : Shape).Idx → EReal := fun i =>
  comb x y w ⟨(i 0).val, Nat.lt_of_lt_of_le (show (i 0).val < 16384 from (i 0).isLt) (by decide)⟩ (i 1)

/-- The sample tokens' outputs. -/
def sample (x : (⟨2, ![16896, 2048]⟩ : Shape).Idx → EReal) (y : (⟨2, ![548864, 128]⟩ : Shape).Idx → EReal)
    (w : (⟨2, ![16896, 128]⟩ : Shape).Idx → EReal) : (⟨2, ![512, 2048]⟩ : Shape).Idx → EReal := fun i =>
  comb x y w ⟨16384 + (i 0).val, Nat.add_lt_add_left (show (i 0).val < 512 from (i 0).isLt) 16384⟩ (i 1)

end Cert.CombineSpec

end
-- ==== Proof.CombineIdealRun.lean ====
/- The body of the idealized combining kernel, run once from whole staging buffers in each of its two cases: the points
   before the last store a block of the prompt, the last point stores the sample. -/
module

public import proofs.«01_k».proof.Proof.Gen.CombineIdeal.Frame
public import proofs.«01_k».proof.Proof.Gen.CombineIdeal.Skeleton

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body stores into a block of the prompt (a point before the last), with the proof that from whole staging buffers, the inputs'
    at their contents, it runs to a state with the inputs as they were and that block with the pieces
    written over it. The sample's buffer is not touched. -/
def kernelRunA (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : k0_cond1 i = 1#1) (hc2 : ¬ k0_cond2 i = 1#1)
    (x0 : Vec F S512x2048 .f32) (x1 : Vec F S8192x128 .f32) (x2 : Vec F S8192x128 .f32) (x3 : Vec F S512x128 .f32) :
    { L : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0_moe_combine i arg1 harg1 arg2 harg2 arg3 harg3 arg4 harg4 arg5 harg5 arg6 harg6) K } := by
  refine ⟨?_, fun E K => ?run⟩
  case run =>
    simp only [cc0_moe_combine_eq_skeleton]; unfold cc0_moe_combine_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- The pieces the body stores into the sample's block (the last point), with the proof that from whole staging buffers, the inputs'
    at their contents, it runs to a state with the inputs as they were and that block with the pieces
    written over it. The prompt's buffer is not touched. -/
def kernelRunB (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : ¬ k0_cond1 i = 1#1) (hc2 : k0_cond2 i = 1#1)
    (x0 : Vec F S512x2048 .f32) (x1 : Vec F S8192x128 .f32) (x2 : Vec F S8192x128 .f32) (x3 : Vec F S512x128 .f32) :
    { L : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0_moe_combine i arg1 harg1 arg2 harg2 arg3 harg3 arg4 harg4 arg5 harg5 arg6 harg6) K } := by
  refine ⟨?_, fun E K => ?run⟩
  case run =>
    simp only [cc0_moe_combine_eq_skeleton]; unfold cc0_moe_combine_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H5

end Cert.CombineIdeal.Hand

end
-- ==== Proof.CombineIdealFrame.lean ====
/- The frame of the idealized combining kernel and what its run leaves in its two results: the pipeline's proof data, the
   obligation of the body at a point, the launch. The prompt's window stays at its last block at the last
   point, where the body stores nothing into it and the block is written back as the point before left it. -/
module

public import proofs.«01_k».proof.Proof.CombineIdealRun
public import Idealize.ShloMosaic.Lib.Claim

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of window 0 at point `t`. -/
abbrev ms0 (t : Fin cfg0.N) : Memref sig .tc .vmem S512x2048 .f32 := win0_0.stage (cfg0.slots t 0)
/-- It is a whole buffer. -/
abbrev hs0 (t : Fin cfg0.N) : (ms0 t).IsWhole := hstage0_0 ((cfg0.slots t 0).cast nbuf0_0)
/-- The staging buffer of window 1 at point `t`. -/
abbrev ms1 (t : Fin cfg0.N) : Memref sig .tc .vmem S8192x128 .f32 := win0_1.stage (cfg0.slots t 1)
/-- It is a whole buffer. -/
abbrev hs1 (t : Fin cfg0.N) : (ms1 t).IsWhole := hstage0_1 ((cfg0.slots t 1).cast nbuf0_1)
/-- The staging buffer of window 2 at point `t`. -/
abbrev ms2 (t : Fin cfg0.N) : Memref sig .tc .vmem S8192x128 .f32 := win0_2.stage (cfg0.slots t 2)
/-- It is a whole buffer. -/
abbrev hs2 (t : Fin cfg0.N) : (ms2 t).IsWhole := hstage0_2 ((cfg0.slots t 2).cast nbuf0_2)
/-- The staging buffer of window 3 at point `t`. -/
abbrev ms3 (t : Fin cfg0.N) : Memref sig .tc .vmem S512x128 .f32 := win0_3.stage (cfg0.slots t 3)
/-- It is a whole buffer. -/
abbrev hs3 (t : Fin cfg0.N) : (ms3 t).IsWhole := hstage0_3 ((cfg0.slots t 3).cast nbuf0_3)
/-- The staging buffer of window 4 at point `t`. -/
abbrev ms4 (t : Fin cfg0.N) : Memref sig .tc .vmem S512x2048 .f32 := win0_4.stage (cfg0.slots t 4)
/-- It is a whole buffer. -/
abbrev hs4 (t : Fin cfg0.N) : (ms4 t).IsWhole := hstage0_4 ((cfg0.slots t 4).cast nbuf0_4)
/-- The staging buffer of window 5 at point `t`. -/
abbrev ms5 (t : Fin cfg0.N) : Memref sig .tc .vmem S512x2048 .f32 := win0_5.stage (cfg0.slots t 5)
/-- It is a whole buffer. -/
abbrev hs5 (t : Fin cfg0.N) : (ms5 t).IsWhole := hstage0_5 ((cfg0.slots t 5).cast nbuf0_5)
/-- The view through which the contents of output 4 are stated. -/
abbrev VO4 : View sig .tc .vmem S512x2048 .f32 := (Memref.whole cc0_stg4_0 : Memref sig .tc .vmem S512x2048 .f32).view
/-- The view through which the contents of output 5 are stated. -/
abbrev VO5 : View sig .tc .vmem S512x2048 .f32 := (Memref.whole cc0_stg5_0 : Memref sig .tc .vmem S512x2048 .f32).view

/-- The first condition holds at the points before the last. -/
theorem hcond1 : ∀ t : Fin cfg0.N, k0_cond1 (grid0.coords t) = 1#1 ↔ t.val < 32 :=
  (by decide +kernel : ∀ t : Fin grid0.N, k0_cond1 (grid0.coords t) = 1#1 ↔ t.val < 32)
/-- The second condition holds at the last point. -/
theorem hcond2 : ∀ t : Fin cfg0.N, k0_cond2 (grid0.coords t) = 1#1 ↔ ¬ t.val < 32 :=
  (by decide +kernel : ∀ t : Fin grid0.N, k0_cond2 (grid0.coords t) = 1#1 ↔ ¬ t.val < 32)
/-- The prompt's window is idle at the last point only. -/
theorem idle_4 : ∀ t : Fin cfg0.N, cfg0.idle 4 (grid0.coords t) = !decide (t.val < 32) :=
  (by decide +kernel : ∀ t : Fin grid0.N, idle0 4 (grid0.coords t) = !decide (t.val < 32))
/-- The sample's window is idle before the last point. -/
theorem idle_5 : ∀ t : Fin cfg0.N, cfg0.idle 5 (grid0.coords t) = decide (t.val < 32) :=
  (by decide +kernel : ∀ t : Fin grid0.N, idle0 5 (grid0.coords t) = decide (t.val < 32))
/-- The prompt's window is written back at every point but the last but one. -/
theorem flush_4 : ∀ t : Fin cfg0.N, (cfg0.win 4).flush t = !decide (t.val = 31) :=
  (by decide +kernel : ∀ t : Fin grid0.N, win0_4.flush t = !decide (t.val = 31))
/-- The sample's window is written back at the last point. -/
theorem flush_5 : ∀ t : Fin cfg0.N, (cfg0.win 5).flush t = !decide (t.val < 32) :=
  (by decide +kernel : ∀ t : Fin grid0.N, win0_5.flush t = !decide (t.val < 32))

/-- The sixteen stored column groups cover the block. -/
theorem coverA (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : k0_cond1 i = 1#1) (hc2 : ¬ k0_cond2 i = 1#1)
    (x0 : Vec F S512x2048 .f32) (x1 : Vec F S8192x128 .f32) (x2 : Vec F S8192x128 .f32) (x3 : Vec F S512x128 .f32) (y : S512x2048.Idx) :
    ∃ pc ∈ (kernelRunA c i arg1 harg1 arg2 harg2 arg3 harg3 arg4 harg4 arg5 harg5 arg6 harg6 hc1 hc2 x0 x1 x2 x3).1, y ∈ pc.1.set :=
  View.cover_of_tiledL (kernelRunA c i arg1 harg1 arg2 harg2 arg3 harg3 arg4 harg4 arg5 harg5 arg6 harg6 hc1 hc2 x0 x1 x2 x3).1 S512x128.size (by sl_kernel_rfl) y

/-- The sixteen stored column groups cover the block. -/
theorem coverB (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : ¬ k0_cond1 i = 1#1) (hc2 : k0_cond2 i = 1#1)
    (x0 : Vec F S512x2048 .f32) (x1 : Vec F S8192x128 .f32) (x2 : Vec F S8192x128 .f32) (x3 : Vec F S512x128 .f32) (y : S512x2048.Idx) :
    ∃ pc ∈ (kernelRunB c i arg1 harg1 arg2 harg2 arg3 harg3 arg4 harg4 arg5 harg5 arg6 harg6 hc1 hc2 x0 x1 x2 x3).1, y ∈ pc.1.set :=
  View.cover_of_tiledL (kernelRunB c i arg1 harg1 arg2 harg2 arg3 harg3 arg4 harg4 arg5 harg5 arg6 harg6 hc1 hc2 x0 x1 x2 x3).1 S512x128.size (by sl_kernel_rfl) y

/-- What the body leaves in the prompt's block at a point before the last. -/
def outA (c : Dev nD) (t : Fin cfg0.N) (h : t.val < 32) : Vec F S512x2048 .f32 :=
  VO4.read (Elt F) (VO4.writes (Elt F) VO4.junk (kernelRunA c (grid0.coords t) (ms0 t) (hs0 t) (ms1 t) (hs1 t) (ms2 t) (hs2 t) (ms3 t) (hs3 t) (ms4 t) (hs4 t) (ms5 t) (hs5 t) ((hcond1 t).mpr h) (fun h' => (hcond2 t).mp h' h) (iblk m c 0 t) (iblk m c 1 t) (iblk m c 2 t) (iblk m c 3 t)).1)

/-- What the body leaves in the sample's block at the last point. -/
def outB (c : Dev nD) (t : Fin cfg0.N) (h : ¬ t.val < 32) : Vec F S512x2048 .f32 :=
  VO5.read (Elt F) (VO5.writes (Elt F) VO5.junk (kernelRunB c (grid0.coords t) (ms0 t) (hs0 t) (ms1 t) (hs1 t) (ms2 t) (hs2 t) (ms3 t) (hs3 t) (ms4 t) (hs4 t) (ms5 t) (hs5 t) (fun h' => h ((hcond1 t).mp h')) ((hcond2 t).mpr h) (iblk m c 0 t) (iblk m c 1 t) (iblk m c 2 t) (iblk m c 3 t)).1)

/-- The last but one point. -/
def t31 : Fin cfg0.N := ⟨31, by decide⟩

/-- The prompt's buffer after point `t`: at the last point what the point before left. -/
def out4 (c : Dev nD) (t : Fin cfg0.N) : Vec F S512x2048 .f32 :=
  if h : t.val < 32 then outA m c t h else outA m c t31 (by decide)

/-- The sample's buffer after point `t`: named at the last point only. -/
def out5 (c : Dev nD) (t : Fin cfg0.N) : Vec F S512x2048 .f32 :=
  if h : t.val < 32 then VO5.read (Elt F) VO5.junk else outB m c t h

/-- The pipeline's proof data: the arrays as the region finds them, each input's buffer at its block, the
    outputs' at `out4` and `out5`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ _ := Pipeline.ΦA spec0 c
  q w := Pipeline.shareOf spec0 w
  owed _ := 0

/-- The arrays of the proof data are those at the region's entry. -/
theorem A_eq (c : Dev nD) (w : Fin cfg0.W) : (dats m 0 c).A w = V m c (Pipeline.arrRef spec0 w) := by
  dsimp only [dats]

/-- The body leaves input 0's block in place. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  before0_0_of m (dats m 0 c) (A_eq m c 0) (after_0 m c) t d
/-- The body leaves input 1's block in place. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- The body leaves input 2's block in place. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- The body leaves input 3's block in place. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- The body leaves `out4` in the prompt's block. -/
theorem after_4 (c : Dev nD) (t : Fin cfg0.N) : (dats m 0 c).after 4 t = out4 m c t := by dsimp only [dats]
/-- The body leaves `out5` in the sample's block. -/
theorem after_5 (c : Dev nD) (t : Fin cfg0.N) : (dats m 0 c).after 5 t = out5 m c t := by dsimp only [dats]

/-- `out4` before the last point. -/
theorem out4_lt (c : Dev nD) (t : Fin cfg0.N) (h : t.val < 32) : out4 m c t = outA m c t h := dif_pos h
/-- `out4` at the last point is `out4` at the point before. -/
theorem out4_last (c : Dev nD) (t : Fin cfg0.N) (h : ¬ t.val < 32) : out4 m c t = out4 m c t31 :=
  (dif_neg h).trans (out4_lt m c t31 (by decide)).symm
/-- `out5` at the last point. -/
theorem out5_last (c : Dev nD) (t : Fin cfg0.N) (h : ¬ t.val < 32) : out5 m c t = outB m c t h := dif_neg h

/-- At the last point the prompt's buffer holds what the point before left. -/
theorem before_4_last (c : Dev nD) (t : Fin cfg0.N) (h : ¬ t.val < 32) (d) : (dats m 0 c).before 4 t d = out4 m c t := by
  have hN : t.val < 33 := t.isLt
  have ht : t.val = 32 := by omega
  rw [out4_last m c t h]
  have e : (⟨t.val - 1, by omega⟩ : Fin cfg0.N) = t31 := Fin.ext (by show t.val - 1 = 31; omega)
  have hf : (cfg0.win 4).fetch t = false := rfl
  rw [(dats m 0 c).before_of_pos 4 t (by omega) hf d]
  simp only [e]
  rw [flush_4 t31]
  unfold Dat.left
  rw [show cfg0.idle 4 (cfg0.grid.coords t31) = false from idle_4 t31]
  show (dats m 0 c).after 4 t31 = _
  rw [after_4]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: before the last the first case runs and the sample's buffer is passed by; at
    the last the second case runs and the prompt's buffer is passed by. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [show cfg0.idle 0 (cfg0.grid.coords t) = false from rfl], after_0]
  rw [show (dats m 0 c).leavesExact 1 t = owns (c : Thread nD τ) (ms1 t) fullShare ((dats m 0 c).after 1 t) from by
    unfold Dat.leavesExact; rw [show cfg0.idle 1 (cfg0.grid.coords t) = false from rfl], after_1]
  rw [show (dats m 0 c).leavesExact 2 t = owns (c : Thread nD τ) (ms2 t) fullShare ((dats m 0 c).after 2 t) from by
    unfold Dat.leavesExact; rw [show cfg0.idle 2 (cfg0.grid.coords t) = false from rfl], after_2]
  rw [show (dats m 0 c).leavesExact 3 t = owns (c : Thread nD τ) (ms3 t) fullShare ((dats m 0 c).after 3 t) from by
    unfold Dat.leavesExact; rw [show cfg0.idle 3 (cfg0.grid.coords t) = false from rfl], after_3]
  by_cases h : t.val < 32
  · rw [show (dats m 0 c).leavesExact 4 t = owns (c : Thread nD τ) (ms4 t) fullShare ((dats m 0 c).after 4 t) from by
      unfold Dat.leavesExact; rw [show cfg0.idle 4 (cfg0.grid.coords t) = false from (idle_4 t).trans (by simp [h])], after_4]
    rw [show (dats m 0 c).leavesExact 5 t = iprop(∃ d, owns (c : Thread nD τ) (ms5 t) fullShare ((dats m 0 c).before 5 t d)) from by
      unfold Dat.leavesExact; rw [show cfg0.idle 5 (cfg0.grid.coords t) = true from (idle_5 t).trans (by simp [h]),
        show (cfg0.win 5).flush t = false from (flush_5 t).trans (by simp [h])]]
    rw [out4_lt m c t h]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond1 t).mpr h) (fun h' => (hcond2 t).mp h' h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA c _ _ _ _ _ _ _ _ _ _ _ _ _ _ _ _ _ _ _ )
    iexists _; iexact H5
  · have h4 : (cfg0.win 4).flush t = true := (flush_4 t).trans (by
      have : t.val ≠ 31 := by omega
      simp [this])
    rw [show (dats m 0 c).leavesExact 4 t = owns (c : Thread nD τ) (ms4 t) fullShare ((dats m 0 c).after 4 t) from by
      unfold Dat.leavesExact; rw [show cfg0.idle 4 (cfg0.grid.coords t) = true from (idle_4 t).trans (by simp [h]), h4], after_4]
    rw [show (dats m 0 c).leavesExact 5 t = owns (c : Thread nD τ) (ms5 t) fullShare ((dats m 0 c).after 5 t) from by
      unfold Dat.leavesExact; rw [show cfg0.idle 5 (cfg0.grid.coords t) = false from (idle_5 t).trans (by simp [h])], after_5]
    rw [out5_last m c t h]
    simp only [before_4_last m c t h]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h' => h ((hcond1 t).mp h')) ((hcond2 t).mpr h) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H5]; · iexists _; iexact H5
    iintro ⟨H0, H1, H2, H3, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ )

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has each window's array at what the proof data compute, every other
    buffer as the region found it, and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the run ends, the arguments are unchanged, the semaphores are at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.CombineIdeal.Hand

end
-- ==== Proof.CombineBlock.lean ====
/- The combination: what the kernel's body leaves in a block of its results, entry by entry. -/
module

public import proofs.«01_k».proof.Proof.CombineIdealFrame
public import Idealize.ShloMosaic.Lib.Pointwise

@[expose] public section

set_option maxRecDepth 16384

noncomputable section

open Idealize.ShloMosaic Idealize.ShloMosaic.TcCoe Idealize.SL.Sem

namespace Cert.CombineIdeal.Blk

open Cert.CombineIdeal Cert.CombineIdeal.Gen Cert.CombineIdeal.Hand

theorem hz : (![0, 0] : Fin 2 → Nat) = fun _ => 0 := funext fun a => by fin_cases a <;> rfl

/-- The row of a token's packed block that holds column `e`, and the place in that row. -/
def prow (r : Fin 512) (e : Fin 2048) : Fin 8192 := ⟨16 * r.val + e.val / 128, by omega⟩
def pcol (e : Fin 2048) : Fin 128 := ⟨e.val % 128, by omega⟩

/-- The block a point leaves: the residual stream plus the two experts' outputs at their weights. -/
def block (x : Vec Ideal S512x2048 .f32) (a b : Vec Ideal S8192x128 .f32) (w : Vec Ideal S512x128 .f32) : Vec Ideal S512x2048 .f32 := fun y =>
  (x (ix2 (n0 := 512) (n1 := 2048) (y 0) (y 1))
    + (a (ix2 (n0 := 8192) (n1 := 128) (prow (y 0) (y 1)) (pcol (y 1))) * w (ix2 (n0 := 512) (n1 := 128) (y 0) 0)
      + b (ix2 (n0 := 8192) (n1 := 128) (prow (y 0) (y 1)) (pcol (y 1))) * w (ix2 (n0 := 512) (n1 := 128) (y 0) 1) : EReal) : EReal)

/-- A load of every sixteenth row from row `k` on. -/
theorem ld_strided {sg : RefSig} {κ : Kind} {sp : Space} (v : View sg κ sp S8192x128 .f32) (G : v.ty.Contents (Elt Ideal)) (f : Vec Ideal S8192x128 .f32) (hG : v.read (Elt Ideal) G = f)
    (k : ℕ) (hk : k < 16) (h) (r : Fin 512) (d : Fin 128) :
    v.readAt (Elt Ideal) (⟨![k, 0], S512x128.size, ![16, 1], h⟩ : LoadRect S8192x128) G (ix2 r d) = f (ix2 (n0 := 8192) (n1 := 128) ⟨16 * r.val + k, by omega⟩ d) := by
  rw [View.readAt_apply, hG]
  refine congrArg f (funext fun ax => Fin.ext ?_)
  fin_cases ax
  · show k + 16 * r.val = 16 * r.val + k; omega
  · show 0 + 1 * d.val = d.val; omega

/-- One stored column group. -/
theorem piece (x : Vec Ideal S512x2048 .f32) (a b : Vec Ideal S8192x128 .f32) (w : Vec Ideal S512x128 .f32) (k : ℕ) (hk : k < 16)
    (xq aq bq : FVec Ideal S512x128 .f32)
    (hx : ∀ r d, xq (ix2 r d) = x (ix2 (n0 := 512) (n1 := 2048) r ⟨128 * k + d.val, by omega⟩))
    (ha : ∀ r d, aq (ix2 r d) = a (ix2 (n0 := 8192) (n1 := 128) ⟨16 * r.val + k, by omega⟩ d))
    (hb : ∀ r d, bq (ix2 r d) = b (ix2 (n0 := 8192) (n1 := 128) ⟨16 * r.val + k, by omega⟩ d))
    (j : S512x128.Idx) (y : S512x2048.Idx) (h0 : (y 0).val = (j 0).val) (h1 : (y 1).val = 128 * k + (j 1).val) :
    addf xq (addf (mulf aq (broadcastTo S512x128 (extractStridedSlice S512x1 ![0, 0] w slices_S512x128_o0_0_S512x1) broadcasts_S512x1_S512x128))
      (mulf bq (broadcastTo S512x128 (extractStridedSlice S512x1 ![0, 1] w slices_S512x128_o0_1_S512x1) broadcasts_S512x1_S512x128))) j = block x a b w y := by
  idx_vars j
  idx_vars y
  have hj : j1.val < 128 := j1.isLt
  have e0 : y0 = j0 := Fin.ext h0
  subst e0
  have hlt : 128 * k + j1.val < 2048 := by omega
  have e1 : y1 = ⟨128 * k + j1.val, hlt⟩ := Fin.ext h1
  clear h1
  subst e1
  have hp : prow y0 ⟨128 * k + j1.val, hlt⟩ = ⟨16 * y0.val + k, by have := y0.isLt; omega⟩ := Fin.ext (by show 16 * y0.val + (128 * k + j1.val) / 128 = 16 * y0.val + k; omega)
  have hc : pcol ⟨128 * k + j1.val, hlt⟩ = j1 := Fin.ext (by show (128 * k + j1.val) % 128 = j1.val; omega)
  have hl : addf xq (addf (mulf aq (broadcastTo S512x128 (extractStridedSlice S512x1 ![0, 0] w slices_S512x128_o0_0_S512x1) broadcasts_S512x1_S512x128))
      (mulf bq (broadcastTo S512x128 (extractStridedSlice S512x1 ![0, 1] w slices_S512x128_o0_1_S512x1) broadcasts_S512x1_S512x128))) (ix2 y0 j1)
      = (xq (ix2 y0 j1) + (aq (ix2 y0 j1) * w (ix2 (n0 := 512) (n1 := 128) y0 0) + bq (ix2 y0 j1) * w (ix2 (n0 := 512) (n1 := 128) y0 1) : EReal) : EReal) := by
    pointwise
  refine hl.trans ?_
  rw [hx, ha, hb]
  show _ = (x (ix2 (n0 := 512) (n1 := 2048) y0 ⟨128 * k + j1.val, hlt⟩)
    + (a (ix2 (n0 := 8192) (n1 := 128) (prow y0 ⟨128 * k + j1.val, hlt⟩) (pcol ⟨128 * k + j1.val, hlt⟩)) * w (ix2 (n0 := 512) (n1 := 128) y0 0)
      + b (ix2 (n0 := 8192) (n1 := 128) (prow y0 ⟨128 * k + j1.val, hlt⟩) (pcol ⟨128 * k + j1.val, hlt⟩)) * w (ix2 (n0 := 512) (n1 := 128) y0 1) : EReal) : EReal)
  rw [hp, hc]

/-- What the body leaves in a block of the prompt. -/
theorem outA_eq (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : k0_cond1 i = 1#1) (hc2 : ¬ k0_cond2 i = 1#1)
    (x0 : Vec Ideal S512x2048 .f32) (x1 : Vec Ideal S8192x128 .f32) (x2 : Vec Ideal S8192x128 .f32) (x3 : Vec Ideal S512x128 .f32) (y : S512x2048.Idx) :
    VO4.read (Elt Ideal) (VO4.writes (Elt Ideal) VO4.junk (kernelRunA c i arg1 harg1 arg2 harg2 arg3 harg3 arg4 harg4 arg5 harg5 arg6 harg6 hc1 hc2 x0 x1 x2 x3).1) y = block x0 x1 x2 x3 y := by
  rw [View.read_writes_eq_canon _ _ _ (coverA c i arg1 harg1 arg2 harg2 arg3 harg3 arg4 harg4 arg5 harg5 arg6 harg6 hc1 hc2 x0 x1 x2 x3)]
  refine View.canon_apply_of_pieces (block x0 x1 x2 x3) _ (fun p hp j => ?_) y (coverA c i arg1 harg1 arg2 harg2 arg3 harg3 arg4 harg4 arg5 harg5 arg6 harg6 hc1 hc2 x0 x1 x2 x3 y)
  unfold kernelRunA at hp
  dsimp only at hp
  simp only [List.mem_cons, List.mem_nil_iff, or_false] at hp
  rcases hp with rfl | rfl | rfl | rfl | rfl | rfl | rfl | rfl | rfl | rfl | rfl | rfl | rfl | rfl | rfl | rfl
  all_goals
    dsimp only
    sl_unfold_words
    simp only [View.readAt_eq_ld, harg1.read_unread, harg2.read_unread, harg3.read_unread, harg4.read_unread]
    simp only [View.ld_unit_zero (S := S512x128) hz]
    simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  · exact piece x0 x1 x2 x3 15 (by omega) _ _ _ (fun _ _ => by pointwise) (fun r d => ld_strided _ _ x1 (harg2.read_unread _) 15 (by omega) _ r d) (fun r d => ld_strided _ _ x2 (harg3.read_unread _) 15 (by omega) _ r d) j _ (by show 0 + 1 * (j 0).val = (j 0).val; omega) (by show 1920 + 1 * (j 1).val = 128 * 15 + (j 1).val; omega)
  · exact piece x0 x1 x2 x3 14 (by omega) _ _ _ (fun _ _ => by pointwise) (fun r d => ld_strided _ _ x1 (harg2.read_unread _) 14 (by omega) _ r d) (fun r d => ld_strided _ _ x2 (harg3.read_unread _) 14 (by omega) _ r d) j _ (by show 0 + 1 * (j 0).val = (j 0).val; omega) (by show 1792 + 1 * (j 1).val = 128 * 14 + (j 1).val; omega)
  · exact piece x0 x1 x2 x3 13 (by omega) _ _ _ (fun _ _ => by pointwise) (fun r d => ld_strided _ _ x1 (harg2.read_unread _) 13 (by omega) _ r d) (fun r d => ld_strided _ _ x2 (harg3.read_unread _) 13 (by omega) _ r d) j _ (by show 0 + 1 * (j 0).val = (j 0).val; omega) (by show 1664 + 1 * (j 1).val = 128 * 13 + (j 1).val; omega)
  · exact piece x0 x1 x2 x3 12 (by omega) _ _ _ (fun _ _ => by pointwise) (fun r d => ld_strided _ _ x1 (harg2.read_unread _) 12 (by omega) _ r d) (fun r d => ld_strided _ _ x2 (harg3.read_unread _) 12 (by omega) _ r d) j _ (by show 0 + 1 * (j 0).val = (j 0).val; omega) (by show 1536 + 1 * (j 1).val = 128 * 12 + (j 1).val; omega)
  · exact piece x0 x1 x2 x3 11 (by omega) _ _ _ (fun _ _ => by pointwise) (fun r d => ld_strided _ _ x1 (harg2.read_unread _) 11 (by omega) _ r d) (fun r d => ld_strided _ _ x2 (harg3.read_unread _) 11 (by omega) _ r d) j _ (by show 0 + 1 * (j 0).val = (j 0).val; omega) (by show 1408 + 1 * (j 1).val = 128 * 11 + (j 1).val; omega)
  · exact piece x0 x1 x2 x3 10 (by omega) _ _ _ (fun _ _ => by pointwise) (fun r d => ld_strided _ _ x1 (harg2.read_unread _) 10 (by omega) _ r d) (fun r d => ld_strided _ _ x2 (harg3.read_unread _) 10 (by omega) _ r d) j _ (by show 0 + 1 * (j 0).val = (j 0).val; omega) (by show 1280 + 1 * (j 1).val = 128 * 10 + (j 1).val; omega)
  · exact piece x0 x1 x2 x3 9 (by omega) _ _ _ (fun _ _ => by pointwise) (fun r d => ld_strided _ _ x1 (harg2.read_unread _) 9 (by omega) _ r d) (fun r d => ld_strided _ _ x2 (harg3.read_unread _) 9 (by omega) _ r d) j _ (by show 0 + 1 * (j 0).val = (j 0).val; omega) (by show 1152 + 1 * (j 1).val = 128 * 9 + (j 1).val; omega)
  · exact piece x0 x1 x2 x3 8 (by omega) _ _ _ (fun _ _ => by pointwise) (fun r d => ld_strided _ _ x1 (harg2.read_unread _) 8 (by omega) _ r d) (fun r d => ld_strided _ _ x2 (harg3.read_unread _) 8 (by omega) _ r d) j _ (by show 0 + 1 * (j 0).val = (j 0).val; omega) (by show 1024 + 1 * (j 1).val = 128 * 8 + (j 1).val; omega)
  · exact piece x0 x1 x2 x3 7 (by omega) _ _ _ (fun _ _ => by pointwise) (fun r d => ld_strided _ _ x1 (harg2.read_unread _) 7 (by omega) _ r d) (fun r d => ld_strided _ _ x2 (harg3.read_unread _) 7 (by omega) _ r d) j _ (by show 0 + 1 * (j 0).val = (j 0).val; omega) (by show 896 + 1 * (j 1).val = 128 * 7 + (j 1).val; omega)
  · exact piece x0 x1 x2 x3 6 (by omega) _ _ _ (fun _ _ => by pointwise) (fun r d => ld_strided _ _ x1 (harg2.read_unread _) 6 (by omega) _ r d) (fun r d => ld_strided _ _ x2 (harg3.read_unread _) 6 (by omega) _ r d) j _ (by show 0 + 1 * (j 0).val = (j 0).val; omega) (by show 768 + 1 * (j 1).val = 128 * 6 + (j 1).val; omega)
  · exact piece x0 x1 x2 x3 5 (by omega) _ _ _ (fun _ _ => by pointwise) (fun r d => ld_strided _ _ x1 (harg2.read_unread _) 5 (by omega) _ r d) (fun r d => ld_strided _ _ x2 (harg3.read_unread _) 5 (by omega) _ r d) j _ (by show 0 + 1 * (j 0).val = (j 0).val; omega) (by show 640 + 1 * (j 1).val = 128 * 5 + (j 1).val; omega)
  · exact piece x0 x1 x2 x3 4 (by omega) _ _ _ (fun _ _ => by pointwise) (fun r d => ld_strided _ _ x1 (harg2.read_unread _) 4 (by omega) _ r d) (fun r d => ld_strided _ _ x2 (harg3.read_unread _) 4 (by omega) _ r d) j _ (by show 0 + 1 * (j 0).val = (j 0).val; omega) (by show 512 + 1 * (j 1).val = 128 * 4 + (j 1).val; omega)
  · exact piece x0 x1 x2 x3 3 (by omega) _ _ _ (fun _ _ => by pointwise) (fun r d => ld_strided _ _ x1 (harg2.read_unread _) 3 (by omega) _ r d) (fun r d => ld_strided _ _ x2 (harg3.read_unread _) 3 (by omega) _ r d) j _ (by show 0 + 1 * (j 0).val = (j 0).val; omega) (by show 384 + 1 * (j 1).val = 128 * 3 + (j 1).val; omega)
  · exact piece x0 x1 x2 x3 2 (by omega) _ _ _ (fun _ _ => by pointwise) (fun r d => ld_strided _ _ x1 (harg2.read_unread _) 2 (by omega) _ r d) (fun r d => ld_strided _ _ x2 (harg3.read_unread _) 2 (by omega) _ r d) j _ (by show 0 + 1 * (j 0).val = (j 0).val; omega) (by show 256 + 1 * (j 1).val = 128 * 2 + (j 1).val; omega)
  · exact piece x0 x1 x2 x3 1 (by omega) _ _ _ (fun _ _ => by pointwise) (fun r d => ld_strided _ _ x1 (harg2.read_unread _) 1 (by omega) _ r d) (fun r d => ld_strided _ _ x2 (harg3.read_unread _) 1 (by omega) _ r d) j _ (by show 0 + 1 * (j 0).val = (j 0).val; omega) (by show 128 + 1 * (j 1).val = 128 * 1 + (j 1).val; omega)
  · exact piece x0 x1 x2 x3 0 (by omega) _ _ _ (fun _ _ => by pointwise) (fun r d => ld_strided _ _ x1 (harg2.read_unread _) 0 (by omega) _ r d) (fun r d => ld_strided _ _ x2 (harg3.read_unread _) 0 (by omega) _ r d) j _ (by show 0 + 1 * (j 0).val = (j 0).val; omega) (by show 0 + 1 * (j 1).val = 128 * 0 + (j 1).val; omega)

/-- What the body leaves in the sample's block. -/
theorem outB_eq (c : Dev nD) (i : grid0.Coords) (arg1 : Memref sig .tc .vmem S512x2048 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S512x2048 .f32) (harg5 : arg5.IsWhole) (arg6 : Memref sig .tc .vmem S512x2048 .f32) (harg6 : arg6.IsWhole) (hc1 : ¬ k0_cond1 i = 1#1) (hc2 : k0_cond2 i = 1#1)
    (x0 : Vec Ideal S512x2048 .f32) (x1 : Vec Ideal S8192x128 .f32) (x2 : Vec Ideal S8192x128 .f32) (x3 : Vec Ideal S512x128 .f32) (y : S512x2048.Idx) :
    VO5.read (Elt Ideal) (VO5.writes (Elt Ideal) VO5.junk (kernelRunB c i arg1 harg1 arg2 harg2 arg3 harg3 arg4 harg4 arg5 harg5 arg6 harg6 hc1 hc2 x0 x1 x2 x3).1) y = block x0 x1 x2 x3 y := by
  rw [View.read_writes_eq_canon _ _ _ (coverB c i arg1 harg1 arg2 harg2 arg3 harg3 arg4 harg4 arg5 harg5 arg6 harg6 hc1 hc2 x0 x1 x2 x3)]
  refine View.canon_apply_of_pieces (block x0 x1 x2 x3) _ (fun p hp j => ?_) y (coverB c i arg1 harg1 arg2 harg2 arg3 harg3 arg4 harg4 arg5 harg5 arg6 harg6 hc1 hc2 x0 x1 x2 x3 y)
  unfold kernelRunB at hp
  dsimp only at hp
  simp only [List.mem_cons, List.mem_nil_iff, or_false] at hp
  rcases hp with rfl | rfl | rfl | rfl | rfl | rfl | rfl | rfl | rfl | rfl | rfl | rfl | rfl | rfl | rfl | rfl
  all_goals
    dsimp only
    sl_unfold_words
    simp only [View.readAt_eq_ld, harg1.read_unread, harg2.read_unread, harg3.read_unread, harg4.read_unread]
    simp only [View.ld_unit_zero (S := S512x128) hz]
    simp only [k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  · exact piece x0 x1 x2 x3 15 (by omega) _ _ _ (fun _ _ => by pointwise) (fun r d => ld_strided _ _ x1 (harg2.read_unread _) 15 (by omega) _ r d) (fun r d => ld_strided _ _ x2 (harg3.read_unread _) 15 (by omega) _ r d) j _ (by show 0 + 1 * (j 0).val = (j 0).val; omega) (by show 1920 + 1 * (j 1).val = 128 * 15 + (j 1).val; omega)
  · exact piece x0 x1 x2 x3 14 (by omega) _ _ _ (fun _ _ => by pointwise) (fun r d => ld_strided _ _ x1 (harg2.read_unread _) 14 (by omega) _ r d) (fun r d => ld_strided _ _ x2 (harg3.read_unread _) 14 (by omega) _ r d) j _ (by show 0 + 1 * (j 0).val = (j 0).val; omega) (by show 1792 + 1 * (j 1).val = 128 * 14 + (j 1).val; omega)
  · exact piece x0 x1 x2 x3 13 (by omega) _ _ _ (fun _ _ => by pointwise) (fun r d => ld_strided _ _ x1 (harg2.read_unread _) 13 (by omega) _ r d) (fun r d => ld_strided _ _ x2 (harg3.read_unread _) 13 (by omega) _ r d) j _ (by show 0 + 1 * (j 0).val = (j 0).val; omega) (by show 1664 + 1 * (j 1).val = 128 * 13 + (j 1).val; omega)
  · exact piece x0 x1 x2 x3 12 (by omega) _ _ _ (fun _ _ => by pointwise) (fun r d => ld_strided _ _ x1 (harg2.read_unread _) 12 (by omega) _ r d) (fun r d => ld_strided _ _ x2 (harg3.read_unread _) 12 (by omega) _ r d) j _ (by show 0 + 1 * (j 0).val = (j 0).val; omega) (by show 1536 + 1 * (j 1).val = 128 * 12 + (j 1).val; omega)
  · exact piece x0 x1 x2 x3 11 (by omega) _ _ _ (fun _ _ => by pointwise) (fun r d => ld_strided _ _ x1 (harg2.read_unread _) 11 (by omega) _ r d) (fun r d => ld_strided _ _ x2 (harg3.read_unread _) 11 (by omega) _ r d) j _ (by show 0 + 1 * (j 0).val = (j 0).val; omega) (by show 1408 + 1 * (j 1).val = 128 * 11 + (j 1).val; omega)
  · exact piece x0 x1 x2 x3 10 (by omega) _ _ _ (fun _ _ => by pointwise) (fun r d => ld_strided _ _ x1 (harg2.read_unread _) 10 (by omega) _ r d) (fun r d => ld_strided _ _ x2 (harg3.read_unread _) 10 (by omega) _ r d) j _ (by show 0 + 1 * (j 0).val = (j 0).val; omega) (by show 1280 + 1 * (j 1).val = 128 * 10 + (j 1).val; omega)
  · exact piece x0 x1 x2 x3 9 (by omega) _ _ _ (fun _ _ => by pointwise) (fun r d => ld_strided _ _ x1 (harg2.read_unread _) 9 (by omega) _ r d) (fun r d => ld_strided _ _ x2 (harg3.read_unread _) 9 (by omega) _ r d) j _ (by show 0 + 1 * (j 0).val = (j 0).val; omega) (by show 1152 + 1 * (j 1).val = 128 * 9 + (j 1).val; omega)
  · exact piece x0 x1 x2 x3 8 (by omega) _ _ _ (fun _ _ => by pointwise) (fun r d => ld_strided _ _ x1 (harg2.read_unread _) 8 (by omega) _ r d) (fun r d => ld_strided _ _ x2 (harg3.read_unread _) 8 (by omega) _ r d) j _ (by show 0 + 1 * (j 0).val = (j 0).val; omega) (by show 1024 + 1 * (j 1).val = 128 * 8 + (j 1).val; omega)
  · exact piece x0 x1 x2 x3 7 (by omega) _ _ _ (fun _ _ => by pointwise) (fun r d => ld_strided _ _ x1 (harg2.read_unread _) 7 (by omega) _ r d) (fun r d => ld_strided _ _ x2 (harg3.read_unread _) 7 (by omega) _ r d) j _ (by show 0 + 1 * (j 0).val = (j 0).val; omega) (by show 896 + 1 * (j 1).val = 128 * 7 + (j 1).val; omega)
  · exact piece x0 x1 x2 x3 6 (by omega) _ _ _ (fun _ _ => by pointwise) (fun r d => ld_strided _ _ x1 (harg2.read_unread _) 6 (by omega) _ r d) (fun r d => ld_strided _ _ x2 (harg3.read_unread _) 6 (by omega) _ r d) j _ (by show 0 + 1 * (j 0).val = (j 0).val; omega) (by show 768 + 1 * (j 1).val = 128 * 6 + (j 1).val; omega)
  · exact piece x0 x1 x2 x3 5 (by omega) _ _ _ (fun _ _ => by pointwise) (fun r d => ld_strided _ _ x1 (harg2.read_unread _) 5 (by omega) _ r d) (fun r d => ld_strided _ _ x2 (harg3.read_unread _) 5 (by omega) _ r d) j _ (by show 0 + 1 * (j 0).val = (j 0).val; omega) (by show 640 + 1 * (j 1).val = 128 * 5 + (j 1).val; omega)
  · exact piece x0 x1 x2 x3 4 (by omega) _ _ _ (fun _ _ => by pointwise) (fun r d => ld_strided _ _ x1 (harg2.read_unread _) 4 (by omega) _ r d) (fun r d => ld_strided _ _ x2 (harg3.read_unread _) 4 (by omega) _ r d) j _ (by show 0 + 1 * (j 0).val = (j 0).val; omega) (by show 512 + 1 * (j 1).val = 128 * 4 + (j 1).val; omega)
  · exact piece x0 x1 x2 x3 3 (by omega) _ _ _ (fun _ _ => by pointwise) (fun r d => ld_strided _ _ x1 (harg2.read_unread _) 3 (by omega) _ r d) (fun r d => ld_strided _ _ x2 (harg3.read_unread _) 3 (by omega) _ r d) j _ (by show 0 + 1 * (j 0).val = (j 0).val; omega) (by show 384 + 1 * (j 1).val = 128 * 3 + (j 1).val; omega)
  · exact piece x0 x1 x2 x3 2 (by omega) _ _ _ (fun _ _ => by pointwise) (fun r d => ld_strided _ _ x1 (harg2.read_unread _) 2 (by omega) _ r d) (fun r d => ld_strided _ _ x2 (harg3.read_unread _) 2 (by omega) _ r d) j _ (by show 0 + 1 * (j 0).val = (j 0).val; omega) (by show 256 + 1 * (j 1).val = 128 * 2 + (j 1).val; omega)
  · exact piece x0 x1 x2 x3 1 (by omega) _ _ _ (fun _ _ => by pointwise) (fun r d => ld_strided _ _ x1 (harg2.read_unread _) 1 (by omega) _ r d) (fun r d => ld_strided _ _ x2 (harg3.read_unread _) 1 (by omega) _ r d) j _ (by show 0 + 1 * (j 0).val = (j 0).val; omega) (by show 128 + 1 * (j 1).val = 128 * 1 + (j 1).val; omega)
  · exact piece x0 x1 x2 x3 0 (by omega) _ _ _ (fun _ _ => by pointwise) (fun r d => ld_strided _ _ x1 (harg2.read_unread _) 0 (by omega) _ r d) (fun r d => ld_strided _ _ x2 (harg3.read_unread _) 0 (by omega) _ r d) j _ (by show 0 + 1 * (j 0).val = (j 0).val; omega) (by show 0 + 1 * (j 1).val = 128 * 0 + (j 1).val; omega)

end Cert.CombineIdeal.Blk

end
-- ==== Proof.CombineValue.lean ====
/- The combination: from the blocks to the two whole results, and the run. -/
module

public import proofs.«01_k».proof.Proof.CombineSpec
public import proofs.«01_k».proof.Proof.CombineBlock
public import Idealize.ShloMosaic.Lib.Pointwise

@[expose] public section

set_option maxRecDepth 16384

noncomputable section

open Idealize.ShloMosaic Idealize.ShloMosaic.TcCoe Idealize.SL.Sem

namespace Cert.CombineIdeal.Final

open Cert.CombineIdeal Cert.CombineIdeal.Gen Cert.CombineIdeal.Hand Cert.CombineSpec

variable (m : (ℓ : Loc nD τ sig) → Buf (Elt Ideal) ℓ) (ρ : Dev nD → PrngReg)

/-- The index maps over the grid: point `t` takes row tile `t` of the residual stream and of the weights, tiles
    `t` and `33 + t` of the experts' outputs; the prompt's tile stays at its last, the sample's one tile
    throughout. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 33 + t.val ∧ win0_2.index t (1 : Fin 2) = 0
    ∧ win0_3.index t (0 : Fin 2) = t.val ∧ win0_3.index t (1 : Fin 2) = 0
    ∧ win0_4.index t (0 : Fin 2) = min t.val 31 ∧ win0_4.index t (1 : Fin 2) = 0
    ∧ win0_5.index t (0 : Fin 2) = 0 ∧ win0_5.index t (1 : Fin 2) = 0 :=
  (by decide +kernel : ∀ t : Fin grid0.N, _)

theorem x_apply (c : Dev nD) (t : Fin cfg0.N) (r : Fin 512) (k : Fin 2048) (i : S16896x2048.Idx)
    (h0 : (i 0).val = t.val * 512 + r.val) (h1 : (i 1).val = k.val) :
    iblk m c 0 t (ix2 (n0 := 512) (n1 := 2048) r k) = m ((c : Thread nD τ).loc main_arg0) i := by
  unfold iblk
  rw [View.read_apply]
  show V m c main_arg0 _ = _
  rw [V_main_arg0]
  congr 1
  have ei := idx_in t
  funext a
  apply Fin.ext
  match a with
  | ⟨0, _⟩ => show win0_0.index t (0 : Fin 2) * 512 + 1 * r.val = (i 0).val; omega
  | ⟨1, _⟩ => show win0_0.index t (1 : Fin 2) * 2048 + 1 * k.val = (i 1).val; omega

theorem a_apply (c : Dev nD) (t : Fin cfg0.N) (r : Fin 8192) (k : Fin 128) (i : S548864x128.Idx)
    (h0 : (i 0).val = t.val * 8192 + r.val) (h1 : (i 1).val = k.val) :
    iblk m c 1 t (ix2 (n0 := 8192) (n1 := 128) r k) = m ((c : Thread nD τ).loc main_arg1) i := by
  unfold iblk
  rw [View.read_apply]
  show V m c main_arg1 _ = _
  rw [V_main_arg1]
  congr 1
  have ei := idx_in t
  funext a
  apply Fin.ext
  match a with
  | ⟨0, _⟩ => show win0_1.index t (0 : Fin 2) * 8192 + 1 * r.val = (i 0).val; omega
  | ⟨1, _⟩ => show win0_1.index t (1 : Fin 2) * 128 + 1 * k.val = (i 1).val; omega

theorem b_apply (c : Dev nD) (t : Fin cfg0.N) (r : Fin 8192) (k : Fin 128) (i : S548864x128.Idx)
    (h0 : (i 0).val = (33 + t.val) * 8192 + r.val) (h1 : (i 1).val = k.val) :
    iblk m c 2 t (ix2 (n0 := 8192) (n1 := 128) r k) = m ((c : Thread nD τ).loc main_arg1) i := by
  unfold iblk
  rw [View.read_apply]
  show V m c main_arg1 _ = _
  rw [V_main_arg1]
  congr 1
  have ei := idx_in t
  funext a
  apply Fin.ext
  match a with
  | ⟨0, _⟩ => show win0_2.index t (0 : Fin 2) * 8192 + 1 * r.val = (i 0).val; omega
  | ⟨1, _⟩ => show win0_2.index t (1 : Fin 2) * 128 + 1 * k.val = (i 1).val; omega

theorem w_apply (c : Dev nD) (t : Fin cfg0.N) (r : Fin 512) (k : Fin 128) (i : S16896x128.Idx)
    (h0 : (i 0).val = t.val * 512 + r.val) (h1 : (i 1).val = k.val) :
    iblk m c 3 t (ix2 (n0 := 512) (n1 := 128) r k) = m ((c : Thread nD τ).loc main_arg2) i := by
  unfold iblk
  rw [View.read_apply]
  show V m c main_arg2 _ = _
  rw [V_main_arg2]
  congr 1
  have ei := idx_in t
  funext a
  apply Fin.ext
  match a with
  | ⟨0, _⟩ => show win0_3.index t (0 : Fin 2) * 512 + 1 * r.val = (i 0).val; omega
  | ⟨1, _⟩ => show win0_3.index t (1 : Fin 2) * 128 + 1 * k.val = (i 1).val; omega

/-- The prompt's result as a function of the arguments. -/
abbrev resultP (c : Dev nD) : Buf (Elt Ideal) ((c : Thread nD τ).loc main_v0_0) :=
  prompt (m ((c : Thread nD τ).loc main_arg0)) (m ((c : Thread nD τ).loc main_arg1)) (m ((c : Thread nD τ).loc main_arg2))

/-- The sample's result as a function of the arguments. -/
abbrev resultS (c : Dev nD) : Buf (Elt Ideal) ((c : Thread nD τ).loc main_v0_1) :=
  sample (m ((c : Thread nD τ).loc main_arg0)) (m ((c : Thread nD τ).loc main_arg1)) (m ((c : Thread nD τ).loc main_arg2))

/-- A point's block at its entry `(r, e)` is the combination at its row. -/
theorem block_eq (c : Dev nD) (t : Fin cfg0.N) (r : Fin 512) (e : Fin 2048) (n : Fin 16896) (hn : n.val = t.val * 512 + r.val) :
    Blk.block (iblk m c 0 t) (iblk m c 1 t) (iblk m c 2 t) (iblk m c 3 t) (ix2 (n0 := 512) (n1 := 2048) r e)
      = comb (m ((c : Thread nD τ).loc main_arg0)) (m ((c : Thread nD τ).loc main_arg1)) (m ((c : Thread nD τ).loc main_arg2)) n e := by
  have ht : t.val < 33 := t.isLt
  unfold Blk.block comb
  refine congrArg₂ (fun a b : EReal => a + b) (x_apply m c t r e _ hn rfl)
    (congrArg₂ (fun a b : EReal => a + b)
      (congrArg₂ (fun a b : EReal => a * b) (a_apply m c t (Blk.prow r e) (Blk.pcol e) _ ?_ rfl) (w_apply m c t r 0 _ hn rfl))
      (congrArg₂ (fun a b : EReal => a * b) (b_apply m c t (Blk.prow r e) (Blk.pcol e) _ ?_ rfl) (w_apply m c t r 1 _ hn rfl)))
  · show 16 * n.val + e.val / 128 = t.val * 8192 + (16 * r.val + e.val / 128); omega
  · show 16 * (16896 + n.val) + e.val / 128 = (33 + t.val) * 8192 + (16 * r.val + e.val / 128); omega

/-- What a point before the last leaves in its block of the prompt. -/
theorem outA_apply (c : Dev nD) (t : Fin cfg0.N) (h : t.val < 32) (y : S512x2048.Idx) (i : S16384x2048.Idx)
    (h0 : (i 0).val = t.val * 512 + (y 0).val) (h1 : (i 1).val = (y 1).val) :
    outA m c t h y = resultP m c i := by
  unfold outA
  refine (Blk.outA_eq c _ _ _ _ _ _ _ _ _ _ _ _ _ _ _ _ _ _ _ y).trans ?_
  idx_vars y
  have e1 : (y1 : Fin 2048) = i 1 := Fin.ext h1.symm
  subst e1
  exact block_eq m c t y0 (i 1) _ h0

/-- What the last point leaves in the sample's block. -/
theorem outB_apply (c : Dev nD) (t : Fin cfg0.N) (h : ¬ t.val < 32) (y : S512x2048.Idx) (i : S512x2048.Idx)
    (h0 : (i 0).val = (y 0).val) (h1 : (i 1).val = (y 1).val) :
    outB m c t h y = resultS m c i := by
  have ht : t.val < 33 := t.isLt
  unfold outB
  refine (Blk.outB_eq c _ _ _ _ _ _ _ _ _ _ _ _ _ _ _ _ _ _ _ y).trans ?_
  idx_vars y
  have e1 : (y1 : Fin 2048) = i 1 := Fin.ext h1.symm
  subst e1
  refine block_eq m c t y0 (i 1) _ ?_
  have h0' : (i 0).val = y0.val := h0
  show 16384 + (i 0).val = t.val * 512 + y0.val
  omega

/-- The prompt's block after a point, the last included. -/
theorem out4_apply (c : Dev nD) (t : Fin cfg0.N) (y : S512x2048.Idx) (i : S16384x2048.Idx)
    (h0 : (i 0).val = min t.val 31 * 512 + (y 0).val) (h1 : (i 1).val = (y 1).val) :
    out4 m c t y = resultP m c i := by
  by_cases h : t.val < 32
  · rw [out4_lt m c t h]
    exact outA_apply m c t h y i (by omega) h1
  · rw [out4_last m c t h, out4_lt m c t31 (by decide)]
    refine outA_apply m c t31 _ y i ?_ h1
    show (i 0).val = 31 * 512 + (y 0).val
    omega

theorem flushed4_eq (c : Dev nD) (t : Fin cfg0.N) :
    (dats m 0 c).flushed 4 t = ((cfg0.win 4).blk t).view.read (Elt Ideal) (resultP m c) := by
  have hfl : (dats m 0 c).flushed 4 t = (cfg0.win 4).cut (grid0.coords t) (out4 m c t) := by
    show (cfg0.win 4).cut (grid0.coords t) ((dats m 0 c).after 4 t) = _
    rw [after_4]
  rw [hfl]
  have ei := idx_in t
  funext y
  have hb0 : (((cfg0.win 4).blk t).view.emb y 0).val = win0_4.index t (0 : Fin 2) * 512 + 1 * (y 0).val := rfl
  have hb1 : (((cfg0.win 4).blk t).view.emb y 1).val = win0_4.index t (1 : Fin 2) * 2048 + 1 * (y 1).val := rfl
  rw [View.read_apply]
  exact out4_apply m c t _ _ (by show (((cfg0.win 4).blk t).view.emb y 0).val = min t.val 31 * 512 + (y 0).val; omega)
    (by show (((cfg0.win 4).blk t).view.emb y 1).val = (y 1).val; omega)

theorem flushed5_eq (c : Dev nD) (t : Fin cfg0.N) (h : ¬ t.val < 32) :
    (dats m 0 c).flushed 5 t = ((cfg0.win 5).blk t).view.read (Elt Ideal) (resultS m c) := by
  have hfl : (dats m 0 c).flushed 5 t = (cfg0.win 5).cut (grid0.coords t) (outB m c t h) := by
    show (cfg0.win 5).cut (grid0.coords t) ((dats m 0 c).after 5 t) = _
    rw [after_5, out5_last m c t h]
  rw [hfl]
  have ei := idx_in t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 2048 + 1 * (y 1).val := rfl
  rw [View.read_apply]
  exact outB_apply m c t h _ _ (by show (((cfg0.win 5).blk t).view.emb y 0).val = (y 0).val; omega)
    (by show (((cfg0.win 5).blk t).view.emb y 1).val = (y 1).val; omega)

/-- Which entries of the prompt's result a point's block holds. -/
theorem mem_blk4 (i : S16384x2048.Idx) (t : Fin cfg0.N) :
    i ∈ ((cfg0.win 4).blk t).view.set ↔ ∀ a : Fin 2, win0_4.index t a * (![512, 2048] : Fin 2 → ℕ) a ≤ (i a).val ∧ (i a).val < win0_4.index t a * (![512, 2048] : Fin 2 → ℕ) a + (![512, 2048] : Fin 2 → ℕ) a := by
  show i ∈ ((View.whole main_v0_0).slice (win0_4.rect t)).set ↔ _
  rw [View.set_slice_whole, Rect.mem_set_unit]
  exact Iff.rfl

/-- Which entries of the sample's result a point's block holds. -/
theorem mem_blk5 (i : S512x2048.Idx) (t : Fin cfg0.N) :
    i ∈ ((cfg0.win 5).blk t).view.set ↔ ∀ a : Fin 2, win0_5.index t a * (![512, 2048] : Fin 2 → ℕ) a ≤ (i a).val ∧ (i a).val < win0_5.index t a * (![512, 2048] : Fin 2 → ℕ) a + (![512, 2048] : Fin 2 → ℕ) a := by
  show i ∈ ((View.whole main_v0_1).slice (win0_5.rect t)).set ↔ _
  rw [View.set_slice_whole, Rect.mem_set_unit]
  exact Iff.rfl

/-- The last point. -/
def t32 : Fin cfg0.N := ⟨32, by decide⟩

/-- The block `b` of the prompt is written back at point `b`, its last one at the last point. -/
theorem covered4 (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  by_cases h : (i 0).val / 512 = 31
  · refine ⟨t32, (flush_4 t32).trans (by decide), (mem_blk4 i _).2 fun a => ?_⟩
    obtain ⟨-, -, -, -, -, -, -, -, e0, e1, -, -⟩ := idx_in t32
    match a with
    | ⟨0, _⟩ =>
      show win0_4.index _ (0 : Fin 2) * 512 ≤ (i 0).val ∧ (i 0).val < win0_4.index _ (0 : Fin 2) * 512 + 512
      rw [e0, show min t32.val 31 = 31 from rfl]; omega
    | ⟨1, _⟩ =>
      show win0_4.index _ (1 : Fin 2) * 2048 ≤ (i 1).val ∧ (i 1).val < win0_4.index _ (1 : Fin 2) * 2048 + 2048
      rw [e1]; omega
  · have hlt : (i 0).val / 512 < 33 := by omega
    refine ⟨⟨(i 0).val / 512, hlt⟩, (flush_4 _).trans (by simp [h]), (mem_blk4 i _).2 fun a => ?_⟩
    obtain ⟨-, -, -, -, -, -, -, -, e0, e1, -, -⟩ := idx_in ⟨(i 0).val / 512, hlt⟩
    match a with
    | ⟨0, _⟩ =>
      show win0_4.index _ (0 : Fin 2) * 512 ≤ (i 0).val ∧ (i 0).val < win0_4.index _ (0 : Fin 2) * 512 + 512
      rw [e0]; dsimp only; omega
    | ⟨1, _⟩ =>
      show win0_4.index _ (1 : Fin 2) * 2048 ≤ (i 1).val ∧ (i 1).val < win0_4.index _ (1 : Fin 2) * 2048 + 2048
      rw [e1]; omega

/-- The sample's one block is written back at the last point. -/
theorem covered5 (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  refine ⟨t32, (flush_5 t32).trans (by decide), (mem_blk5 i _).2 fun a => ?_⟩
  obtain ⟨-, -, -, -, -, -, -, -, -, -, e0, e1⟩ := idx_in t32
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 2048 ≤ (i 1).val ∧ (i 1).val < win0_5.index _ (1 : Fin 2) * 2048 + 2048
    rw [e1]; omega

theorem final4 (c : Dev nD) : (dats m 0 c).arrAt 4 cfg0.N = resultP m c :=
  (dats m 0 c).arrAt_eq_of_cover 4 _ (fun t _ => flushed4_eq m c t) (fun i => covered4 i)

theorem final5 (c : Dev nD) : (dats m 0 c).arrAt 5 cfg0.N = resultS m c :=
  (dats m 0 c).arrAt_eq_of_cover 5 _ (fun t hf => flushed5_eq m c t (fun h => by
    rw [flush_5 t] at hf; simp [h] at hf)) (fun i => covered5 i)

/-- The run: the two result arrays at the functions of the arguments, the arguments unchanged. -/
theorem run : θ_run defs (onTc (τ := τ) (main (F := Ideal))) ⟨m, fun _ => 0, ρ⟩ fun r => ∀ c : Dev nD,
      r.2.mem ((c : Thread nD τ).loc main_v0_0) = resultP m c
      ∧ r.2.mem ((c : Thread nD τ).loc main_v0_1) = resultS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1.1 c).1 4).trans (final4 m c), ((h.1.1 c).1 5).trans (final5 m c), h.2 c⟩)
    (θ_run_and (run_main m ρ) (frame_of m ρ (dats m) (A_eq m) ((θ_run defs _ _).mono (fun _ h => h.1) (run_main m ρ))))

end Cert.CombineIdeal.Final

end
-- ==== Proof.CombineRefValue.lean ====
/- The combination, the reference's side: its two results at an index. -/
module

public import proofs.«01_k».proof.Proof.CombineSpec
public import proofs.«01_k».proof.Proof.Gen.CombineRefIdeal.Read
public import proofs.«01_k».proof.Proof.Gen.CombineRefIdeal.Run
public import Idealize.ShloMosaic.Lib.Pointwise

@[expose] public section

set_option maxRecDepth 16384

noncomputable section

open Idealize.ShloMosaic Idealize.ShloMosaic.TcCoe Idealize.SL.Sem

namespace Cert.CombineRefIdeal.Final

open Cert.CombineRefIdeal Cert.CombineRefIdeal.Gen Cert.CombineRefIdeal.Read Cert.CombineSpec

/-- Expert `k`'s output for a token, at its weight. -/
theorem v7_apply (x1 : (⟨S548864x128, .f32⟩ : BufTy).Contents (Elt Ideal)) (x2 : (⟨S16896x128, .f32⟩ : BufTy).Contents (Elt Ideal))
    (k : Fin 2) (n : Fin 16896) (d : Fin 2048) :
    val_main_v7 x1 x2 (ix3 (n0 := 2) (n1 := 16896) (n2 := 2048) k n d)
      = (x1 (ix2 (n0 := 548864) (n1 := 128) (prow (16896 * k.val + n.val) (by omega) d) (pcol d)) * x2 (ix2 (n0 := 16896) (n1 := 128) n ⟨k.val, by omega⟩) : EReal) := by
  simp only [val_main_v7_apply, val_main_v2_apply, val_main_v1_apply, val_main_v0_apply, val_main_v6_apply, val_main_v5_apply, val_main_v4_apply, val_main_v3_apply]
  refine congrArg₂ (fun a b : EReal => a * b) (congrArg x1 (funext fun a => Fin.ext ?_)) (congrArg x2 (funext fun a => Fin.ext ?_))
  · match a with
    | ⟨0, _⟩ =>
      show ((((k.val * 16896 + n.val) * 2048 + d.val) / 2048) * 2048 + ((k.val * 16896 + n.val) * 2048 + d.val) % 2048) / 128 = 16 * (16896 * k.val + n.val) + d.val / 128
      omega
    | ⟨1, _⟩ =>
      show ((((k.val * 16896 + n.val) * 2048 + d.val) / 2048) * 2048 + ((k.val * 16896 + n.val) * 2048 + d.val) % 2048) % 128 = d.val % 128
      omega
  · match a with
    | ⟨0, _⟩ => rfl
    | ⟨1, _⟩ => rfl

/-- The sum, before it is cut in two. -/
theorem v9_apply (x0 : (⟨S16896x2048, .f32⟩ : BufTy).Contents (Elt Ideal)) (x1 : (⟨S548864x128, .f32⟩ : BufTy).Contents (Elt Ideal)) (x2 : (⟨S16896x128, .f32⟩ : BufTy).Contents (Elt Ideal))
    (n : Fin 16896) (d : Fin 2048) :
    val_main_v9 x0 x1 x2 (ix2 (n0 := 16896) (n1 := 2048) n d) = comb x0 x1 x2 n d := by
  rw [val_main_v9_apply, val_main_v8_apply, Fin.sum_univ_two]
  have e : ∀ k : Fin 2, idx_main_v8 (ix2 (n0 := 16896) (n1 := 2048) n d) k = ix3 (n0 := 2) (n1 := 16896) (n2 := 2048) k n d := fun k =>
    funext fun a => Fin.ext (match a with
      | ⟨0, _⟩ => rfl
      | ⟨1, _⟩ => rfl
      | ⟨2, _⟩ => rfl)
  rw [e 0, e 1, v7_apply, v7_apply]
  have hz : (val_main_cst (F := Ideal)) (Shape.Idx.first h_S_) = (0 : EReal) := by
    pointwise [val_main_cst]
  rw [hz]
  unfold comb
  refine congrArg (fun b : EReal => x0 (ix2 (n0 := 16896) (n1 := 2048) n d) + b) ?_
  refine (zero_add _).trans (congrArg₂ (fun a b : EReal => a + b) (congrArg₂ (fun a b : EReal => a * b) (congrArg (fun r => x1 (ix2 (n0 := 548864) (n1 := 128) r (pcol d))) (Fin.ext ?_)) rfl)
    (congrArg₂ (fun a b : EReal => a * b) (congrArg (fun r => x1 (ix2 (n0 := 548864) (n1 := 128) r (pcol d))) (Fin.ext ?_)) rfl))
  · show 16 * (16896 * 0 + n.val) + d.val / 128 = 16 * n.val + d.val / 128; omega
  · show 16 * (16896 * 1 + n.val) + d.val / 128 = 16 * (16896 + n.val) + d.val / 128; omega

theorem prompt_eq (x0 : (⟨S16896x2048, .f32⟩ : BufTy).Contents (Elt Ideal)) (x1 : (⟨S548864x128, .f32⟩ : BufTy).Contents (Elt Ideal)) (x2 : (⟨S16896x128, .f32⟩ : BufTy).Contents (Elt Ideal)) :
    val_main_v10 x0 x1 x2 = prompt x0 x1 x2 := by
  funext i
  rw [val_main_v10_apply]
  refine Eq.trans ?_ (v9_apply x0 x1 x2 ⟨(i 0).val, Nat.lt_of_lt_of_le (show (i 0).val < 16384 from (i 0).isLt) (by decide)⟩ (i 1))
  exact congrArg (val_main_v9 x0 x1 x2) (funext fun a => Fin.ext (match a with
    | ⟨0, _⟩ => rfl
    | ⟨1, _⟩ => rfl))

theorem sample_eq (x0 : (⟨S16896x2048, .f32⟩ : BufTy).Contents (Elt Ideal)) (x1 : (⟨S548864x128, .f32⟩ : BufTy).Contents (Elt Ideal)) (x2 : (⟨S16896x128, .f32⟩ : BufTy).Contents (Elt Ideal)) :
    val_main_v11 x0 x1 x2 = sample x0 x1 x2 := by
  funext i
  rw [val_main_v11_apply]
  refine Eq.trans ?_ (v9_apply x0 x1 x2 ⟨16384 + (i 0).val, Nat.add_lt_add_left (show (i 0).val < 512 from (i 0).isLt) 16384⟩ (i 1))
  exact congrArg (val_main_v9 x0 x1 x2) (funext fun a => Fin.ext (match a with
    | ⟨0, _⟩ => rfl
    | ⟨1, _⟩ => rfl))

end Cert.CombineRefIdeal.Final

end
-- ==== Proof.lean ====
module

public import proofs.«01_k».proof.Defs
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixRefIdeal
public import proofs.«01_k».proof.Proof.Gen.LowRank
public import proofs.«01_k».proof.Proof.Gen.LowRank.Skeleton
public import proofs.«01_k».proof.Proof.Gen.LowRank.Launch
public import proofs.«01_k».proof.Proof.Gen.LowRank.Points
public import proofs.«01_k».proof.Proof.Gen.LowRank.Frame
public import proofs.«01_k».proof.Proof.Gen.LowRankIdeal
public import proofs.«01_k».proof.Proof.Gen.LowRankIdeal.Skeleton
public import proofs.«01_k».proof.Proof.Gen.LowRankIdeal.Launch
public import proofs.«01_k».proof.Proof.Gen.LowRankIdeal.Points
public import proofs.«01_k».proof.Proof.Gen.LowRankIdeal.Frame
public import proofs.«01_k».proof.Proof.Gen.LowRankRefIdeal
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.ProjGla
public import proofs.«01_k».proof.Proof.Gen.ProjGla.Skeleton
public import proofs.«01_k».proof.Proof.Gen.ProjGla.Launch
public import proofs.«01_k».proof.Proof.Gen.ProjGla.Points
public import proofs.«01_k».proof.Proof.Gen.ProjGla.Frame
public import proofs.«01_k».proof.Proof.Gen.ProjGlaIdeal
public import proofs.«01_k».proof.Proof.Gen.ProjGlaIdeal.Skeleton
public import proofs.«01_k».proof.Proof.Gen.ProjGlaIdeal.Launch
public import proofs.«01_k».proof.Proof.Gen.ProjGlaIdeal.Points
public import proofs.«01_k».proof.Proof.Gen.ProjGlaIdeal.Frame
public import proofs.«01_k».proof.Proof.Gen.ProjGlaRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MemQ
public import proofs.«01_k».proof.Proof.Gen.MemQ.Skeleton
public import proofs.«01_k».proof.Proof.Gen.MemQ.Launch
public import proofs.«01_k».proof.Proof.Gen.MemQ.Points
public import proofs.«01_k».proof.Proof.Gen.MemQ.Frame
public import proofs.«01_k».proof.Proof.Gen.MemQIdeal
public import proofs.«01_k».proof.Proof.Gen.MemQIdeal.Skeleton
public import proofs.«01_k».proof.Proof.Gen.MemQIdeal.Launch
public import proofs.«01_k».proof.Proof.Gen.MemQIdeal.Points
public import proofs.«01_k».proof.Proof.Gen.MemQIdeal.Frame
public import proofs.«01_k».proof.Proof.Gen.MemQRefIdeal
public import proofs.«01_k».proof.Proof.Gen.SwaQ
public import proofs.«01_k».proof.Proof.Gen.SwaQ.Skeleton
public import proofs.«01_k».proof.Proof.Gen.SwaQ.Launch
public import proofs.«01_k».proof.Proof.Gen.SwaQ.Points
public import proofs.«01_k».proof.Proof.Gen.SwaQ.Frame
public import proofs.«01_k».proof.Proof.Gen.SwaQIdeal
public import proofs.«01_k».proof.Proof.Gen.SwaQIdeal.Skeleton
public import proofs.«01_k».proof.Proof.Gen.SwaQIdeal.Launch
public import proofs.«01_k».proof.Proof.Gen.SwaQIdeal.Points
public import proofs.«01_k».proof.Proof.Gen.SwaQIdeal.Frame
public import proofs.«01_k».proof.Proof.Gen.SwaQRefIdeal
public import proofs.«01_k».proof.Proof.Gen.SwaKv
public import proofs.«01_k».proof.Proof.Gen.SwaKv.Skeleton
public import proofs.«01_k».proof.Proof.Gen.SwaKv.Launch
public import proofs.«01_k».proof.Proof.Gen.SwaKv.Points
public import proofs.«01_k».proof.Proof.Gen.SwaKv.Frame
public import proofs.«01_k».proof.Proof.Gen.SwaKvIdeal
public import proofs.«01_k».proof.Proof.Gen.SwaKvIdeal.Skeleton
public import proofs.«01_k».proof.Proof.Gen.SwaKvIdeal.Launch
public import proofs.«01_k».proof.Proof.Gen.SwaKvIdeal.Points
public import proofs.«01_k».proof.Proof.Gen.SwaKvIdeal.Frame
public import proofs.«01_k».proof.Proof.Gen.SwaKvRefIdeal
public import proofs.«01_k».proof.Proof.Gen.GlaS
public import proofs.«01_k».proof.Proof.Gen.GlaS.Skeleton
public import proofs.«01_k».proof.Proof.Gen.GlaS.Launch
public import proofs.«01_k».proof.Proof.Gen.GlaS.Points
public import proofs.«01_k».proof.Proof.Gen.GlaS.Frame
public import proofs.«01_k».proof.Proof.Gen.GlaSIdeal
public import proofs.«01_k».proof.Proof.Gen.GlaSIdeal.Skeleton
public import proofs.«01_k».proof.Proof.Gen.GlaSIdeal.Launch
public import proofs.«01_k».proof.Proof.Gen.GlaSIdeal.Points
public import proofs.«01_k».proof.Proof.Gen.GlaSIdeal.Frame
public import proofs.«01_k».proof.Proof.Gen.GlaSRefIdeal
public import proofs.«01_k».proof.Proof.Gen.MemAttnIdeal.Value
public import proofs.«01_k».proof.Proof.Gen.MemAttnRefIdeal.Read
public import proofs.«01_k».proof.Proof.Gen.MemAttnRefIdeal.Run
public import proofs.«01_k».proof.Proof.Gen.ProjGlaIdeal.Value
public import proofs.«01_k».proof.Proof.Gen.ProjGlaRefIdeal.Read
public import proofs.«01_k».proof.Proof.Gen.ProjGlaRefIdeal.Run
public import proofs.«01_k».proof.Proof.Gen.GatesIdeal.Value
public import proofs.«01_k».proof.Proof.Gen.GatesRefIdeal.Read
public import proofs.«01_k».proof.Proof.Gen.GatesRefIdeal.Run
public import proofs.«01_k».proof.Proof.Gen.MemKvRefIdeal.Read
public import proofs.«01_k».proof.Proof.Gen.MemKvRefIdeal.Run
public import proofs.«01_k».proof.Proof.Gen.MergeIdeal.Value
public import proofs.«01_k».proof.Proof.Gen.MergeRefIdeal.Read
public import proofs.«01_k».proof.Proof.Gen.MergeRefIdeal.Run
public import proofs.«01_k».proof.Proof.Gen.MemQIdeal.Value
public import proofs.«01_k».proof.Proof.Gen.MemQRefIdeal.Read
public import proofs.«01_k».proof.Proof.Gen.MemQRefIdeal.Run
public import proofs.«01_k».proof.Proof.Gen.SwaQIdeal.Value
public import proofs.«01_k».proof.Proof.Gen.SwaQRefIdeal.Read
public import proofs.«01_k».proof.Proof.Gen.SwaQRefIdeal.Run
public import proofs.«01_k».proof.Proof.Gen.SwaKvRefIdeal.Read
public import proofs.«01_k».proof.Proof.Gen.SwaKvRefIdeal.Run
public import proofs.«01_k».proof.Proof.Gen.GlaSIdeal.Value
public import proofs.«01_k».proof.Proof.Gen.GlaSRefIdeal.Read
public import proofs.«01_k».proof.Proof.Gen.GlaSRefIdeal.Run
public import proofs.«01_k».proof.Proof.MemAttnValue
public import proofs.«01_k».proof.Proof.MemAttnRefValue
public import proofs.«01_k».proof.Proof.ProjGlaValue
public import proofs.«01_k».proof.Proof.ProjGlaRefValue
public import proofs.«01_k».proof.Proof.GatesValue
public import proofs.«01_k».proof.Proof.GatesRefValue
public import proofs.«01_k».proof.Proof.MemKvValue
public import proofs.«01_k».proof.Proof.MemKvRefValue
public import proofs.«01_k».proof.Proof.MergeValue
public import proofs.«01_k».proof.Proof.MergeRefValue
public import proofs.«01_k».proof.Proof.MemQValue
public import proofs.«01_k».proof.Proof.MemQRefValue
public import proofs.«01_k».proof.Proof.SwaQValue
public import proofs.«01_k».proof.Proof.SwaQRefValue
public import proofs.«01_k».proof.Proof.SwaKvValue
public import proofs.«01_k».proof.Proof.SwaKvRefValue
public import proofs.«01_k».proof.Proof.GlaSValue
public import proofs.«01_k».proof.Proof.GlaSRefValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Read
public import proofs.«01_k».proof.Proof.Gen.OutProjRefIdeal.Run
public import proofs.«01_k».proof.Proof.OutProjFrame
public import proofs.«01_k».proof.Proof.OutProjValue
public import proofs.«01_k».proof.Proof.OutProjRefValue
public import Idealize.ShloMosaic.Lib.Bf16PairInverse
public import Idealize.ShloMosaic.Lib.Quiescent
public import proofs.«01_k».proof.Proof.Gen.Combine.Frame
public import proofs.«01_k».proof.Proof.Gen.CombineIdeal.Frame
public import proofs.«01_k».proof.Proof.Gen.Combine.Skeleton
public import proofs.«01_k».proof.Proof.Gen.CombineIdeal.Skeleton
public import proofs.«01_k».proof.Proof.Gen.CombineRefIdeal.Read
public import proofs.«01_k».proof.Proof.Gen.CombineRefIdeal.Run
public import proofs.«01_k».proof.Proof.Gen.GlaP
public import proofs.«01_k».proof.Proof.Gen.GlaP.Skeleton
public import proofs.«01_k».proof.Proof.Gen.GlaP.Launch
public import proofs.«01_k».proof.Proof.Gen.GlaP.Points
public import proofs.«01_k».proof.Proof.Gen.GlaP.Frame
public import proofs.«01_k».proof.Proof.Gen.GlaPIdeal
public import proofs.«01_k».proof.Proof.Gen.GlaPIdeal.Skeleton
public import proofs.«01_k».proof.Proof.Gen.GlaPIdeal.Launch
public import proofs.«01_k».proof.Proof.Gen.GlaPIdeal.Points
public import proofs.«01_k».proof.Proof.Gen.GlaPIdeal.Frame
public import proofs.«01_k».proof.Proof.Gen.SwaP
public import proofs.«01_k».proof.Proof.Gen.SwaP.Skeleton
public import proofs.«01_k».proof.Proof.Gen.SwaP.Launch
public import proofs.«01_k».proof.Proof.Gen.SwaP.Points
public import proofs.«01_k».proof.Proof.Gen.SwaP.Frame
public import proofs.«01_k».proof.Proof.Gen.SwaPIdeal
public import proofs.«01_k».proof.Proof.Gen.SwaPIdeal.Skeleton
public import proofs.«01_k».proof.Proof.Gen.SwaPIdeal.Launch
public import proofs.«01_k».proof.Proof.Gen.SwaPIdeal.Points
public import proofs.«01_k».proof.Proof.Gen.SwaPIdeal.Frame
public import proofs.«01_k».proof.Proof.Gen.SwaS
public import proofs.«01_k».proof.Proof.Gen.SwaS.Skeleton
public import proofs.«01_k».proof.Proof.Gen.SwaS.Launch
public import proofs.«01_k».proof.Proof.Gen.SwaS.Points
public import proofs.«01_k».proof.Proof.Gen.SwaS.Frame
public import proofs.«01_k».proof.Proof.Gen.SwaSIdeal
public import proofs.«01_k».proof.Proof.Gen.SwaSIdeal.Skeleton
public import proofs.«01_k».proof.Proof.Gen.SwaSIdeal.Launch
public import proofs.«01_k».proof.Proof.Gen.SwaSIdeal.Points
public import proofs.«01_k».proof.Proof.Gen.SwaSIdeal.Frame
public import proofs.«01_k».proof.Proof.NormMixValue
public import proofs.«01_k».proof.Proof.NormMixRefValue
public import proofs.«01_k».proof.Proof.LowRankValue
public import proofs.«01_k».proof.Proof.LowRankRefValue
public import proofs.«01_k».proof.Proof.Gen.LowRankIdeal.Value
public import proofs.«01_k».proof.Proof.Gen.LowRankRefIdeal.Read
public import proofs.«01_k».proof.Proof.Gen.LowRankRefIdeal.Run
public import proofs.«01_k».proof.Proof.Gen.NormMixIdeal.Value
public import proofs.«01_k».proof.Proof.Gen.NormMixRefIdeal.Read
public import proofs.«01_k».proof.Proof.Gen.NormMixRefIdeal.Run
public import proofs.«01_k».proof.Proof.CombineFrame
public import proofs.«01_k».proof.Proof.CombineValue
public import proofs.«01_k».proof.Proof.CombineRefValue
public import Idealize.ShloMosaic.Adequacy
public import Idealize.ShloMosaic.Init

@[expose] public section

noncomputable section

namespace Cert.Proof

open Idealize.ShloMosaic Idealize.SL.Sem

/-- The reference of MemAttn keeps its arguments; it has no counters. -/
theorem frame_MemAttnRef : Cert.quiescent_MemAttnRefIdeal (hMemAttnRefIdeal := Cert.MemAttnRefIdeal.Gen.facts) := fun m ρ _ =>
  (θ_run _ _ _).mono (fun r h => ⟨fun c => ⟨(h c).2.1, (h c).2.2⟩, sem_eq_zero_of_no_sems (by decide) r.2⟩)
    (Cert.MemAttnRefIdeal.Value.run (F := Ideal) m ρ)

/-- Over the extended reals the kernel and its reference leave equal results. -/
theorem algebraic_MemAttn : Cert.algebraic_MemAttnIdeal_MemAttnRefIdeal
    (hMemAttnIdeal := Cert.MemAttnIdeal.Gen.facts) (hMemAttnRefIdeal := Cert.MemAttnRefIdeal.Gen.facts) :=
  fun m ρ m' ρ' _ hag =>
    ⟨fun c => Cert.MemAttnIdeal.Final.result m c, Cert.MemAttnIdeal.Final.run m ρ,
      (θ_run _ _ _).mono
        (fun _ h c => ⟨(h c).1.trans (((Cert.MemAttnRefIdeal.Read.val_main_v24_eq _ _).trans
            (Cert.MemAttnRefIdeal.Final.v24_eq _ _)).trans (by rw [(hag c).1, (hag c).2])), (h c).2⟩)
        (Cert.MemAttnRefIdeal.Value.run m' ρ')⟩

/-- The reference of ProjGla keeps its arguments; it has no counters. -/
theorem frame_ProjGlaRef : Cert.quiescent_ProjGlaRefIdeal (hProjGlaRefIdeal := Cert.ProjGlaRefIdeal.Gen.facts) := fun m ρ _ =>
  (θ_run _ _ _).mono (fun r h => ⟨fun c => ⟨(h c).2.1, (h c).2.2⟩, sem_eq_zero_of_no_sems (by decide) r.2⟩)
    (Cert.ProjGlaRefIdeal.Value.run (F := Ideal) m ρ)

/-- Over the extended reals the kernel and its reference leave equal results. -/
theorem algebraic_ProjGla : Cert.algebraic_ProjGlaIdeal_ProjGlaRefIdeal
    (hProjGlaIdeal := Cert.ProjGlaIdeal.Gen.facts) (hProjGlaRefIdeal := Cert.ProjGlaRefIdeal.Gen.facts) :=
  fun m ρ m' ρ' _ hag =>
    ⟨fun c => Cert.ProjGlaIdeal.Final.result m c, Cert.ProjGlaIdeal.Final.run m ρ,
      (θ_run _ _ _).mono
        (fun _ h c => ⟨(h c).1.trans (((Cert.ProjGlaRefIdeal.Read.val_main_v2_eq _ _).trans
            (Cert.ProjGlaRefIdeal.Final.ref_eq _ _)).trans (by rw [(hag c).1, (hag c).2])), (h c).2⟩)
        (Cert.ProjGlaRefIdeal.Value.run m' ρ')⟩

/-- The reference of Gates keeps its arguments; it has no counters. -/
theorem frame_GatesRef : Cert.quiescent_GatesRefIdeal (hGatesRefIdeal := Cert.GatesRefIdeal.Gen.facts) := fun m ρ _ =>
  (θ_run _ _ _).mono (fun r h => ⟨fun c => ⟨(h c).2.1, (h c).2.2.1, (h c).2.2.2⟩, sem_eq_zero_of_no_sems (by decide) r.2⟩)
    (Cert.GatesRefIdeal.Value.run (F := Ideal) m ρ)

/-- Over the extended reals the kernel and its reference leave equal results. -/
theorem algebraic_Gates : Cert.algebraic_GatesIdeal_GatesRefIdeal
    (hGatesIdeal := Cert.GatesIdeal.Gen.facts) (hGatesRefIdeal := Cert.GatesRefIdeal.Gen.facts) :=
  fun m ρ m' ρ' _ hag =>
    ⟨fun c => Cert.GatesIdeal.Final.result m c, Cert.GatesIdeal.Final.run m ρ,
      (θ_run _ _ _).mono
        (fun _ h c => ⟨(h c).1.trans (((Cert.GatesRefIdeal.Read.val_main_v10_eq _ _ _).trans
            (Cert.GatesRefIdeal.Final.ref_eq _ _ _)).trans (by rw [(hag c).1, (hag c).2.1, (hag c).2.2])), (h c).2⟩)
        (Cert.GatesRefIdeal.Value.run m' ρ')⟩

/-- The reference of MemKv keeps its arguments; it has no counters. -/
theorem frame_MemKvRef : Cert.quiescent_MemKvRefIdeal (hMemKvRefIdeal := Cert.MemKvRefIdeal.Gen.facts) := fun m ρ _ =>
  (θ_run _ _ _).mono (fun r h => ⟨fun c => ⟨(h c).2.1, (h c).2.2.1, (h c).2.2.2.1, (h c).2.2.2.2⟩, sem_eq_zero_of_no_sems (by decide) r.2⟩)
    (Cert.MemKvRefIdeal.Value.run (F := Ideal) m ρ)

/-- Over the extended reals the kernel and its reference leave equal results. -/
theorem algebraic_MemKv : Cert.algebraic_MemKvIdeal_MemKvRefIdeal
    (hMemKvIdeal := Cert.MemKvIdeal.Gen.facts) (hMemKvRefIdeal := Cert.MemKvRefIdeal.Gen.facts) :=
  fun m ρ m' ρ' _ hag =>
    ⟨fun c => Cert.MemKvIdeal.Final.result m c, Cert.MemKvIdeal.Final.run m ρ,
      (θ_run _ _ _).mono
        (fun _ h c => ⟨(h c).1.trans (((Cert.MemKvRefIdeal.Read.val_main_v35_eq _ _).trans
            (Cert.MemKvRefIdeal.Final.ref_eq _ _ _ _)).trans (by rw [(hag c).1, (hag c).2.1, (hag c).2.2.1, (hag c).2.2.2])), (h c).2⟩)
        (Cert.MemKvRefIdeal.Value.run m' ρ')⟩

/-- The reference of Merge keeps its arguments; it has no counters. -/
theorem frame_MergeRef : Cert.quiescent_MergeRefIdeal (hMergeRefIdeal := Cert.MergeRefIdeal.Gen.facts) := fun m ρ _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.MergeRefIdeal.Value.run (F := Ideal) m ρ)

/-- Over the extended reals the kernel and its reference leave equal results. -/
theorem algebraic_Merge : Cert.algebraic_MergeIdeal_MergeRefIdeal
    (hMergeIdeal := Cert.MergeIdeal.Gen.facts) (hMergeRefIdeal := Cert.MergeRefIdeal.Gen.facts) :=
  fun m ρ m' ρ' _ hag =>
    ⟨fun c => Cert.MergeIdeal.Final.result m c, Cert.MergeIdeal.Final.run m ρ,
      (θ_run _ _ _).mono
        (fun _ h c => ⟨(h c).1.trans (((Cert.MergeRefIdeal.Read.val_main_v16_eq _ _ _ _ _ _ _ _).trans
            (Cert.MergeRefIdeal.Final.ref_eq _ _ _ _ _ _ _ _)).trans (by rw [(hag c).1, (hag c).2.1, (hag c).2.2.1, (hag c).2.2.2.1, (hag c).2.2.2.2.1, (hag c).2.2.2.2.2.1, (hag c).2.2.2.2.2.2.1, (hag c).2.2.2.2.2.2.2])), (h c).2⟩)
        (Cert.MergeRefIdeal.Value.run m' ρ')⟩

/-- The reference of MemQ keeps its arguments; it has no counters. -/
theorem frame_MemQRef : Cert.quiescent_MemQRefIdeal (hMemQRefIdeal := Cert.MemQRefIdeal.Gen.facts) := fun m ρ _ =>
  (θ_run _ _ _).mono (fun r h => ⟨fun c => ⟨(h c).2.1, (h c).2.2.1, (h c).2.2.2⟩, sem_eq_zero_of_no_sems (by decide) r.2⟩)
    (Cert.MemQRefIdeal.Value.run (F := Ideal) m ρ)

/-- Over the extended reals the kernel and its reference leave equal results. -/
theorem algebraic_MemQ : Cert.algebraic_MemQIdeal_MemQRefIdeal
    (hMemQIdeal := Cert.MemQIdeal.Gen.facts) (hMemQRefIdeal := Cert.MemQRefIdeal.Gen.facts) :=
  fun m ρ m' ρ' _ hag =>
    ⟨fun c => Cert.MemQIdeal.Final.result m c, Cert.MemQIdeal.Final.run m ρ,
      (θ_run _ _ _).mono
        (fun _ h c => ⟨(h c).1.trans (((Cert.MemQRefIdeal.Read.val_main_v18_eq _ _ _).trans
            (Cert.MemQRefIdeal.Final.ref_eq _ _ _)).trans (by rw [(hag c).1, (hag c).2.1, (hag c).2.2])), (h c).2⟩)
        (Cert.MemQRefIdeal.Value.run m' ρ')⟩

/-- The reference of SwaQ keeps its arguments; it has no counters. -/
theorem frame_SwaQRef : Cert.quiescent_SwaQRefIdeal (hSwaQRefIdeal := Cert.SwaQRefIdeal.Gen.facts) := fun m ρ _ =>
  (θ_run _ _ _).mono (fun r h => ⟨fun c => ⟨(h c).2.1, (h c).2.2.1, (h c).2.2.2⟩, sem_eq_zero_of_no_sems (by decide) r.2⟩)
    (Cert.SwaQRefIdeal.Value.run (F := Ideal) m ρ)

/-- Over the extended reals the kernel and its reference leave equal results. -/
theorem algebraic_SwaQ : Cert.algebraic_SwaQIdeal_SwaQRefIdeal
    (hSwaQIdeal := Cert.SwaQIdeal.Gen.facts) (hSwaQRefIdeal := Cert.SwaQRefIdeal.Gen.facts) :=
  fun m ρ m' ρ' _ hag =>
    ⟨fun c => Cert.SwaQIdeal.Final.result m c, Cert.SwaQIdeal.Final.run m ρ,
      (θ_run _ _ _).mono
        (fun _ h c => ⟨(h c).1.trans (((Cert.SwaQRefIdeal.Read.val_main_v125_eq _ _).trans
            (Cert.SwaQRefIdeal.Final.ref_eq _ _ _)).trans (by rw [(hag c).1, (hag c).2.1, (hag c).2.2])), (h c).2⟩)
        (Cert.SwaQRefIdeal.Value.run m' ρ')⟩

/-- The reference of SwaKv keeps its arguments; it has no counters. -/
theorem frame_SwaKvRef : Cert.quiescent_SwaKvRefIdeal (hSwaKvRefIdeal := Cert.SwaKvRefIdeal.Gen.facts) := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2⟩, sem_eq_zero_of_no_sems (by decide) r.2⟩)
    (Cert.SwaKvRefIdeal.Value.run (F := Ideal) m ρ)

/-- Over the extended reals the kernel and its reference leave equal results. -/
theorem algebraic_SwaKv : Cert.algebraic_SwaKvIdeal_SwaKvRefIdeal
    (hSwaKvIdeal := Cert.SwaKvIdeal.Gen.facts) (hSwaKvRefIdeal := Cert.SwaKvRefIdeal.Gen.facts) :=
  fun m ρ m' ρ' _ hag =>
    ⟨fun c => Cert.SwaKvSpec.keysP (m ((c.tc : Thread Cert.SwaKvIdeal.nD Cert.SwaKvIdeal.τ).loc Cert.SwaKvIdeal.main_arg0)) (m ((c.tc : Thread Cert.SwaKvIdeal.nD Cert.SwaKvIdeal.τ).loc Cert.SwaKvIdeal.main_arg3)) (m ((c.tc : Thread Cert.SwaKvIdeal.nD Cert.SwaKvIdeal.τ).loc Cert.SwaKvIdeal.main_arg4)),
      fun c => Cert.SwaKvSpec.valuesP (m ((c.tc : Thread Cert.SwaKvIdeal.nD Cert.SwaKvIdeal.τ).loc Cert.SwaKvIdeal.main_arg0)) (m ((c.tc : Thread Cert.SwaKvIdeal.nD Cert.SwaKvIdeal.τ).loc Cert.SwaKvIdeal.main_arg3)),
      fun c => Cert.SwaKvSpec.keysS (m ((c.tc : Thread Cert.SwaKvIdeal.nD Cert.SwaKvIdeal.τ).loc Cert.SwaKvIdeal.main_arg0)) (m ((c.tc : Thread Cert.SwaKvIdeal.nD Cert.SwaKvIdeal.τ).loc Cert.SwaKvIdeal.main_arg1)) (m ((c.tc : Thread Cert.SwaKvIdeal.nD Cert.SwaKvIdeal.τ).loc Cert.SwaKvIdeal.main_arg3)) (m ((c.tc : Thread Cert.SwaKvIdeal.nD Cert.SwaKvIdeal.τ).loc Cert.SwaKvIdeal.main_arg4)),
      fun c => Cert.SwaKvSpec.valuesS (m ((c.tc : Thread Cert.SwaKvIdeal.nD Cert.SwaKvIdeal.τ).loc Cert.SwaKvIdeal.main_arg0)) (m ((c.tc : Thread Cert.SwaKvIdeal.nD Cert.SwaKvIdeal.τ).loc Cert.SwaKvIdeal.main_arg2)) (m ((c.tc : Thread Cert.SwaKvIdeal.nD Cert.SwaKvIdeal.τ).loc Cert.SwaKvIdeal.main_arg3)),
      Cert.SwaKvIdeal.Final.run m ρ,
      (θ_run _ _ _).mono
        (fun _ h c => ⟨(h c).1.trans (((Cert.SwaKvRefIdeal.Read.val_main_v131_eq _ _).trans
            (Cert.SwaKvRefIdeal.Final.keysP_eq _ _ _)).trans (by rw [(hag c).1, (hag c).2.2.2.1, (hag c).2.2.2.2])),
          (h c).2.1.trans (((Cert.SwaKvRefIdeal.Read.val_main_v133_eq _ _).trans
            (Cert.SwaKvRefIdeal.Final.valuesP_eq _ _)).trans (by rw [(hag c).1, (hag c).2.2.2.1])),
          (h c).2.2.1.trans (((Cert.SwaKvRefIdeal.Read.val_main_v134_eq _ _).trans
            (Cert.SwaKvRefIdeal.Final.keysS_eq _ _ _ _)).trans (by rw [(hag c).1, (hag c).2.1, (hag c).2.2.2.1, (hag c).2.2.2.2])),
          (h c).2.2.2.1.trans (((Cert.SwaKvRefIdeal.Read.val_main_v135_eq _ _ _).trans
            (Cert.SwaKvRefIdeal.Final.valuesS_eq _ _ _)).trans (by rw [(hag c).1, (hag c).2.2.1, (hag c).2.2.2.1])),
          (h c).2.2.2.2⟩)
        (Cert.SwaKvRefIdeal.Value.run m' ρ')⟩

/-- The reference of GlaS keeps its arguments; it has no counters. -/
theorem frame_GlaSRef : Cert.quiescent_GlaSRefIdeal (hGlaSRefIdeal := Cert.GlaSRefIdeal.Gen.facts) := fun m ρ _ =>
  (θ_run _ _ _).mono (fun r h => ⟨fun c => ⟨(h c).2.2.1, (h c).2.2.2.1, (h c).2.2.2.2.1, (h c).2.2.2.2.2.1, (h c).2.2.2.2.2.2.1, (h c).2.2.2.2.2.2.2⟩, sem_eq_zero_of_no_sems (by decide) r.2⟩)
    (Cert.GlaSRefIdeal.Value.run (F := Ideal) m ρ)

/-- Over the extended reals the kernel and its reference leave equal results. -/
theorem algebraic_GlaS : Cert.algebraic_GlaSIdeal_GlaSRefIdeal
    (hGlaSIdeal := Cert.GlaSIdeal.Gen.facts) (hGlaSRefIdeal := Cert.GlaSRefIdeal.Gen.facts) :=
  fun m ρ m' ρ' _ hag =>
    ⟨fun c => Cert.GlaSSpec.rows (m ((c.tc : Thread Cert.GlaSIdeal.nD Cert.GlaSIdeal.τ).loc Cert.GlaSIdeal.main_arg0)) (m ((c.tc : Thread Cert.GlaSIdeal.nD Cert.GlaSIdeal.τ).loc Cert.GlaSIdeal.main_arg1)) (m ((c.tc : Thread Cert.GlaSIdeal.nD Cert.GlaSIdeal.τ).loc Cert.GlaSIdeal.main_arg2)) (m ((c.tc : Thread Cert.GlaSIdeal.nD Cert.GlaSIdeal.τ).loc Cert.GlaSIdeal.main_arg3)) (m ((c.tc : Thread Cert.GlaSIdeal.nD Cert.GlaSIdeal.τ).loc Cert.GlaSIdeal.main_arg4)) (m ((c.tc : Thread Cert.GlaSIdeal.nD Cert.GlaSIdeal.τ).loc Cert.GlaSIdeal.main_arg5)),
      fun c => Cert.GlaSSpec.states (m ((c.tc : Thread Cert.GlaSIdeal.nD Cert.GlaSIdeal.τ).loc Cert.GlaSIdeal.main_arg0)) (m ((c.tc : Thread Cert.GlaSIdeal.nD Cert.GlaSIdeal.τ).loc Cert.GlaSIdeal.main_arg1)) (m ((c.tc : Thread Cert.GlaSIdeal.nD Cert.GlaSIdeal.τ).loc Cert.GlaSIdeal.main_arg2)) (m ((c.tc : Thread Cert.GlaSIdeal.nD Cert.GlaSIdeal.τ).loc Cert.GlaSIdeal.main_arg3)) (m ((c.tc : Thread Cert.GlaSIdeal.nD Cert.GlaSIdeal.τ).loc Cert.GlaSIdeal.main_arg5)),
      Cert.GlaSIdeal.Final.run m ρ,
      (θ_run _ _ _).mono
        (fun _ h c => ⟨(h c).1.trans (((Cert.GlaSRefIdeal.Read.val_main_v79_eq _ _).trans
            (Cert.GlaSRefIdeal.Final.rows_eq _ _ _ _ _ _)).trans (by rw [(hag c).1, (hag c).2.1, (hag c).2.2.1, (hag c).2.2.2.1, (hag c).2.2.2.2.1, (hag c).2.2.2.2.2])),
          (h c).2.1.trans (((Cert.GlaSRefIdeal.Read.val_main_v56_eq _ _).trans
            (Cert.GlaSRefIdeal.Final.states_eq _ _ _ _ _)).trans (by rw [(hag c).1, (hag c).2.1, (hag c).2.2.1, (hag c).2.2.2.1, (hag c).2.2.2.2.2])),
          (h c).2.2⟩)
        (Cert.GlaSRefIdeal.Value.run m' ρ')⟩

/-- The reference of OutProj keeps its arguments; it has no counters. -/
theorem frame_OutProjRef : Cert.quiescent_OutProjRefIdeal (hOutProjRefIdeal := Cert.OutProjRefIdeal.Gen.facts) := fun m ρ _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.OutProjRefIdeal.Value.run (F := Ideal) m ρ)

/-- The words of the packed rows: a buffer of words as a buffer of pairs, the halves packed by hand, the
    pairs stored. -/
theorem preserves_OutProj : Cert.preserves_OutProj_OutProjIdeal :=
  open Cert.OutProjIdeal IdealRules.bf16_pair in
  ⟨bufferStatement S135168x2x128 S135168x1x128, bufferStatement S4096x2x128 S4096x1x128,
    halfStatement S256x2048, statement S256x2x128 S256x1x128⟩

/-- Over the extended reals the kernel and its reference leave equal results. -/
theorem algebraic_OutProj : Cert.algebraic_OutProjIdeal_OutProjRefIdeal
    (hOutProjIdeal := Cert.OutProjIdeal.Gen.facts) (hOutProjRefIdeal := Cert.OutProjRefIdeal.Gen.facts) :=
  fun m ρ m' ρ' _ hag =>
    ⟨fun c => Cert.OutProjIdeal.Final.result m c, Cert.OutProjIdeal.Final.run m ρ,
      (θ_run _ _ _).mono
        (fun _ h c => ⟨(h c).1.trans (((Cert.OutProjRefIdeal.Read.val_main_v6_eq _ _ _ _).trans
            (Cert.OutProjRefIdeal.Final.ref_eq _ _ _ _)).trans (by rw [(hag c).1, (hag c).2.1, (hag c).2.2.1, (hag c).2.2.2.1])), (h c).2⟩)
        (Cert.OutProjRefIdeal.Value.run m' ρ')⟩

/-- The reference of Combine keeps its arguments; it has no counters. -/
theorem frame_CombineRef : Cert.quiescent_CombineRefIdeal (hCombineRefIdeal := Cert.CombineRefIdeal.Gen.facts) := fun m ρ _ =>
  (θ_run _ _ _).mono (fun r h => ⟨fun c => (h c).2.2, sem_eq_zero_of_no_sems (by decide) r.2⟩)
    (Cert.CombineRefIdeal.Value.run (F := Ideal) m ρ)

/-- Over the extended reals the kernel and its reference leave equal results. -/
theorem algebraic_Combine : Cert.algebraic_CombineIdeal_CombineRefIdeal
    (hCombineIdeal := Cert.CombineIdeal.Gen.facts) (hCombineRefIdeal := Cert.CombineRefIdeal.Gen.facts) :=
  fun m ρ m' ρ' _ hag =>
    ⟨fun c => Cert.CombineIdeal.Final.resultP m c, fun c => Cert.CombineIdeal.Final.resultS m c,
      Cert.CombineIdeal.Final.run m ρ,
      (θ_run _ _ _).mono
        (fun _ h c => ⟨(h c).1.trans (((Cert.CombineRefIdeal.Read.val_main_v10_eq _ _ _).trans
            (Cert.CombineRefIdeal.Final.prompt_eq _ _ _)).trans (by rw [(hag c).1, (hag c).2.1, (hag c).2.2])),
          (h c).2.1.trans (((Cert.CombineRefIdeal.Read.val_main_v11_eq _ _ _).trans
            (Cert.CombineRefIdeal.Final.sample_eq _ _ _)).trans (by rw [(hag c).1, (hag c).2.1, (hag c).2.2])),
          (h c).2.2⟩)
        (Cert.CombineRefIdeal.Value.run m' ρ')⟩

/-- The reference of NormMix keeps its arguments; it has no counters. -/
theorem frame_NormMixRef : Cert.quiescent_NormMixRefIdeal (hNormMixRefIdeal := Cert.NormMixRefIdeal.Gen.facts) := fun m ρ _ =>
  (θ_run _ _ _).mono (fun r h => ⟨fun c => ⟨(h c).2.1, (h c).2.2.1, (h c).2.2.2⟩, sem_eq_zero_of_no_sems (by decide) r.2⟩)
    (Cert.NormMixRefIdeal.Value.run (F := Ideal) m ρ)

/-- Over the extended reals the kernel and its reference leave equal results. -/
theorem algebraic_NormMix : Cert.algebraic_NormMixIdeal_NormMixRefIdeal
    (hNormMixIdeal := Cert.NormMixIdeal.Gen.facts) (hNormMixRefIdeal := Cert.NormMixRefIdeal.Gen.facts) :=
  fun m ρ m' ρ' _ hag =>
    ⟨fun c => Cert.NormMixIdeal.Final.result m c, Cert.NormMixIdeal.Final.run m ρ,
      (θ_run _ _ _).mono
        (fun _ h c => ⟨(h c).1.trans (((Cert.NormMixRefIdeal.Read.val_main_v17_eq _ _ _).trans
            (Cert.NormMixRefIdeal.Final.ref_eq _ _ _)).trans (by rw [(hag c).1, (hag c).2.1, (hag c).2.2])), (h c).2⟩)
        (Cert.NormMixRefIdeal.Value.run m' ρ')⟩

/-- The reference of LowRank keeps its arguments; it has no counters. -/
theorem frame_LowRankRef : Cert.quiescent_LowRankRefIdeal (hLowRankRefIdeal := Cert.LowRankRefIdeal.Gen.facts) := fun m ρ _ =>
  (θ_run _ _ _).mono (fun r h => ⟨fun c => ⟨(h c).2.1, (h c).2.2⟩, sem_eq_zero_of_no_sems (by decide) r.2⟩)
    (Cert.LowRankRefIdeal.Value.run (F := Ideal) m ρ)

/-- Over the extended reals the kernel and its reference leave equal results. -/
theorem algebraic_LowRank : Cert.algebraic_LowRankIdeal_LowRankRefIdeal
    (hLowRankIdeal := Cert.LowRankIdeal.Gen.facts) (hLowRankRefIdeal := Cert.LowRankRefIdeal.Gen.facts) :=
  fun m ρ m' ρ' _ hag =>
    ⟨fun c => Cert.LowRankIdeal.Final.result m c, Cert.LowRankIdeal.Final.run m ρ,
      (θ_run _ _ _).mono
        (fun _ h c => ⟨(h c).1.trans (((Cert.LowRankRefIdeal.Read.val_main_v3_eq _ _).trans
            (Cert.LowRankRefIdeal.Final.ref_eq _ _)).trans (by rw [(hag c).1, (hag c).2])), (h c).2⟩)
        (Cert.LowRankRefIdeal.Value.run m' ρ')⟩

theorem claim : Cert.Claim :=
  ⟨Cert.MemAttn.Gen.facts, Cert.MemAttnIdeal.Gen.facts, Cert.MemAttnRefIdeal.Gen.facts,
    Cert.ProjGla.Gen.facts, Cert.ProjGlaIdeal.Gen.facts, Cert.ProjGlaRefIdeal.Gen.facts,
    Cert.Gates.Gen.facts, Cert.GatesIdeal.Gen.facts, Cert.GatesRefIdeal.Gen.facts,
    Cert.MemKv.Gen.facts, Cert.MemKvIdeal.Gen.facts, Cert.MemKvRefIdeal.Gen.facts,
    Cert.Merge.Gen.facts, Cert.MergeIdeal.Gen.facts, Cert.MergeRefIdeal.Gen.facts,
    Cert.MemQ.Gen.facts, Cert.MemQIdeal.Gen.facts, Cert.MemQRefIdeal.Gen.facts,
    Cert.SwaQ.Gen.facts, Cert.SwaQIdeal.Gen.facts, Cert.SwaQRefIdeal.Gen.facts,
    Cert.SwaKv.Gen.facts, Cert.SwaKvIdeal.Gen.facts, Cert.SwaKvRefIdeal.Gen.facts,
    Cert.GlaS.Gen.facts, Cert.GlaSIdeal.Gen.facts, Cert.GlaSRefIdeal.Gen.facts,
    Cert.OutProj.Gen.facts, Cert.OutProjIdeal.Gen.facts, Cert.OutProjRefIdeal.Gen.facts,
    Cert.Combine.Gen.facts, Cert.CombineIdeal.Gen.facts, Cert.CombineRefIdeal.Gen.facts,
    Cert.NormMix.Gen.facts, Cert.NormMixIdeal.Gen.facts, Cert.NormMixRefIdeal.Gen.facts,
    Cert.LowRank.Gen.facts, Cert.LowRankIdeal.Gen.facts, Cert.LowRankRefIdeal.Gen.facts,
    Cert.SwaS.Gen.facts, Cert.SwaSIdeal.Gen.facts,
    Cert.SwaP.Gen.facts, Cert.SwaPIdeal.Gen.facts,
    Cert.GlaP.Gen.facts, Cert.GlaPIdeal.Gen.facts,
    fun m ρ _ => Cert.MemAttn.Gen.frame m ρ,
    fun m ρ _ => Cert.MemAttnIdeal.Gen.frame m ρ,
    frame_MemAttnRef,
    fun m ρ _ => Cert.ProjGla.Gen.frame m ρ,
    fun m ρ _ => Cert.ProjGlaIdeal.Gen.frame m ρ,
    frame_ProjGlaRef,
    fun m ρ _ => Cert.Gates.Gen.frame m ρ,
    fun m ρ _ => Cert.GatesIdeal.Gen.frame m ρ,
    frame_GatesRef,
    fun m ρ _ => Cert.MemKv.Gen.frame m ρ,
    fun m ρ _ => Cert.MemKvIdeal.Gen.frame m ρ,
    frame_MemKvRef,
    fun m ρ _ => Cert.Merge.Gen.frame m ρ,
    fun m ρ _ => Cert.MergeIdeal.Gen.frame m ρ,
    frame_MergeRef,
    fun m ρ _ => Cert.MemQ.Gen.frame m ρ,
    fun m ρ _ => Cert.MemQIdeal.Gen.frame m ρ,
    frame_MemQRef,
    fun m ρ _ => Cert.SwaQ.Gen.frame m ρ,
    fun m ρ _ => Cert.SwaQIdeal.Gen.frame m ρ,
    frame_SwaQRef,
    fun m ρ _ => Cert.SwaKv.Gen.frame m ρ,
    fun m ρ _ => Cert.SwaKvIdeal.Gen.frame m ρ,
    frame_SwaKvRef,
    fun m ρ _ => Cert.GlaS.Gen.frame m ρ,
    fun m ρ _ => Cert.GlaSIdeal.Gen.frame m ρ,
    frame_GlaSRef,
    fun m ρ _ => Cert.OutProj.Hand.frame m ρ,
    fun m ρ _ => Cert.OutProjIdeal.Hand.frame m ρ,
    frame_OutProjRef,
    fun m ρ _ => Cert.Combine.Hand.frame m ρ,
    fun m ρ _ => Cert.CombineIdeal.Hand.frame m ρ,
    frame_CombineRef,
    fun m ρ _ => Cert.NormMix.Gen.frame m ρ,
    fun m ρ _ => Cert.NormMixIdeal.Gen.frame m ρ,
    frame_NormMixRef,
    fun m ρ _ => Cert.LowRank.Gen.frame m ρ,
    fun m ρ _ => Cert.LowRankIdeal.Gen.frame m ρ,
    frame_LowRankRef,
    fun m ρ _ => Cert.SwaS.Gen.frame m ρ,
    fun m ρ _ => Cert.SwaSIdeal.Gen.frame m ρ,
    fun m ρ _ => Cert.SwaP.Gen.frame m ρ,
    fun m ρ _ => Cert.SwaPIdeal.Gen.frame m ρ,
    fun m ρ _ => Cert.GlaP.Gen.frame m ρ,
    fun m ρ _ => Cert.GlaPIdeal.Gen.frame m ρ,
    trivial, algebraic_MemAttn,
    trivial, algebraic_ProjGla,
    trivial, algebraic_Gates,
    trivial, algebraic_MemKv,
    trivial, algebraic_Merge,
    trivial, algebraic_MemQ,
    trivial, algebraic_SwaQ,
    trivial, algebraic_SwaKv,
    trivial, algebraic_GlaS,
    preserves_OutProj, algebraic_OutProj,
    trivial, algebraic_Combine,
    trivial, algebraic_NormMix,
    trivial, algebraic_LowRank,
    trivial, trivial, trivial⟩

end Cert.Proof

end
